-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_FfnInFwd (m : (ℓ : Loc Cert.FfnInFwd.nD Cert.FfnInFwd.τ Cert.FfnInFwd.sig) → Buf (Elt Bits) ℓ) : Prop :=
  True

def Pre_FfnInFwdIdeal (m : (ℓ : Loc Cert.FfnInFwdIdeal.nD Cert.FfnInFwdIdeal.τ Cert.FfnInFwdIdeal.sig) → Buf (Elt Ideal) ℓ) : Prop :=
  True

def Pre_FfnInFwdRefIdeal (m : (ℓ : Loc Cert.FfnInFwdRefIdeal.nD Cert.FfnInFwdRefIdeal.τ Cert.FfnInFwdRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnOutFwd (m : (ℓ : Loc Cert.FfnOutFwd.nD Cert.FfnOutFwd.τ Cert.FfnOutFwd.sig) → Buf (Elt Bits) ℓ) : Prop :=
  True

def Pre_FfnOutFwdIdeal (m : (ℓ : Loc Cert.FfnOutFwdIdeal.nD Cert.FfnOutFwdIdeal.τ Cert.FfnOutFwdIdeal.sig) → Buf (Elt Ideal) ℓ) : Prop :=
  True

def Pre_FfnOutFwdRefIdeal (m : (ℓ : Loc Cert.FfnOutFwdRefIdeal.nD Cert.FfnOutFwdRefIdeal.τ Cert.FfnOutFwdRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdRefIdeal (m : (ℓ : Loc Cert.InProjFwdRefIdeal.nD Cert.InProjFwdRefIdeal.τ Cert.InProjFwdRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_OutProjFwd (m : (ℓ : Loc Cert.OutProjFwd.nD Cert.OutProjFwd.τ Cert.OutProjFwd.sig) → Buf (Elt Bits) ℓ) : Prop :=
  True

def Pre_OutProjFwdIdeal (m : (ℓ : Loc Cert.OutProjFwdIdeal.nD Cert.OutProjFwdIdeal.τ Cert.OutProjFwdIdeal.sig) → Buf (Elt Ideal) ℓ) : Prop :=
  True

def Pre_OutProjFwdRefIdeal (m : (ℓ : Loc Cert.OutProjFwdRefIdeal.nD Cert.OutProjFwdRefIdeal.τ Cert.OutProjFwdRefIdeal.sig) → Buf (Elt Ideal) ℓ) : Prop :=
  True

def Pre_FfnInDxLast (m : (ℓ : Loc Cert.FfnInDxLast.nD Cert.FfnInDxLast.τ Cert.FfnInDxLast.sig) → Buf (Elt Bits) ℓ) : Prop :=
  True

def Pre_FfnInDxLastIdeal (m : (ℓ : Loc Cert.FfnInDxLastIdeal.nD Cert.FfnInDxLastIdeal.τ Cert.FfnInDxLastIdeal.sig) → Buf (Elt Ideal) ℓ) : Prop :=
  True

def Pre_FfnInDxLastRefIdeal (m : (ℓ : Loc Cert.FfnInDxLastRefIdeal.nD Cert.FfnInDxLastRefIdeal.τ Cert.FfnInDxLastRefIdeal.sig) → Buf (Elt Ideal) ℓ) : Prop :=
  True

def Pre_FfnInDwLast (m : (ℓ : Loc Cert.FfnInDwLast.nD Cert.FfnInDwLast.τ Cert.FfnInDwLast.sig) → Buf (Elt Bits) ℓ) : Prop :=
  True

def Pre_FfnInDwLastIdeal (m : (ℓ : Loc Cert.FfnInDwLastIdeal.nD Cert.FfnInDwLastIdeal.τ Cert.FfnInDwLastIdeal.sig) → Buf (Elt Ideal) ℓ) : Prop :=
  True

def Pre_FfnInDwLastRefIdeal (m : (ℓ : Loc Cert.FfnInDwLastRefIdeal.nD Cert.FfnInDwLastRefIdeal.τ Cert.FfnInDwLastRefIdeal.sig) → Buf (Elt Ideal) ℓ) : Prop :=
  True

def Pre_FfnInFwdLast (m : (ℓ : Loc Cert.FfnInFwdLast.nD Cert.FfnInFwdLast.τ Cert.FfnInFwdLast.sig) → Buf (Elt Bits) ℓ) : Prop :=
  True

def Pre_FfnInFwdLastIdeal (m : (ℓ : Loc Cert.FfnInFwdLastIdeal.nD Cert.FfnInFwdLastIdeal.τ Cert.FfnInFwdLastIdeal.sig) → Buf (Elt Ideal) ℓ) : Prop :=
  True

def Pre_FfnInFwdLastRefIdeal (m : (ℓ : Loc Cert.FfnInFwdLastRefIdeal.nD Cert.FfnInFwdLastRefIdeal.τ Cert.FfnInFwdLastRefIdeal.sig) → Buf (Elt Ideal) ℓ) : Prop :=
  True

def Pre_FfnOutDxLast (m : (ℓ : Loc Cert.FfnOutDxLast.nD Cert.FfnOutDxLast.τ Cert.FfnOutDxLast.sig) → Buf (Elt Bits) ℓ) : Prop :=
  True

def Pre_FfnOutDxLastIdeal (m : (ℓ : Loc Cert.FfnOutDxLastIdeal.nD Cert.FfnOutDxLastIdeal.τ Cert.FfnOutDxLastIdeal.sig) → Buf (Elt Ideal) ℓ) : Prop :=
  True

def Pre_FfnOutDxLastRefIdeal (m : (ℓ : Loc Cert.FfnOutDxLastRefIdeal.nD Cert.FfnOutDxLastRefIdeal.τ Cert.FfnOutDxLastRefIdeal.sig) → Buf (Elt Ideal) ℓ) : Prop :=
  True

def Pre_FfnOutDwLast (m : (ℓ : Loc Cert.FfnOutDwLast.nD Cert.FfnOutDwLast.τ Cert.FfnOutDwLast.sig) → Buf (Elt Bits) ℓ) : Prop :=
  True

def Pre_FfnOutDwLastIdeal (m : (ℓ : Loc Cert.FfnOutDwLastIdeal.nD Cert.FfnOutDwLastIdeal.τ Cert.FfnOutDwLastIdeal.sig) → Buf (Elt Ideal) ℓ) : Prop :=
  True

def Pre_FfnOutDwLastRefIdeal (m : (ℓ : Loc Cert.FfnOutDwLastRefIdeal.nD Cert.FfnOutDwLastRefIdeal.τ Cert.FfnOutDwLastRefIdeal.sig) → Buf (Elt Ideal) ℓ) : Prop :=
  True

def Pre_FfnOutFwdLast (m : (ℓ : Loc Cert.FfnOutFwdLast.nD Cert.FfnOutFwdLast.τ Cert.FfnOutFwdLast.sig) → Buf (Elt Bits) ℓ) : Prop :=
  True

def Pre_FfnOutFwdLastIdeal (m : (ℓ : Loc Cert.FfnOutFwdLastIdeal.nD Cert.FfnOutFwdLastIdeal.τ Cert.FfnOutFwdLastIdeal.sig) → Buf (Elt Ideal) ℓ) : Prop :=
  True

def Pre_FfnOutFwdLastRefIdeal (m : (ℓ : Loc Cert.FfnOutFwdLastRefIdeal.nD Cert.FfnOutFwdLastRefIdeal.τ Cert.FfnOutFwdLastRefIdeal.sig) → Buf (Elt Ideal) ℓ) : Prop :=
  True

def Pre_OutProjDxLast (m : (ℓ : Loc Cert.OutProjDxLast.nD Cert.OutProjDxLast.τ Cert.OutProjDxLast.sig) → Buf (Elt Bits) ℓ) : Prop :=
  True

def Pre_OutProjDxLastIdeal (m : (ℓ : Loc Cert.OutProjDxLastIdeal.nD Cert.OutProjDxLastIdeal.τ Cert.OutProjDxLastIdeal.sig) → Buf (Elt Ideal) ℓ) : Prop :=
  True

def Pre_OutProjDxLastRefIdeal (m : (ℓ : Loc Cert.OutProjDxLastRefIdeal.nD Cert.OutProjDxLastRefIdeal.τ Cert.OutProjDxLastRefIdeal.sig) → Buf (Elt Ideal) ℓ) : Prop :=
  True

def Pre_OutProjDwLast (m : (ℓ : Loc Cert.OutProjDwLast.nD Cert.OutProjDwLast.τ Cert.OutProjDwLast.sig) → Buf (Elt Bits) ℓ) : Prop :=
  True

def Pre_OutProjDwLastIdeal (m : (ℓ : Loc Cert.OutProjDwLastIdeal.nD Cert.OutProjDwLastIdeal.τ Cert.OutProjDwLastIdeal.sig) → Buf (Elt Ideal) ℓ) : Prop :=
  True

def Pre_OutProjDwLastRefIdeal (m : (ℓ : Loc Cert.OutProjDwLastRefIdeal.nD Cert.OutProjDwLastRefIdeal.τ Cert.OutProjDwLastRefIdeal.sig) → Buf (Elt Ideal) ℓ) : Prop :=
  True

def Pre_OutProjFwdLast (m : (ℓ : Loc Cert.OutProjFwdLast.nD Cert.OutProjFwdLast.τ Cert.OutProjFwdLast.sig) → Buf (Elt Bits) ℓ) : Prop :=
  True

def Pre_OutProjFwdLastIdeal (m : (ℓ : Loc Cert.OutProjFwdLastIdeal.nD Cert.OutProjFwdLastIdeal.τ Cert.OutProjFwdLastIdeal.sig) → Buf (Elt Ideal) ℓ) : Prop :=
  True

def Pre_OutProjFwdLastRefIdeal (m : (ℓ : Loc Cert.OutProjFwdLastRefIdeal.nD Cert.OutProjFwdLastRefIdeal.τ Cert.OutProjFwdLastRefIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_AttFwdIdeal_finite_fwd [hPre_finite_fwd : Cert.Pre_finite_fwd.Facts] (m : (ℓ : Loc Cert.AttFwdIdeal.nD Cert.AttFwdIdeal.τ Cert.AttFwdIdeal.sig) → Buf (Elt Ideal) ℓ) : Prop :=
  ∀ c : Dev Cert.AttFwdIdeal.nD,
    (Cert.Pre_finite_fwd.fn (F := Ideal) (m ((c.tc : Thread Cert.AttFwdIdeal.nD Cert.AttFwdIdeal.τ).loc Cert.AttFwdIdeal.main_arg0)) (m ((c.tc : Thread Cert.AttFwdIdeal.nD Cert.AttFwdIdeal.τ).loc Cert.AttFwdIdeal.main_arg1)) (m ((c.tc : Thread Cert.AttFwdIdeal.nD Cert.AttFwdIdeal.τ).loc Cert.AttFwdIdeal.main_arg2))) = (fun _ => 1#1)

def Pre_AttFwdRefIdeal (m : (ℓ : Loc Cert.AttFwdRefIdeal.nD Cert.AttFwdRefIdeal.τ Cert.AttFwdRefIdeal.sig) → Buf (Elt Ideal) ℓ) : Prop :=
  True

def Pre_AttFwdRefIdeal_finite_fwd [hPre_finite_fwd : Cert.Pre_finite_fwd.Facts] (m : (ℓ : Loc Cert.AttFwdRefIdeal.nD Cert.AttFwdRefIdeal.τ Cert.AttFwdRefIdeal.sig) → Buf (Elt Ideal) ℓ) : Prop :=
  ∀ c : Dev Cert.AttFwdRefIdeal.nD,
    (Cert.Pre_finite_fwd.fn (F := Ideal) (m ((c.tc : Thread Cert.AttFwdRefIdeal.nD Cert.AttFwdRefIdeal.τ).loc Cert.AttFwdRefIdeal.main_arg0)) (m ((c.tc : Thread Cert.AttFwdRefIdeal.nD Cert.AttFwdRefIdeal.τ).loc Cert.AttFwdRefIdeal.main_arg1)) (m ((c.tc : Thread Cert.AttFwdRefIdeal.nD Cert.AttFwdRefIdeal.τ).loc Cert.AttFwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1)
      ∧ r.2.mem ((c.tc : Thread Cert.FfnInDw.nD Cert.FfnInDw.τ).loc Cert.FfnInDw.main_arg2) = m ((c.tc : Thread Cert.FfnInDw.nD Cert.FfnInDw.τ).loc Cert.FfnInDw.main_arg2))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
      ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1)
      ∧ r.2.mem ((c.tc : Thread Cert.FfnInDwRefIdeal.nD Cert.FfnInDwRefIdeal.τ).loc Cert.FfnInDwRefIdeal.main_arg2) = m ((c.tc : Thread Cert.FfnInDwRefIdeal.nD Cert.FfnInDwRefIdeal.τ).loc Cert.FfnInDwRefIdeal.main_arg2))
      ∧ r.2.sem = fun _ => 0)

def quiescent_FfnInFwd [hFfnInFwd : Cert.FfnInFwd.Facts] : Prop :=
  ∀ (m : (ℓ : Loc Cert.FfnInFwd.nD Cert.FfnInFwd.τ Cert.FfnInFwd.sig) → Buf (Elt Bits) ℓ) (g : Dev Cert.FfnInFwd.nD → PrngReg), Pre_FfnInFwd m →
    θ_run (Cert.FfnInFwd.defs (F := Bits)) (onTc (τ := Cert.FfnInFwd.τ) (Cert.FfnInFwd.main (F := Bits))) ⟨m, fun _ => 0, g⟩ (fun r => (∀ c : Dev Cert.FfnInFwd.nD,
      r.2.mem ((c.tc : Thread Cert.FfnInFwd.nD Cert.FfnInFwd.τ).loc Cert.FfnInFwd.main_arg0) = m ((c.tc : Thread Cert.FfnInFwd.nD Cert.FfnInFwd.τ).loc Cert.FfnInFwd.main_arg0)
      ∧ r.2.mem ((c.tc : Thread Cert.FfnInFwd.nD Cert.FfnInFwd.τ).loc Cert.FfnInFwd.main_arg1) = m ((c.tc : Thread Cert.FfnInFwd.nD Cert.FfnInFwd.τ).loc Cert.FfnInFwd.main_arg1))
      ∧ r.2.sem = fun _ => 0)

def quiescent_FfnInFwdIdeal [hFfnInFwdIdeal : Cert.FfnInFwdIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg), Pre_FfnInFwdIdeal m →
    θ_run (Cert.FfnInFwdIdeal.defs (F := Ideal)) (onTc (τ := Cert.FfnInFwdIdeal.τ) (Cert.FfnInFwdIdeal.main (F := Ideal))) ⟨m, fun _ => 0, g⟩ (fun r => (∀ c : Dev Cert.FfnInFwdIdeal.nD,
      r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
      ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ r.2.sem = fun _ => 0)

def quiescent_FfnInFwdRefIdeal [hFfnInFwdRefIdeal : Cert.FfnInFwdRefIdeal.Facts] : Prop :=
  ∀ (m : (ℓ : Loc Cert.FfnInFwdRefIdeal.nD Cert.FfnInFwdRefIdeal.τ Cert.FfnInFwdRefIdeal.sig) → Buf (Elt Ideal) ℓ) (g : Dev Cert.FfnInFwdRefIdeal.nD → PrngReg), Pre_FfnInFwdRefIdeal m →
    θ_run (Cert.FfnInFwdRefIdeal.defs (F := Ideal)) (onTc (τ := Cert.FfnInFwdRefIdeal.τ) (Cert.FfnInFwdRefIdeal.main (F := Ideal))) ⟨m, fun _ => 0, g⟩ (fun r => (∀ c : Dev Cert.FfnInFwdRefIdeal.nD,
      r.2.mem ((c.tc : Thread Cert.FfnInFwdRefIdeal.nD Cert.FfnInFwdRefIdeal.τ).loc Cert.FfnInFwdRefIdeal.main_arg0) = m ((c.tc : Thread Cert.FfnInFwdRefIdeal.nD Cert.FfnInFwdRefIdeal.τ).loc Cert.FfnInFwdRefIdeal.main_arg0)
      ∧ r.2.mem ((c.tc : Thread Cert.FfnInFwdRefIdeal.nD Cert.FfnInFwdRefIdeal.τ).loc Cert.FfnInFwdRefIdeal.main_arg1) = m ((c.tc : Thread Cert.FfnInFwdRefIdeal.nD Cert.FfnInFwdRefIdeal.τ).loc Cert.FfnInFwdRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1)
      ∧ r.2.mem ((c.tc : Thread Cert.FfnOutDx.nD Cert.FfnOutDx.τ).loc Cert.FfnOutDx.main_arg2) = m ((c.tc : Thread Cert.FfnOutDx.nD Cert.FfnOutDx.τ).loc Cert.FfnOutDx.main_arg2))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
      ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1)
      ∧ r.2.mem ((c.tc : Thread Cert.FfnOutDxRefIdeal.nD Cert.FfnOutDxRefIdeal.τ).loc Cert.FfnOutDxRefIdeal.main_arg2) = m ((c.tc : Thread Cert.FfnOutDxRefIdeal.nD Cert.FfnOutDxRefIdeal.τ).loc Cert.FfnOutDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1)
      ∧ r.2.mem ((c.tc : Thread Cert.FfnOutDw.nD Cert.FfnOutDw.τ).loc Cert.FfnOutDw.main_arg2) = m ((c.tc : Thread Cert.FfnOutDw.nD Cert.FfnOutDw.τ).loc Cert.FfnOutDw.main_arg2))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
      ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1)
      ∧ r.2.mem ((c.tc : Thread Cert.FfnOutDwRefIdeal.nD Cert.FfnOutDwRefIdeal.τ).loc Cert.FfnOutDwRefIdeal.main_arg2) = m ((c.tc : Thread Cert.FfnOutDwRefIdeal.nD Cert.FfnOutDwRefIdeal.τ).loc Cert.FfnOutDwRefIdeal.main_arg2))
      ∧ r.2.sem = fun _ => 0)

def quiescent_FfnOutFwd [hFfnOutFwd : Cert.FfnOutFwd.Facts] : Prop :=
  ∀ (m : (ℓ : Loc Cert.FfnOutFwd.nD Cert.FfnOutFwd.τ Cert.FfnOutFwd.sig) → Buf (Elt Bits) ℓ) (g : Dev Cert.FfnOutFwd.nD → PrngReg), Pre_FfnOutFwd m →
    θ_run (Cert.FfnOutFwd.defs (F := Bits)) (onTc (τ := Cert.FfnOutFwd.τ) (Cert.FfnOutFwd.main (F := Bits))) ⟨m, fun _ => 0, g⟩ (fun r => (∀ c : Dev Cert.FfnOutFwd.nD,
      r.2.mem ((c.tc : Thread Cert.FfnOutFwd.nD Cert.FfnOutFwd.τ).loc Cert.FfnOutFwd.main_arg0) = m ((c.tc : Thread Cert.FfnOutFwd.nD Cert.FfnOutFwd.τ).loc Cert.FfnOutFwd.main_arg0)
      ∧ r.2.mem ((c.tc : Thread Cert.FfnOutFwd.nD Cert.FfnOutFwd.τ).loc Cert.FfnOutFwd.main_arg1) = m ((c.tc : Thread Cert.FfnOutFwd.nD Cert.FfnOutFwd.τ).loc Cert.FfnOutFwd.main_arg1))
      ∧ r.2.sem = fun _ => 0)

def quiescent_FfnOutFwdIdeal [hFfnOutFwdIdeal : Cert.FfnOutFwdIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg), Pre_FfnOutFwdIdeal m →
    θ_run (Cert.FfnOutFwdIdeal.defs (F := Ideal)) (onTc (τ := Cert.FfnOutFwdIdeal.τ) (Cert.FfnOutFwdIdeal.main (F := Ideal))) ⟨m, fun _ => 0, g⟩ (fun r => (∀ c : Dev Cert.FfnOutFwdIdeal.nD,
      r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
      ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1))
      ∧ r.2.sem = fun _ => 0)

def quiescent_FfnOutFwdRefIdeal [hFfnOutFwdRefIdeal : Cert.FfnOutFwdRefIdeal.Facts] : Prop :=
  ∀ (m : (ℓ : Loc Cert.FfnOutFwdRefIdeal.nD Cert.FfnOutFwdRefIdeal.τ Cert.FfnOutFwdRefIdeal.sig) → Buf (Elt Ideal) ℓ) (g : Dev Cert.FfnOutFwdRefIdeal.nD → PrngReg), Pre_FfnOutFwdRefIdeal m →
    θ_run (Cert.FfnOutFwdRefIdeal.defs (F := Ideal)) (onTc (τ := Cert.FfnOutFwdRefIdeal.τ) (Cert.FfnOutFwdRefIdeal.main (F := Ideal))) ⟨m, fun _ => 0, g⟩ (fun r => (∀ c : Dev Cert.FfnOutFwdRefIdeal.nD,
      r.2.mem ((c.tc : Thread Cert.FfnOutFwdRefIdeal.nD Cert.FfnOutFwdRefIdeal.τ).loc Cert.FfnOutFwdRefIdeal.main_arg0) = m ((c.tc : Thread Cert.FfnOutFwdRefIdeal.nD Cert.FfnOutFwdRefIdeal.τ).loc Cert.FfnOutFwdRefIdeal.main_arg0)
      ∧ r.2.mem ((c.tc : Thread Cert.FfnOutFwdRefIdeal.nD Cert.FfnOutFwdRefIdeal.τ).loc Cert.FfnOutFwdRefIdeal.main_arg1) = m ((c.tc : Thread Cert.FfnOutFwdRefIdeal.nD Cert.FfnOutFwdRefIdeal.τ).loc Cert.FfnOutFwdRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1)
      ∧ r.2.mem ((c.tc : Thread Cert.InProjDw.nD Cert.InProjDw.τ).loc Cert.InProjDw.main_arg2) = m ((c.tc : Thread Cert.InProjDw.nD Cert.InProjDw.τ).loc Cert.InProjDw.main_arg2))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
      ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1)
      ∧ r.2.mem ((c.tc : Thread Cert.InProjDwRefIdeal.nD Cert.InProjDwRefIdeal.τ).loc Cert.InProjDwRefIdeal.main_arg2) = m ((c.tc : Thread Cert.InProjDwRefIdeal.nD Cert.InProjDwRefIdeal.τ).loc Cert.InProjDwRefIdeal.main_arg2))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1)
      ∧ r.2.mem ((c.tc : Thread Cert.OutProjDx.nD Cert.OutProjDx.τ).loc Cert.OutProjDx.main_arg2) = m ((c.tc : Thread Cert.OutProjDx.nD Cert.OutProjDx.τ).loc Cert.OutProjDx.main_arg2))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
      ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1)
      ∧ r.2.mem ((c.tc : Thread Cert.OutProjDxRefIdeal.nD Cert.OutProjDxRefIdeal.τ).loc Cert.OutProjDxRefIdeal.main_arg2) = m ((c.tc : Thread Cert.OutProjDxRefIdeal.nD Cert.OutProjDxRefIdeal.τ).loc Cert.OutProjDxRefIdeal.main_arg2))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1)
      ∧ r.2.mem ((c.tc : Thread Cert.OutProjDw.nD Cert.OutProjDw.τ).loc Cert.OutProjDw.main_arg2) = m ((c.tc : Thread Cert.OutProjDw.nD Cert.OutProjDw.τ).loc Cert.OutProjDw.main_arg2))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)
      ∧ r.2.mem ((c.tc : Thread Cert.OutProjDwRefIdeal.nD Cert.OutProjDwRefIdeal.τ).loc Cert.OutProjDwRefIdeal.main_arg2) = m ((c.tc : Thread Cert.OutProjDwRefIdeal.nD Cert.OutProjDwRefIdeal.τ).loc Cert.OutProjDwRefIdeal.main_arg2))
      ∧ r.2.sem = fun _ => 0)

def quiescent_OutProjFwd [hOutProjFwd : Cert.OutProjFwd.Facts] : Prop :=
  ∀ (m : (ℓ : Loc Cert.OutProjFwd.nD Cert.OutProjFwd.τ Cert.OutProjFwd.sig) → Buf (Elt Bits) ℓ) (g : Dev Cert.OutProjFwd.nD → PrngReg), Pre_OutProjFwd m →
    θ_run (Cert.OutProjFwd.defs (F := Bits)) (onTc (τ := Cert.OutProjFwd.τ) (Cert.OutProjFwd.main (F := Bits))) ⟨m, fun _ => 0, g⟩ (fun r => (∀ c : Dev Cert.OutProjFwd.nD,
      r.2.mem ((c.tc : Thread Cert.OutProjFwd.nD Cert.OutProjFwd.τ).loc Cert.OutProjFwd.main_arg0) = m ((c.tc : Thread Cert.OutProjFwd.nD Cert.OutProjFwd.τ).loc Cert.OutProjFwd.main_arg0)
      ∧ r.2.mem ((c.tc : Thread Cert.OutProjFwd.nD Cert.OutProjFwd.τ).loc Cert.OutProjFwd.main_arg1) = m ((c.tc : Thread Cert.OutProjFwd.nD Cert.OutProjFwd.τ).loc Cert.OutProjFwd.main_arg1))
      ∧ r.2.sem = fun _ => 0)

def quiescent_OutProjFwdIdeal [hOutProjFwdIdeal : Cert.OutProjFwdIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg), Pre_OutProjFwdIdeal m →
    θ_run (Cert.OutProjFwdIdeal.defs (F := Ideal)) (onTc (τ := Cert.OutProjFwdIdeal.τ) (Cert.OutProjFwdIdeal.main (F := Ideal))) ⟨m, fun _ => 0, g⟩ (fun r => (∀ c : Dev Cert.OutProjFwdIdeal.nD,
      r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
      ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1))
      ∧ r.2.sem = fun _ => 0)

def quiescent_OutProjFwdRefIdeal [hOutProjFwdRefIdeal : Cert.OutProjFwdRefIdeal.Facts] : Prop :=
  ∀ (m : (ℓ : Loc Cert.OutProjFwdRefIdeal.nD Cert.OutProjFwdRefIdeal.τ Cert.OutProjFwdRefIdeal.sig) → Buf (Elt Ideal) ℓ) (g : Dev Cert.OutProjFwdRefIdeal.nD → PrngReg), Pre_OutProjFwdRefIdeal m →
    θ_run (Cert.OutProjFwdRefIdeal.defs (F := Ideal)) (onTc (τ := Cert.OutProjFwdRefIdeal.τ) (Cert.OutProjFwdRefIdeal.main (F := Ideal))) ⟨m, fun _ => 0, g⟩ (fun r => (∀ c : Dev Cert.OutProjFwdRefIdeal.nD,
      r.2.mem ((c.tc : Thread Cert.OutProjFwdRefIdeal.nD Cert.OutProjFwdRefIdeal.τ).loc Cert.OutProjFwdRefIdeal.main_arg0) = m ((c.tc : Thread Cert.OutProjFwdRefIdeal.nD Cert.OutProjFwdRefIdeal.τ).loc Cert.OutProjFwdRefIdeal.main_arg0)
      ∧ r.2.mem ((c.tc : Thread Cert.OutProjFwdRefIdeal.nD Cert.OutProjFwdRefIdeal.τ).loc Cert.OutProjFwdRefIdeal.main_arg1) = m ((c.tc : Thread Cert.OutProjFwdRefIdeal.nD Cert.OutProjFwdRefIdeal.τ).loc Cert.OutProjFwdRefIdeal.main_arg1))
      ∧ r.2.sem = fun _ => 0)

def quiescent_FfnInDxLast [hFfnInDxLast : Cert.FfnInDxLast.Facts] : Prop :=
  ∀ (m : (ℓ : Loc Cert.FfnInDxLast.nD Cert.FfnInDxLast.τ Cert.FfnInDxLast.sig) → Buf (Elt Bits) ℓ) (g : Dev Cert.FfnInDxLast.nD → PrngReg), Pre_FfnInDxLast m →
    θ_run (Cert.FfnInDxLast.defs (F := Bits)) (onTc (τ := Cert.FfnInDxLast.τ) (Cert.FfnInDxLast.main (F := Bits))) ⟨m, fun _ => 0, g⟩ (fun r => (∀ c : Dev Cert.FfnInDxLast.nD,
      r.2.mem ((c.tc : Thread Cert.FfnInDxLast.nD Cert.FfnInDxLast.τ).loc Cert.FfnInDxLast.main_arg0) = m ((c.tc : Thread Cert.FfnInDxLast.nD Cert.FfnInDxLast.τ).loc Cert.FfnInDxLast.main_arg0)
      ∧ r.2.mem ((c.tc : Thread Cert.FfnInDxLast.nD Cert.FfnInDxLast.τ).loc Cert.FfnInDxLast.main_arg1) = m ((c.tc : Thread Cert.FfnInDxLast.nD Cert.FfnInDxLast.τ).loc Cert.FfnInDxLast.main_arg1)
      ∧ r.2.mem ((c.tc : Thread Cert.FfnInDxLast.nD Cert.FfnInDxLast.τ).loc Cert.FfnInDxLast.main_arg2) = m ((c.tc : Thread Cert.FfnInDxLast.nD Cert.FfnInDxLast.τ).loc Cert.FfnInDxLast.main_arg2))
      ∧ r.2.sem = fun _ => 0)

def quiescent_FfnInDxLastIdeal [hFfnInDxLastIdeal : Cert.FfnInDxLastIdeal.Facts] : Prop :=
  ∀ (m : (ℓ : Loc Cert.FfnInDxLastIdeal.nD Cert.FfnInDxLastIdeal.τ Cert.FfnInDxLastIdeal.sig) → Buf (Elt Ideal) ℓ) (g : Dev Cert.FfnInDxLastIdeal.nD → PrngReg), Pre_FfnInDxLastIdeal m →
    θ_run (Cert.FfnInDxLastIdeal.defs (F := Ideal)) (onTc (τ := Cert.FfnInDxLastIdeal.τ) (Cert.FfnInDxLastIdeal.main (F := Ideal))) ⟨m, fun _ => 0, g⟩ (fun r => (∀ c : Dev Cert.FfnInDxLastIdeal.nD,
      r.2.mem ((c.tc : Thread Cert.FfnInDxLastIdeal.nD Cert.FfnInDxLastIdeal.τ).loc Cert.FfnInDxLastIdeal.main_arg0) = m ((c.tc : Thread Cert.FfnInDxLastIdeal.nD Cert.FfnInDxLastIdeal.τ).loc Cert.FfnInDxLastIdeal.main_arg0)
      ∧ r.2.mem ((c.tc : Thread Cert.FfnInDxLastIdeal.nD Cert.FfnInDxLastIdeal.τ).loc Cert.FfnInDxLastIdeal.main_arg1) = m ((c.tc : Thread Cert.FfnInDxLastIdeal.nD Cert.FfnInDxLastIdeal.τ).loc Cert.FfnInDxLastIdeal.main_arg1)
      ∧ r.2.mem ((c.tc : Thread Cert.FfnInDxLastIdeal.nD Cert.FfnInDxLastIdeal.τ).loc Cert.FfnInDxLastIdeal.main_arg2) = m ((c.tc : Thread Cert.FfnInDxLastIdeal.nD Cert.FfnInDxLastIdeal.τ).loc Cert.FfnInDxLastIdeal.main_arg2))
      ∧ r.2.sem = fun _ => 0)

def quiescent_FfnInDxLastRefIdeal [hFfnInDxLastRefIdeal : Cert.FfnInDxLastRefIdeal.Facts] : Prop :=
  ∀ (m : (ℓ : Loc Cert.FfnInDxLastRefIdeal.nD Cert.FfnInDxLastRefIdeal.τ Cert.FfnInDxLastRefIdeal.sig) → Buf (Elt Ideal) ℓ) (g : Dev Cert.FfnInDxLastRefIdeal.nD → PrngReg), Pre_FfnInDxLastRefIdeal m →
    θ_run (Cert.FfnInDxLastRefIdeal.defs (F := Ideal)) (onTc (τ := Cert.FfnInDxLastRefIdeal.τ) (Cert.FfnInDxLastRefIdeal.main (F := Ideal))) ⟨m, fun _ => 0, g⟩ (fun r => (∀ c : Dev Cert.FfnInDxLastRefIdeal.nD,
      r.2.mem ((c.tc : Thread Cert.FfnInDxLastRefIdeal.nD Cert.FfnInDxLastRefIdeal.τ).loc Cert.FfnInDxLastRefIdeal.main_arg0) = m ((c.tc : Thread Cert.FfnInDxLastRefIdeal.nD Cert.FfnInDxLastRefIdeal.τ).loc Cert.FfnInDxLastRefIdeal.main_arg0)
      ∧ r.2.mem ((c.tc : Thread Cert.FfnInDxLastRefIdeal.nD Cert.FfnInDxLastRefIdeal.τ).loc Cert.FfnInDxLastRefIdeal.main_arg1) = m ((c.tc : Thread Cert.FfnInDxLastRefIdeal.nD Cert.FfnInDxLastRefIdeal.τ).loc Cert.FfnInDxLastRefIdeal.main_arg1)
      ∧ r.2.mem ((c.tc : Thread Cert.FfnInDxLastRefIdeal.nD Cert.FfnInDxLastRefIdeal.τ).loc Cert.FfnInDxLastRefIdeal.main_arg2) = m ((c.tc : Thread Cert.FfnInDxLastRefIdeal.nD Cert.FfnInDxLastRefIdeal.τ).loc Cert.FfnInDxLastRefIdeal.main_arg2))
      ∧ r.2.sem = fun _ => 0)

def quiescent_FfnInDwLast [hFfnInDwLast : Cert.FfnInDwLast.Facts] : Prop :=
  ∀ (m : (ℓ : Loc Cert.FfnInDwLast.nD Cert.FfnInDwLast.τ Cert.FfnInDwLast.sig) → Buf (Elt Bits) ℓ) (g : Dev Cert.FfnInDwLast.nD → PrngReg), Pre_FfnInDwLast m →
    θ_run (Cert.FfnInDwLast.defs (F := Bits)) (onTc (τ := Cert.FfnInDwLast.τ) (Cert.FfnInDwLast.main (F := Bits))) ⟨m, fun _ => 0, g⟩ (fun r => (∀ c : Dev Cert.FfnInDwLast.nD,
      r.2.mem ((c.tc : Thread Cert.FfnInDwLast.nD Cert.FfnInDwLast.τ).loc Cert.FfnInDwLast.main_arg0) = m ((c.tc : Thread Cert.FfnInDwLast.nD Cert.FfnInDwLast.τ).loc Cert.FfnInDwLast.main_arg0)
      ∧ r.2.mem ((c.tc : Thread Cert.FfnInDwLast.nD Cert.FfnInDwLast.τ).loc Cert.FfnInDwLast.main_arg1) = m ((c.tc : Thread Cert.FfnInDwLast.nD Cert.FfnInDwLast.τ).loc Cert.FfnInDwLast.main_arg1)
      ∧ r.2.mem ((c.tc : Thread Cert.FfnInDwLast.nD Cert.FfnInDwLast.τ).loc Cert.FfnInDwLast.main_arg2) = m ((c.tc : Thread Cert.FfnInDwLast.nD Cert.FfnInDwLast.τ).loc Cert.FfnInDwLast.main_arg2))
      ∧ r.2.sem = fun _ => 0)

def quiescent_FfnInDwLastIdeal [hFfnInDwLastIdeal : Cert.FfnInDwLastIdeal.Facts] : Prop :=
  ∀ (m : (ℓ : Loc Cert.FfnInDwLastIdeal.nD Cert.FfnInDwLastIdeal.τ Cert.FfnInDwLastIdeal.sig) → Buf (Elt Ideal) ℓ) (g : Dev Cert.FfnInDwLastIdeal.nD → PrngReg), Pre_FfnInDwLastIdeal m →
    θ_run (Cert.FfnInDwLastIdeal.defs (F := Ideal)) (onTc (τ := Cert.FfnInDwLastIdeal.τ) (Cert.FfnInDwLastIdeal.main (F := Ideal))) ⟨m, fun _ => 0, g⟩ (fun r => (∀ c : Dev Cert.FfnInDwLastIdeal.nD,
      r.2.mem ((c.tc : Thread Cert.FfnInDwLastIdeal.nD Cert.FfnInDwLastIdeal.τ).loc Cert.FfnInDwLastIdeal.main_arg0) = m ((c.tc : Thread Cert.FfnInDwLastIdeal.nD Cert.FfnInDwLastIdeal.τ).loc Cert.FfnInDwLastIdeal.main_arg0)
      ∧ r.2.mem ((c.tc : Thread Cert.FfnInDwLastIdeal.nD Cert.FfnInDwLastIdeal.τ).loc Cert.FfnInDwLastIdeal.main_arg1) = m ((c.tc : Thread Cert.FfnInDwLastIdeal.nD Cert.FfnInDwLastIdeal.τ).loc Cert.FfnInDwLastIdeal.main_arg1)
      ∧ r.2.mem ((c.tc : Thread Cert.FfnInDwLastIdeal.nD Cert.FfnInDwLastIdeal.τ).loc Cert.FfnInDwLastIdeal.main_arg2) = m ((c.tc : Thread Cert.FfnInDwLastIdeal.nD Cert.FfnInDwLastIdeal.τ).loc Cert.FfnInDwLastIdeal.main_arg2))
      ∧ r.2.sem = fun _ => 0)

def quiescent_FfnInDwLastRefIdeal [hFfnInDwLastRefIdeal : Cert.FfnInDwLastRefIdeal.Facts] : Prop :=
  ∀ (m : (ℓ : Loc Cert.FfnInDwLastRefIdeal.nD Cert.FfnInDwLastRefIdeal.τ Cert.FfnInDwLastRefIdeal.sig) → Buf (Elt Ideal) ℓ) (g : Dev Cert.FfnInDwLastRefIdeal.nD → PrngReg), Pre_FfnInDwLastRefIdeal m →
    θ_run (Cert.FfnInDwLastRefIdeal.defs (F := Ideal)) (onTc (τ := Cert.FfnInDwLastRefIdeal.τ) (Cert.FfnInDwLastRefIdeal.main (F := Ideal))) ⟨m, fun _ => 0, g⟩ (fun r => (∀ c : Dev Cert.FfnInDwLastRefIdeal.nD,
      r.2.mem ((c.tc : Thread Cert.FfnInDwLastRefIdeal.nD Cert.FfnInDwLastRefIdeal.τ).loc Cert.FfnInDwLastRefIdeal.main_arg0) = m ((c.tc : Thread Cert.FfnInDwLastRefIdeal.nD Cert.FfnInDwLastRefIdeal.τ).loc Cert.FfnInDwLastRefIdeal.main_arg0)
      ∧ r.2.mem ((c.tc : Thread Cert.FfnInDwLastRefIdeal.nD Cert.FfnInDwLastRefIdeal.τ).loc Cert.FfnInDwLastRefIdeal.main_arg1) = m ((c.tc : Thread Cert.FfnInDwLastRefIdeal.nD Cert.FfnInDwLastRefIdeal.τ).loc Cert.FfnInDwLastRefIdeal.main_arg1)
      ∧ r.2.mem ((c.tc : Thread Cert.FfnInDwLastRefIdeal.nD Cert.FfnInDwLastRefIdeal.τ).loc Cert.FfnInDwLastRefIdeal.main_arg2) = m ((c.tc : Thread Cert.FfnInDwLastRefIdeal.nD Cert.FfnInDwLastRefIdeal.τ).loc Cert.FfnInDwLastRefIdeal.main_arg2))
      ∧ r.2.sem = fun _ => 0)

def quiescent_FfnInFwdLast [hFfnInFwdLast : Cert.FfnInFwdLast.Facts] : Prop :=
  ∀ (m : (ℓ : Loc Cert.FfnInFwdLast.nD Cert.FfnInFwdLast.τ Cert.FfnInFwdLast.sig) → Buf (Elt Bits) ℓ) (g : Dev Cert.FfnInFwdLast.nD → PrngReg), Pre_FfnInFwdLast m →
    θ_run (Cert.FfnInFwdLast.defs (F := Bits)) (onTc (τ := Cert.FfnInFwdLast.τ) (Cert.FfnInFwdLast.main (F := Bits))) ⟨m, fun _ => 0, g⟩ (fun r => (∀ c : Dev Cert.FfnInFwdLast.nD,
      r.2.mem ((c.tc : Thread Cert.FfnInFwdLast.nD Cert.FfnInFwdLast.τ).loc Cert.FfnInFwdLast.main_arg0) = m ((c.tc : Thread Cert.FfnInFwdLast.nD Cert.FfnInFwdLast.τ).loc Cert.FfnInFwdLast.main_arg0)
      ∧ r.2.mem ((c.tc : Thread Cert.FfnInFwdLast.nD Cert.FfnInFwdLast.τ).loc Cert.FfnInFwdLast.main_arg1) = m ((c.tc : Thread Cert.FfnInFwdLast.nD Cert.FfnInFwdLast.τ).loc Cert.FfnInFwdLast.main_arg1))
      ∧ r.2.sem = fun _ => 0)

def quiescent_FfnInFwdLastIdeal [hFfnInFwdLastIdeal : Cert.FfnInFwdLastIdeal.Facts] : Prop :=
  ∀ (m : (ℓ : Loc Cert.FfnInFwdLastIdeal.nD Cert.FfnInFwdLastIdeal.τ Cert.FfnInFwdLastIdeal.sig) → Buf (Elt Ideal) ℓ) (g : Dev Cert.FfnInFwdLastIdeal.nD → PrngReg), Pre_FfnInFwdLastIdeal m →
    θ_run (Cert.FfnInFwdLastIdeal.defs (F := Ideal)) (onTc (τ := Cert.FfnInFwdLastIdeal.τ) (Cert.FfnInFwdLastIdeal.main (F := Ideal))) ⟨m, fun _ => 0, g⟩ (fun r => (∀ c : Dev Cert.FfnInFwdLastIdeal.nD,
      r.2.mem ((c.tc : Thread Cert.FfnInFwdLastIdeal.nD Cert.FfnInFwdLastIdeal.τ).loc Cert.FfnInFwdLastIdeal.main_arg0) = m ((c.tc : Thread Cert.FfnInFwdLastIdeal.nD Cert.FfnInFwdLastIdeal.τ).loc Cert.FfnInFwdLastIdeal.main_arg0)
      ∧ r.2.mem ((c.tc : Thread Cert.FfnInFwdLastIdeal.nD Cert.FfnInFwdLastIdeal.τ).loc Cert.FfnInFwdLastIdeal.main_arg1) = m ((c.tc : Thread Cert.FfnInFwdLastIdeal.nD Cert.FfnInFwdLastIdeal.τ).loc Cert.FfnInFwdLastIdeal.main_arg1))
      ∧ r.2.sem = fun _ => 0)

def quiescent_FfnInFwdLastRefIdeal [hFfnInFwdLastRefIdeal : Cert.FfnInFwdLastRefIdeal.Facts] : Prop :=
  ∀ (m : (ℓ : Loc Cert.FfnInFwdLastRefIdeal.nD Cert.FfnInFwdLastRefIdeal.τ Cert.FfnInFwdLastRefIdeal.sig) → Buf (Elt Ideal) ℓ) (g : Dev Cert.FfnInFwdLastRefIdeal.nD → PrngReg), Pre_FfnInFwdLastRefIdeal m →
    θ_run (Cert.FfnInFwdLastRefIdeal.defs (F := Ideal)) (onTc (τ := Cert.FfnInFwdLastRefIdeal.τ) (Cert.FfnInFwdLastRefIdeal.main (F := Ideal))) ⟨m, fun _ => 0, g⟩ (fun r => (∀ c : Dev Cert.FfnInFwdLastRefIdeal.nD,
      r.2.mem ((c.tc : Thread Cert.FfnInFwdLastRefIdeal.nD Cert.FfnInFwdLastRefIdeal.τ).loc Cert.FfnInFwdLastRefIdeal.main_arg0) = m ((c.tc : Thread Cert.FfnInFwdLastRefIdeal.nD Cert.FfnInFwdLastRefIdeal.τ).loc Cert.FfnInFwdLastRefIdeal.main_arg0)
      ∧ r.2.mem ((c.tc : Thread Cert.FfnInFwdLastRefIdeal.nD Cert.FfnInFwdLastRefIdeal.τ).loc Cert.FfnInFwdLastRefIdeal.main_arg1) = m ((c.tc : Thread Cert.FfnInFwdLastRefIdeal.nD Cert.FfnInFwdLastRefIdeal.τ).loc Cert.FfnInFwdLastRefIdeal.main_arg1))
      ∧ r.2.sem = fun _ => 0)

def quiescent_FfnOutDxLast [hFfnOutDxLast : Cert.FfnOutDxLast.Facts] : Prop :=
  ∀ (m : (ℓ : Loc Cert.FfnOutDxLast.nD Cert.FfnOutDxLast.τ Cert.FfnOutDxLast.sig) → Buf (Elt Bits) ℓ) (g : Dev Cert.FfnOutDxLast.nD → PrngReg), Pre_FfnOutDxLast m →
    θ_run (Cert.FfnOutDxLast.defs (F := Bits)) (onTc (τ := Cert.FfnOutDxLast.τ) (Cert.FfnOutDxLast.main (F := Bits))) ⟨m, fun _ => 0, g⟩ (fun r => (∀ c : Dev Cert.FfnOutDxLast.nD,
      r.2.mem ((c.tc : Thread Cert.FfnOutDxLast.nD Cert.FfnOutDxLast.τ).loc Cert.FfnOutDxLast.main_arg0) = m ((c.tc : Thread Cert.FfnOutDxLast.nD Cert.FfnOutDxLast.τ).loc Cert.FfnOutDxLast.main_arg0)
      ∧ r.2.mem ((c.tc : Thread Cert.FfnOutDxLast.nD Cert.FfnOutDxLast.τ).loc Cert.FfnOutDxLast.main_arg1) = m ((c.tc : Thread Cert.FfnOutDxLast.nD Cert.FfnOutDxLast.τ).loc Cert.FfnOutDxLast.main_arg1)
      ∧ r.2.mem ((c.tc : Thread Cert.FfnOutDxLast.nD Cert.FfnOutDxLast.τ).loc Cert.FfnOutDxLast.main_arg2) = m ((c.tc : Thread Cert.FfnOutDxLast.nD Cert.FfnOutDxLast.τ).loc Cert.FfnOutDxLast.main_arg2))
      ∧ r.2.sem = fun _ => 0)

def quiescent_FfnOutDxLastIdeal [hFfnOutDxLastIdeal : Cert.FfnOutDxLastIdeal.Facts] : Prop :=
  ∀ (m : (ℓ : Loc Cert.FfnOutDxLastIdeal.nD Cert.FfnOutDxLastIdeal.τ Cert.FfnOutDxLastIdeal.sig) → Buf (Elt Ideal) ℓ) (g : Dev Cert.FfnOutDxLastIdeal.nD → PrngReg), Pre_FfnOutDxLastIdeal m →
    θ_run (Cert.FfnOutDxLastIdeal.defs (F := Ideal)) (onTc (τ := Cert.FfnOutDxLastIdeal.τ) (Cert.FfnOutDxLastIdeal.main (F := Ideal))) ⟨m, fun _ => 0, g⟩ (fun r => (∀ c : Dev Cert.FfnOutDxLastIdeal.nD,
      r.2.mem ((c.tc : Thread Cert.FfnOutDxLastIdeal.nD Cert.FfnOutDxLastIdeal.τ).loc Cert.FfnOutDxLastIdeal.main_arg0) = m ((c.tc : Thread Cert.FfnOutDxLastIdeal.nD Cert.FfnOutDxLastIdeal.τ).loc Cert.FfnOutDxLastIdeal.main_arg0)
      ∧ r.2.mem ((c.tc : Thread Cert.FfnOutDxLastIdeal.nD Cert.FfnOutDxLastIdeal.τ).loc Cert.FfnOutDxLastIdeal.main_arg1) = m ((c.tc : Thread Cert.FfnOutDxLastIdeal.nD Cert.FfnOutDxLastIdeal.τ).loc Cert.FfnOutDxLastIdeal.main_arg1)
      ∧ r.2.mem ((c.tc : Thread Cert.FfnOutDxLastIdeal.nD Cert.FfnOutDxLastIdeal.τ).loc Cert.FfnOutDxLastIdeal.main_arg2) = m ((c.tc : Thread Cert.FfnOutDxLastIdeal.nD Cert.FfnOutDxLastIdeal.τ).loc Cert.FfnOutDxLastIdeal.main_arg2))
      ∧ r.2.sem = fun _ => 0)

def quiescent_FfnOutDxLastRefIdeal [hFfnOutDxLastRefIdeal : Cert.FfnOutDxLastRefIdeal.Facts] : Prop :=
  ∀ (m : (ℓ : Loc Cert.FfnOutDxLastRefIdeal.nD Cert.FfnOutDxLastRefIdeal.τ Cert.FfnOutDxLastRefIdeal.sig) → Buf (Elt Ideal) ℓ) (g : Dev Cert.FfnOutDxLastRefIdeal.nD → PrngReg), Pre_FfnOutDxLastRefIdeal m →
    θ_run (Cert.FfnOutDxLastRefIdeal.defs (F := Ideal)) (onTc (τ := Cert.FfnOutDxLastRefIdeal.τ) (Cert.FfnOutDxLastRefIdeal.main (F := Ideal))) ⟨m, fun _ => 0, g⟩ (fun r => (∀ c : Dev Cert.FfnOutDxLastRefIdeal.nD,
      r.2.mem ((c.tc : Thread Cert.FfnOutDxLastRefIdeal.nD Cert.FfnOutDxLastRefIdeal.τ).loc Cert.FfnOutDxLastRefIdeal.main_arg0) = m ((c.tc : Thread Cert.FfnOutDxLastRefIdeal.nD Cert.FfnOutDxLastRefIdeal.τ).loc Cert.FfnOutDxLastRefIdeal.main_arg0)
      ∧ r.2.mem ((c.tc : Thread Cert.FfnOutDxLastRefIdeal.nD Cert.FfnOutDxLastRefIdeal.τ).loc Cert.FfnOutDxLastRefIdeal.main_arg1) = m ((c.tc : Thread Cert.FfnOutDxLastRefIdeal.nD Cert.FfnOutDxLastRefIdeal.τ).loc Cert.FfnOutDxLastRefIdeal.main_arg1)
      ∧ r.2.mem ((c.tc : Thread Cert.FfnOutDxLastRefIdeal.nD Cert.FfnOutDxLastRefIdeal.τ).loc Cert.FfnOutDxLastRefIdeal.main_arg2) = m ((c.tc : Thread Cert.FfnOutDxLastRefIdeal.nD Cert.FfnOutDxLastRefIdeal.τ).loc Cert.FfnOutDxLastRefIdeal.main_arg2))
      ∧ r.2.sem = fun _ => 0)

def quiescent_FfnOutDwLast [hFfnOutDwLast : Cert.FfnOutDwLast.Facts] : Prop :=
  ∀ (m : (ℓ : Loc Cert.FfnOutDwLast.nD Cert.FfnOutDwLast.τ Cert.FfnOutDwLast.sig) → Buf (Elt Bits) ℓ) (g : Dev Cert.FfnOutDwLast.nD → PrngReg), Pre_FfnOutDwLast m →
    θ_run (Cert.FfnOutDwLast.defs (F := Bits)) (onTc (τ := Cert.FfnOutDwLast.τ) (Cert.FfnOutDwLast.main (F := Bits))) ⟨m, fun _ => 0, g⟩ (fun r => (∀ c : Dev Cert.FfnOutDwLast.nD,
      r.2.mem ((c.tc : Thread Cert.FfnOutDwLast.nD Cert.FfnOutDwLast.τ).loc Cert.FfnOutDwLast.main_arg0) = m ((c.tc : Thread Cert.FfnOutDwLast.nD Cert.FfnOutDwLast.τ).loc Cert.FfnOutDwLast.main_arg0)
      ∧ r.2.mem ((c.tc : Thread Cert.FfnOutDwLast.nD Cert.FfnOutDwLast.τ).loc Cert.FfnOutDwLast.main_arg1) = m ((c.tc : Thread Cert.FfnOutDwLast.nD Cert.FfnOutDwLast.τ).loc Cert.FfnOutDwLast.main_arg1)
      ∧ r.2.mem ((c.tc : Thread Cert.FfnOutDwLast.nD Cert.FfnOutDwLast.τ).loc Cert.FfnOutDwLast.main_arg2) = m ((c.tc : Thread Cert.FfnOutDwLast.nD Cert.FfnOutDwLast.τ).loc Cert.FfnOutDwLast.main_arg2))
      ∧ r.2.sem = fun _ => 0)

def quiescent_FfnOutDwLastIdeal [hFfnOutDwLastIdeal : Cert.FfnOutDwLastIdeal.Facts] : Prop :=
  ∀ (m : (ℓ : Loc Cert.FfnOutDwLastIdeal.nD Cert.FfnOutDwLastIdeal.τ Cert.FfnOutDwLastIdeal.sig) → Buf (Elt Ideal) ℓ) (g : Dev Cert.FfnOutDwLastIdeal.nD → PrngReg), Pre_FfnOutDwLastIdeal m →
    θ_run (Cert.FfnOutDwLastIdeal.defs (F := Ideal)) (onTc (τ := Cert.FfnOutDwLastIdeal.τ) (Cert.FfnOutDwLastIdeal.main (F := Ideal))) ⟨m, fun _ => 0, g⟩ (fun r => (∀ c : Dev Cert.FfnOutDwLastIdeal.nD,
      r.2.mem ((c.tc : Thread Cert.FfnOutDwLastIdeal.nD Cert.FfnOutDwLastIdeal.τ).loc Cert.FfnOutDwLastIdeal.main_arg0) = m ((c.tc : Thread Cert.FfnOutDwLastIdeal.nD Cert.FfnOutDwLastIdeal.τ).loc Cert.FfnOutDwLastIdeal.main_arg0)
      ∧ r.2.mem ((c.tc : Thread Cert.FfnOutDwLastIdeal.nD Cert.FfnOutDwLastIdeal.τ).loc Cert.FfnOutDwLastIdeal.main_arg1) = m ((c.tc : Thread Cert.FfnOutDwLastIdeal.nD Cert.FfnOutDwLastIdeal.τ).loc Cert.FfnOutDwLastIdeal.main_arg1)
      ∧ r.2.mem ((c.tc : Thread Cert.FfnOutDwLastIdeal.nD Cert.FfnOutDwLastIdeal.τ).loc Cert.FfnOutDwLastIdeal.main_arg2) = m ((c.tc : Thread Cert.FfnOutDwLastIdeal.nD Cert.FfnOutDwLastIdeal.τ).loc Cert.FfnOutDwLastIdeal.main_arg2))
      ∧ r.2.sem = fun _ => 0)

def quiescent_FfnOutDwLastRefIdeal [hFfnOutDwLastRefIdeal : Cert.FfnOutDwLastRefIdeal.Facts] : Prop :=
  ∀ (m : (ℓ : Loc Cert.FfnOutDwLastRefIdeal.nD Cert.FfnOutDwLastRefIdeal.τ Cert.FfnOutDwLastRefIdeal.sig) → Buf (Elt Ideal) ℓ) (g : Dev Cert.FfnOutDwLastRefIdeal.nD → PrngReg), Pre_FfnOutDwLastRefIdeal m →
    θ_run (Cert.FfnOutDwLastRefIdeal.defs (F := Ideal)) (onTc (τ := Cert.FfnOutDwLastRefIdeal.τ) (Cert.FfnOutDwLastRefIdeal.main (F := Ideal))) ⟨m, fun _ => 0, g⟩ (fun r => (∀ c : Dev Cert.FfnOutDwLastRefIdeal.nD,
      r.2.mem ((c.tc : Thread Cert.FfnOutDwLastRefIdeal.nD Cert.FfnOutDwLastRefIdeal.τ).loc Cert.FfnOutDwLastRefIdeal.main_arg0) = m ((c.tc : Thread Cert.FfnOutDwLastRefIdeal.nD Cert.FfnOutDwLastRefIdeal.τ).loc Cert.FfnOutDwLastRefIdeal.main_arg0)
      ∧ r.2.mem ((c.tc : Thread Cert.FfnOutDwLastRefIdeal.nD Cert.FfnOutDwLastRefIdeal.τ).loc Cert.FfnOutDwLastRefIdeal.main_arg1) = m ((c.tc : Thread Cert.FfnOutDwLastRefIdeal.nD Cert.FfnOutDwLastRefIdeal.τ).loc Cert.FfnOutDwLastRefIdeal.main_arg1)
      ∧ r.2.mem ((c.tc : Thread Cert.FfnOutDwLastRefIdeal.nD Cert.FfnOutDwLastRefIdeal.τ).loc Cert.FfnOutDwLastRefIdeal.main_arg2) = m ((c.tc : Thread Cert.FfnOutDwLastRefIdeal.nD Cert.FfnOutDwLastRefIdeal.τ).loc Cert.FfnOutDwLastRefIdeal.main_arg2))
      ∧ r.2.sem = fun _ => 0)

def quiescent_FfnOutFwdLast [hFfnOutFwdLast : Cert.FfnOutFwdLast.Facts] : Prop :=
  ∀ (m : (ℓ : Loc Cert.FfnOutFwdLast.nD Cert.FfnOutFwdLast.τ Cert.FfnOutFwdLast.sig) → Buf (Elt Bits) ℓ) (g : Dev Cert.FfnOutFwdLast.nD → PrngReg), Pre_FfnOutFwdLast m →
    θ_run (Cert.FfnOutFwdLast.defs (F := Bits)) (onTc (τ := Cert.FfnOutFwdLast.τ) (Cert.FfnOutFwdLast.main (F := Bits))) ⟨m, fun _ => 0, g⟩ (fun r => (∀ c : Dev Cert.FfnOutFwdLast.nD,
      r.2.mem ((c.tc : Thread Cert.FfnOutFwdLast.nD Cert.FfnOutFwdLast.τ).loc Cert.FfnOutFwdLast.main_arg0) = m ((c.tc : Thread Cert.FfnOutFwdLast.nD Cert.FfnOutFwdLast.τ).loc Cert.FfnOutFwdLast.main_arg0)
      ∧ r.2.mem ((c.tc : Thread Cert.FfnOutFwdLast.nD Cert.FfnOutFwdLast.τ).loc Cert.FfnOutFwdLast.main_arg1) = m ((c.tc : Thread Cert.FfnOutFwdLast.nD Cert.FfnOutFwdLast.τ).loc Cert.FfnOutFwdLast.main_arg1))
      ∧ r.2.sem = fun _ => 0)

def quiescent_FfnOutFwdLastIdeal [hFfnOutFwdLastIdeal : Cert.FfnOutFwdLastIdeal.Facts] : Prop :=
  ∀ (m : (ℓ : Loc Cert.FfnOutFwdLastIdeal.nD Cert.FfnOutFwdLastIdeal.τ Cert.FfnOutFwdLastIdeal.sig) → Buf (Elt Ideal) ℓ) (g : Dev Cert.FfnOutFwdLastIdeal.nD → PrngReg), Pre_FfnOutFwdLastIdeal m →
    θ_run (Cert.FfnOutFwdLastIdeal.defs (F := Ideal)) (onTc (τ := Cert.FfnOutFwdLastIdeal.τ) (Cert.FfnOutFwdLastIdeal.main (F := Ideal))) ⟨m, fun _ => 0, g⟩ (fun r => (∀ c : Dev Cert.FfnOutFwdLastIdeal.nD,
      r.2.mem ((c.tc : Thread Cert.FfnOutFwdLastIdeal.nD Cert.FfnOutFwdLastIdeal.τ).loc Cert.FfnOutFwdLastIdeal.main_arg0) = m ((c.tc : Thread Cert.FfnOutFwdLastIdeal.nD Cert.FfnOutFwdLastIdeal.τ).loc Cert.FfnOutFwdLastIdeal.main_arg0)
      ∧ r.2.mem ((c.tc : Thread Cert.FfnOutFwdLastIdeal.nD Cert.FfnOutFwdLastIdeal.τ).loc Cert.FfnOutFwdLastIdeal.main_arg1) = m ((c.tc : Thread Cert.FfnOutFwdLastIdeal.nD Cert.FfnOutFwdLastIdeal.τ).loc Cert.FfnOutFwdLastIdeal.main_arg1))
      ∧ r.2.sem = fun _ => 0)

def quiescent_FfnOutFwdLastRefIdeal [hFfnOutFwdLastRefIdeal : Cert.FfnOutFwdLastRefIdeal.Facts] : Prop :=
  ∀ (m : (ℓ : Loc Cert.FfnOutFwdLastRefIdeal.nD Cert.FfnOutFwdLastRefIdeal.τ Cert.FfnOutFwdLastRefIdeal.sig) → Buf (Elt Ideal) ℓ) (g : Dev Cert.FfnOutFwdLastRefIdeal.nD → PrngReg), Pre_FfnOutFwdLastRefIdeal m →
    θ_run (Cert.FfnOutFwdLastRefIdeal.defs (F := Ideal)) (onTc (τ := Cert.FfnOutFwdLastRefIdeal.τ) (Cert.FfnOutFwdLastRefIdeal.main (F := Ideal))) ⟨m, fun _ => 0, g⟩ (fun r => (∀ c : Dev Cert.FfnOutFwdLastRefIdeal.nD,
      r.2.mem ((c.tc : Thread Cert.FfnOutFwdLastRefIdeal.nD Cert.FfnOutFwdLastRefIdeal.τ).loc Cert.FfnOutFwdLastRefIdeal.main_arg0) = m ((c.tc : Thread Cert.FfnOutFwdLastRefIdeal.nD Cert.FfnOutFwdLastRefIdeal.τ).loc Cert.FfnOutFwdLastRefIdeal.main_arg0)
      ∧ r.2.mem ((c.tc : Thread Cert.FfnOutFwdLastRefIdeal.nD Cert.FfnOutFwdLastRefIdeal.τ).loc Cert.FfnOutFwdLastRefIdeal.main_arg1) = m ((c.tc : Thread Cert.FfnOutFwdLastRefIdeal.nD Cert.FfnOutFwdLastRefIdeal.τ).loc Cert.FfnOutFwdLastRefIdeal.main_arg1))
      ∧ r.2.sem = fun _ => 0)

def quiescent_OutProjDxLast [hOutProjDxLast : Cert.OutProjDxLast.Facts] : Prop :=
  ∀ (m : (ℓ : Loc Cert.OutProjDxLast.nD Cert.OutProjDxLast.τ Cert.OutProjDxLast.sig) → Buf (Elt Bits) ℓ) (g : Dev Cert.OutProjDxLast.nD → PrngReg), Pre_OutProjDxLast m →
    θ_run (Cert.OutProjDxLast.defs (F := Bits)) (onTc (τ := Cert.OutProjDxLast.τ) (Cert.OutProjDxLast.main (F := Bits))) ⟨m, fun _ => 0, g⟩ (fun r => (∀ c : Dev Cert.OutProjDxLast.nD,
      r.2.mem ((c.tc : Thread Cert.OutProjDxLast.nD Cert.OutProjDxLast.τ).loc Cert.OutProjDxLast.main_arg0) = m ((c.tc : Thread Cert.OutProjDxLast.nD Cert.OutProjDxLast.τ).loc Cert.OutProjDxLast.main_arg0)
      ∧ r.2.mem ((c.tc : Thread Cert.OutProjDxLast.nD Cert.OutProjDxLast.τ).loc Cert.OutProjDxLast.main_arg1) = m ((c.tc : Thread Cert.OutProjDxLast.nD Cert.OutProjDxLast.τ).loc Cert.OutProjDxLast.main_arg1)
      ∧ r.2.mem ((c.tc : Thread Cert.OutProjDxLast.nD Cert.OutProjDxLast.τ).loc Cert.OutProjDxLast.main_arg2) = m ((c.tc : Thread Cert.OutProjDxLast.nD Cert.OutProjDxLast.τ).loc Cert.OutProjDxLast.main_arg2))
      ∧ r.2.sem = fun _ => 0)

def quiescent_OutProjDxLastIdeal [hOutProjDxLastIdeal : Cert.OutProjDxLastIdeal.Facts] : Prop :=
  ∀ (m : (ℓ : Loc Cert.OutProjDxLastIdeal.nD Cert.OutProjDxLastIdeal.τ Cert.OutProjDxLastIdeal.sig) → Buf (Elt Ideal) ℓ) (g : Dev Cert.OutProjDxLastIdeal.nD → PrngReg), Pre_OutProjDxLastIdeal m →
    θ_run (Cert.OutProjDxLastIdeal.defs (F := Ideal)) (onTc (τ := Cert.OutProjDxLastIdeal.τ) (Cert.OutProjDxLastIdeal.main (F := Ideal))) ⟨m, fun _ => 0, g⟩ (fun r => (∀ c : Dev Cert.OutProjDxLastIdeal.nD,
      r.2.mem ((c.tc : Thread Cert.OutProjDxLastIdeal.nD Cert.OutProjDxLastIdeal.τ).loc Cert.OutProjDxLastIdeal.main_arg0) = m ((c.tc : Thread Cert.OutProjDxLastIdeal.nD Cert.OutProjDxLastIdeal.τ).loc Cert.OutProjDxLastIdeal.main_arg0)
      ∧ r.2.mem ((c.tc : Thread Cert.OutProjDxLastIdeal.nD Cert.OutProjDxLastIdeal.τ).loc Cert.OutProjDxLastIdeal.main_arg1) = m ((c.tc : Thread Cert.OutProjDxLastIdeal.nD Cert.OutProjDxLastIdeal.τ).loc Cert.OutProjDxLastIdeal.main_arg1)
      ∧ r.2.mem ((c.tc : Thread Cert.OutProjDxLastIdeal.nD Cert.OutProjDxLastIdeal.τ).loc Cert.OutProjDxLastIdeal.main_arg2) = m ((c.tc : Thread Cert.OutProjDxLastIdeal.nD Cert.OutProjDxLastIdeal.τ).loc Cert.OutProjDxLastIdeal.main_arg2))
      ∧ r.2.sem = fun _ => 0)

def quiescent_OutProjDxLastRefIdeal [hOutProjDxLastRefIdeal : Cert.OutProjDxLastRefIdeal.Facts] : Prop :=
  ∀ (m : (ℓ : Loc Cert.OutProjDxLastRefIdeal.nD Cert.OutProjDxLastRefIdeal.τ Cert.OutProjDxLastRefIdeal.sig) → Buf (Elt Ideal) ℓ) (g : Dev Cert.OutProjDxLastRefIdeal.nD → PrngReg), Pre_OutProjDxLastRefIdeal m →
    θ_run (Cert.OutProjDxLastRefIdeal.defs (F := Ideal)) (onTc (τ := Cert.OutProjDxLastRefIdeal.τ) (Cert.OutProjDxLastRefIdeal.main (F := Ideal))) ⟨m, fun _ => 0, g⟩ (fun r => (∀ c : Dev Cert.OutProjDxLastRefIdeal.nD,
      r.2.mem ((c.tc : Thread Cert.OutProjDxLastRefIdeal.nD Cert.OutProjDxLastRefIdeal.τ).loc Cert.OutProjDxLastRefIdeal.main_arg0) = m ((c.tc : Thread Cert.OutProjDxLastRefIdeal.nD Cert.OutProjDxLastRefIdeal.τ).loc Cert.OutProjDxLastRefIdeal.main_arg0)
      ∧ r.2.mem ((c.tc : Thread Cert.OutProjDxLastRefIdeal.nD Cert.OutProjDxLastRefIdeal.τ).loc Cert.OutProjDxLastRefIdeal.main_arg1) = m ((c.tc : Thread Cert.OutProjDxLastRefIdeal.nD Cert.OutProjDxLastRefIdeal.τ).loc Cert.OutProjDxLastRefIdeal.main_arg1)
      ∧ r.2.mem ((c.tc : Thread Cert.OutProjDxLastRefIdeal.nD Cert.OutProjDxLastRefIdeal.τ).loc Cert.OutProjDxLastRefIdeal.main_arg2) = m ((c.tc : Thread Cert.OutProjDxLastRefIdeal.nD Cert.OutProjDxLastRefIdeal.τ).loc Cert.OutProjDxLastRefIdeal.main_arg2))
      ∧ r.2.sem = fun _ => 0)

def quiescent_OutProjDwLast [hOutProjDwLast : Cert.OutProjDwLast.Facts] : Prop :=
  ∀ (m : (ℓ : Loc Cert.OutProjDwLast.nD Cert.OutProjDwLast.τ Cert.OutProjDwLast.sig) → Buf (Elt Bits) ℓ) (g : Dev Cert.OutProjDwLast.nD → PrngReg), Pre_OutProjDwLast m →
    θ_run (Cert.OutProjDwLast.defs (F := Bits)) (onTc (τ := Cert.OutProjDwLast.τ) (Cert.OutProjDwLast.main (F := Bits))) ⟨m, fun _ => 0, g⟩ (fun r => (∀ c : Dev Cert.OutProjDwLast.nD,
      r.2.mem ((c.tc : Thread Cert.OutProjDwLast.nD Cert.OutProjDwLast.τ).loc Cert.OutProjDwLast.main_arg0) = m ((c.tc : Thread Cert.OutProjDwLast.nD Cert.OutProjDwLast.τ).loc Cert.OutProjDwLast.main_arg0)
      ∧ r.2.mem ((c.tc : Thread Cert.OutProjDwLast.nD Cert.OutProjDwLast.τ).loc Cert.OutProjDwLast.main_arg1) = m ((c.tc : Thread Cert.OutProjDwLast.nD Cert.OutProjDwLast.τ).loc Cert.OutProjDwLast.main_arg1)
      ∧ r.2.mem ((c.tc : Thread Cert.OutProjDwLast.nD Cert.OutProjDwLast.τ).loc Cert.OutProjDwLast.main_arg2) = m ((c.tc : Thread Cert.OutProjDwLast.nD Cert.OutProjDwLast.τ).loc Cert.OutProjDwLast.main_arg2))
      ∧ r.2.sem = fun _ => 0)

def quiescent_OutProjDwLastIdeal [hOutProjDwLastIdeal : Cert.OutProjDwLastIdeal.Facts] : Prop :=
  ∀ (m : (ℓ : Loc Cert.OutProjDwLastIdeal.nD Cert.OutProjDwLastIdeal.τ Cert.OutProjDwLastIdeal.sig) → Buf (Elt Ideal) ℓ) (g : Dev Cert.OutProjDwLastIdeal.nD → PrngReg), Pre_OutProjDwLastIdeal m →
    θ_run (Cert.OutProjDwLastIdeal.defs (F := Ideal)) (onTc (τ := Cert.OutProjDwLastIdeal.τ) (Cert.OutProjDwLastIdeal.main (F := Ideal))) ⟨m, fun _ => 0, g⟩ (fun r => (∀ c : Dev Cert.OutProjDwLastIdeal.nD,
      r.2.mem ((c.tc : Thread Cert.OutProjDwLastIdeal.nD Cert.OutProjDwLastIdeal.τ).loc Cert.OutProjDwLastIdeal.main_arg0) = m ((c.tc : Thread Cert.OutProjDwLastIdeal.nD Cert.OutProjDwLastIdeal.τ).loc Cert.OutProjDwLastIdeal.main_arg0)
      ∧ r.2.mem ((c.tc : Thread Cert.OutProjDwLastIdeal.nD Cert.OutProjDwLastIdeal.τ).loc Cert.OutProjDwLastIdeal.main_arg1) = m ((c.tc : Thread Cert.OutProjDwLastIdeal.nD Cert.OutProjDwLastIdeal.τ).loc Cert.OutProjDwLastIdeal.main_arg1)
      ∧ r.2.mem ((c.tc : Thread Cert.OutProjDwLastIdeal.nD Cert.OutProjDwLastIdeal.τ).loc Cert.OutProjDwLastIdeal.main_arg2) = m ((c.tc : Thread Cert.OutProjDwLastIdeal.nD Cert.OutProjDwLastIdeal.τ).loc Cert.OutProjDwLastIdeal.main_arg2))
      ∧ r.2.sem = fun _ => 0)

def quiescent_OutProjDwLastRefIdeal [hOutProjDwLastRefIdeal : Cert.OutProjDwLastRefIdeal.Facts] : Prop :=
  ∀ (m : (ℓ : Loc Cert.OutProjDwLastRefIdeal.nD Cert.OutProjDwLastRefIdeal.τ Cert.OutProjDwLastRefIdeal.sig) → Buf (Elt Ideal) ℓ) (g : Dev Cert.OutProjDwLastRefIdeal.nD → PrngReg), Pre_OutProjDwLastRefIdeal m →
    θ_run (Cert.OutProjDwLastRefIdeal.defs (F := Ideal)) (onTc (τ := Cert.OutProjDwLastRefIdeal.τ) (Cert.OutProjDwLastRefIdeal.main (F := Ideal))) ⟨m, fun _ => 0, g⟩ (fun r => (∀ c : Dev Cert.OutProjDwLastRefIdeal.nD,
      r.2.mem ((c.tc : Thread Cert.OutProjDwLastRefIdeal.nD Cert.OutProjDwLastRefIdeal.τ).loc Cert.OutProjDwLastRefIdeal.main_arg0) = m ((c.tc : Thread Cert.OutProjDwLastRefIdeal.nD Cert.OutProjDwLastRefIdeal.τ).loc Cert.OutProjDwLastRefIdeal.main_arg0)
      ∧ r.2.mem ((c.tc : Thread Cert.OutProjDwLastRefIdeal.nD Cert.OutProjDwLastRefIdeal.τ).loc Cert.OutProjDwLastRefIdeal.main_arg1) = m ((c.tc : Thread Cert.OutProjDwLastRefIdeal.nD Cert.OutProjDwLastRefIdeal.τ).loc Cert.OutProjDwLastRefIdeal.main_arg1)
      ∧ r.2.mem ((c.tc : Thread Cert.OutProjDwLastRefIdeal.nD Cert.OutProjDwLastRefIdeal.τ).loc Cert.OutProjDwLastRefIdeal.main_arg2) = m ((c.tc : Thread Cert.OutProjDwLastRefIdeal.nD Cert.OutProjDwLastRefIdeal.τ).loc Cert.OutProjDwLastRefIdeal.main_arg2))
      ∧ r.2.sem = fun _ => 0)

def quiescent_OutProjFwdLast [hOutProjFwdLast : Cert.OutProjFwdLast.Facts] : Prop :=
  ∀ (m : (ℓ : Loc Cert.OutProjFwdLast.nD Cert.OutProjFwdLast.τ Cert.OutProjFwdLast.sig) → Buf (Elt Bits) ℓ) (g : Dev Cert.OutProjFwdLast.nD → PrngReg), Pre_OutProjFwdLast m →
    θ_run (Cert.OutProjFwdLast.defs (F := Bits)) (onTc (τ := Cert.OutProjFwdLast.τ) (Cert.OutProjFwdLast.main (F := Bits))) ⟨m, fun _ => 0, g⟩ (fun r => (∀ c : Dev Cert.OutProjFwdLast.nD,
      r.2.mem ((c.tc : Thread Cert.OutProjFwdLast.nD Cert.OutProjFwdLast.τ).loc Cert.OutProjFwdLast.main_arg0) = m ((c.tc : Thread Cert.OutProjFwdLast.nD Cert.OutProjFwdLast.τ).loc Cert.OutProjFwdLast.main_arg0)
      ∧ r.2.mem ((c.tc : Thread Cert.OutProjFwdLast.nD Cert.OutProjFwdLast.τ).loc Cert.OutProjFwdLast.main_arg1) = m ((c.tc : Thread Cert.OutProjFwdLast.nD Cert.OutProjFwdLast.τ).loc Cert.OutProjFwdLast.main_arg1))
      ∧ r.2.sem = fun _ => 0)

def quiescent_OutProjFwdLastIdeal [hOutProjFwdLastIdeal : Cert.OutProjFwdLastIdeal.Facts] : Prop :=
  ∀ (m : (ℓ : Loc Cert.OutProjFwdLastIdeal.nD Cert.OutProjFwdLastIdeal.τ Cert.OutProjFwdLastIdeal.sig) → Buf (Elt Ideal) ℓ) (g : Dev Cert.OutProjFwdLastIdeal.nD → PrngReg), Pre_OutProjFwdLastIdeal m →
    θ_run (Cert.OutProjFwdLastIdeal.defs (F := Ideal)) (onTc (τ := Cert.OutProjFwdLastIdeal.τ) (Cert.OutProjFwdLastIdeal.main (F := Ideal))) ⟨m, fun _ => 0, g⟩ (fun r => (∀ c : Dev Cert.OutProjFwdLastIdeal.nD,
      r.2.mem ((c.tc : Thread Cert.OutProjFwdLastIdeal.nD Cert.OutProjFwdLastIdeal.τ).loc Cert.OutProjFwdLastIdeal.main_arg0) = m ((c.tc : Thread Cert.OutProjFwdLastIdeal.nD Cert.OutProjFwdLastIdeal.τ).loc Cert.OutProjFwdLastIdeal.main_arg0)
      ∧ r.2.mem ((c.tc : Thread Cert.OutProjFwdLastIdeal.nD Cert.OutProjFwdLastIdeal.τ).loc Cert.OutProjFwdLastIdeal.main_arg1) = m ((c.tc : Thread Cert.OutProjFwdLastIdeal.nD Cert.OutProjFwdLastIdeal.τ).loc Cert.OutProjFwdLastIdeal.main_arg1))
      ∧ r.2.sem = fun _ => 0)

def quiescent_OutProjFwdLastRefIdeal [hOutProjFwdLastRefIdeal : Cert.OutProjFwdLastRefIdeal.Facts] : Prop :=
  ∀ (m : (ℓ : Loc Cert.OutProjFwdLastRefIdeal.nD Cert.OutProjFwdLastRefIdeal.τ Cert.OutProjFwdLastRefIdeal.sig) → Buf (Elt Ideal) ℓ) (g : Dev Cert.OutProjFwdLastRefIdeal.nD → PrngReg), Pre_OutProjFwdLastRefIdeal m →
    θ_run (Cert.OutProjFwdLastRefIdeal.defs (F := Ideal)) (onTc (τ := Cert.OutProjFwdLastRefIdeal.τ) (Cert.OutProjFwdLastRefIdeal.main (F := Ideal))) ⟨m, fun _ => 0, g⟩ (fun r => (∀ c : Dev Cert.OutProjFwdLastRefIdeal.nD,
      r.2.mem ((c.tc : Thread Cert.OutProjFwdLastRefIdeal.nD Cert.OutProjFwdLastRefIdeal.τ).loc Cert.OutProjFwdLastRefIdeal.main_arg0) = m ((c.tc : Thread Cert.OutProjFwdLastRefIdeal.nD Cert.OutProjFwdLastRefIdeal.τ).loc Cert.OutProjFwdLastRefIdeal.main_arg0)
      ∧ r.2.mem ((c.tc : Thread Cert.OutProjFwdLastRefIdeal.nD Cert.OutProjFwdLastRefIdeal.τ).loc Cert.OutProjFwdLastRefIdeal.main_arg1) = m ((c.tc : Thread Cert.OutProjFwdLastRefIdeal.nD Cert.OutProjFwdLastRefIdeal.τ).loc Cert.OutProjFwdLastRefIdeal.main_arg1))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1)
      ∧ r.2.mem ((c.tc : Thread Cert.AttFwd.nD Cert.AttFwd.τ).loc Cert.AttFwd.main_arg2) = m ((c.tc : Thread Cert.AttFwd.nD Cert.AttFwd.τ).loc Cert.AttFwd.main_arg2))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdIdeal_pre_finite_fwd [hAttFwdIdeal : Cert.AttFwdIdeal.Facts] [hPre_finite_fwd : Cert.Pre_finite_fwd.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal_finite_fwd m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
      ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ r.2.sem = fun _ => 0)

def quiescent_AttFwdRefIdeal [hAttFwdRefIdeal : Cert.AttFwdRefIdeal.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def quiescent_AttFwdRefIdeal_pre_finite_fwd [hAttFwdRefIdeal : Cert.AttFwdRefIdeal.Facts] [hPre_finite_fwd : Cert.Pre_finite_fwd.Facts] : Prop :=
  ∀ (m : (ℓ : Loc Cert.AttFwdRefIdeal.nD Cert.AttFwdRefIdeal.τ Cert.AttFwdRefIdeal.sig) → Buf (Elt Ideal) ℓ) (g : Dev Cert.AttFwdRefIdeal.nD → PrngReg), Pre_AttFwdRefIdeal_finite_fwd m →
    θ_run (Cert.AttFwdRefIdeal.defs (F := Ideal)) (onTc (τ := Cert.AttFwdRefIdeal.τ) (Cert.AttFwdRefIdeal.main (F := Ideal))) ⟨m, fun _ => 0, g⟩ (fun r => (∀ c : Dev Cert.AttFwdRefIdeal.nD,
      r.2.mem ((c.tc : Thread Cert.AttFwdRefIdeal.nD Cert.AttFwdRefIdeal.τ).loc Cert.AttFwdRefIdeal.main_arg0) = m ((c.tc : Thread Cert.AttFwdRefIdeal.nD Cert.AttFwdRefIdeal.τ).loc Cert.AttFwdRefIdeal.main_arg0)
      ∧ r.2.mem ((c.tc : Thread Cert.AttFwdRefIdeal.nD Cert.AttFwdRefIdeal.τ).loc Cert.AttFwdRefIdeal.main_arg1) = m ((c.tc : Thread Cert.AttFwdRefIdeal.nD Cert.AttFwdRefIdeal.τ).loc Cert.AttFwdRefIdeal.main_arg1)
      ∧ r.2.mem ((c.tc : Thread Cert.AttFwdRefIdeal.nD Cert.AttFwdRefIdeal.τ).loc Cert.AttFwdRefIdeal.main_arg2) = m ((c.tc : Thread Cert.AttFwdRefIdeal.nD Cert.AttFwdRefIdeal.τ).loc Cert.AttFwdRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "scale_log2e" .f32 0x3E0293EE#32 (((11863283 / 134217728) * (Real.log 2)⁻¹ : ℝ) : EReal)
  ∧ IdealRules.named_const.Statement Cert.Kernel2Ideal.κ "log2e" .f32 0x3FB8AA3B#32 (((Real.log 2)⁻¹ : ℝ) : EReal)
  ∧ IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v37_0)) (v1 : (c : Dev Cert.Kernel2Ideal.nD) → Buf (Elt Ideal) ((c.tc : Thread Cert.Kernel2Ideal.nD Cert.Kernel2Ideal.τ).loc Cert.Kernel2Ideal.main_v37_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v37_0) = v0 c
          ∧ r.2.mem ((c.tc : Thread Cert.Kernel2Ideal.nD Cert.Kernel2Ideal.τ).loc Cert.Kernel2Ideal.main_v37_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_v64) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v3)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v3) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v3) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)
      ∧ m' ((c.tc : Thread Cert.FfnInDwRefIdeal.nD Cert.FfnInDwRefIdeal.τ).loc Cert.FfnInDwRefIdeal.main_arg2) = m ((c.tc : Thread Cert.FfnInDwIdeal.nD Cert.FfnInDwIdeal.τ).loc Cert.FfnInDwIdeal.main_arg2)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1)
          ∧ r.2.mem ((c.tc : Thread Cert.FfnInDwIdeal.nD Cert.FfnInDwIdeal.τ).loc Cert.FfnInDwIdeal.main_arg2) = m ((c.tc : Thread Cert.FfnInDwIdeal.nD Cert.FfnInDwIdeal.τ).loc Cert.FfnInDwIdeal.main_arg2))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1)
          ∧ r.2.mem ((c.tc : Thread Cert.FfnInDwRefIdeal.nD Cert.FfnInDwRefIdeal.τ).loc Cert.FfnInDwRefIdeal.main_arg2) = m' ((c.tc : Thread Cert.FfnInDwRefIdeal.nD Cert.FfnInDwRefIdeal.τ).loc Cert.FfnInDwRefIdeal.main_arg2))

def preserves_FfnInFwd_FfnInFwdIdeal : Prop :=
  True

def algebraic_FfnInFwdIdeal_FfnInFwdRefIdeal [hFfnInFwdIdeal : Cert.FfnInFwdIdeal.Facts] [hFfnInFwdRefIdeal : Cert.FfnInFwdRefIdeal.Facts] : Prop :=
  ∀ (m : (ℓ : Loc Cert.FfnInFwdIdeal.nD Cert.FfnInFwdIdeal.τ Cert.FfnInFwdIdeal.sig) → Buf (Elt Ideal) ℓ) (g : Dev Cert.FfnInFwdIdeal.nD → PrngReg)
    (m' : (ℓ : Loc Cert.FfnInFwdRefIdeal.nD Cert.FfnInFwdRefIdeal.τ Cert.FfnInFwdRefIdeal.sig) → Buf (Elt Ideal) ℓ) (g' : Dev Cert.FfnInFwdRefIdeal.nD → PrngReg), Pre_FfnInFwdIdeal m →
    (∀ c : Dev Cert.FfnInFwdIdeal.nD,
      m' ((c.tc : Thread Cert.FfnInFwdRefIdeal.nD Cert.FfnInFwdRefIdeal.τ).loc Cert.FfnInFwdRefIdeal.main_arg0) = m ((c.tc : Thread Cert.FfnInFwdIdeal.nD Cert.FfnInFwdIdeal.τ).loc Cert.FfnInFwdIdeal.main_arg0)
      ∧ m' ((c.tc : Thread Cert.FfnInFwdRefIdeal.nD Cert.FfnInFwdRefIdeal.τ).loc Cert.FfnInFwdRefIdeal.main_arg1) = m ((c.tc : Thread Cert.FfnInFwdIdeal.nD Cert.FfnInFwdIdeal.τ).loc Cert.FfnInFwdIdeal.main_arg1)) →
    ∃ (v0 : (c : Dev Cert.FfnInFwdIdeal.nD) → Buf (Elt Ideal) ((c.tc : Thread Cert.FfnInFwdIdeal.nD Cert.FfnInFwdIdeal.τ).loc Cert.FfnInFwdIdeal.main_v3)),
      θ_run (Cert.FfnInFwdIdeal.defs (F := Ideal)) (onTc (τ := Cert.FfnInFwdIdeal.τ) (Cert.FfnInFwdIdeal.main (F := Ideal))) ⟨m, fun _ => 0, g⟩ (fun r => ∀ c : Dev Cert.FfnInFwdIdeal.nD,
          r.2.mem ((c.tc : Thread Cert.FfnInFwdIdeal.nD Cert.FfnInFwdIdeal.τ).loc Cert.FfnInFwdIdeal.main_v3) = v0 c
          ∧ r.2.mem ((c.tc : Thread Cert.FfnInFwdIdeal.nD Cert.FfnInFwdIdeal.τ).loc Cert.FfnInFwdIdeal.main_arg0) = m ((c.tc : Thread Cert.FfnInFwdIdeal.nD Cert.FfnInFwdIdeal.τ).loc Cert.FfnInFwdIdeal.main_arg0)
          ∧ r.2.mem ((c.tc : Thread Cert.FfnInFwdIdeal.nD Cert.FfnInFwdIdeal.τ).loc Cert.FfnInFwdIdeal.main_arg1) = m ((c.tc : Thread Cert.FfnInFwdIdeal.nD Cert.FfnInFwdIdeal.τ).loc Cert.FfnInFwdIdeal.main_arg1))
      ∧ θ_run (Cert.FfnInFwdRefIdeal.defs (F := Ideal)) (onTc (τ := Cert.FfnInFwdRefIdeal.τ) (Cert.FfnInFwdRefIdeal.main (F := Ideal))) ⟨m', fun _ => 0, g'⟩ (fun r => ∀ c : Dev Cert.FfnInFwdRefIdeal.nD,
          r.2.mem ((c.tc : Thread Cert.FfnInFwdRefIdeal.nD Cert.FfnInFwdRefIdeal.τ).loc Cert.FfnInFwdRefIdeal.main_v0) = v0 c
          ∧ r.2.mem ((c.tc : Thread Cert.FfnInFwdRefIdeal.nD Cert.FfnInFwdRefIdeal.τ).loc Cert.FfnInFwdRefIdeal.main_arg0) = m' ((c.tc : Thread Cert.FfnInFwdRefIdeal.nD Cert.FfnInFwdRefIdeal.τ).loc Cert.FfnInFwdRefIdeal.main_arg0)
          ∧ r.2.mem ((c.tc : Thread Cert.FfnInFwdRefIdeal.nD Cert.FfnInFwdRefIdeal.τ).loc Cert.FfnInFwdRefIdeal.main_arg1) = m' ((c.tc : Thread Cert.FfnInFwdRefIdeal.nD Cert.FfnInFwdRefIdeal.τ).loc Cert.FfnInFwdRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)
      ∧ m' ((c.tc : Thread Cert.FfnOutDxRefIdeal.nD Cert.FfnOutDxRefIdeal.τ).loc Cert.FfnOutDxRefIdeal.main_arg2) = m ((c.tc : Thread Cert.FfnOutDxIdeal.nD Cert.FfnOutDxIdeal.τ).loc Cert.FfnOutDxIdeal.main_arg2)) →
    ∃ (v0 : (c : Dev Cert.FfnOutDxIdeal.nD) → Buf (Elt Ideal) ((c.tc : Thread Cert.FfnOutDxIdeal.nD Cert.FfnOutDxIdeal.τ).loc Cert.FfnOutDxIdeal.main_v1)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v1) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1)
          ∧ r.2.mem ((c.tc : Thread Cert.FfnOutDxIdeal.nD Cert.FfnOutDxIdeal.τ).loc Cert.FfnOutDxIdeal.main_arg2) = m ((c.tc : Thread Cert.FfnOutDxIdeal.nD Cert.FfnOutDxIdeal.τ).loc Cert.FfnOutDxIdeal.main_arg2))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v3) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1)
          ∧ r.2.mem ((c.tc : Thread Cert.FfnOutDxRefIdeal.nD Cert.FfnOutDxRefIdeal.τ).loc Cert.FfnOutDxRefIdeal.main_arg2) = m' ((c.tc : Thread Cert.FfnOutDxRefIdeal.nD Cert.FfnOutDxRefIdeal.τ).loc Cert.FfnOutDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)
      ∧ m' ((c.tc : Thread Cert.FfnOutDwRefIdeal.nD Cert.FfnOutDwRefIdeal.τ).loc Cert.FfnOutDwRefIdeal.main_arg2) = m ((c.tc : Thread Cert.FfnOutDwIdeal.nD Cert.FfnOutDwIdeal.τ).loc Cert.FfnOutDwIdeal.main_arg2)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1)
          ∧ r.2.mem ((c.tc : Thread Cert.FfnOutDwIdeal.nD Cert.FfnOutDwIdeal.τ).loc Cert.FfnOutDwIdeal.main_arg2) = m ((c.tc : Thread Cert.FfnOutDwIdeal.nD Cert.FfnOutDwIdeal.τ).loc Cert.FfnOutDwIdeal.main_arg2))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v2) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1)
          ∧ r.2.mem ((c.tc : Thread Cert.FfnOutDwRefIdeal.nD Cert.FfnOutDwRefIdeal.τ).loc Cert.FfnOutDwRefIdeal.main_arg2) = m' ((c.tc : Thread Cert.FfnOutDwRefIdeal.nD Cert.FfnOutDwRefIdeal.τ).loc Cert.FfnOutDwRefIdeal.main_arg2))

def preserves_FfnOutFwd_FfnOutFwdIdeal : Prop :=
  True

def algebraic_FfnOutFwdIdeal_FfnOutFwdRefIdeal [hFfnOutFwdIdeal : Cert.FfnOutFwdIdeal.Facts] [hFfnOutFwdRefIdeal : Cert.FfnOutFwdRefIdeal.Facts] : Prop :=
  ∀ (m : (ℓ : Loc Cert.FfnOutFwdIdeal.nD Cert.FfnOutFwdIdeal.τ Cert.FfnOutFwdIdeal.sig) → Buf (Elt Ideal) ℓ) (g : Dev Cert.FfnOutFwdIdeal.nD → PrngReg)
    (m' : (ℓ : Loc Cert.FfnOutFwdRefIdeal.nD Cert.FfnOutFwdRefIdeal.τ Cert.FfnOutFwdRefIdeal.sig) → Buf (Elt Ideal) ℓ) (g' : Dev Cert.FfnOutFwdRefIdeal.nD → PrngReg), Pre_FfnOutFwdIdeal m →
    (∀ c : Dev Cert.FfnOutFwdIdeal.nD,
      m' ((c.tc : Thread Cert.FfnOutFwdRefIdeal.nD Cert.FfnOutFwdRefIdeal.τ).loc Cert.FfnOutFwdRefIdeal.main_arg0) = m ((c.tc : Thread Cert.FfnOutFwdIdeal.nD Cert.FfnOutFwdIdeal.τ).loc Cert.FfnOutFwdIdeal.main_arg0)
      ∧ m' ((c.tc : Thread Cert.FfnOutFwdRefIdeal.nD Cert.FfnOutFwdRefIdeal.τ).loc Cert.FfnOutFwdRefIdeal.main_arg1) = m ((c.tc : Thread Cert.FfnOutFwdIdeal.nD Cert.FfnOutFwdIdeal.τ).loc Cert.FfnOutFwdIdeal.main_arg1)) →
    ∃ (v0 : (c : Dev Cert.FfnOutFwdIdeal.nD) → Buf (Elt Ideal) ((c.tc : Thread Cert.FfnOutFwdIdeal.nD Cert.FfnOutFwdIdeal.τ).loc Cert.FfnOutFwdIdeal.main_v1)),
      θ_run (Cert.FfnOutFwdIdeal.defs (F := Ideal)) (onTc (τ := Cert.FfnOutFwdIdeal.τ) (Cert.FfnOutFwdIdeal.main (F := Ideal))) ⟨m, fun _ => 0, g⟩ (fun r => ∀ c : Dev Cert.FfnOutFwdIdeal.nD,
          r.2.mem ((c.tc : Thread Cert.FfnOutFwdIdeal.nD Cert.FfnOutFwdIdeal.τ).loc Cert.FfnOutFwdIdeal.main_v1) = v0 c
          ∧ r.2.mem ((c.tc : Thread Cert.FfnOutFwdIdeal.nD Cert.FfnOutFwdIdeal.τ).loc Cert.FfnOutFwdIdeal.main_arg0) = m ((c.tc : Thread Cert.FfnOutFwdIdeal.nD Cert.FfnOutFwdIdeal.τ).loc Cert.FfnOutFwdIdeal.main_arg0)
          ∧ r.2.mem ((c.tc : Thread Cert.FfnOutFwdIdeal.nD Cert.FfnOutFwdIdeal.τ).loc Cert.FfnOutFwdIdeal.main_arg1) = m ((c.tc : Thread Cert.FfnOutFwdIdeal.nD Cert.FfnOutFwdIdeal.τ).loc Cert.FfnOutFwdIdeal.main_arg1))
      ∧ θ_run (Cert.FfnOutFwdRefIdeal.defs (F := Ideal)) (onTc (τ := Cert.FfnOutFwdRefIdeal.τ) (Cert.FfnOutFwdRefIdeal.main (F := Ideal))) ⟨m', fun _ => 0, g'⟩ (fun r => ∀ c : Dev Cert.FfnOutFwdRefIdeal.nD,
          r.2.mem ((c.tc : Thread Cert.FfnOutFwdRefIdeal.nD Cert.FfnOutFwdRefIdeal.τ).loc Cert.FfnOutFwdRefIdeal.main_v0) = v0 c
          ∧ r.2.mem ((c.tc : Thread Cert.FfnOutFwdRefIdeal.nD Cert.FfnOutFwdRefIdeal.τ).loc Cert.FfnOutFwdRefIdeal.main_arg0) = m' ((c.tc : Thread Cert.FfnOutFwdRefIdeal.nD Cert.FfnOutFwdRefIdeal.τ).loc Cert.FfnOutFwdRefIdeal.main_arg0)
          ∧ r.2.mem ((c.tc : Thread Cert.FfnOutFwdRefIdeal.nD Cert.FfnOutFwdRefIdeal.τ).loc Cert.FfnOutFwdRefIdeal.main_arg1) = m' ((c.tc : Thread Cert.FfnOutFwdRefIdeal.nD Cert.FfnOutFwdRefIdeal.τ).loc Cert.FfnOutFwdRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)) →
    ∃ (v0 : (c : Dev Cert.InProjDxIdeal.nD) → Buf (Elt Ideal) ((c.tc : Thread Cert.InProjDxIdeal.nD Cert.InProjDxIdeal.τ).loc Cert.InProjDxIdeal.main_v1)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v1) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v3) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)
      ∧ m' ((c.tc : Thread Cert.InProjDwRefIdeal.nD Cert.InProjDwRefIdeal.τ).loc Cert.InProjDwRefIdeal.main_arg2) = m ((c.tc : Thread Cert.InProjDwIdeal.nD Cert.InProjDwIdeal.τ).loc Cert.InProjDwIdeal.main_arg2)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1)
          ∧ r.2.mem ((c.tc : Thread Cert.InProjDwIdeal.nD Cert.InProjDwIdeal.τ).loc Cert.InProjDwIdeal.main_arg2) = m ((c.tc : Thread Cert.InProjDwIdeal.nD Cert.InProjDwIdeal.τ).loc Cert.InProjDwIdeal.main_arg2))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v2) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1)
          ∧ r.2.mem ((c.tc : Thread Cert.InProjDwRefIdeal.nD Cert.InProjDwRefIdeal.τ).loc Cert.InProjDwRefIdeal.main_arg2) = m' ((c.tc : Thread Cert.InProjDwRefIdeal.nD Cert.InProjDwRefIdeal.τ).loc Cert.InProjDwRefIdeal.main_arg2))

def preserves_InProjFwd_InProjFwdIdeal : Prop :=
  True

def algebraic_InProjFwdIdeal_InProjFwdRefIdeal [hInProjFwdIdeal : Cert.InProjFwdIdeal.Facts] [hInProjFwdRefIdeal : Cert.InProjFwdRefIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)) →
    ∃ (v0 : (c : Dev Cert.InProjFwdIdeal.nD) → Buf (Elt Ideal) ((c.tc : Thread Cert.InProjFwdIdeal.nD Cert.InProjFwdIdeal.τ).loc Cert.InProjFwdIdeal.main_v1)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v1) = v0 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v0) = v0 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)
      ∧ m' ((c.tc : Thread Cert.OutProjDxRefIdeal.nD Cert.OutProjDxRefIdeal.τ).loc Cert.OutProjDxRefIdeal.main_arg2) = m ((c.tc : Thread Cert.OutProjDxIdeal.nD Cert.OutProjDxIdeal.τ).loc Cert.OutProjDxIdeal.main_arg2)) →
    ∃ (v0 : (c : Dev Cert.OutProjDxIdeal.nD) → Buf (Elt Ideal) ((c.tc : Thread Cert.OutProjDxIdeal.nD Cert.OutProjDxIdeal.τ).loc Cert.OutProjDxIdeal.main_v1)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v1) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1)
          ∧ r.2.mem ((c.tc : Thread Cert.OutProjDxIdeal.nD Cert.OutProjDxIdeal.τ).loc Cert.OutProjDxIdeal.main_arg2) = m ((c.tc : Thread Cert.OutProjDxIdeal.nD Cert.OutProjDxIdeal.τ).loc Cert.OutProjDxIdeal.main_arg2))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v3) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1)
          ∧ r.2.mem ((c.tc : Thread Cert.OutProjDxRefIdeal.nD Cert.OutProjDxRefIdeal.τ).loc Cert.OutProjDxRefIdeal.main_arg2) = m' ((c.tc : Thread Cert.OutProjDxRefIdeal.nD Cert.OutProjDxRefIdeal.τ).loc Cert.OutProjDxRefIdeal.main_arg2))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)
      ∧ m' ((c.tc : Thread Cert.OutProjDwRefIdeal.nD Cert.OutProjDwRefIdeal.τ).loc Cert.OutProjDwRefIdeal.main_arg2) = m ((c.tc : Thread Cert.OutProjDwIdeal.nD Cert.OutProjDwIdeal.τ).loc Cert.OutProjDwIdeal.main_arg2)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
          ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v2) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1)
          ∧ r.2.mem ((c.tc : Thread Cert.OutProjDwRefIdeal.nD Cert.OutProjDwRefIdeal.τ).loc Cert.OutProjDwRefIdeal.main_arg2) = m' ((c.tc : Thread Cert.OutProjDwRefIdeal.nD Cert.OutProjDwRefIdeal.τ).loc Cert.OutProjDwRefIdeal.main_arg2))

def preserves_OutProjFwd_OutProjFwdIdeal : Prop :=
  True

def algebraic_OutProjFwdIdeal_OutProjFwdRefIdeal [hOutProjFwdIdeal : Cert.OutProjFwdIdeal.Facts] [hOutProjFwdRefIdeal : Cert.OutProjFwdRefIdeal.Facts] : Prop :=
  ∀ (m : (ℓ : Loc Cert.OutProjFwdIdeal.nD Cert.OutProjFwdIdeal.τ Cert.OutProjFwdIdeal.sig) → Buf (Elt Ideal) ℓ) (g : Dev Cert.OutProjFwdIdeal.nD → PrngReg)
    (m' : (ℓ : Loc Cert.OutProjFwdRefIdeal.nD Cert.OutProjFwdRefIdeal.τ Cert.OutProjFwdRefIdeal.sig) → Buf (Elt Ideal) ℓ) (g' : Dev Cert.OutProjFwdRefIdeal.nD → PrngReg), Pre_OutProjFwdIdeal m →
    (∀ c : Dev Cert.OutProjFwdIdeal.nD,
      m' ((c.tc : Thread Cert.OutProjFwdRefIdeal.nD Cert.OutProjFwdRefIdeal.τ).loc Cert.OutProjFwdRefIdeal.main_arg0) = m ((c.tc : Thread Cert.OutProjFwdIdeal.nD Cert.OutProjFwdIdeal.τ).loc Cert.OutProjFwdIdeal.main_arg0)
      ∧ m' ((c.tc : Thread Cert.OutProjFwdRefIdeal.nD Cert.OutProjFwdRefIdeal.τ).loc Cert.OutProjFwdRefIdeal.main_arg1) = m ((c.tc : Thread Cert.OutProjFwdIdeal.nD Cert.OutProjFwdIdeal.τ).loc Cert.OutProjFwdIdeal.main_arg1)) →
    ∃ (v0 : (c : Dev Cert.OutProjFwdIdeal.nD) → Buf (Elt Ideal) ((c.tc : Thread Cert.OutProjFwdIdeal.nD Cert.OutProjFwdIdeal.τ).loc Cert.OutProjFwdIdeal.main_v1)),
      θ_run (Cert.OutProjFwdIdeal.defs (F := Ideal)) (onTc (τ := Cert.OutProjFwdIdeal.τ) (Cert.OutProjFwdIdeal.main (F := Ideal))) ⟨m, fun _ => 0, g⟩ (fun r => ∀ c : Dev Cert.OutProjFwdIdeal.nD,
          r.2.mem ((c.tc : Thread Cert.OutProjFwdIdeal.nD Cert.OutProjFwdIdeal.τ).loc Cert.OutProjFwdIdeal.main_v1) = v0 c
          ∧ r.2.mem ((c.tc : Thread Cert.OutProjFwdIdeal.nD Cert.OutProjFwdIdeal.τ).loc Cert.OutProjFwdIdeal.main_arg0) = m ((c.tc : Thread Cert.OutProjFwdIdeal.nD Cert.OutProjFwdIdeal.τ).loc Cert.OutProjFwdIdeal.main_arg0)
          ∧ r.2.mem ((c.tc : Thread Cert.OutProjFwdIdeal.nD Cert.OutProjFwdIdeal.τ).loc Cert.OutProjFwdIdeal.main_arg1) = m ((c.tc : Thread Cert.OutProjFwdIdeal.nD Cert.OutProjFwdIdeal.τ).loc Cert.OutProjFwdIdeal.main_arg1))
      ∧ θ_run (Cert.OutProjFwdRefIdeal.defs (F := Ideal)) (onTc (τ := Cert.OutProjFwdRefIdeal.τ) (Cert.OutProjFwdRefIdeal.main (F := Ideal))) ⟨m', fun _ => 0, g'⟩ (fun r => ∀ c : Dev Cert.OutProjFwdRefIdeal.nD,
          r.2.mem ((c.tc : Thread Cert.OutProjFwdRefIdeal.nD Cert.OutProjFwdRefIdeal.τ).loc Cert.OutProjFwdRefIdeal.main_v0) = v0 c
          ∧ r.2.mem ((c.tc : Thread Cert.OutProjFwdRefIdeal.nD Cert.OutProjFwdRefIdeal.τ).loc Cert.OutProjFwdRefIdeal.main_arg0) = m' ((c.tc : Thread Cert.OutProjFwdRefIdeal.nD Cert.OutProjFwdRefIdeal.τ).loc Cert.OutProjFwdRefIdeal.main_arg0)
          ∧ r.2.mem ((c.tc : Thread Cert.OutProjFwdRefIdeal.nD Cert.OutProjFwdRefIdeal.τ).loc Cert.OutProjFwdRefIdeal.main_arg1) = m' ((c.tc : Thread Cert.OutProjFwdRefIdeal.nD Cert.OutProjFwdRefIdeal.τ).loc Cert.OutProjFwdRefIdeal.main_arg1))

def preserves_FfnInDxLast_FfnInDxLastIdeal : Prop :=
  True

def algebraic_FfnInDxLastIdeal_FfnInDxLastRefIdeal [hFfnInDxLastIdeal : Cert.FfnInDxLastIdeal.Facts] [hFfnInDxLastRefIdeal : Cert.FfnInDxLastRefIdeal.Facts] : Prop :=
  ∀ (m : (ℓ : Loc Cert.FfnInDxLastIdeal.nD Cert.FfnInDxLastIdeal.τ Cert.FfnInDxLastIdeal.sig) → Buf (Elt Ideal) ℓ) (g : Dev Cert.FfnInDxLastIdeal.nD → PrngReg)
    (m' : (ℓ : Loc Cert.FfnInDxLastRefIdeal.nD Cert.FfnInDxLastRefIdeal.τ Cert.FfnInDxLastRefIdeal.sig) → Buf (Elt Ideal) ℓ) (g' : Dev Cert.FfnInDxLastRefIdeal.nD → PrngReg), Pre_FfnInDxLastIdeal m →
    (∀ c : Dev Cert.FfnInDxLastIdeal.nD,
      m' ((c.tc : Thread Cert.FfnInDxLastRefIdeal.nD Cert.FfnInDxLastRefIdeal.τ).loc Cert.FfnInDxLastRefIdeal.main_arg0) = m ((c.tc : Thread Cert.FfnInDxLastIdeal.nD Cert.FfnInDxLastIdeal.τ).loc Cert.FfnInDxLastIdeal.main_arg0)
      ∧ m' ((c.tc : Thread Cert.FfnInDxLastRefIdeal.nD Cert.FfnInDxLastRefIdeal.τ).loc Cert.FfnInDxLastRefIdeal.main_arg1) = m ((c.tc : Thread Cert.FfnInDxLastIdeal.nD Cert.FfnInDxLastIdeal.τ).loc Cert.FfnInDxLastIdeal.main_arg1)
      ∧ m' ((c.tc : Thread Cert.FfnInDxLastRefIdeal.nD Cert.FfnInDxLastRefIdeal.τ).loc Cert.FfnInDxLastRefIdeal.main_arg2) = m ((c.tc : Thread Cert.FfnInDxLastIdeal.nD Cert.FfnInDxLastIdeal.τ).loc Cert.FfnInDxLastIdeal.main_arg2)) →
    ∃ (v0 : (c : Dev Cert.FfnInDxLastIdeal.nD) → Buf (Elt Ideal) ((c.tc : Thread Cert.FfnInDxLastIdeal.nD Cert.FfnInDxLastIdeal.τ).loc Cert.FfnInDxLastIdeal.main_v3)),
      θ_run (Cert.FfnInDxLastIdeal.defs (F := Ideal)) (onTc (τ := Cert.FfnInDxLastIdeal.τ) (Cert.FfnInDxLastIdeal.main (F := Ideal))) ⟨m, fun _ => 0, g⟩ (fun r => ∀ c : Dev Cert.FfnInDxLastIdeal.nD,
          r.2.mem ((c.tc : Thread Cert.FfnInDxLastIdeal.nD Cert.FfnInDxLastIdeal.τ).loc Cert.FfnInDxLastIdeal.main_v3) = v0 c
          ∧ r.2.mem ((c.tc : Thread Cert.FfnInDxLastIdeal.nD Cert.FfnInDxLastIdeal.τ).loc Cert.FfnInDxLastIdeal.main_arg0) = m ((c.tc : Thread Cert.FfnInDxLastIdeal.nD Cert.FfnInDxLastIdeal.τ).loc Cert.FfnInDxLastIdeal.main_arg0)
          ∧ r.2.mem ((c.tc : Thread Cert.FfnInDxLastIdeal.nD Cert.FfnInDxLastIdeal.τ).loc Cert.FfnInDxLastIdeal.main_arg1) = m ((c.tc : Thread Cert.FfnInDxLastIdeal.nD Cert.FfnInDxLastIdeal.τ).loc Cert.FfnInDxLastIdeal.main_arg1)
          ∧ r.2.mem ((c.tc : Thread Cert.FfnInDxLastIdeal.nD Cert.FfnInDxLastIdeal.τ).loc Cert.FfnInDxLastIdeal.main_arg2) = m ((c.tc : Thread Cert.FfnInDxLastIdeal.nD Cert.FfnInDxLastIdeal.τ).loc Cert.FfnInDxLastIdeal.main_arg2))
      ∧ θ_run (Cert.FfnInDxLastRefIdeal.defs (F := Ideal)) (onTc (τ := Cert.FfnInDxLastRefIdeal.τ) (Cert.FfnInDxLastRefIdeal.main (F := Ideal))) ⟨m', fun _ => 0, g'⟩ (fun r => ∀ c : Dev Cert.FfnInDxLastRefIdeal.nD,
          r.2.mem ((c.tc : Thread Cert.FfnInDxLastRefIdeal.nD Cert.FfnInDxLastRefIdeal.τ).loc Cert.FfnInDxLastRefIdeal.main_v3) = v0 c
          ∧ r.2.mem ((c.tc : Thread Cert.FfnInDxLastRefIdeal.nD Cert.FfnInDxLastRefIdeal.τ).loc Cert.FfnInDxLastRefIdeal.main_arg0) = m' ((c.tc : Thread Cert.FfnInDxLastRefIdeal.nD Cert.FfnInDxLastRefIdeal.τ).loc Cert.FfnInDxLastRefIdeal.main_arg0)
          ∧ r.2.mem ((c.tc : Thread Cert.FfnInDxLastRefIdeal.nD Cert.FfnInDxLastRefIdeal.τ).loc Cert.FfnInDxLastRefIdeal.main_arg1) = m' ((c.tc : Thread Cert.FfnInDxLastRefIdeal.nD Cert.FfnInDxLastRefIdeal.τ).loc Cert.FfnInDxLastRefIdeal.main_arg1)
          ∧ r.2.mem ((c.tc : Thread Cert.FfnInDxLastRefIdeal.nD Cert.FfnInDxLastRefIdeal.τ).loc Cert.FfnInDxLastRefIdeal.main_arg2) = m' ((c.tc : Thread Cert.FfnInDxLastRefIdeal.nD Cert.FfnInDxLastRefIdeal.τ).loc Cert.FfnInDxLastRefIdeal.main_arg2))

def preserves_FfnInDwLast_FfnInDwLastIdeal : Prop :=
  True

def algebraic_FfnInDwLastIdeal_FfnInDwLastRefIdeal [hFfnInDwLastIdeal : Cert.FfnInDwLastIdeal.Facts] [hFfnInDwLastRefIdeal : Cert.FfnInDwLastRefIdeal.Facts] : Prop :=
  ∀ (m : (ℓ : Loc Cert.FfnInDwLastIdeal.nD Cert.FfnInDwLastIdeal.τ Cert.FfnInDwLastIdeal.sig) → Buf (Elt Ideal) ℓ) (g : Dev Cert.FfnInDwLastIdeal.nD → PrngReg)
    (m' : (ℓ : Loc Cert.FfnInDwLastRefIdeal.nD Cert.FfnInDwLastRefIdeal.τ Cert.FfnInDwLastRefIdeal.sig) → Buf (Elt Ideal) ℓ) (g' : Dev Cert.FfnInDwLastRefIdeal.nD → PrngReg), Pre_FfnInDwLastIdeal m →
    (∀ c : Dev Cert.FfnInDwLastIdeal.nD,
      m' ((c.tc : Thread Cert.FfnInDwLastRefIdeal.nD Cert.FfnInDwLastRefIdeal.τ).loc Cert.FfnInDwLastRefIdeal.main_arg0) = m ((c.tc : Thread Cert.FfnInDwLastIdeal.nD Cert.FfnInDwLastIdeal.τ).loc Cert.FfnInDwLastIdeal.main_arg0)
      ∧ m' ((c.tc : Thread Cert.FfnInDwLastRefIdeal.nD Cert.FfnInDwLastRefIdeal.τ).loc Cert.FfnInDwLastRefIdeal.main_arg1) = m ((c.tc : Thread Cert.FfnInDwLastIdeal.nD Cert.FfnInDwLastIdeal.τ).loc Cert.FfnInDwLastIdeal.main_arg1)
      ∧ m' ((c.tc : Thread Cert.FfnInDwLastRefIdeal.nD Cert.FfnInDwLastRefIdeal.τ).loc Cert.FfnInDwLastRefIdeal.main_arg2) = m ((c.tc : Thread Cert.FfnInDwLastIdeal.nD Cert.FfnInDwLastIdeal.τ).loc Cert.FfnInDwLastIdeal.main_arg2)) →
    ∃ (v0 : (c : Dev Cert.FfnInDwLastIdeal.nD) → Buf (Elt Ideal) ((c.tc : Thread Cert.FfnInDwLastIdeal.nD Cert.FfnInDwLastIdeal.τ).loc Cert.FfnInDwLastIdeal.main_v0)),
      θ_run (Cert.FfnInDwLastIdeal.defs (F := Ideal)) (onTc (τ := Cert.FfnInDwLastIdeal.τ) (Cert.FfnInDwLastIdeal.main (F := Ideal))) ⟨m, fun _ => 0, g⟩ (fun r => ∀ c : Dev Cert.FfnInDwLastIdeal.nD,
          r.2.mem ((c.tc : Thread Cert.FfnInDwLastIdeal.nD Cert.FfnInDwLastIdeal.τ).loc Cert.FfnInDwLastIdeal.main_v0) = v0 c
          ∧ r.2.mem ((c.tc : Thread Cert.FfnInDwLastIdeal.nD Cert.FfnInDwLastIdeal.τ).loc Cert.FfnInDwLastIdeal.main_arg0) = m ((c.tc : Thread Cert.FfnInDwLastIdeal.nD Cert.FfnInDwLastIdeal.τ).loc Cert.FfnInDwLastIdeal.main_arg0)
          ∧ r.2.mem ((c.tc : Thread Cert.FfnInDwLastIdeal.nD Cert.FfnInDwLastIdeal.τ).loc Cert.FfnInDwLastIdeal.main_arg1) = m ((c.tc : Thread Cert.FfnInDwLastIdeal.nD Cert.FfnInDwLastIdeal.τ).loc Cert.FfnInDwLastIdeal.main_arg1)
          ∧ r.2.mem ((c.tc : Thread Cert.FfnInDwLastIdeal.nD Cert.FfnInDwLastIdeal.τ).loc Cert.FfnInDwLastIdeal.main_arg2) = m ((c.tc : Thread Cert.FfnInDwLastIdeal.nD Cert.FfnInDwLastIdeal.τ).loc Cert.FfnInDwLastIdeal.main_arg2))
      ∧ θ_run (Cert.FfnInDwLastRefIdeal.defs (F := Ideal)) (onTc (τ := Cert.FfnInDwLastRefIdeal.τ) (Cert.FfnInDwLastRefIdeal.main (F := Ideal))) ⟨m', fun _ => 0, g'⟩ (fun r => ∀ c : Dev Cert.FfnInDwLastRefIdeal.nD,
          r.2.mem ((c.tc : Thread Cert.FfnInDwLastRefIdeal.nD Cert.FfnInDwLastRefIdeal.τ).loc Cert.FfnInDwLastRefIdeal.main_v5) = v0 c
          ∧ r.2.mem ((c.tc : Thread Cert.FfnInDwLastRefIdeal.nD Cert.FfnInDwLastRefIdeal.τ).loc Cert.FfnInDwLastRefIdeal.main_arg0) = m' ((c.tc : Thread Cert.FfnInDwLastRefIdeal.nD Cert.FfnInDwLastRefIdeal.τ).loc Cert.FfnInDwLastRefIdeal.main_arg0)
          ∧ r.2.mem ((c.tc : Thread Cert.FfnInDwLastRefIdeal.nD Cert.FfnInDwLastRefIdeal.τ).loc Cert.FfnInDwLastRefIdeal.main_arg1) = m' ((c.tc : Thread Cert.FfnInDwLastRefIdeal.nD Cert.FfnInDwLastRefIdeal.τ).loc Cert.FfnInDwLastRefIdeal.main_arg1)
          ∧ r.2.mem ((c.tc : Thread Cert.FfnInDwLastRefIdeal.nD Cert.FfnInDwLastRefIdeal.τ).loc Cert.FfnInDwLastRefIdeal.main_arg2) = m' ((c.tc : Thread Cert.FfnInDwLastRefIdeal.nD Cert.FfnInDwLastRefIdeal.τ).loc Cert.FfnInDwLastRefIdeal.main_arg2))

def preserves_FfnInFwdLast_FfnInFwdLastIdeal : Prop :=
  True

def algebraic_FfnInFwdLastIdeal_FfnInFwdLastRefIdeal [hFfnInFwdLastIdeal : Cert.FfnInFwdLastIdeal.Facts] [hFfnInFwdLastRefIdeal : Cert.FfnInFwdLastRefIdeal.Facts] : Prop :=
  ∀ (m : (ℓ : Loc Cert.FfnInFwdLastIdeal.nD Cert.FfnInFwdLastIdeal.τ Cert.FfnInFwdLastIdeal.sig) → Buf (Elt Ideal) ℓ) (g : Dev Cert.FfnInFwdLastIdeal.nD → PrngReg)
    (m' : (ℓ : Loc Cert.FfnInFwdLastRefIdeal.nD Cert.FfnInFwdLastRefIdeal.τ Cert.FfnInFwdLastRefIdeal.sig) → Buf (Elt Ideal) ℓ) (g' : Dev Cert.FfnInFwdLastRefIdeal.nD → PrngReg), Pre_FfnInFwdLastIdeal m →
    (∀ c : Dev Cert.FfnInFwdLastIdeal.nD,
      m' ((c.tc : Thread Cert.FfnInFwdLastRefIdeal.nD Cert.FfnInFwdLastRefIdeal.τ).loc Cert.FfnInFwdLastRefIdeal.main_arg0) = m ((c.tc : Thread Cert.FfnInFwdLastIdeal.nD Cert.FfnInFwdLastIdeal.τ).loc Cert.FfnInFwdLastIdeal.main_arg0)
      ∧ m' ((c.tc : Thread Cert.FfnInFwdLastRefIdeal.nD Cert.FfnInFwdLastRefIdeal.τ).loc Cert.FfnInFwdLastRefIdeal.main_arg1) = m ((c.tc : Thread Cert.FfnInFwdLastIdeal.nD Cert.FfnInFwdLastIdeal.τ).loc Cert.FfnInFwdLastIdeal.main_arg1)) →
    ∃ (v0 : (c : Dev Cert.FfnInFwdLastIdeal.nD) → Buf (Elt Ideal) ((c.tc : Thread Cert.FfnInFwdLastIdeal.nD Cert.FfnInFwdLastIdeal.τ).loc Cert.FfnInFwdLastIdeal.main_v3)),
      θ_run (Cert.FfnInFwdLastIdeal.defs (F := Ideal)) (onTc (τ := Cert.FfnInFwdLastIdeal.τ) (Cert.FfnInFwdLastIdeal.main (F := Ideal))) ⟨m, fun _ => 0, g⟩ (fun r => ∀ c : Dev Cert.FfnInFwdLastIdeal.nD,
          r.2.mem ((c.tc : Thread Cert.FfnInFwdLastIdeal.nD Cert.FfnInFwdLastIdeal.τ).loc Cert.FfnInFwdLastIdeal.main_v3) = v0 c
          ∧ r.2.mem ((c.tc : Thread Cert.FfnInFwdLastIdeal.nD Cert.FfnInFwdLastIdeal.τ).loc Cert.FfnInFwdLastIdeal.main_arg0) = m ((c.tc : Thread Cert.FfnInFwdLastIdeal.nD Cert.FfnInFwdLastIdeal.τ).loc Cert.FfnInFwdLastIdeal.main_arg0)
          ∧ r.2.mem ((c.tc : Thread Cert.FfnInFwdLastIdeal.nD Cert.FfnInFwdLastIdeal.τ).loc Cert.FfnInFwdLastIdeal.main_arg1) = m ((c.tc : Thread Cert.FfnInFwdLastIdeal.nD Cert.FfnInFwdLastIdeal.τ).loc Cert.FfnInFwdLastIdeal.main_arg1))
      ∧ θ_run (Cert.FfnInFwdLastRefIdeal.defs (F := Ideal)) (onTc (τ := Cert.FfnInFwdLastRefIdeal.τ) (Cert.FfnInFwdLastRefIdeal.main (F := Ideal))) ⟨m', fun _ => 0, g'⟩ (fun r => ∀ c : Dev Cert.FfnInFwdLastRefIdeal.nD,
          r.2.mem ((c.tc : Thread Cert.FfnInFwdLastRefIdeal.nD Cert.FfnInFwdLastRefIdeal.τ).loc Cert.FfnInFwdLastRefIdeal.main_v0) = v0 c
          ∧ r.2.mem ((c.tc : Thread Cert.FfnInFwdLastRefIdeal.nD Cert.FfnInFwdLastRefIdeal.τ).loc Cert.FfnInFwdLastRefIdeal.main_arg0) = m' ((c.tc : Thread Cert.FfnInFwdLastRefIdeal.nD Cert.FfnInFwdLastRefIdeal.τ).loc Cert.FfnInFwdLastRefIdeal.main_arg0)
          ∧ r.2.mem ((c.tc : Thread Cert.FfnInFwdLastRefIdeal.nD Cert.FfnInFwdLastRefIdeal.τ).loc Cert.FfnInFwdLastRefIdeal.main_arg1) = m' ((c.tc : Thread Cert.FfnInFwdLastRefIdeal.nD Cert.FfnInFwdLastRefIdeal.τ).loc Cert.FfnInFwdLastRefIdeal.main_arg1))

def preserves_FfnOutDxLast_FfnOutDxLastIdeal : Prop :=
  True

def algebraic_FfnOutDxLastIdeal_FfnOutDxLastRefIdeal [hFfnOutDxLastIdeal : Cert.FfnOutDxLastIdeal.Facts] [hFfnOutDxLastRefIdeal : Cert.FfnOutDxLastRefIdeal.Facts] : Prop :=
  ∀ (m : (ℓ : Loc Cert.FfnOutDxLastIdeal.nD Cert.FfnOutDxLastIdeal.τ Cert.FfnOutDxLastIdeal.sig) → Buf (Elt Ideal) ℓ) (g : Dev Cert.FfnOutDxLastIdeal.nD → PrngReg)
    (m' : (ℓ : Loc Cert.FfnOutDxLastRefIdeal.nD Cert.FfnOutDxLastRefIdeal.τ Cert.FfnOutDxLastRefIdeal.sig) → Buf (Elt Ideal) ℓ) (g' : Dev Cert.FfnOutDxLastRefIdeal.nD → PrngReg), Pre_FfnOutDxLastIdeal m →
    (∀ c : Dev Cert.FfnOutDxLastIdeal.nD,
      m' ((c.tc : Thread Cert.FfnOutDxLastRefIdeal.nD Cert.FfnOutDxLastRefIdeal.τ).loc Cert.FfnOutDxLastRefIdeal.main_arg0) = m ((c.tc : Thread Cert.FfnOutDxLastIdeal.nD Cert.FfnOutDxLastIdeal.τ).loc Cert.FfnOutDxLastIdeal.main_arg0)
      ∧ m' ((c.tc : Thread Cert.FfnOutDxLastRefIdeal.nD Cert.FfnOutDxLastRefIdeal.τ).loc Cert.FfnOutDxLastRefIdeal.main_arg1) = m ((c.tc : Thread Cert.FfnOutDxLastIdeal.nD Cert.FfnOutDxLastIdeal.τ).loc Cert.FfnOutDxLastIdeal.main_arg1)
      ∧ m' ((c.tc : Thread Cert.FfnOutDxLastRefIdeal.nD Cert.FfnOutDxLastRefIdeal.τ).loc Cert.FfnOutDxLastRefIdeal.main_arg2) = m ((c.tc : Thread Cert.FfnOutDxLastIdeal.nD Cert.FfnOutDxLastIdeal.τ).loc Cert.FfnOutDxLastIdeal.main_arg2)) →
    ∃ (v0 : (c : Dev Cert.FfnOutDxLastIdeal.nD) → Buf (Elt Ideal) ((c.tc : Thread Cert.FfnOutDxLastIdeal.nD Cert.FfnOutDxLastIdeal.τ).loc Cert.FfnOutDxLastIdeal.main_v1)),
      θ_run (Cert.FfnOutDxLastIdeal.defs (F := Ideal)) (onTc (τ := Cert.FfnOutDxLastIdeal.τ) (Cert.FfnOutDxLastIdeal.main (F := Ideal))) ⟨m, fun _ => 0, g⟩ (fun r => ∀ c : Dev Cert.FfnOutDxLastIdeal.nD,
          r.2.mem ((c.tc : Thread Cert.FfnOutDxLastIdeal.nD Cert.FfnOutDxLastIdeal.τ).loc Cert.FfnOutDxLastIdeal.main_v1) = v0 c
          ∧ r.2.mem ((c.tc : Thread Cert.FfnOutDxLastIdeal.nD Cert.FfnOutDxLastIdeal.τ).loc Cert.FfnOutDxLastIdeal.main_arg0) = m ((c.tc : Thread Cert.FfnOutDxLastIdeal.nD Cert.FfnOutDxLastIdeal.τ).loc Cert.FfnOutDxLastIdeal.main_arg0)
          ∧ r.2.mem ((c.tc : Thread Cert.FfnOutDxLastIdeal.nD Cert.FfnOutDxLastIdeal.τ).loc Cert.FfnOutDxLastIdeal.main_arg1) = m ((c.tc : Thread Cert.FfnOutDxLastIdeal.nD Cert.FfnOutDxLastIdeal.τ).loc Cert.FfnOutDxLastIdeal.main_arg1)
          ∧ r.2.mem ((c.tc : Thread Cert.FfnOutDxLastIdeal.nD Cert.FfnOutDxLastIdeal.τ).loc Cert.FfnOutDxLastIdeal.main_arg2) = m ((c.tc : Thread Cert.FfnOutDxLastIdeal.nD Cert.FfnOutDxLastIdeal.τ).loc Cert.FfnOutDxLastIdeal.main_arg2))
      ∧ θ_run (Cert.FfnOutDxLastRefIdeal.defs (F := Ideal)) (onTc (τ := Cert.FfnOutDxLastRefIdeal.τ) (Cert.FfnOutDxLastRefIdeal.main (F := Ideal))) ⟨m', fun _ => 0, g'⟩ (fun r => ∀ c : Dev Cert.FfnOutDxLastRefIdeal.nD,
          r.2.mem ((c.tc : Thread Cert.FfnOutDxLastRefIdeal.nD Cert.FfnOutDxLastRefIdeal.τ).loc Cert.FfnOutDxLastRefIdeal.main_v3) = v0 c
          ∧ r.2.mem ((c.tc : Thread Cert.FfnOutDxLastRefIdeal.nD Cert.FfnOutDxLastRefIdeal.τ).loc Cert.FfnOutDxLastRefIdeal.main_arg0) = m' ((c.tc : Thread Cert.FfnOutDxLastRefIdeal.nD Cert.FfnOutDxLastRefIdeal.τ).loc Cert.FfnOutDxLastRefIdeal.main_arg0)
          ∧ r.2.mem ((c.tc : Thread Cert.FfnOutDxLastRefIdeal.nD Cert.FfnOutDxLastRefIdeal.τ).loc Cert.FfnOutDxLastRefIdeal.main_arg1) = m' ((c.tc : Thread Cert.FfnOutDxLastRefIdeal.nD Cert.FfnOutDxLastRefIdeal.τ).loc Cert.FfnOutDxLastRefIdeal.main_arg1)
          ∧ r.2.mem ((c.tc : Thread Cert.FfnOutDxLastRefIdeal.nD Cert.FfnOutDxLastRefIdeal.τ).loc Cert.FfnOutDxLastRefIdeal.main_arg2) = m' ((c.tc : Thread Cert.FfnOutDxLastRefIdeal.nD Cert.FfnOutDxLastRefIdeal.τ).loc Cert.FfnOutDxLastRefIdeal.main_arg2))

def preserves_FfnOutDwLast_FfnOutDwLastIdeal : Prop :=
  True

def algebraic_FfnOutDwLastIdeal_FfnOutDwLastRefIdeal [hFfnOutDwLastIdeal : Cert.FfnOutDwLastIdeal.Facts] [hFfnOutDwLastRefIdeal : Cert.FfnOutDwLastRefIdeal.Facts] : Prop :=
  ∀ (m : (ℓ : Loc Cert.FfnOutDwLastIdeal.nD Cert.FfnOutDwLastIdeal.τ Cert.FfnOutDwLastIdeal.sig) → Buf (Elt Ideal) ℓ) (g : Dev Cert.FfnOutDwLastIdeal.nD → PrngReg)
    (m' : (ℓ : Loc Cert.FfnOutDwLastRefIdeal.nD Cert.FfnOutDwLastRefIdeal.τ Cert.FfnOutDwLastRefIdeal.sig) → Buf (Elt Ideal) ℓ) (g' : Dev Cert.FfnOutDwLastRefIdeal.nD → PrngReg), Pre_FfnOutDwLastIdeal m →
    (∀ c : Dev Cert.FfnOutDwLastIdeal.nD,
      m' ((c.tc : Thread Cert.FfnOutDwLastRefIdeal.nD Cert.FfnOutDwLastRefIdeal.τ).loc Cert.FfnOutDwLastRefIdeal.main_arg0) = m ((c.tc : Thread Cert.FfnOutDwLastIdeal.nD Cert.FfnOutDwLastIdeal.τ).loc Cert.FfnOutDwLastIdeal.main_arg0)
      ∧ m' ((c.tc : Thread Cert.FfnOutDwLastRefIdeal.nD Cert.FfnOutDwLastRefIdeal.τ).loc Cert.FfnOutDwLastRefIdeal.main_arg1) = m ((c.tc : Thread Cert.FfnOutDwLastIdeal.nD Cert.FfnOutDwLastIdeal.τ).loc Cert.FfnOutDwLastIdeal.main_arg1)
      ∧ m' ((c.tc : Thread Cert.FfnOutDwLastRefIdeal.nD Cert.FfnOutDwLastRefIdeal.τ).loc Cert.FfnOutDwLastRefIdeal.main_arg2) = m ((c.tc : Thread Cert.FfnOutDwLastIdeal.nD Cert.FfnOutDwLastIdeal.τ).loc Cert.FfnOutDwLastIdeal.main_arg2)) →
    ∃ (v0 : (c : Dev Cert.FfnOutDwLastIdeal.nD) → Buf (Elt Ideal) ((c.tc : Thread Cert.FfnOutDwLastIdeal.nD Cert.FfnOutDwLastIdeal.τ).loc Cert.FfnOutDwLastIdeal.main_v0)),
      θ_run (Cert.FfnOutDwLastIdeal.defs (F := Ideal)) (onTc (τ := Cert.FfnOutDwLastIdeal.τ) (Cert.FfnOutDwLastIdeal.main (F := Ideal))) ⟨m, fun _ => 0, g⟩ (fun r => ∀ c : Dev Cert.FfnOutDwLastIdeal.nD,
          r.2.mem ((c.tc : Thread Cert.FfnOutDwLastIdeal.nD Cert.FfnOutDwLastIdeal.τ).loc Cert.FfnOutDwLastIdeal.main_v0) = v0 c
          ∧ r.2.mem ((c.tc : Thread Cert.FfnOutDwLastIdeal.nD Cert.FfnOutDwLastIdeal.τ).loc Cert.FfnOutDwLastIdeal.main_arg0) = m ((c.tc : Thread Cert.FfnOutDwLastIdeal.nD Cert.FfnOutDwLastIdeal.τ).loc Cert.FfnOutDwLastIdeal.main_arg0)
          ∧ r.2.mem ((c.tc : Thread Cert.FfnOutDwLastIdeal.nD Cert.FfnOutDwLastIdeal.τ).loc Cert.FfnOutDwLastIdeal.main_arg1) = m ((c.tc : Thread Cert.FfnOutDwLastIdeal.nD Cert.FfnOutDwLastIdeal.τ).loc Cert.FfnOutDwLastIdeal.main_arg1)
          ∧ r.2.mem ((c.tc : Thread Cert.FfnOutDwLastIdeal.nD Cert.FfnOutDwLastIdeal.τ).loc Cert.FfnOutDwLastIdeal.main_arg2) = m ((c.tc : Thread Cert.FfnOutDwLastIdeal.nD Cert.FfnOutDwLastIdeal.τ).loc Cert.FfnOutDwLastIdeal.main_arg2))
      ∧ θ_run (Cert.FfnOutDwLastRefIdeal.defs (F := Ideal)) (onTc (τ := Cert.FfnOutDwLastRefIdeal.τ) (Cert.FfnOutDwLastRefIdeal.main (F := Ideal))) ⟨m', fun _ => 0, g'⟩ (fun r => ∀ c : Dev Cert.FfnOutDwLastRefIdeal.nD,
          r.2.mem ((c.tc : Thread Cert.FfnOutDwLastRefIdeal.nD Cert.FfnOutDwLastRefIdeal.τ).loc Cert.FfnOutDwLastRefIdeal.main_v2) = v0 c
          ∧ r.2.mem ((c.tc : Thread Cert.FfnOutDwLastRefIdeal.nD Cert.FfnOutDwLastRefIdeal.τ).loc Cert.FfnOutDwLastRefIdeal.main_arg0) = m' ((c.tc : Thread Cert.FfnOutDwLastRefIdeal.nD Cert.FfnOutDwLastRefIdeal.τ).loc Cert.FfnOutDwLastRefIdeal.main_arg0)
          ∧ r.2.mem ((c.tc : Thread Cert.FfnOutDwLastRefIdeal.nD Cert.FfnOutDwLastRefIdeal.τ).loc Cert.FfnOutDwLastRefIdeal.main_arg1) = m' ((c.tc : Thread Cert.FfnOutDwLastRefIdeal.nD Cert.FfnOutDwLastRefIdeal.τ).loc Cert.FfnOutDwLastRefIdeal.main_arg1)
          ∧ r.2.mem ((c.tc : Thread Cert.FfnOutDwLastRefIdeal.nD Cert.FfnOutDwLastRefIdeal.τ).loc Cert.FfnOutDwLastRefIdeal.main_arg2) = m' ((c.tc : Thread Cert.FfnOutDwLastRefIdeal.nD Cert.FfnOutDwLastRefIdeal.τ).loc Cert.FfnOutDwLastRefIdeal.main_arg2))

def preserves_FfnOutFwdLast_FfnOutFwdLastIdeal : Prop :=
  True

def algebraic_FfnOutFwdLastIdeal_FfnOutFwdLastRefIdeal [hFfnOutFwdLastIdeal : Cert.FfnOutFwdLastIdeal.Facts] [hFfnOutFwdLastRefIdeal : Cert.FfnOutFwdLastRefIdeal.Facts] : Prop :=
  ∀ (m : (ℓ : Loc Cert.FfnOutFwdLastIdeal.nD Cert.FfnOutFwdLastIdeal.τ Cert.FfnOutFwdLastIdeal.sig) → Buf (Elt Ideal) ℓ) (g : Dev Cert.FfnOutFwdLastIdeal.nD → PrngReg)
    (m' : (ℓ : Loc Cert.FfnOutFwdLastRefIdeal.nD Cert.FfnOutFwdLastRefIdeal.τ Cert.FfnOutFwdLastRefIdeal.sig) → Buf (Elt Ideal) ℓ) (g' : Dev Cert.FfnOutFwdLastRefIdeal.nD → PrngReg), Pre_FfnOutFwdLastIdeal m →
    (∀ c : Dev Cert.FfnOutFwdLastIdeal.nD,
      m' ((c.tc : Thread Cert.FfnOutFwdLastRefIdeal.nD Cert.FfnOutFwdLastRefIdeal.τ).loc Cert.FfnOutFwdLastRefIdeal.main_arg0) = m ((c.tc : Thread Cert.FfnOutFwdLastIdeal.nD Cert.FfnOutFwdLastIdeal.τ).loc Cert.FfnOutFwdLastIdeal.main_arg0)
      ∧ m' ((c.tc : Thread Cert.FfnOutFwdLastRefIdeal.nD Cert.FfnOutFwdLastRefIdeal.τ).loc Cert.FfnOutFwdLastRefIdeal.main_arg1) = m ((c.tc : Thread Cert.FfnOutFwdLastIdeal.nD Cert.FfnOutFwdLastIdeal.τ).loc Cert.FfnOutFwdLastIdeal.main_arg1)) →
    ∃ (v0 : (c : Dev Cert.FfnOutFwdLastIdeal.nD) → Buf (Elt Ideal) ((c.tc : Thread Cert.FfnOutFwdLastIdeal.nD Cert.FfnOutFwdLastIdeal.τ).loc Cert.FfnOutFwdLastIdeal.main_v1)),
      θ_run (Cert.FfnOutFwdLastIdeal.defs (F := Ideal)) (onTc (τ := Cert.FfnOutFwdLastIdeal.τ) (Cert.FfnOutFwdLastIdeal.main (F := Ideal))) ⟨m, fun _ => 0, g⟩ (fun r => ∀ c : Dev Cert.FfnOutFwdLastIdeal.nD,
          r.2.mem ((c.tc : Thread Cert.FfnOutFwdLastIdeal.nD Cert.FfnOutFwdLastIdeal.τ).loc Cert.FfnOutFwdLastIdeal.main_v1) = v0 c
          ∧ r.2.mem ((c.tc : Thread Cert.FfnOutFwdLastIdeal.nD Cert.FfnOutFwdLastIdeal.τ).loc Cert.FfnOutFwdLastIdeal.main_arg0) = m ((c.tc : Thread Cert.FfnOutFwdLastIdeal.nD Cert.FfnOutFwdLastIdeal.τ).loc Cert.FfnOutFwdLastIdeal.main_arg0)
          ∧ r.2.mem ((c.tc : Thread Cert.FfnOutFwdLastIdeal.nD Cert.FfnOutFwdLastIdeal.τ).loc Cert.FfnOutFwdLastIdeal.main_arg1) = m ((c.tc : Thread Cert.FfnOutFwdLastIdeal.nD Cert.FfnOutFwdLastIdeal.τ).loc Cert.FfnOutFwdLastIdeal.main_arg1))
      ∧ θ_run (Cert.FfnOutFwdLastRefIdeal.defs (F := Ideal)) (onTc (τ := Cert.FfnOutFwdLastRefIdeal.τ) (Cert.FfnOutFwdLastRefIdeal.main (F := Ideal))) ⟨m', fun _ => 0, g'⟩ (fun r => ∀ c : Dev Cert.FfnOutFwdLastRefIdeal.nD,
          r.2.mem ((c.tc : Thread Cert.FfnOutFwdLastRefIdeal.nD Cert.FfnOutFwdLastRefIdeal.τ).loc Cert.FfnOutFwdLastRefIdeal.main_v0) = v0 c
          ∧ r.2.mem ((c.tc : Thread Cert.FfnOutFwdLastRefIdeal.nD Cert.FfnOutFwdLastRefIdeal.τ).loc Cert.FfnOutFwdLastRefIdeal.main_arg0) = m' ((c.tc : Thread Cert.FfnOutFwdLastRefIdeal.nD Cert.FfnOutFwdLastRefIdeal.τ).loc Cert.FfnOutFwdLastRefIdeal.main_arg0)
          ∧ r.2.mem ((c.tc : Thread Cert.FfnOutFwdLastRefIdeal.nD Cert.FfnOutFwdLastRefIdeal.τ).loc Cert.FfnOutFwdLastRefIdeal.main_arg1) = m' ((c.tc : Thread Cert.FfnOutFwdLastRefIdeal.nD Cert.FfnOutFwdLastRefIdeal.τ).loc Cert.FfnOutFwdLastRefIdeal.main_arg1))

def preserves_OutProjDxLast_OutProjDxLastIdeal : Prop :=
  True

def algebraic_OutProjDxLastIdeal_OutProjDxLastRefIdeal [hOutProjDxLastIdeal : Cert.OutProjDxLastIdeal.Facts] [hOutProjDxLastRefIdeal : Cert.OutProjDxLastRefIdeal.Facts] : Prop :=
  ∀ (m : (ℓ : Loc Cert.OutProjDxLastIdeal.nD Cert.OutProjDxLastIdeal.τ Cert.OutProjDxLastIdeal.sig) → Buf (Elt Ideal) ℓ) (g : Dev Cert.OutProjDxLastIdeal.nD → PrngReg)
    (m' : (ℓ : Loc Cert.OutProjDxLastRefIdeal.nD Cert.OutProjDxLastRefIdeal.τ Cert.OutProjDxLastRefIdeal.sig) → Buf (Elt Ideal) ℓ) (g' : Dev Cert.OutProjDxLastRefIdeal.nD → PrngReg), Pre_OutProjDxLastIdeal m →
    (∀ c : Dev Cert.OutProjDxLastIdeal.nD,
      m' ((c.tc : Thread Cert.OutProjDxLastRefIdeal.nD Cert.OutProjDxLastRefIdeal.τ).loc Cert.OutProjDxLastRefIdeal.main_arg0) = m ((c.tc : Thread Cert.OutProjDxLastIdeal.nD Cert.OutProjDxLastIdeal.τ).loc Cert.OutProjDxLastIdeal.main_arg0)
      ∧ m' ((c.tc : Thread Cert.OutProjDxLastRefIdeal.nD Cert.OutProjDxLastRefIdeal.τ).loc Cert.OutProjDxLastRefIdeal.main_arg1) = m ((c.tc : Thread Cert.OutProjDxLastIdeal.nD Cert.OutProjDxLastIdeal.τ).loc Cert.OutProjDxLastIdeal.main_arg1)
      ∧ m' ((c.tc : Thread Cert.OutProjDxLastRefIdeal.nD Cert.OutProjDxLastRefIdeal.τ).loc Cert.OutProjDxLastRefIdeal.main_arg2) = m ((c.tc : Thread Cert.OutProjDxLastIdeal.nD Cert.OutProjDxLastIdeal.τ).loc Cert.OutProjDxLastIdeal.main_arg2)) →
    ∃ (v0 : (c : Dev Cert.OutProjDxLastIdeal.nD) → Buf (Elt Ideal) ((c.tc : Thread Cert.OutProjDxLastIdeal.nD Cert.OutProjDxLastIdeal.τ).loc Cert.OutProjDxLastIdeal.main_v1)),
      θ_run (Cert.OutProjDxLastIdeal.defs (F := Ideal)) (onTc (τ := Cert.OutProjDxLastIdeal.τ) (Cert.OutProjDxLastIdeal.main (F := Ideal))) ⟨m, fun _ => 0, g⟩ (fun r => ∀ c : Dev Cert.OutProjDxLastIdeal.nD,
          r.2.mem ((c.tc : Thread Cert.OutProjDxLastIdeal.nD Cert.OutProjDxLastIdeal.τ).loc Cert.OutProjDxLastIdeal.main_v1) = v0 c
          ∧ r.2.mem ((c.tc : Thread Cert.OutProjDxLastIdeal.nD Cert.OutProjDxLastIdeal.τ).loc Cert.OutProjDxLastIdeal.main_arg0) = m ((c.tc : Thread Cert.OutProjDxLastIdeal.nD Cert.OutProjDxLastIdeal.τ).loc Cert.OutProjDxLastIdeal.main_arg0)
          ∧ r.2.mem ((c.tc : Thread Cert.OutProjDxLastIdeal.nD Cert.OutProjDxLastIdeal.τ).loc Cert.OutProjDxLastIdeal.main_arg1) = m ((c.tc : Thread Cert.OutProjDxLastIdeal.nD Cert.OutProjDxLastIdeal.τ).loc Cert.OutProjDxLastIdeal.main_arg1)
          ∧ r.2.mem ((c.tc : Thread Cert.OutProjDxLastIdeal.nD Cert.OutProjDxLastIdeal.τ).loc Cert.OutProjDxLastIdeal.main_arg2) = m ((c.tc : Thread Cert.OutProjDxLastIdeal.nD Cert.OutProjDxLastIdeal.τ).loc Cert.OutProjDxLastIdeal.main_arg2))
      ∧ θ_run (Cert.OutProjDxLastRefIdeal.defs (F := Ideal)) (onTc (τ := Cert.OutProjDxLastRefIdeal.τ) (Cert.OutProjDxLastRefIdeal.main (F := Ideal))) ⟨m', fun _ => 0, g'⟩ (fun r => ∀ c : Dev Cert.OutProjDxLastRefIdeal.nD,
          r.2.mem ((c.tc : Thread Cert.OutProjDxLastRefIdeal.nD Cert.OutProjDxLastRefIdeal.τ).loc Cert.OutProjDxLastRefIdeal.main_v3) = v0 c
          ∧ r.2.mem ((c.tc : Thread Cert.OutProjDxLastRefIdeal.nD Cert.OutProjDxLastRefIdeal.τ).loc Cert.OutProjDxLastRefIdeal.main_arg0) = m' ((c.tc : Thread Cert.OutProjDxLastRefIdeal.nD Cert.OutProjDxLastRefIdeal.τ).loc Cert.OutProjDxLastRefIdeal.main_arg0)
          ∧ r.2.mem ((c.tc : Thread Cert.OutProjDxLastRefIdeal.nD Cert.OutProjDxLastRefIdeal.τ).loc Cert.OutProjDxLastRefIdeal.main_arg1) = m' ((c.tc : Thread Cert.OutProjDxLastRefIdeal.nD Cert.OutProjDxLastRefIdeal.τ).loc Cert.OutProjDxLastRefIdeal.main_arg1)
          ∧ r.2.mem ((c.tc : Thread Cert.OutProjDxLastRefIdeal.nD Cert.OutProjDxLastRefIdeal.τ).loc Cert.OutProjDxLastRefIdeal.main_arg2) = m' ((c.tc : Thread Cert.OutProjDxLastRefIdeal.nD Cert.OutProjDxLastRefIdeal.τ).loc Cert.OutProjDxLastRefIdeal.main_arg2))

def preserves_OutProjDwLast_OutProjDwLastIdeal : Prop :=
  True

def algebraic_OutProjDwLastIdeal_OutProjDwLastRefIdeal [hOutProjDwLastIdeal : Cert.OutProjDwLastIdeal.Facts] [hOutProjDwLastRefIdeal : Cert.OutProjDwLastRefIdeal.Facts] : Prop :=
  ∀ (m : (ℓ : Loc Cert.OutProjDwLastIdeal.nD Cert.OutProjDwLastIdeal.τ Cert.OutProjDwLastIdeal.sig) → Buf (Elt Ideal) ℓ) (g : Dev Cert.OutProjDwLastIdeal.nD → PrngReg)
    (m' : (ℓ : Loc Cert.OutProjDwLastRefIdeal.nD Cert.OutProjDwLastRefIdeal.τ Cert.OutProjDwLastRefIdeal.sig) → Buf (Elt Ideal) ℓ) (g' : Dev Cert.OutProjDwLastRefIdeal.nD → PrngReg), Pre_OutProjDwLastIdeal m →
    (∀ c : Dev Cert.OutProjDwLastIdeal.nD,
      m' ((c.tc : Thread Cert.OutProjDwLastRefIdeal.nD Cert.OutProjDwLastRefIdeal.τ).loc Cert.OutProjDwLastRefIdeal.main_arg0) = m ((c.tc : Thread Cert.OutProjDwLastIdeal.nD Cert.OutProjDwLastIdeal.τ).loc Cert.OutProjDwLastIdeal.main_arg0)
      ∧ m' ((c.tc : Thread Cert.OutProjDwLastRefIdeal.nD Cert.OutProjDwLastRefIdeal.τ).loc Cert.OutProjDwLastRefIdeal.main_arg1) = m ((c.tc : Thread Cert.OutProjDwLastIdeal.nD Cert.OutProjDwLastIdeal.τ).loc Cert.OutProjDwLastIdeal.main_arg1)
      ∧ m' ((c.tc : Thread Cert.OutProjDwLastRefIdeal.nD Cert.OutProjDwLastRefIdeal.τ).loc Cert.OutProjDwLastRefIdeal.main_arg2) = m ((c.tc : Thread Cert.OutProjDwLastIdeal.nD Cert.OutProjDwLastIdeal.τ).loc Cert.OutProjDwLastIdeal.main_arg2)) →
    ∃ (v0 : (c : Dev Cert.OutProjDwLastIdeal.nD) → Buf (Elt Ideal) ((c.tc : Thread Cert.OutProjDwLastIdeal.nD Cert.OutProjDwLastIdeal.τ).loc Cert.OutProjDwLastIdeal.main_v0)),
      θ_run (Cert.OutProjDwLastIdeal.defs (F := Ideal)) (onTc (τ := Cert.OutProjDwLastIdeal.τ) (Cert.OutProjDwLastIdeal.main (F := Ideal))) ⟨m, fun _ => 0, g⟩ (fun r => ∀ c : Dev Cert.OutProjDwLastIdeal.nD,
          r.2.mem ((c.tc : Thread Cert.OutProjDwLastIdeal.nD Cert.OutProjDwLastIdeal.τ).loc Cert.OutProjDwLastIdeal.main_v0) = v0 c
          ∧ r.2.mem ((c.tc : Thread Cert.OutProjDwLastIdeal.nD Cert.OutProjDwLastIdeal.τ).loc Cert.OutProjDwLastIdeal.main_arg0) = m ((c.tc : Thread Cert.OutProjDwLastIdeal.nD Cert.OutProjDwLastIdeal.τ).loc Cert.OutProjDwLastIdeal.main_arg0)
          ∧ r.2.mem ((c.tc : Thread Cert.OutProjDwLastIdeal.nD Cert.OutProjDwLastIdeal.τ).loc Cert.OutProjDwLastIdeal.main_arg1) = m ((c.tc : Thread Cert.OutProjDwLastIdeal.nD Cert.OutProjDwLastIdeal.τ).loc Cert.OutProjDwLastIdeal.main_arg1)
          ∧ r.2.mem ((c.tc : Thread Cert.OutProjDwLastIdeal.nD Cert.OutProjDwLastIdeal.τ).loc Cert.OutProjDwLastIdeal.main_arg2) = m ((c.tc : Thread Cert.OutProjDwLastIdeal.nD Cert.OutProjDwLastIdeal.τ).loc Cert.OutProjDwLastIdeal.main_arg2))
      ∧ θ_run (Cert.OutProjDwLastRefIdeal.defs (F := Ideal)) (onTc (τ := Cert.OutProjDwLastRefIdeal.τ) (Cert.OutProjDwLastRefIdeal.main (F := Ideal))) ⟨m', fun _ => 0, g'⟩ (fun r => ∀ c : Dev Cert.OutProjDwLastRefIdeal.nD,
          r.2.mem ((c.tc : Thread Cert.OutProjDwLastRefIdeal.nD Cert.OutProjDwLastRefIdeal.τ).loc Cert.OutProjDwLastRefIdeal.main_v2) = v0 c
          ∧ r.2.mem ((c.tc : Thread Cert.OutProjDwLastRefIdeal.nD Cert.OutProjDwLastRefIdeal.τ).loc Cert.OutProjDwLastRefIdeal.main_arg0) = m' ((c.tc : Thread Cert.OutProjDwLastRefIdeal.nD Cert.OutProjDwLastRefIdeal.τ).loc Cert.OutProjDwLastRefIdeal.main_arg0)
          ∧ r.2.mem ((c.tc : Thread Cert.OutProjDwLastRefIdeal.nD Cert.OutProjDwLastRefIdeal.τ).loc Cert.OutProjDwLastRefIdeal.main_arg1) = m' ((c.tc : Thread Cert.OutProjDwLastRefIdeal.nD Cert.OutProjDwLastRefIdeal.τ).loc Cert.OutProjDwLastRefIdeal.main_arg1)
          ∧ r.2.mem ((c.tc : Thread Cert.OutProjDwLastRefIdeal.nD Cert.OutProjDwLastRefIdeal.τ).loc Cert.OutProjDwLastRefIdeal.main_arg2) = m' ((c.tc : Thread Cert.OutProjDwLastRefIdeal.nD Cert.OutProjDwLastRefIdeal.τ).loc Cert.OutProjDwLastRefIdeal.main_arg2))

def preserves_OutProjFwdLast_OutProjFwdLastIdeal : Prop :=
  True

def algebraic_OutProjFwdLastIdeal_OutProjFwdLastRefIdeal [hOutProjFwdLastIdeal : Cert.OutProjFwdLastIdeal.Facts] [hOutProjFwdLastRefIdeal : Cert.OutProjFwdLastRefIdeal.Facts] : Prop :=
  ∀ (m : (ℓ : Loc Cert.OutProjFwdLastIdeal.nD Cert.OutProjFwdLastIdeal.τ Cert.OutProjFwdLastIdeal.sig) → Buf (Elt Ideal) ℓ) (g : Dev Cert.OutProjFwdLastIdeal.nD → PrngReg)
    (m' : (ℓ : Loc Cert.OutProjFwdLastRefIdeal.nD Cert.OutProjFwdLastRefIdeal.τ Cert.OutProjFwdLastRefIdeal.sig) → Buf (Elt Ideal) ℓ) (g' : Dev Cert.OutProjFwdLastRefIdeal.nD → PrngReg), Pre_OutProjFwdLastIdeal m →
    (∀ c : Dev Cert.OutProjFwdLastIdeal.nD,
      m' ((c.tc : Thread Cert.OutProjFwdLastRefIdeal.nD Cert.OutProjFwdLastRefIdeal.τ).loc Cert.OutProjFwdLastRefIdeal.main_arg0) = m ((c.tc : Thread Cert.OutProjFwdLastIdeal.nD Cert.OutProjFwdLastIdeal.τ).loc Cert.OutProjFwdLastIdeal.main_arg0)
      ∧ m' ((c.tc : Thread Cert.OutProjFwdLastRefIdeal.nD Cert.OutProjFwdLastRefIdeal.τ).loc Cert.OutProjFwdLastRefIdeal.main_arg1) = m ((c.tc : Thread Cert.OutProjFwdLastIdeal.nD Cert.OutProjFwdLastIdeal.τ).loc Cert.OutProjFwdLastIdeal.main_arg1)) →
    ∃ (v0 : (c : Dev Cert.OutProjFwdLastIdeal.nD) → Buf (Elt Ideal) ((c.tc : Thread Cert.OutProjFwdLastIdeal.nD Cert.OutProjFwdLastIdeal.τ).loc Cert.OutProjFwdLastIdeal.main_v1)),
      θ_run (Cert.OutProjFwdLastIdeal.defs (F := Ideal)) (onTc (τ := Cert.OutProjFwdLastIdeal.τ) (Cert.OutProjFwdLastIdeal.main (F := Ideal))) ⟨m, fun _ => 0, g⟩ (fun r => ∀ c : Dev Cert.OutProjFwdLastIdeal.nD,
          r.2.mem ((c.tc : Thread Cert.OutProjFwdLastIdeal.nD Cert.OutProjFwdLastIdeal.τ).loc Cert.OutProjFwdLastIdeal.main_v1) = v0 c
          ∧ r.2.mem ((c.tc : Thread Cert.OutProjFwdLastIdeal.nD Cert.OutProjFwdLastIdeal.τ).loc Cert.OutProjFwdLastIdeal.main_arg0) = m ((c.tc : Thread Cert.OutProjFwdLastIdeal.nD Cert.OutProjFwdLastIdeal.τ).loc Cert.OutProjFwdLastIdeal.main_arg0)
          ∧ r.2.mem ((c.tc : Thread Cert.OutProjFwdLastIdeal.nD Cert.OutProjFwdLastIdeal.τ).loc Cert.OutProjFwdLastIdeal.main_arg1) = m ((c.tc : Thread Cert.OutProjFwdLastIdeal.nD Cert.OutProjFwdLastIdeal.τ).loc Cert.OutProjFwdLastIdeal.main_arg1))
      ∧ θ_run (Cert.OutProjFwdLastRefIdeal.defs (F := Ideal)) (onTc (τ := Cert.OutProjFwdLastRefIdeal.τ) (Cert.OutProjFwdLastRefIdeal.main (F := Ideal))) ⟨m', fun _ => 0, g'⟩ (fun r => ∀ c : Dev Cert.OutProjFwdLastRefIdeal.nD,
          r.2.mem ((c.tc : Thread Cert.OutProjFwdLastRefIdeal.nD Cert.OutProjFwdLastRefIdeal.τ).loc Cert.OutProjFwdLastRefIdeal.main_v0) = v0 c
          ∧ r.2.mem ((c.tc : Thread Cert.OutProjFwdLastRefIdeal.nD Cert.OutProjFwdLastRefIdeal.τ).loc Cert.OutProjFwdLastRefIdeal.main_arg0) = m' ((c.tc : Thread Cert.OutProjFwdLastRefIdeal.nD Cert.OutProjFwdLastRefIdeal.τ).loc Cert.OutProjFwdLastRefIdeal.main_arg0)
          ∧ r.2.mem ((c.tc : Thread Cert.OutProjFwdLastRefIdeal.nD Cert.OutProjFwdLastRefIdeal.τ).loc Cert.OutProjFwdLastRefIdeal.main_arg1) = m' ((c.tc : Thread Cert.OutProjFwdLastRefIdeal.nD Cert.OutProjFwdLastRefIdeal.τ).loc Cert.OutProjFwdLastRefIdeal.main_arg1))

def preserves_AttFwd_AttFwdIdeal : Prop :=
  IdealRules.named_const.Statement Cert.AttFwdIdeal.κ "scale_log2e" .f32 0x3E0293EE#32 (((11863283 / 134217728) * (Real.log 2)⁻¹ : ℝ) : EReal)
  ∧ IdealRules.named_const.Statement Cert.AttFwdIdeal.κ "ln2" .f32 0x3F317218#32 ((Real.log 2 : ℝ) : EReal)

def algebraic_AttFwdIdeal_AttFwdRefIdeal_pre_finite_fwd [hAttFwdIdeal : Cert.AttFwdIdeal.Facts] [hAttFwdRefIdeal : Cert.AttFwdRefIdeal.Facts] [hPre_finite_fwd : Cert.Pre_finite_fwd.Facts] : Prop :=
  ∀ (m : (ℓ : Loc Cert.AttFwdIdeal.nD Cert.AttFwdIdeal.τ Cert.AttFwdIdeal.sig) → Buf (Elt Ideal) ℓ) (g : Dev Cert.AttFwdIdeal.nD → PrngReg)
    (m' : (ℓ : Loc Cert.AttFwdRefIdeal.nD Cert.AttFwdRefIdeal.τ Cert.AttFwdRefIdeal.sig) → Buf (Elt Ideal) ℓ) (g' : Dev Cert.AttFwdRefIdeal.nD → PrngReg), Pre_AttFwdIdeal_finite_fwd m →
    (∀ c : Dev Cert.AttFwdIdeal.nD,
      m' ((c.tc : Thread Cert.AttFwdRefIdeal.nD Cert.AttFwdRefIdeal.τ).loc Cert.AttFwdRefIdeal.main_arg0) = m ((c.tc : Thread Cert.AttFwdIdeal.nD Cert.AttFwdIdeal.τ).loc Cert.AttFwdIdeal.main_arg0)
      ∧ m' ((c.tc : Thread Cert.AttFwdRefIdeal.nD Cert.AttFwdRefIdeal.τ).loc Cert.AttFwdRefIdeal.main_arg1) = m ((c.tc : Thread Cert.AttFwdIdeal.nD Cert.AttFwdIdeal.τ).loc Cert.AttFwdIdeal.main_arg1)
      ∧ m' ((c.tc : Thread Cert.AttFwdRefIdeal.nD Cert.AttFwdRefIdeal.τ).loc Cert.AttFwdRefIdeal.main_arg2) = m ((c.tc : Thread Cert.AttFwdIdeal.nD Cert.AttFwdIdeal.τ).loc Cert.AttFwdIdeal.main_arg2)) →
    ∃ (v0 : (c : Dev Cert.AttFwdIdeal.nD) → Buf (Elt Ideal) ((c.tc : Thread Cert.AttFwdIdeal.nD Cert.AttFwdIdeal.τ).loc Cert.AttFwdIdeal.main_v0_0)) (v1 : (c : Dev Cert.AttFwdIdeal.nD) → Buf (Elt Ideal) ((c.tc : Thread Cert.AttFwdIdeal.nD Cert.AttFwdIdeal.τ).loc Cert.AttFwdIdeal.main_v0_1)),
      θ_run (Cert.AttFwdIdeal.defs (F := Ideal)) (onTc (τ := Cert.AttFwdIdeal.τ) (Cert.AttFwdIdeal.main (F := Ideal))) ⟨m, fun _ => 0, g⟩ (fun r => ∀ c : Dev Cert.AttFwdIdeal.nD,
          r.2.mem ((c.tc : Thread Cert.AttFwdIdeal.nD Cert.AttFwdIdeal.τ).loc Cert.AttFwdIdeal.main_v0_0) = v0 c
          ∧ r.2.mem ((c.tc : Thread Cert.AttFwdIdeal.nD Cert.AttFwdIdeal.τ).loc Cert.AttFwdIdeal.main_v0_1) = v1 c
          ∧ r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
          ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1)
          ∧ r.2.mem ((c.tc : Thread Cert.AttFwdIdeal.nD Cert.AttFwdIdeal.τ).loc Cert.AttFwdIdeal.main_arg2) = m ((c.tc : Thread Cert.AttFwdIdeal.nD Cert.AttFwdIdeal.τ).loc Cert.AttFwdIdeal.main_arg2))
      ∧ θ_run (Cert.AttFwdRefIdeal.defs (F := Ideal)) (onTc (τ := Cert.AttFwdRefIdeal.τ) (Cert.AttFwdRefIdeal.main (F := Ideal))) ⟨m', fun _ => 0, g'⟩ (fun r => ∀ c : Dev Cert.AttFwdRefIdeal.nD,
          r.2.mem ((c.tc : Thread Cert.AttFwdRefIdeal.nD Cert.AttFwdRefIdeal.τ).loc Cert.AttFwdRefIdeal.main_v20) = v0 c
          ∧ r.2.mem ((c.tc : Thread Cert.AttFwdRefIdeal.nD Cert.AttFwdRefIdeal.τ).loc Cert.AttFwdRefIdeal.main_v36) = v1 c
          ∧ r.2.mem ((c.tc : Thread Cert.AttFwdRefIdeal.nD Cert.AttFwdRefIdeal.τ).loc Cert.AttFwdRefIdeal.main_arg0) = m' ((c.tc : Thread Cert.AttFwdRefIdeal.nD Cert.AttFwdRefIdeal.τ).loc Cert.AttFwdRefIdeal.main_arg0)
          ∧ r.2.mem ((c.tc : Thread Cert.AttFwdRefIdeal.nD Cert.AttFwdRefIdeal.τ).loc Cert.AttFwdRefIdeal.main_arg1) = m' ((c.tc : Thread Cert.AttFwdRefIdeal.nD Cert.AttFwdRefIdeal.τ).loc Cert.AttFwdRefIdeal.main_arg1)
          ∧ r.2.mem ((c.tc : Thread Cert.AttFwdRefIdeal.nD Cert.AttFwdRefIdeal.τ).loc Cert.AttFwdRefIdeal.main_arg2) = m' ((c.tc : Thread Cert.AttFwdRefIdeal.nD Cert.AttFwdRefIdeal.τ).loc Cert.AttFwdRefIdeal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hFfnInFwd : Cert.FfnInFwd.Facts) (hFfnInFwdIdeal : Cert.FfnInFwdIdeal.Facts) (hFfnInFwdRefIdeal : Cert.FfnInFwdRefIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnOutFwd : Cert.FfnOutFwd.Facts) (hFfnOutFwdIdeal : Cert.FfnOutFwdIdeal.Facts) (hFfnOutFwdRefIdeal : Cert.FfnOutFwdRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hInProjFwd : Cert.InProjFwd.Facts) (hInProjFwdIdeal : Cert.InProjFwdIdeal.Facts) (hInProjFwdRefIdeal : Cert.InProjFwdRefIdeal.Facts) (hOutProjDx : Cert.OutProjDx.Facts) (hOutProjDxIdeal : Cert.OutProjDxIdeal.Facts) (hOutProjDxRefIdeal : Cert.OutProjDxRefIdeal.Facts) (hOutProjDw : Cert.OutProjDw.Facts) (hOutProjDwIdeal : Cert.OutProjDwIdeal.Facts) (hOutProjDwRefIdeal : Cert.OutProjDwRefIdeal.Facts) (hOutProjFwd : Cert.OutProjFwd.Facts) (hOutProjFwdIdeal : Cert.OutProjFwdIdeal.Facts) (hOutProjFwdRefIdeal : Cert.OutProjFwdRefIdeal.Facts) (hFfnInDxLast : Cert.FfnInDxLast.Facts) (hFfnInDxLastIdeal : Cert.FfnInDxLastIdeal.Facts) (hFfnInDxLastRefIdeal : Cert.FfnInDxLastRefIdeal.Facts) (hFfnInDwLast : Cert.FfnInDwLast.Facts) (hFfnInDwLastIdeal : Cert.FfnInDwLastIdeal.Facts) (hFfnInDwLastRefIdeal : Cert.FfnInDwLastRefIdeal.Facts) (hFfnInFwdLast : Cert.FfnInFwdLast.Facts) (hFfnInFwdLastIdeal : Cert.FfnInFwdLastIdeal.Facts) (hFfnInFwdLastRefIdeal : Cert.FfnInFwdLastRefIdeal.Facts) (hFfnOutDxLast : Cert.FfnOutDxLast.Facts) (hFfnOutDxLastIdeal : Cert.FfnOutDxLastIdeal.Facts) (hFfnOutDxLastRefIdeal : Cert.FfnOutDxLastRefIdeal.Facts) (hFfnOutDwLast : Cert.FfnOutDwLast.Facts) (hFfnOutDwLastIdeal : Cert.FfnOutDwLastIdeal.Facts) (hFfnOutDwLastRefIdeal : Cert.FfnOutDwLastRefIdeal.Facts) (hFfnOutFwdLast : Cert.FfnOutFwdLast.Facts) (hFfnOutFwdLastIdeal : Cert.FfnOutFwdLastIdeal.Facts) (hFfnOutFwdLastRefIdeal : Cert.FfnOutFwdLastRefIdeal.Facts) (hOutProjDxLast : Cert.OutProjDxLast.Facts) (hOutProjDxLastIdeal : Cert.OutProjDxLastIdeal.Facts) (hOutProjDxLastRefIdeal : Cert.OutProjDxLastRefIdeal.Facts) (hOutProjDwLast : Cert.OutProjDwLast.Facts) (hOutProjDwLastIdeal : Cert.OutProjDwLastIdeal.Facts) (hOutProjDwLastRefIdeal : Cert.OutProjDwLastRefIdeal.Facts) (hOutProjFwdLast : Cert.OutProjFwdLast.Facts) (hOutProjFwdLastIdeal : Cert.OutProjFwdLastIdeal.Facts) (hOutProjFwdLastRefIdeal : Cert.OutProjFwdLastRefIdeal.Facts) (hAttFwd : Cert.AttFwd.Facts) (hAttFwdIdeal : Cert.AttFwdIdeal.Facts) (hAttFwdRefIdeal : Cert.AttFwdRefIdeal.Facts) (hPre_finite : Cert.Pre_finite.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_FfnInFwd (hFfnInFwd := hFfnInFwd)
    ∧ quiescent_FfnInFwdIdeal (hFfnInFwdIdeal := hFfnInFwdIdeal)
    ∧ quiescent_FfnInFwdRefIdeal (hFfnInFwdRefIdeal := hFfnInFwdRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnOutFwd (hFfnOutFwd := hFfnOutFwd)
    ∧ quiescent_FfnOutFwdIdeal (hFfnOutFwdIdeal := hFfnOutFwdIdeal)
    ∧ quiescent_FfnOutFwdRefIdeal (hFfnOutFwdRefIdeal := hFfnOutFwdRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_InProjFwd (hInProjFwd := hInProjFwd)
    ∧ quiescent_InProjFwdIdeal (hInProjFwdIdeal := hInProjFwdIdeal)
    ∧ quiescent_InProjFwdRefIdeal (hInProjFwdRefIdeal := hInProjFwdRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_OutProjFwd (hOutProjFwd := hOutProjFwd)
    ∧ quiescent_OutProjFwdIdeal (hOutProjFwdIdeal := hOutProjFwdIdeal)
    ∧ quiescent_OutProjFwdRefIdeal (hOutProjFwdRefIdeal := hOutProjFwdRefIdeal)
    ∧ quiescent_FfnInDxLast (hFfnInDxLast := hFfnInDxLast)
    ∧ quiescent_FfnInDxLastIdeal (hFfnInDxLastIdeal := hFfnInDxLastIdeal)
    ∧ quiescent_FfnInDxLastRefIdeal (hFfnInDxLastRefIdeal := hFfnInDxLastRefIdeal)
    ∧ quiescent_FfnInDwLast (hFfnInDwLast := hFfnInDwLast)
    ∧ quiescent_FfnInDwLastIdeal (hFfnInDwLastIdeal := hFfnInDwLastIdeal)
    ∧ quiescent_FfnInDwLastRefIdeal (hFfnInDwLastRefIdeal := hFfnInDwLastRefIdeal)
    ∧ quiescent_FfnInFwdLast (hFfnInFwdLast := hFfnInFwdLast)
    ∧ quiescent_FfnInFwdLastIdeal (hFfnInFwdLastIdeal := hFfnInFwdLastIdeal)
    ∧ quiescent_FfnInFwdLastRefIdeal (hFfnInFwdLastRefIdeal := hFfnInFwdLastRefIdeal)
    ∧ quiescent_FfnOutDxLast (hFfnOutDxLast := hFfnOutDxLast)
    ∧ quiescent_FfnOutDxLastIdeal (hFfnOutDxLastIdeal := hFfnOutDxLastIdeal)
    ∧ quiescent_FfnOutDxLastRefIdeal (hFfnOutDxLastRefIdeal := hFfnOutDxLastRefIdeal)
    ∧ quiescent_FfnOutDwLast (hFfnOutDwLast := hFfnOutDwLast)
    ∧ quiescent_FfnOutDwLastIdeal (hFfnOutDwLastIdeal := hFfnOutDwLastIdeal)
    ∧ quiescent_FfnOutDwLastRefIdeal (hFfnOutDwLastRefIdeal := hFfnOutDwLastRefIdeal)
    ∧ quiescent_FfnOutFwdLast (hFfnOutFwdLast := hFfnOutFwdLast)
    ∧ quiescent_FfnOutFwdLastIdeal (hFfnOutFwdLastIdeal := hFfnOutFwdLastIdeal)
    ∧ quiescent_FfnOutFwdLastRefIdeal (hFfnOutFwdLastRefIdeal := hFfnOutFwdLastRefIdeal)
    ∧ quiescent_OutProjDxLast (hOutProjDxLast := hOutProjDxLast)
    ∧ quiescent_OutProjDxLastIdeal (hOutProjDxLastIdeal := hOutProjDxLastIdeal)
    ∧ quiescent_OutProjDxLastRefIdeal (hOutProjDxLastRefIdeal := hOutProjDxLastRefIdeal)
    ∧ quiescent_OutProjDwLast (hOutProjDwLast := hOutProjDwLast)
    ∧ quiescent_OutProjDwLastIdeal (hOutProjDwLastIdeal := hOutProjDwLastIdeal)
    ∧ quiescent_OutProjDwLastRefIdeal (hOutProjDwLastRefIdeal := hOutProjDwLastRefIdeal)
    ∧ quiescent_OutProjFwdLast (hOutProjFwdLast := hOutProjFwdLast)
    ∧ quiescent_OutProjFwdLastIdeal (hOutProjFwdLastIdeal := hOutProjFwdLastIdeal)
    ∧ quiescent_OutProjFwdLastRefIdeal (hOutProjFwdLastRefIdeal := hOutProjFwdLastRefIdeal)
    ∧ quiescent_AttFwd (hAttFwd := hAttFwd)
    ∧ quiescent_AttFwdIdeal (hAttFwdIdeal := hAttFwdIdeal)
    ∧ quiescent_AttFwdIdeal_pre_finite_fwd (hAttFwdIdeal := hAttFwdIdeal) (hPre_finite_fwd := hPre_finite_fwd)
    ∧ quiescent_AttFwdRefIdeal (hAttFwdRefIdeal := hAttFwdRefIdeal)
    ∧ quiescent_AttFwdRefIdeal_pre_finite_fwd (hAttFwdRefIdeal := hAttFwdRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_FfnInFwd_FfnInFwdIdeal
    ∧ algebraic_FfnInFwdIdeal_FfnInFwdRefIdeal (hFfnInFwdIdeal := hFfnInFwdIdeal) (hFfnInFwdRefIdeal := hFfnInFwdRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnOutFwd_FfnOutFwdIdeal
    ∧ algebraic_FfnOutFwdIdeal_FfnOutFwdRefIdeal (hFfnOutFwdIdeal := hFfnOutFwdIdeal) (hFfnOutFwdRefIdeal := hFfnOutFwdRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_InProjFwd_InProjFwdIdeal
    ∧ algebraic_InProjFwdIdeal_InProjFwdRefIdeal (hInProjFwdIdeal := hInProjFwdIdeal) (hInProjFwdRefIdeal := hInProjFwdRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_OutProjFwd_OutProjFwdIdeal
    ∧ algebraic_OutProjFwdIdeal_OutProjFwdRefIdeal (hOutProjFwdIdeal := hOutProjFwdIdeal) (hOutProjFwdRefIdeal := hOutProjFwdRefIdeal)
    ∧ preserves_FfnInDxLast_FfnInDxLastIdeal
    ∧ algebraic_FfnInDxLastIdeal_FfnInDxLastRefIdeal (hFfnInDxLastIdeal := hFfnInDxLastIdeal) (hFfnInDxLastRefIdeal := hFfnInDxLastRefIdeal)
    ∧ preserves_FfnInDwLast_FfnInDwLastIdeal
    ∧ algebraic_FfnInDwLastIdeal_FfnInDwLastRefIdeal (hFfnInDwLastIdeal := hFfnInDwLastIdeal) (hFfnInDwLastRefIdeal := hFfnInDwLastRefIdeal)
    ∧ preserves_FfnInFwdLast_FfnInFwdLastIdeal
    ∧ algebraic_FfnInFwdLastIdeal_FfnInFwdLastRefIdeal (hFfnInFwdLastIdeal := hFfnInFwdLastIdeal) (hFfnInFwdLastRefIdeal := hFfnInFwdLastRefIdeal)
    ∧ preserves_FfnOutDxLast_FfnOutDxLastIdeal
    ∧ algebraic_FfnOutDxLastIdeal_FfnOutDxLastRefIdeal (hFfnOutDxLastIdeal := hFfnOutDxLastIdeal) (hFfnOutDxLastRefIdeal := hFfnOutDxLastRefIdeal)
    ∧ preserves_FfnOutDwLast_FfnOutDwLastIdeal
    ∧ algebraic_FfnOutDwLastIdeal_FfnOutDwLastRefIdeal (hFfnOutDwLastIdeal := hFfnOutDwLastIdeal) (hFfnOutDwLastRefIdeal := hFfnOutDwLastRefIdeal)
    ∧ preserves_FfnOutFwdLast_FfnOutFwdLastIdeal
    ∧ algebraic_FfnOutFwdLastIdeal_FfnOutFwdLastRefIdeal (hFfnOutFwdLastIdeal := hFfnOutFwdLastIdeal) (hFfnOutFwdLastRefIdeal := hFfnOutFwdLastRefIdeal)
    ∧ preserves_OutProjDxLast_OutProjDxLastIdeal
    ∧ algebraic_OutProjDxLastIdeal_OutProjDxLastRefIdeal (hOutProjDxLastIdeal := hOutProjDxLastIdeal) (hOutProjDxLastRefIdeal := hOutProjDxLastRefIdeal)
    ∧ preserves_OutProjDwLast_OutProjDwLastIdeal
    ∧ algebraic_OutProjDwLastIdeal_OutProjDwLastRefIdeal (hOutProjDwLastIdeal := hOutProjDwLastIdeal) (hOutProjDwLastRefIdeal := hOutProjDwLastRefIdeal)
    ∧ preserves_OutProjFwdLast_OutProjFwdLastIdeal
    ∧ algebraic_OutProjFwdLastIdeal_OutProjFwdLastRefIdeal (hOutProjFwdLastIdeal := hOutProjFwdLastIdeal) (hOutProjFwdLastRefIdeal := hOutProjFwdLastRefIdeal)
    ∧ preserves_AttFwd_AttFwdIdeal
    ∧ algebraic_AttFwdIdeal_AttFwdRefIdeal_pre_finite_fwd (hAttFwdIdeal := hAttFwdIdeal) (hAttFwdRefIdeal := hAttFwdRefIdeal) (hPre_finite_fwd := hPre_finite_fwd)
-- ==== Pre_finite.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8448x256 .f32) (main_arg2 : FVec F S8448x256 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_fwd.lean ====
abbrev S8192x1024 : Shape := ⟨2, ![8192, 1024]⟩
abbrev S8448x256 : Shape := ⟨2, ![8448, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8448x256 : S_.BroadcastsInDim S8448x256 (![] : Fin 0 → Fin S8448x256.rank)
  reducesTo_S8448x256_S_d0_1 : S8448x256.ReducesTo [0, 1] S_

variable [Facts]

def fn {F : FTy → Type} [FloatOps F] (main_arg0 : FVec F S8192x1024 .f32) (main_arg1 : FVec F S8448x256 .f32) (main_arg2 : FVec F S8448x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8448x256 .f32 := Host.absf main_arg1
  let main_cst_0 : FVec F S_ .f32 := constant S_ .f32 0x7F800000#32
  let main_v5 : FVec F S8448x256 .f32 := broadcastInDim S8448x256 ![] bcast_S_S8448x256 main_cst_0
  let main_v6 : IVec S8448x256 1 := cmpf .olt main_v4 main_v5
  let main_c_1 : IVec S_ 1 := constantI S_ 1 1#1
  let main_v7 : IVec S_ 1 := (fun x v => Host.reduce IntOp.andi x v reducesTo_S8448x256_S_d0_1 h_S_) main_v6 main_c_1
  let main_v8 : IVec S_ 1 := andi main_v3 main_v7
  let main_v9 : FVec F S8448x256 .f32 := Host.absf main_arg2
  let main_cst_2 : FVec F S_ .f32 := constant S_ .f32 0x7F800000#32
  let main_v10 : FVec F S8448x256 .f32 := broadcastInDim S8448x256 ![] bcast_S_S8448x256 main_cst_2
  let main_v11 : IVec S8448x256 1 := cmpf .olt main_v9 main_v10
  let main_c_3 : IVec S_ 1 := constantI S_ 1 1#1
  let main_v12 : IVec S_ 1 := (fun x v => Host.reduce IntOp.andi x v reducesTo_S8448x256_S_d0_1 h_S_) main_v11 main_c_3
  let main_v13 : IVec S_ 1 := andi main_v8 main_v12
  main_v13
-- ==== Kernel.lean ====
abbrev S8192x1024 : Shape := ⟨2, ![8192, 1024]⟩
abbrev S8448x256 : Shape := ⟨2, ![8448, 256]⟩
abbrev S8448x2x128 : Shape := ⟨3, ![8448, 2, 128]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x8192x1 : Shape := ⟨3, ![8, 8192, 1]⟩
abbrev S1024x128 : Shape := ⟨2, ![1024, 128]⟩
abbrev S1408x128 : Shape := ⟨2, ![1408, 128]⟩
abbrev S1x1024x1 : Shape := ⟨3, ![1, 1024, 1]⟩
abbrev S1024x1 : Shape := ⟨2, ![1024, 1]⟩
abbrev S1024 : Shape := ⟨1, ![1024]⟩
abbrev S1024x1408 : Shape := ⟨2, ![1024, 1408]⟩

abbrev nBuf : Space → Nat
  | .hbm => 49
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8448x2x128, .f32⟩
  | .hbm, ⟨5, _⟩ => ⟨S8192x2x4x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x8448, .f32⟩
  | .hbm, ⟨19, _⟩ => ⟨S2x4x8192x8448, .f32⟩
  | .hbm, ⟨20, _⟩ => ⟨S2x4x8192x8448, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x8448, .f32⟩
  | .hbm, ⟨25, _⟩ => ⟨S2x4x8192x8448, .f32⟩
  | .hbm, ⟨26, _⟩ => ⟨S2x128x4x8192, .f32⟩
  | .hbm, ⟨27, _⟩ => ⟨S8192x2x4x128, .f32⟩
  | .hbm, ⟨28, _⟩ => ⟨S8192x1024, .f32⟩
  | .hbm, ⟨29, _⟩ => ⟨S8192x2x4x128, .f32⟩
  | .hbm, ⟨30, _⟩ => ⟨S8448x2x128, .f32⟩
  | .hbm, ⟨31, _⟩ => ⟨S2x8448x8192x4, .f32⟩
  | .hbm, ⟨32, _⟩ => ⟨S2x4x8192x8448, .f32⟩
  | .hbm, ⟨33, _⟩ => ⟨S_, .f32⟩
  | .hbm, ⟨34, _⟩ => ⟨S2x4x8192x8448, .f32⟩
  | .hbm, ⟨35, _⟩ => ⟨S2x4x8192x8448, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8448, .f32⟩
  | .hbm, ⟨40, _⟩ => ⟨S2x4x8192x8448, .f32⟩
  | .hbm, ⟨41, _⟩ => ⟨S2x4x8192x8448, .f32⟩
  | .hbm, ⟨42, _⟩ => ⟨S_, .f32⟩
  | .hbm, ⟨43, _⟩ => ⟨S2x4x8192, .f32⟩
  | .hbm, ⟨44, _⟩ => ⟨S2x4x8192x1, .f32⟩
  | .hbm, ⟨45, _⟩ => ⟨S2x4x8192x1, .f32⟩
  | .hbm, ⟨46, _⟩ => ⟨S2x4x8192x1, .f32⟩
  | .hbm, ⟨47, _⟩ => ⟨S8x8192x1, .f32⟩
  | .hbm, ⟨48, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1408x128, .f32⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1, .f32⟩
  | .local _ .vmem, ⟨15, _⟩ => ⟨S1024x1, .f32⟩
  | .local _ .vmem, ⟨16, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 6], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale_log2e" => some (((11863283 / 134217728) * (Real.log 2)⁻¹ : ℝ) : EReal)
  | _ => none
-- ==== ReferenceIdeal.lean ====
abbrev S8192x1024 : Shape := ⟨2, ![8192, 1024]⟩
abbrev S8448x256 : Shape := ⟨2, ![8448, 256]⟩
abbrev S8448x2x128 : Shape := ⟨3, ![8448, 2, 128]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8448 : Shape := ⟨3, ![2, 128, 8448]⟩
abbrev S2x8192x4x128 : Shape := ⟨4, ![2, 8192, 4, 128]⟩
abbrev S2x8448x128 : Shape := ⟨3, ![2, 8448, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8448x2x128, .f32⟩
  | .hbm, ⟨5, _⟩ => ⟨S8192x2x4x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .i1⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8448, .f32⟩
  | .hbm, ⟨39, _⟩ => ⟨S2x4x8192x8448, .f32⟩
  | .hbm, ⟨40, _⟩ => ⟨S2x4x8192x8448, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8448, .f32⟩
  | .hbm, ⟨45, _⟩ => ⟨S2x4x8192x8448, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8448, .f32⟩
  | .hbm, ⟨56, _⟩ => ⟨S2x128x8448, .f32⟩
  | .hbm, ⟨57, _⟩ => ⟨S8448x2x128, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8448, .f32⟩
  | .hbm, ⟨66, _⟩ => ⟨S2x4x8192x8448, .f32⟩
  | .hbm, ⟨67, _⟩ => ⟨S_, .f32⟩
  | .hbm, ⟨68, _⟩ => ⟨S2x4x8192, .f32⟩
  | .hbm, ⟨69, _⟩ => ⟨S2x4x8192x8448, .f32⟩
  | .hbm, ⟨70, _⟩ => ⟨S2x4x8192x8448, .f32⟩
  | .hbm, ⟨71, _⟩ => ⟨S2x4x8192x8448, .f32⟩
  | .hbm, ⟨72, _⟩ => ⟨S_, .f32⟩
  | .hbm, ⟨73, _⟩ => ⟨S2x4x8192x8448, .f32⟩
  | .hbm, ⟨74, _⟩ => ⟨S2x4x8192x8448, .f32⟩
  | .hbm, ⟨75, _⟩ => ⟨S2x8448x8192x4, .f32⟩
  | .hbm, ⟨76, _⟩ => ⟨S2x8192x4x128, .f32⟩
  | .hbm, ⟨77, _⟩ => ⟨S8192x2x4x128, .f32⟩
  | .hbm, ⟨78, _⟩ => ⟨S2x8448x128, .f32⟩
  | .hbm, ⟨79, _⟩ => ⟨S8448x2x128, .f32⟩
  | .hbm, ⟨80, _⟩ => ⟨S8448x256, .f32⟩
  | .hbm, ⟨81, _⟩ => ⟨S8192x1024, .f32⟩
  | .hbm, ⟨82, _⟩ => ⟨S8448x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S8192x1024 : Shape := ⟨2, ![8192, 1024]⟩
abbrev S8448x256 : Shape := ⟨2, ![8448, 256]⟩
abbrev S8448x2x128 : Shape := ⟨3, ![8448, 2, 128]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x8192x1 : Shape := ⟨3, ![8, 8192, 1]⟩
abbrev S1024x128 : Shape := ⟨2, ![1024, 128]⟩
abbrev S1408x128 : Shape := ⟨2, ![1408, 128]⟩
abbrev S1x1024x1 : Shape := ⟨3, ![1, 1024, 1]⟩
abbrev S1024x1408 : Shape := ⟨2, ![1024, 1408]⟩
abbrev S1024x1 : Shape := ⟨2, ![1024, 1]⟩
abbrev S1024 : Shape := ⟨1, ![1024]⟩

abbrev nBuf : Space → Nat
  | .hbm => 50
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8448x2x128, .f32⟩
  | .hbm, ⟨5, _⟩ => ⟨S8192x2x4x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S_, .f32⟩
  | .hbm, ⟨15, _⟩ => ⟨S2x4x8192, .f32⟩
  | .hbm, ⟨16, _⟩ => ⟨S2x4x8192, .f32⟩
  | .hbm, ⟨17, _⟩ => ⟨S2x4x8192x1, .f32⟩
  | .hbm, ⟨18, _⟩ => ⟨S2x4x8192x8448, .f32⟩
  | .hbm, ⟨19, _⟩ => ⟨S2x4x8192x8448, .f32⟩
  | .hbm, ⟨20, _⟩ => ⟨S2x4x8192x8448, .f32⟩
  | .hbm, ⟨21, _⟩ => ⟨S_, .f32⟩
  | .hbm, ⟨22, _⟩ => ⟨S2x4x8192, .f32⟩
  | .hbm, ⟨23, _⟩ => ⟨S2x4x8192x1, .f32⟩
  | .hbm, ⟨24, _⟩ => ⟨S2x4x8192x8448, .f32⟩
  | .hbm, ⟨25, _⟩ => ⟨S2x4x8192x8448, .f32⟩
  | .hbm, ⟨26, _⟩ => ⟨S2x128x4x8192, .f32⟩
  | .hbm, ⟨27, _⟩ => ⟨S8192x2x4x128, .f32⟩
  | .hbm, ⟨28, _⟩ => ⟨S8192x1024, .f32⟩
  | .hbm, ⟨29, _⟩ => ⟨S8192x2x4x128, .f32⟩
  | .hbm, ⟨30, _⟩ => ⟨S8448x2x128, .f32⟩
  | .hbm, ⟨31, _⟩ => ⟨S2x8448x8192x4, .f32⟩
  | .hbm, ⟨32, _⟩ => ⟨S2x4x8192x8448, .f32⟩
  | .hbm, ⟨33, _⟩ => ⟨S_, .f32⟩
  | .hbm, ⟨34, _⟩ => ⟨S2x4x8192x8448, .f32⟩
  | .hbm, ⟨35, _⟩ => ⟨S2x4x8192x8448, .f32⟩
  | .hbm, ⟨36, _⟩ => ⟨S_, .f32⟩
  | .hbm, ⟨37, _⟩ => ⟨S2x4x8192, .f32⟩
  | .hbm, ⟨38, _⟩ => ⟨S2x4x8192x1, .f32⟩
  | .hbm, ⟨39, _⟩ => ⟨S2x4x8192x8448, .f32⟩
  | .hbm, ⟨40, _⟩ => ⟨S2x4x8192x8448, .f32⟩
  | .hbm, ⟨41, _⟩ => ⟨S2x4x8192x8448, .f32⟩
  | .hbm, ⟨42, _⟩ => ⟨S_, .f32⟩
  | .hbm, ⟨43, _⟩ => ⟨S2x4x8192, .f32⟩
  | .hbm, ⟨44, _⟩ => ⟨S2x4x8192x1, .f32⟩
  | .hbm, ⟨45, _⟩ => ⟨S2x4x8192x1, .f32⟩
  | .hbm, ⟨46, _⟩ => ⟨S2x4x8192x1, .f32⟩
  | .hbm, ⟨47, _⟩ => ⟨S8x8192x1, .f32⟩
  | .hbm, ⟨48, _⟩ => ⟨S8448x256, .f32⟩
  | .hbm, ⟨49, _⟩ => ⟨S8448x256, .f32⟩
  | .local _ .vmem, ⟨0, _⟩ => ⟨S1024x128, .f32⟩
  | .local _ .vmem, ⟨1, _⟩ => ⟨S1024x128, .f32⟩
  | .local _ .vmem, ⟨2, _⟩ => ⟨S1408x128, .f32⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x128, .f32⟩
  | .local _ .vmem, ⟨11, _⟩ => ⟨S1024x128, .f32⟩
  | .local _ .vmem, ⟨12, _⟩ => ⟨S1408x128, .f32⟩
  | .local _ .vmem, ⟨13, _⟩ => ⟨S1408x128, .f32⟩
  | .local _ .vmem, ⟨14, _⟩ => ⟨S1408x128, .f32⟩
  | .local _ .vmem, ⟨15, _⟩ => ⟨S1408x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37_0 : Ref sig .tc := ⟨.hbm, 48, rfl⟩
abbrev main_v37_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 6, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c8_i32_3 : BitVec 32 := 8#32
  let v11 : BitVec 32 := Scalar.divsi arg2 c8_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg2 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![v9.toNat, v28.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c8_i32_3 : BitVec 32 := 8#32
  let v11 : BitVec 32 := Scalar.divsi arg2 c8_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg2 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![v9.toNat, v28.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c8_i32 : BitVec 32 := 8#32
  let v1 : BitVec 32 := Scalar.divsi arg2 c8_i32
  let c0_i32 : BitVec 32 := 0#32
  let v2 : BitVec 1 := Scalar.cmpi .sgt arg2 c0_i32
  let v3 : BitVec 32 := Scalar.extui v2
  let c0_i32_0 : BitVec 32 := 0#32
  let v4 : BitVec 1 := Scalar.cmpi .slt arg2 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg2 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi arg2 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, v28.toNat, c0_i32_10.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli arg0 c4_i32
  let c8_i32_3 : BitVec 32 := 8#32
  let v11 : BitVec 32 := Scalar.divsi arg2 c8_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c8_i32_3 c0_i32_6
  let v18 : BitVec 32 := Scalar.extui v17
  let c0_i32_7 : BitVec 32 := 0#32
  let v19 : BitVec 1 := Scalar.cmpi .slt c8_i32_3 c0_i32_7
  let v20 : BitVec 32 := Scalar.extui v19
  let v21 : BitVec 32 := Scalar.subi v18 v20
  let v22 : BitVec 1 := Scalar.cmpi .ne v16 v21
  let v23 : BitVec 32 := Scalar.remsi arg2 c8_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  ![v9.toNat, v28.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1408x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1408x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Kernel2Ideal.lean ====
variable {F : FTy → Type} [FloatOps F] [Named F]
def κ : String → Option EReal := fun
  | "ln2" => some ((Real.log 2 : ℝ) : EReal)
  | "log2e" => some (((Real.log 2)⁻¹ : ℝ) : EReal)
  | "scale_log2e" => some (((11863283 / 134217728) * (Real.log 2)⁻¹ : ℝ) : EReal)
  | _ => none
-- ==== Reference2Ideal.lean ====
abbrev S8192x1024 : Shape := ⟨2, ![8192, 1024]⟩
abbrev S8448x256 : Shape := ⟨2, ![8448, 256]⟩
abbrev S8448x2x128 : Shape := ⟨3, ![8448, 2, 128]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8448 : Shape := ⟨3, ![2, 128, 8448]⟩
abbrev S2x8192x4x128 : Shape := ⟨4, ![2, 8192, 4, 128]⟩
abbrev S2x8448x128 : Shape := ⟨3, ![2, 8448, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8448x2x128, .f32⟩
  | .hbm, ⟨5, _⟩ => ⟨S8192x2x4x128, .f32⟩
  | .hbm, ⟨6, _⟩ => ⟨S8448x2x128, .f32⟩
  | .hbm, ⟨7, _⟩ => ⟨S2x8448x8192x4, .f32⟩
  | .hbm, ⟨8, _⟩ => ⟨S2x4x8192x8448, .f32⟩
  | .hbm, ⟨9, _⟩ => ⟨S_, .f32⟩
  | .hbm, ⟨10, _⟩ => ⟨S2x4x8192x8448, .f32⟩
  | .hbm, ⟨11, _⟩ => ⟨S2x4x8192x8448, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8448, .f32⟩
  | .hbm, ⟨16, _⟩ => ⟨S2x4x8192x8448, .i1⟩
  | .hbm, ⟨17, _⟩ => ⟨S2x4x8192x8448, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8448, .f32⟩
  | .hbm, ⟨39, _⟩ => ⟨S2x4x8192x8448, .f32⟩
  | .hbm, ⟨40, _⟩ => ⟨S2x4x8192x8448, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8448, .f32⟩
  | .hbm, ⟨45, _⟩ => ⟨S2x4x8192x8448, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8448, .f32⟩
  | .hbm, ⟨56, _⟩ => ⟨S2x128x8448, .f32⟩
  | .hbm, ⟨57, _⟩ => ⟨S8448x2x128, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8448, .f32⟩
  | .hbm, ⟨66, _⟩ => ⟨S2x4x8192x8448, .f32⟩
  | .hbm, ⟨67, _⟩ => ⟨S_, .f32⟩
  | .hbm, ⟨68, _⟩ => ⟨S2x4x8192, .f32⟩
  | .hbm, ⟨69, _⟩ => ⟨S2x4x8192x8448, .f32⟩
  | .hbm, ⟨70, _⟩ => ⟨S2x4x8192x8448, .f32⟩
  | .hbm, ⟨71, _⟩ => ⟨S2x4x8192x8448, .f32⟩
  | .hbm, ⟨72, _⟩ => ⟨S_, .f32⟩
  | .hbm, ⟨73, _⟩ => ⟨S2x4x8192x8448, .f32⟩
  | .hbm, ⟨74, _⟩ => ⟨S2x4x8192x8448, .f32⟩
  | .hbm, ⟨75, _⟩ => ⟨S2x8448x8192x4, .f32⟩
  | .hbm, ⟨76, _⟩ => ⟨S2x8192x4x128, .f32⟩
  | .hbm, ⟨77, _⟩ => ⟨S8192x2x4x128, .f32⟩
  | .hbm, ⟨78, _⟩ => ⟨S2x8448x128, .f32⟩
  | .hbm, ⟨79, _⟩ => ⟨S8448x2x128, .f32⟩
  | .hbm, ⟨80, _⟩ => ⟨S8448x256, .f32⟩
  | .hbm, ⟨81, _⟩ => ⟨S8192x1024, .f32⟩
  | .hbm, ⟨82, _⟩ => ⟨S8448x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== FfnInDx.lean ====
abbrev S8448x2048 : Shape := ⟨2, ![8448, 2048]⟩
abbrev S2048x11264 : Shape := ⟨2, ![2048, 11264]⟩
abbrev S8448x11264 : Shape := ⟨2, ![8448, 11264]⟩
abbrev S2048x8x1408 : Shape := ⟨3, ![2048, 8, 1408]⟩
abbrev S8x2048x1408 : Shape := ⟨3, ![8, 2048, 1408]⟩
abbrev S768x1408 : Shape := ⟨2, ![768, 1408]⟩
abbrev S1x2048x1408 : Shape := ⟨3, ![1, 2048, 1408]⟩
abbrev S768x2048 : Shape := ⟨2, ![768, 2048]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S8448x2048, .f32⟩
  | .local _ .vmem, ⟨0, _⟩ => ⟨S768x1408, .f32⟩
  | .local _ .vmem, ⟨1, _⟩ => ⟨S768x1408, .f32⟩
  | .local _ .vmem, ⟨2, _⟩ => ⟨S1x2048x1408, .bf16⟩
  | .local _ .vmem, ⟨3, _⟩ => ⟨S1x2048x1408, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxIdeal.lean ====
abbrev S8448x2048 : Shape := ⟨2, ![8448, 2048]⟩
abbrev S2048x11264 : Shape := ⟨2, ![2048, 11264]⟩
abbrev S8448x11264 : Shape := ⟨2, ![8448, 11264]⟩
abbrev S2048x8x1408 : Shape := ⟨3, ![2048, 8, 1408]⟩
abbrev S8x2048x1408 : Shape := ⟨3, ![8, 2048, 1408]⟩
abbrev S768x1408 : Shape := ⟨2, ![768, 1408]⟩
abbrev S1x2048x1408 : Shape := ⟨3, ![1, 2048, 1408]⟩
abbrev S768x2048 : Shape := ⟨2, ![768, 2048]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S8448x2048, .f32⟩
  | .local _ .vmem, ⟨0, _⟩ => ⟨S768x1408, .f32⟩
  | .local _ .vmem, ⟨1, _⟩ => ⟨S768x1408, .f32⟩
  | .local _ .vmem, ⟨2, _⟩ => ⟨S1x2048x1408, .bf16⟩
  | .local _ .vmem, ⟨3, _⟩ => ⟨S1x2048x1408, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8448x2048 : Shape := ⟨2, ![8448, 2048]⟩
abbrev S2048x11264 : Shape := ⟨2, ![2048, 11264]⟩
abbrev S8448x11264 : Shape := ⟨2, ![8448, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .f32⟩
  | .hbm, ⟨4, _⟩ => ⟨S11264x2048, .f32⟩
  | .hbm, ⟨5, _⟩ => ⟨S2048x11264, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInDw.lean ====
abbrev S8448x2048 : Shape := ⟨2, ![8448, 2048]⟩
abbrev S2048x11264 : Shape := ⟨2, ![2048, 11264]⟩
abbrev S8448x11264 : Shape := ⟨2, ![8448, 11264]⟩
abbrev S8x2048x1408 : Shape := ⟨3, ![8, 2048, 1408]⟩
abbrev S768x1024 : Shape := ⟨2, ![768, 1024]⟩
abbrev S768x1408 : Shape := ⟨2, ![768, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8x2048x1408, .f32⟩
  | .local _ .vmem, ⟨0, _⟩ => ⟨S768x1024, .f32⟩
  | .local _ .vmem, ⟨1, _⟩ => ⟨S768x1024, .f32⟩
  | .local _ .vmem, ⟨2, _⟩ => ⟨S768x1408, .f32⟩
  | .local _ .vmem, ⟨3, _⟩ => ⟨S768x1408, .f32⟩
  | .local _ .vmem, ⟨4, _⟩ => ⟨S1x1024x1408, .f32⟩
  | .local _ .vmem, ⟨5, _⟩ => ⟨S1x1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwIdeal.lean ====
abbrev S8448x2048 : Shape := ⟨2, ![8448, 2048]⟩
abbrev S2048x11264 : Shape := ⟨2, ![2048, 11264]⟩
abbrev S8448x11264 : Shape := ⟨2, ![8448, 11264]⟩
abbrev S8x2048x1408 : Shape := ⟨3, ![8, 2048, 1408]⟩
abbrev S768x1024 : Shape := ⟨2, ![768, 1024]⟩
abbrev S768x1408 : Shape := ⟨2, ![768, 1408]⟩
abbrev S1x1024x1408 : Shape := ⟨3, ![1, 1024, 1408]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8x2048x1408, .f32⟩
  | .local _ .vmem, ⟨0, _⟩ => ⟨S768x1024, .f32⟩
  | .local _ .vmem, ⟨1, _⟩ => ⟨S768x1024, .f32⟩
  | .local _ .vmem, ⟨2, _⟩ => ⟨S768x1408, .f32⟩
  | .local _ .vmem, ⟨3, _⟩ => ⟨S768x1408, .f32⟩
  | .local _ .vmem, ⟨4, _⟩ => ⟨S1x1024x1408, .f32⟩
  | .local _ .vmem, ⟨5, _⟩ => ⟨S1x1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8448x2048 : Shape := ⟨2, ![8448, 2048]⟩
abbrev S2048x11264 : Shape := ⟨2, ![2048, 11264]⟩
abbrev S8448x11264 : Shape := ⟨2, ![8448, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | .hbm, ⟨3, _⟩ => ⟨S8448x11264, .f32⟩
  | .hbm, ⟨4, _⟩ => ⟨S11264x2048, .f32⟩
  | .hbm, ⟨5, _⟩ => ⟨S2048x11264, .f32⟩
  | .hbm, ⟨6, _⟩ => ⟨S8448x2048, .f32⟩
  | .hbm, ⟨7, _⟩ => ⟨S2048x8x1408, .f32⟩
  | .hbm, ⟨8, _⟩ => ⟨S8x2048x1408, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInFwd.lean ====
abbrev S8448x2048 : Shape := ⟨2, ![8448, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8448x11264 : Shape := ⟨2, ![8448, 11264]⟩
abbrev S768x2048 : Shape := ⟨2, ![768, 2048]⟩
abbrev S1x2048x1408 : Shape := ⟨3, ![1, 2048, 1408]⟩
abbrev S768x1408 : Shape := ⟨2, ![768, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S8448x11264, .f32⟩
  | .local _ .vmem, ⟨0, _⟩ => ⟨S768x2048, .f32⟩
  | .local _ .vmem, ⟨1, _⟩ => ⟨S768x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S768x1408, .f32⟩
  | .local _ .vmem, ⟨5, _⟩ => ⟨S768x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdIdeal.lean ====
abbrev S8448x2048 : Shape := ⟨2, ![8448, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8448x11264 : Shape := ⟨2, ![8448, 11264]⟩
abbrev S768x2048 : Shape := ⟨2, ![768, 2048]⟩
abbrev S1x2048x1408 : Shape := ⟨3, ![1, 2048, 1408]⟩
abbrev S768x1408 : Shape := ⟨2, ![768, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S8448x11264, .f32⟩
  | .local _ .vmem, ⟨0, _⟩ => ⟨S768x2048, .f32⟩
  | .local _ .vmem, ⟨1, _⟩ => ⟨S768x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S768x1408, .f32⟩
  | .local _ .vmem, ⟨5, _⟩ => ⟨S768x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdRefIdeal.lean ====
abbrev S8448x2048 : Shape := ⟨2, ![8448, 2048]⟩
abbrev S2048x11264 : Shape := ⟨2, ![2048, 11264]⟩
abbrev S8448x11264 : Shape := ⟨2, ![8448, 11264]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x11264, .f32⟩
  | .hbm, ⟨2, _⟩ => ⟨S8448x11264, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOutDx.lean ====
abbrev S8448x5632 : Shape := ⟨2, ![8448, 5632]⟩
abbrev S5632x2048 : Shape := ⟨2, ![5632, 2048]⟩
abbrev S8448x2048 : Shape := ⟨2, ![8448, 2048]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S5632x2048, .bf16⟩
  | .hbm, ⟨4, _⟩ => ⟨S8448x5632, .f32⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxIdeal.lean ====
abbrev S8448x5632 : Shape := ⟨2, ![8448, 5632]⟩
abbrev S5632x2048 : Shape := ⟨2, ![5632, 2048]⟩
abbrev S8448x2048 : Shape := ⟨2, ![8448, 2048]⟩
abbrev S768x1024 : Shape := ⟨2, ![768, 1024]⟩
abbrev S1408x1024 : Shape := ⟨2, ![1408, 1024]⟩
abbrev S768x1408 : Shape := ⟨2, ![768, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S5632x2048, .bf16⟩
  | .hbm, ⟨4, _⟩ => ⟨S8448x5632, .f32⟩
  | .local _ .vmem, ⟨0, _⟩ => ⟨S768x1024, .f32⟩
  | .local _ .vmem, ⟨1, _⟩ => ⟨S768x1024, .f32⟩
  | .local _ .vmem, ⟨2, _⟩ => ⟨S1408x1024, .bf16⟩
  | .local _ .vmem, ⟨3, _⟩ => ⟨S1408x1024, .bf16⟩
  | .local _ .vmem, ⟨4, _⟩ => ⟨S768x1408, .f32⟩
  | .local _ .vmem, ⟨5, _⟩ => ⟨S768x1408, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8448x5632 : Shape := ⟨2, ![8448, 5632]⟩
abbrev S5632x2048 : Shape := ⟨2, ![5632, 2048]⟩
abbrev S8448x2048 : Shape := ⟨2, ![8448, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x2048, .f32⟩
  | .hbm, ⟨4, _⟩ => ⟨S2048x5632, .f32⟩
  | .hbm, ⟨5, _⟩ => ⟨S5632x2048, .f32⟩
  | .hbm, ⟨6, _⟩ => ⟨S8448x5632, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutDw.lean ====
abbrev S8448x5632 : Shape := ⟨2, ![8448, 5632]⟩
abbrev S5632x2048 : Shape := ⟨2, ![5632, 2048]⟩
abbrev S8448x2048 : Shape := ⟨2, ![8448, 2048]⟩
abbrev S768x512 : Shape := ⟨2, ![768, 512]⟩
abbrev S768x1024 : Shape := ⟨2, ![768, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S5632x2048, .f32⟩
  | .local _ .vmem, ⟨0, _⟩ => ⟨S768x512, .f32⟩
  | .local _ .vmem, ⟨1, _⟩ => ⟨S768x512, .f32⟩
  | .local _ .vmem, ⟨2, _⟩ => ⟨S768x1024, .f32⟩
  | .local _ .vmem, ⟨3, _⟩ => ⟨S768x1024, .f32⟩
  | .local _ .vmem, ⟨4, _⟩ => ⟨S512x1024, .f32⟩
  | .local _ .vmem, ⟨5, _⟩ => ⟨S512x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwIdeal.lean ====
abbrev S8448x5632 : Shape := ⟨2, ![8448, 5632]⟩
abbrev S5632x2048 : Shape := ⟨2, ![5632, 2048]⟩
abbrev S8448x2048 : Shape := ⟨2, ![8448, 2048]⟩
abbrev S768x512 : Shape := ⟨2, ![768, 512]⟩
abbrev S768x1024 : Shape := ⟨2, ![768, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S5632x2048, .f32⟩
  | .local _ .vmem, ⟨0, _⟩ => ⟨S768x512, .f32⟩
  | .local _ .vmem, ⟨1, _⟩ => ⟨S768x512, .f32⟩
  | .local _ .vmem, ⟨2, _⟩ => ⟨S768x1024, .f32⟩
  | .local _ .vmem, ⟨3, _⟩ => ⟨S768x1024, .f32⟩
  | .local _ .vmem, ⟨4, _⟩ => ⟨S512x1024, .f32⟩
  | .local _ .vmem, ⟨5, _⟩ => ⟨S512x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8448x5632 : Shape := ⟨2, ![8448, 5632]⟩
abbrev S5632x2048 : Shape := ⟨2, ![5632, 2048]⟩
abbrev S8448x2048 : Shape := ⟨2, ![8448, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | .hbm, ⟨3, _⟩ => ⟨S8448x2048, .f32⟩
  | .hbm, ⟨4, _⟩ => ⟨S2048x5632, .f32⟩
  | .hbm, ⟨5, _⟩ => ⟨S5632x2048, .f32⟩
  | .hbm, ⟨6, _⟩ => ⟨S8448x5632, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutFwd.lean ====
abbrev S8448x5632 : Shape := ⟨2, ![8448, 5632]⟩
abbrev S5632x2048 : Shape := ⟨2, ![5632, 2048]⟩
abbrev S8448x2048 : Shape := ⟨2, ![8448, 2048]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S5632x2048, .bf16⟩
  | .hbm, ⟨3, _⟩ => ⟨S8448x2048, .f32⟩
  | .local _ .vmem, ⟨0, _⟩ => ⟨S768x1408, .f32⟩
  | .local _ .vmem, ⟨1, _⟩ => ⟨S768x1408, .f32⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdIdeal.lean ====
abbrev S8448x5632 : Shape := ⟨2, ![8448, 5632]⟩
abbrev S5632x2048 : Shape := ⟨2, ![5632, 2048]⟩
abbrev S8448x2048 : Shape := ⟨2, ![8448, 2048]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S5632x2048, .bf16⟩
  | .hbm, ⟨3, _⟩ => ⟨S8448x2048, .f32⟩
  | .local _ .vmem, ⟨0, _⟩ => ⟨S768x1408, .f32⟩
  | .local _ .vmem, ⟨1, _⟩ => ⟨S768x1408, .f32⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdRefIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InProjDx.lean ====
abbrev S8448x2048 : Shape := ⟨2, ![8448, 2048]⟩
abbrev S2048x5760 : Shape := ⟨2, ![2048, 5760]⟩
abbrev S8448x5760 : Shape := ⟨2, ![8448, 5760]⟩
abbrev S768x1152 : Shape := ⟨2, ![768, 1152]⟩
abbrev S2048x1152 : Shape := ⟨2, ![2048, 1152]⟩
abbrev S768x2048 : Shape := ⟨2, ![768, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S2048x5760, .bf16⟩
  | .hbm, ⟨4, _⟩ => ⟨S8448x2048, .f32⟩
  | .local _ .vmem, ⟨0, _⟩ => ⟨S768x1152, .f32⟩
  | .local _ .vmem, ⟨1, _⟩ => ⟨S768x1152, .f32⟩
  | .local _ .vmem, ⟨2, _⟩ => ⟨S2048x1152, .bf16⟩
  | .local _ .vmem, ⟨3, _⟩ => ⟨S2048x1152, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxIdeal.lean ====
abbrev S8448x2048 : Shape := ⟨2, ![8448, 2048]⟩
abbrev S2048x5760 : Shape := ⟨2, ![2048, 5760]⟩
abbrev S8448x5760 : Shape := ⟨2, ![8448, 5760]⟩
abbrev S768x1152 : Shape := ⟨2, ![768, 1152]⟩
abbrev S2048x1152 : Shape := ⟨2, ![2048, 1152]⟩
abbrev S768x2048 : Shape := ⟨2, ![768, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S2048x5760, .bf16⟩
  | .hbm, ⟨4, _⟩ => ⟨S8448x2048, .f32⟩
  | .local _ .vmem, ⟨0, _⟩ => ⟨S768x1152, .f32⟩
  | .local _ .vmem, ⟨1, _⟩ => ⟨S768x1152, .f32⟩
  | .local _ .vmem, ⟨2, _⟩ => ⟨S2048x1152, .bf16⟩
  | .local _ .vmem, ⟨3, _⟩ => ⟨S2048x1152, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 5], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S8448x2048 : Shape := ⟨2, ![8448, 2048]⟩
abbrev S2048x5760 : Shape := ⟨2, ![2048, 5760]⟩
abbrev S8448x5760 : Shape := ⟨2, ![8448, 5760]⟩
abbrev S5760x2048 : Shape := ⟨2, ![5760, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S8448x5760, .f32⟩
  | .hbm, ⟨4, _⟩ => ⟨S5760x2048, .f32⟩
  | .hbm, ⟨5, _⟩ => ⟨S2048x5760, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjDw.lean ====
abbrev S8448x2048 : Shape := ⟨2, ![8448, 2048]⟩
abbrev S2048x5760 : Shape := ⟨2, ![2048, 5760]⟩
abbrev S8448x5760 : Shape := ⟨2, ![8448, 5760]⟩
abbrev S768x1024 : Shape := ⟨2, ![768, 1024]⟩
abbrev S768x1152 : Shape := ⟨2, ![768, 1152]⟩
abbrev S1024x1152 : Shape := ⟨2, ![1024, 1152]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S2048x5760, .f32⟩
  | .local _ .vmem, ⟨0, _⟩ => ⟨S768x1024, .f32⟩
  | .local _ .vmem, ⟨1, _⟩ => ⟨S768x1024, .f32⟩
  | .local _ .vmem, ⟨2, _⟩ => ⟨S768x1152, .f32⟩
  | .local _ .vmem, ⟨3, _⟩ => ⟨S768x1152, .f32⟩
  | .local _ .vmem, ⟨4, _⟩ => ⟨S1024x1152, .f32⟩
  | .local _ .vmem, ⟨5, _⟩ => ⟨S1024x1152, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwIdeal.lean ====
abbrev S8448x2048 : Shape := ⟨2, ![8448, 2048]⟩
abbrev S2048x5760 : Shape := ⟨2, ![2048, 5760]⟩
abbrev S8448x5760 : Shape := ⟨2, ![8448, 5760]⟩
abbrev S768x1024 : Shape := ⟨2, ![768, 1024]⟩
abbrev S768x1152 : Shape := ⟨2, ![768, 1152]⟩
abbrev S1024x1152 : Shape := ⟨2, ![1024, 1152]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S2048x5760, .f32⟩
  | .local _ .vmem, ⟨0, _⟩ => ⟨S768x1024, .f32⟩
  | .local _ .vmem, ⟨1, _⟩ => ⟨S768x1024, .f32⟩
  | .local _ .vmem, ⟨2, _⟩ => ⟨S768x1152, .f32⟩
  | .local _ .vmem, ⟨3, _⟩ => ⟨S768x1152, .f32⟩
  | .local _ .vmem, ⟨4, _⟩ => ⟨S1024x1152, .f32⟩
  | .local _ .vmem, ⟨5, _⟩ => ⟨S1024x1152, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S8448x2048 : Shape := ⟨2, ![8448, 2048]⟩
abbrev S2048x5760 : Shape := ⟨2, ![2048, 5760]⟩
abbrev S8448x5760 : Shape := ⟨2, ![8448, 5760]⟩
abbrev S5760x2048 : Shape := ⟨2, ![5760, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | .hbm, ⟨3, _⟩ => ⟨S8448x5760, .f32⟩
  | .hbm, ⟨4, _⟩ => ⟨S5760x2048, .f32⟩
  | .hbm, ⟨5, _⟩ => ⟨S2048x5760, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjFwd.lean ====
abbrev S8448x2048 : Shape := ⟨2, ![8448, 2048]⟩
abbrev S2048x5760 : Shape := ⟨2, ![2048, 5760]⟩
abbrev S8448x5760 : Shape := ⟨2, ![8448, 5760]⟩
abbrev S768x2048 : Shape := ⟨2, ![768, 2048]⟩
abbrev S2048x1152 : Shape := ⟨2, ![2048, 1152]⟩
abbrev S768x1152 : Shape := ⟨2, ![768, 1152]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S2048x5760, .bf16⟩
  | .hbm, ⟨3, _⟩ => ⟨S8448x5760, .f32⟩
  | .local _ .vmem, ⟨0, _⟩ => ⟨S768x2048, .f32⟩
  | .local _ .vmem, ⟨1, _⟩ => ⟨S768x2048, .f32⟩
  | .local _ .vmem, ⟨2, _⟩ => ⟨S2048x1152, .bf16⟩
  | .local _ .vmem, ⟨3, _⟩ => ⟨S2048x1152, .bf16⟩
  | .local _ .vmem, ⟨4, _⟩ => ⟨S768x1152, .f32⟩
  | .local _ .vmem, ⟨5, _⟩ => ⟨S768x1152, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjFwdIdeal.lean ====
abbrev S8448x2048 : Shape := ⟨2, ![8448, 2048]⟩
abbrev S2048x5760 : Shape := ⟨2, ![2048, 5760]⟩
abbrev S8448x5760 : Shape := ⟨2, ![8448, 5760]⟩
abbrev S768x2048 : Shape := ⟨2, ![768, 2048]⟩
abbrev S2048x1152 : Shape := ⟨2, ![2048, 1152]⟩
abbrev S768x1152 : Shape := ⟨2, ![768, 1152]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S2048x5760, .bf16⟩
  | .hbm, ⟨3, _⟩ => ⟨S8448x5760, .f32⟩
  | .local _ .vmem, ⟨0, _⟩ => ⟨S768x2048, .f32⟩
  | .local _ .vmem, ⟨1, _⟩ => ⟨S768x2048, .f32⟩
  | .local _ .vmem, ⟨2, _⟩ => ⟨S2048x1152, .bf16⟩
  | .local _ .vmem, ⟨3, _⟩ => ⟨S2048x1152, .bf16⟩
  | .local _ .vmem, ⟨4, _⟩ => ⟨S768x1152, .f32⟩
  | .local _ .vmem, ⟨5, _⟩ => ⟨S768x1152, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjFwdRefIdeal.lean ====
abbrev S8448x2048 : Shape := ⟨2, ![8448, 2048]⟩
abbrev S2048x5760 : Shape := ⟨2, ![2048, 5760]⟩
abbrev S8448x5760 : Shape := ⟨2, ![8448, 5760]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5760, .f32⟩
  | .hbm, ⟨2, _⟩ => ⟨S8448x5760, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjDx.lean ====
abbrev S8448x2048 : Shape := ⟨2, ![8448, 2048]⟩
abbrev S2048x2048 : Shape := ⟨2, ![2048, 2048]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .bf16⟩
  | .hbm, ⟨4, _⟩ => ⟨S8448x2048, .f32⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S2048x1024, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxIdeal.lean ====
abbrev S8448x2048 : Shape := ⟨2, ![8448, 2048]⟩
abbrev S2048x2048 : Shape := ⟨2, ![2048, 2048]⟩
abbrev S768x1024 : Shape := ⟨2, ![768, 1024]⟩
abbrev S2048x1024 : Shape := ⟨2, ![2048, 1024]⟩
abbrev S768x2048 : Shape := ⟨2, ![768, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .bf16⟩
  | .hbm, ⟨4, _⟩ => ⟨S8448x2048, .f32⟩
  | .local _ .vmem, ⟨0, _⟩ => ⟨S768x1024, .f32⟩
  | .local _ .vmem, ⟨1, _⟩ => ⟨S768x1024, .f32⟩
  | .local _ .vmem, ⟨2, _⟩ => ⟨S2048x1024, .bf16⟩
  | .local _ .vmem, ⟨3, _⟩ => ⟨S2048x1024, .bf16⟩
  | .local _ .vmem, ⟨4, _⟩ => ⟨S768x2048, .f32⟩
  | .local _ .vmem, ⟨5, _⟩ => ⟨S768x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S8448x2048 : Shape := ⟨2, ![8448, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S2048x2048, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDw.lean ====
abbrev S8448x2048 : Shape := ⟨2, ![8448, 2048]⟩
abbrev S2048x2048 : Shape := ⟨2, ![2048, 2048]⟩
abbrev S768x1024 : Shape := ⟨2, ![768, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwIdeal.lean ====
abbrev S8448x2048 : Shape := ⟨2, ![8448, 2048]⟩
abbrev S2048x2048 : Shape := ⟨2, ![2048, 2048]⟩
abbrev S768x1024 : Shape := ⟨2, ![768, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S2048x2048, .f32⟩
  | .local _ .vmem, ⟨0, _⟩ => ⟨S768x1024, .f32⟩
  | .local _ .vmem, ⟨1, _⟩ => ⟨S768x1024, .f32⟩
  | .local _ .vmem, ⟨2, _⟩ => ⟨S768x1024, .f32⟩
  | .local _ .vmem, ⟨3, _⟩ => ⟨S768x1024, .f32⟩
  | .local _ .vmem, ⟨4, _⟩ => ⟨S1024x1024, .f32⟩
  | .local _ .vmem, ⟨5, _⟩ => ⟨S1024x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S8448x2048 : Shape := ⟨2, ![8448, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | .hbm, ⟨3, _⟩ => ⟨S8448x2048, .f32⟩
  | .hbm, ⟨4, _⟩ => ⟨S2048x2048, .f32⟩
  | .hbm, ⟨5, _⟩ => ⟨S2048x2048, .f32⟩
  | .hbm, ⟨6, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjFwd.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S2048x2048, .bf16⟩
  | .hbm, ⟨3, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjFwdIdeal.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S2048x2048, .bf16⟩
  | .hbm, ⟨3, _⟩ => ⟨S8448x2048, .f32⟩
  | .local _ .vmem, ⟨0, _⟩ => ⟨S768x2048, .f32⟩
  | .local _ .vmem, ⟨1, _⟩ => ⟨S768x2048, .f32⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjFwdRefIdeal.lean ====
abbrev S8448x2048 : Shape := ⟨2, ![8448, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnInDxLast.lean ====
abbrev S8192x2048 : Shape := ⟨2, ![8192, 2048]⟩
abbrev S2048x11264 : Shape := ⟨2, ![2048, 11264]⟩
abbrev S8192x11264 : Shape := ⟨2, ![8192, 11264]⟩
abbrev S2048x8x1408 : Shape := ⟨3, ![2048, 8, 1408]⟩
abbrev S8x2048x1408 : Shape := ⟨3, ![8, 2048, 1408]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxLastRefIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnInDwLast.lean ====
abbrev S8192x2048 : Shape := ⟨2, ![8192, 2048]⟩
abbrev S2048x11264 : Shape := ⟨2, ![2048, 11264]⟩
abbrev S8192x11264 : Shape := ⟨2, ![8192, 11264]⟩
abbrev S8x2048x1408 : Shape := ⟨3, ![8, 2048, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8x2048x1408, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .f32⟩
  | .local _ .vmem, ⟨3, _⟩ => ⟨S1024x1408, .f32⟩
  | .local _ .vmem, ⟨4, _⟩ => ⟨S1x1024x1408, .f32⟩
  | .local _ .vmem, ⟨5, _⟩ => ⟨S1x1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwLastRefIdeal.lean ====
abbrev S8192x2048 : Shape := ⟨2, ![8192, 2048]⟩
abbrev S2048x11264 : Shape := ⟨2, ![2048, 11264]⟩
abbrev S8192x11264 : Shape := ⟨2, ![8192, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x11264, .f32⟩
  | .hbm, ⟨4, _⟩ => ⟨S11264x2048, .f32⟩
  | .hbm, ⟨5, _⟩ => ⟨S2048x11264, .f32⟩
  | .hbm, ⟨6, _⟩ => ⟨S8192x2048, .f32⟩
  | .hbm, ⟨7, _⟩ => ⟨S2048x8x1408, .f32⟩
  | .hbm, ⟨8, _⟩ => ⟨S8x2048x1408, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInFwdLast.lean ====
abbrev S8192x2048 : Shape := ⟨2, ![8192, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S8192x11264, .f32⟩
  | .local _ .vmem, ⟨0, _⟩ => ⟨S1024x2048, .f32⟩
  | .local _ .vmem, ⟨1, _⟩ => ⟨S1024x2048, .f32⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInFwdLastRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FfnOutDxLast.lean ====
abbrev S8192x5632 : Shape := ⟨2, ![8192, 5632]⟩
abbrev S5632x2048 : Shape := ⟨2, ![5632, 2048]⟩
abbrev S8192x2048 : Shape := ⟨2, ![8192, 2048]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxLastIdeal.lean ====
abbrev S8192x5632 : Shape := ⟨2, ![8192, 5632]⟩
abbrev S5632x2048 : Shape := ⟨2, ![5632, 2048]⟩
abbrev S8192x2048 : Shape := ⟨2, ![8192, 2048]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S5632x2048, .bf16⟩
  | .hbm, ⟨4, _⟩ => ⟨S8192x5632, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxLastRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutDwLast.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S5632x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwLastIdeal.lean ====
abbrev S8192x5632 : Shape := ⟨2, ![8192, 5632]⟩
abbrev S5632x2048 : Shape := ⟨2, ![5632, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S5632x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwLastRefIdeal.lean ====
abbrev S8192x5632 : Shape := ⟨2, ![8192, 5632]⟩
abbrev S5632x2048 : Shape := ⟨2, ![5632, 2048]⟩
abbrev S8192x2048 : Shape := ⟨2, ![8192, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S8192x2048, .f32⟩
  | .hbm, ⟨4, _⟩ => ⟨S2048x5632, .f32⟩
  | .hbm, ⟨5, _⟩ => ⟨S5632x2048, .f32⟩
  | .hbm, ⟨6, _⟩ => ⟨S8192x5632, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnOutFwdLast.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S5632x2048, .bf16⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdLastIdeal.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S5632x2048, .bf16⟩
  | .hbm, ⟨3, _⟩ => ⟨S8192x2048, .f32⟩
  | .local _ .vmem, ⟨0, _⟩ => ⟨S1024x1408, .f32⟩
  | .local _ .vmem, ⟨1, _⟩ => ⟨S1024x1408, .f32⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutFwdLastRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProjDxLast.lean ====
abbrev S8192x2048 : Shape := ⟨2, ![8192, 2048]⟩
abbrev S2048x2048 : Shape := ⟨2, ![2048, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxLastRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDwLast.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwLastRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjFwdLast.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjFwdLastRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AttFwd.lean ====
abbrev S8192x1024 : Shape := ⟨2, ![8192, 1024]⟩
abbrev S8448x256 : Shape := ⟨2, ![8448, 256]⟩
abbrev S8x8192x1 : Shape := ⟨3, ![8, 8192, 1]⟩
abbrev S1024x128 : Shape := ⟨2, ![1024, 128]⟩
abbrev S1408x128 : Shape := ⟨2, ![1408, 128]⟩
abbrev S1x1024x1 : Shape := ⟨3, ![1, 1024, 1]⟩
abbrev S1024x1 : Shape := ⟨2, ![1024, 1]⟩
abbrev S1024x1408 : Shape := ⟨2, ![1024, 1408]⟩
abbrev S1024 : Shape := ⟨1, ![1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8192x1024, .f32⟩
  | .hbm, ⟨4, _⟩ => ⟨S8x8192x1, .f32⟩
  | .local _ .vmem, ⟨0, _⟩ => ⟨S1024x128, .f32⟩
  | .local _ .vmem, ⟨1, _⟩ => ⟨S1024x128, .f32⟩
  | .local _ .vmem, ⟨2, _⟩ => ⟨S1408x128, .f32⟩
  | .local _ .vmem, ⟨3, _⟩ => ⟨S1408x128, .f32⟩
  | .local _ .vmem, ⟨4, _⟩ => ⟨S1408x128, .f32⟩
  | .local _ .vmem, ⟨5, _⟩ => ⟨S1408x128, .f32⟩
  | .local _ .vmem, ⟨6, _⟩ => ⟨S1024x128, .f32⟩
  | .local _ .vmem, ⟨7, _⟩ => ⟨S1024x128, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x128, .f32⟩
  | .local _ .vmem, ⟨13, _⟩ => ⟨S1024x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 6], ![false, false, false]⟩

def k0_cond2 (i : grid0.Coords) : BitVec 1 :=
  let arg2 : BitVec 32 := BitVec.ofNat 32 (i 2).val
  let c5_i32 : BitVec 32 := 5#32
  let v38 : BitVec 1 := Scalar.cmpi .eq arg2 c5_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg2.toNat, v16.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1408x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttFwdIdeal.lean ====
variable {F : FTy → Type} [FloatOps F] [Named F]
def κ : String → Option EReal := fun
  | "ln2" => some ((Real.log 2 : ℝ) : EReal)
  | "scale_log2e" => some (((11863283 / 134217728) * (Real.log 2)⁻¹ : ℝ) : EReal)
  | _ => none
-- ==== AttFwdRefIdeal.lean ====
abbrev S8192x1024 : Shape := ⟨2, ![8192, 1024]⟩
abbrev S8448x256 : Shape := ⟨2, ![8448, 256]⟩
abbrev S8448x2x128 : Shape := ⟨3, ![8448, 2, 128]⟩
abbrev S8192x2x4x128 : Shape := ⟨4, ![8192, 2, 4, 128]⟩
abbrev S2x8448x8192x4 : Shape := ⟨4, ![2, 8448, 8192, 4]⟩
abbrev S2x4x8192x8448 : Shape := ⟨4, ![2, 4, 8192, 8448]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x8192x1 : Shape := ⟨3, ![8, 8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x256, .f32⟩
  | .hbm, ⟨2, _⟩ => ⟨S8448x256, .f32⟩
  | .hbm, ⟨3, _⟩ => ⟨S8448x2x128, .f32⟩
  | .hbm, ⟨4, _⟩ => ⟨S8192x2x4x128, .f32⟩
  | .hbm, ⟨5, _⟩ => ⟨S8448x2x128, .f32⟩
  | .hbm, ⟨6, _⟩ => ⟨S2x8448x8192x4, .f32⟩
  | .hbm, ⟨7, _⟩ => ⟨S2x4x8192x8448, .f32⟩
  | .hbm, ⟨8, _⟩ => ⟨S_, .f32⟩
  | .hbm, ⟨9, _⟩ => ⟨S2x4x8192x8448, .f32⟩
  | .hbm, ⟨10, _⟩ => ⟨S2x4x8192x8448, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x8448, .f32⟩
  | .hbm, ⟨18, _⟩ => ⟨S2x4x8192x8448, .f32⟩
  | .hbm, ⟨19, _⟩ => ⟨S2x4x8192x8448, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x8448, .f32⟩
  | .hbm, ⟨24, _⟩ => ⟨S2x4x8192x8448, .f32⟩
  | .hbm, ⟨25, _⟩ => ⟨S2x128x4x8192, .f32⟩
  | .hbm, ⟨26, _⟩ => ⟨S8192x2x4x128, .f32⟩
  | .hbm, ⟨27, _⟩ => ⟨S8192x1024, .f32⟩
  | .hbm, ⟨28, _⟩ => ⟨S8192x2x4x128, .f32⟩
  | .hbm, ⟨29, _⟩ => ⟨S8448x2x128, .f32⟩
  | .hbm, ⟨30, _⟩ => ⟨S2x8448x8192x4, .f32⟩
  | .hbm, ⟨31, _⟩ => ⟨S2x4x8192x8448, .f32⟩
  | .hbm, ⟨32, _⟩ => ⟨S_, .f32⟩
  | .hbm, ⟨33, _⟩ => ⟨S2x4x8192x8448, .f32⟩
  | .hbm, ⟨34, _⟩ => ⟨S2x4x8192x8448, .f32⟩
  | .hbm, ⟨35, _⟩ => ⟨S_, .f32⟩
  | .hbm, ⟨36, _⟩ => ⟨S2x4x8192, .f32⟩
  | .hbm, ⟨37, _⟩ => ⟨S2x4x8192x1, .f32⟩
  | .hbm, ⟨38, _⟩ => ⟨S2x4x8192x8448, .f32⟩
  | .hbm, ⟨39, _⟩ => ⟨S2x4x8192x8448, .f32⟩
  | .hbm, ⟨40, _⟩ => ⟨S2x4x8192x8448, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x1, .f32⟩
  | .hbm, ⟨45, _⟩ => ⟨S2x4x8192x1, .f32⟩
  | .hbm, ⟨46, _⟩ => ⟨S8x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Consts.lean ====
/- The numbers the programs name or write, over the reals. -/
module

public import proofs.«01_k».proof.Defs
public import Idealize.ShloMosaic.Lib.Pointwise

@[expose] public section

noncomputable section

namespace Cert.Consts

open Idealize.ShloMosaic

/-- The scale of the scores: the float nearest to `128 ^ (-1/2)`. -/
def scale : ℝ := 11863283 / 134217728

theorem scale_word : Ideal.ofBits .f32 0x3DB504F3#32 = ((scale : ℝ) : EReal) := by
  unfold scale
  simp [Ideal.ofBits, Ideal.ieee, -EReal.coe_mul]; norm_num

theorem log2e_dq : Named.named (F := Ideal) (φ := .f32) Cert.KernelIdeal.κ "log2e" 0x3FB8AA3B#32 = (((Real.log 2)⁻¹ : ℝ) : EReal) :=
  IdealRules.named_const.ideal_named_scalar _ _ _ _ rfl

theorem scale_log2e_dq : Named.named (F := Ideal) (φ := .f32) Cert.KernelIdeal.κ "scale_log2e" 1040356334#32
    = ((scale * (Real.log 2)⁻¹ : ℝ) : EReal) :=
  IdealRules.named_const.ideal_named_scalar _ _ _ _ rfl

theorem log2e_dkv : Named.named (F := Ideal) (φ := .f32) Cert.Kernel2Ideal.κ "log2e" 0x3FB8AA3B#32 = (((Real.log 2)⁻¹ : ℝ) : EReal) :=
  IdealRules.named_const.ideal_named_scalar _ _ _ _ rfl

theorem scale_log2e_dkv : Named.named (F := Ideal) (φ := .f32) Cert.Kernel2Ideal.κ "scale_log2e" 1040356334#32
    = ((scale * (Real.log 2)⁻¹ : ℝ) : EReal) :=
  IdealRules.named_const.ideal_named_scalar _ _ _ _ rfl

theorem ln2_dkv : Named.named (F := Ideal) (φ := .f32) Cert.Kernel2Ideal.κ "ln2" 0x3F317218#32 = ((Real.log 2 : ℝ) : EReal) :=
  IdealRules.named_const.ideal_named_scalar _ _ _ _ rfl

end Cert.Consts

end
-- ==== Proof.Attn.lean ====
/- The mathematics of the attention's gradient over the real numbers: one query row against all keys. The reference
   differentiates the softmax as a quotient, the kernel takes the weight as a power of two and subtracts the row's
   product of the output with its gradient; the two agree. -/
module

public import proofs.«01_k».proof.Proof.Consts

@[expose] public section

noncomputable section

namespace Cert.Attn

open Idealize.ShloMosaic Cert.Consts

/-- A real sum read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {n D : ℕ} (q : Fin D → ℝ) (k v : Fin n → Fin D → ℝ) (g : Fin D → ℝ) (M L : ℝ)

/-- The score of key `j`. -/
def s (j : Fin n) : ℝ := (∑ d, k j d * q d) * scale
/-- Its exponential, shifted by `M`. -/
def e (j : Fin n) : ℝ := Real.exp (s q k j - M)
/-- The row's sum of exponentials. -/
def Z : ℝ := ∑ j, e q k M j
/-- The softmax weight of key `j`. -/
def p (j : Fin n) : ℝ := e q k M j * (1 / Z q k M)
/-- The output. -/
def o (d : Fin D) : ℝ := ∑ j, v j d * p q k M j
/-- The log of the sum of exponentials of the scores. -/
def lse : ℝ := M + Real.log (Z q k M)
/-- The gradient of the weight of key `j`. -/
def dp (j : Fin n) : ℝ := ∑ d, g d * v j d
/-- The gradient of the score's product, as the softmax's quotient is differentiated. -/
def ds (j : Fin n) : ℝ :=
  (dp v g j * (1 / Z q k M) + -(∑ i, dp v g i * (1 / (Z q k M * Z q k M)) * e q k M i)) * e q k M j * scale

/-- The kernel's weight: a power of two. -/
def pk (j : Fin n) : ℝ := Real.rpow 2 ((∑ d, q d * (scale * (Real.log 2)⁻¹) * k j d) - L * (Real.log 2)⁻¹)
/-- The row's product of the gradient with the output. -/
def delta (w : Fin D → ℝ) : ℝ := ∑ d, g d * w d
/-- The kernel's gradient of the score. -/
def dsk (dl : ℝ) (j : Fin n) : ℝ := pk q k L j * (dp v g j - dl)

theorem log2_ne : Real.log 2 ≠ 0 := (Real.log_pos (by norm_num)).ne'

theorem Z_pos (hn : 0 < n) : 0 < Z q k M := by
  haveI : Nonempty (Fin n) := ⟨⟨0, hn⟩⟩
  exact Finset.sum_pos (fun j _ => Real.exp_pos _) Finset.univ_nonempty

theorem pk_lse (hn : 0 < n) (j : Fin n) : pk q k (lse q k M) j = p q k M j := by
  have hZ := Z_pos q k M hn
  have hl := log2_ne
  have h1 : (∑ d, q d * (scale * (Real.log 2)⁻¹) * k j d) - lse q k M * (Real.log 2)⁻¹
      = (s q k j - M - Real.log (Z q k M)) * (Real.log 2)⁻¹ := by
    have : (∑ d, q d * (scale * (Real.log 2)⁻¹) * k j d) = s q k j * (Real.log 2)⁻¹ := by
      unfold s
      rw [mul_assoc, Finset.sum_mul]
      exact Finset.sum_congr rfl fun d _ => by ring
    rw [this]; unfold lse; ring
  unfold pk p e
  rw [h1]
  rw [Real.rpow_eq_pow, Real.rpow_def_of_pos (by norm_num)]
  have h2 : Real.log 2 * ((s q k j - M - Real.log (Z q k M)) * (Real.log 2)⁻¹) = (s q k j - M) - Real.log (Z q k M) := by
    field_simp
  rw [h2, Real.exp_sub (s q k j - M), Real.exp_log hZ, div_eq_mul_one_div]

theorem delta_o : delta g (o q k v M) = ∑ j, dp v g j * p q k M j := by
  unfold delta o dp
  simp only [Finset.mul_sum, Finset.sum_mul]
  rw [Finset.sum_comm]
  exact Finset.sum_congr rfl fun j _ => Finset.sum_congr rfl fun d _ => by ring

theorem dsk_scale (hn : 0 < n) (j : Fin n) :
    dsk q k v g (lse q k M) (delta g (o q k v M)) j * scale = ds q k v g M j := by
  have hZ := (Z_pos q k M hn).ne'
  have h : (∑ i, dp v g i * (1 / (Z q k M * Z q k M)) * e q k M i) = (∑ i, dp v g i * p q k M i) * (1 / Z q k M) := by
    rw [Finset.sum_mul]
    refine Finset.sum_congr rfl fun i _ => ?_
    unfold p
    field_simp
  unfold dsk
  rw [pk_lse q k M hn, delta_o]
  unfold ds
  rw [h]
  unfold p
  ring

/-! ## Sums over blocks -/

/-- A sum over `N` is the sum over the blocks of the sums within them. -/
theorem sum_blocks {N a b : ℕ} (h : N = a * b) (f : Fin N → ℝ) :
    ∑ j, f j = ∑ u : Fin a, ∑ x : Fin b, f ⟨x.val + b * u.val, by
      have := u.isLt; have := x.isLt; subst h
      calc x.val + b * u.val < b + b * u.val := by omega
        _ = b * (u.val + 1) := by ring
        _ ≤ b * a := Nat.mul_le_mul_left _ (by omega)
        _ = a * b := by ring⟩ := by
  subst h
  rw [← Fintype.sum_prod_type']
  exact (Equiv.sum_comp finProdFinEquiv f).symm.trans (Finset.sum_congr rfl fun x _ => rfl)

end Cert.Attn

end
-- ==== Proof.DqStep.lean ====
/- What one grid point of the dq kernel leaves behind, as plain functions of what it reads: at the first key block
   the three scratch buffers and the reset accumulator, at every key block the accumulator's step. -/
module

public import proofs.«01_k».proof.Proof.Gen.KernelIdeal.Value
public import proofs.«01_k».proof.Proof.Attn

@[expose] public section

noncomputable section

namespace Cert.DqStep

open Cert.KernelIdeal Cert.KernelIdeal.Gen Idealize.ShloMosaic Idealize.ShloMosaic.TcCoe Idealize.SL.Sem
open Idealize.ShloMosaic.Tactic

variable {F : FTy → Type} [FloatOps F] [Named F]

theorem z2 : (![0, 0] : Fin 2 → Nat) = fun _ => 0 := funext fun a => by fin_cases a <;> rfl
theorem z3 : (![0, 0, 0] : Fin 3 → Nat) = fun _ => 0 := funext fun a => by fin_cases a <;> rfl

section
variable (c : Dev nD) (i : grid0.Coords) (a3 : Memref sig .tc .vmem S1024x128 .f32) (h3 : a3.IsWhole)
  (a4 : Memref sig .tc .vmem S1408x128 .f32) (h4 : a4.IsWhole) (a5 : Memref sig .tc .vmem S1408x128 .f32) (h5 : a5.IsWhole)
  (a6 : Memref sig .tc .vmem S1024x128 .f32) (h6 : a6.IsWhole) (a7 : Memref sig .tc .vmem S1x1024x1 .f32) (h7 : a7.IsWhole)
  (a8 : Memref sig .tc .vmem S1024x128 .f32) (h8 : a8.IsWhole) (a9 : Memref sig .tc .vmem S1024x128 .f32) (h9 : a9.IsWhole)
  (a10 : Memref sig .tc .vmem S1024x1 .f32) (h10 : a10.IsWhole) (a11 : Memref sig .tc .vmem S1024x1 .f32) (h11 : a11.IsWhole)
  (a12 : Memref sig .tc .vmem S1024x128 .bf16) (h12 : a12.IsWhole)
  (x0 : Vec F S1024x128 .f32) (x1 x2 : Vec F S1408x128 .f32) (x3 : Vec F S1024x128 .f32) (x4 : Vec F S1x1024x1 .f32)
  (x5 xo : Vec F S1024x128 .f32) (s0 s1 : Vec F S1024x1 .f32) (s2 : Vec F S1024x128 .bf16)

/-- A later key block adds its product to the accumulator. -/
theorem out_B (hc : ¬ cond0_0 i) :
    out0_B_6 c i a3 h3 a4 h4 a5 h5 a6 h6 a7 h7 a8 h8 a9 h9 a10 h10 a11 h11 a12 h12 hc x0 x1 x2 x3 x4 x5 xo s0 s1 s2
      = k0_pay5 s2 x1 s1 x5 x2 s0 xo x1 := by
  unfold out0_B_6
  rw [View.read_writes_eq_canon _ _ _ (cover0_B_6 c i a3 h3 a4 h4 a5 h5 a6 h6 a7 h7 a8 h8 a9 h9 a10 h10 a11 h11 a12 h12 hc x0 x1 x2 x3 x4 x5 xo s0 s1 s2)]
  unfold kernelRun0_B
  dsimp only
  sl_unfold_words
  rw [View.canon_unit_zero z2]
  simp only [View.readAt_eq_ld, h3.read_unread, h4.read_unread, h5.read_unread, h8.read_unread, h9.read_unread, h10.read_unread,
    h11.read_unread, h12.read_unread, View.ld_unit_zero (S := S1024x128) z2, View.ld_unit_zero (S := S1408x128) z2, View.ld_unit_zero (S := S1024x1) z2]

/-- The first key block leaves the rows' products of the output and its gradient. -/
theorem sout_A_0 (hc : cond0_0 i) :
    sout0_A_0 c i a3 h3 a4 h4 a5 h5 a6 h6 a7 h7 a8 h8 a9 h9 a10 h10 a11 h11 a12 h12 hc x0 x1 x2 x3 x4 x5
      = k0_pay2 x5 x3 := by
  unfold sout0_A_0
  rw [View.read_writes_eq_canon _ _ _ (scover0_A_0 c i a3 h3 a4 h4 a5 h5 a6 h6 a7 h7 a8 h8 a9 h9 a10 h10 a11 h11 a12 h12 hc x0 x1 x2 x3 x4 x5)]
  unfold kernelRun0_A
  dsimp only
  sl_unfold_words
  rw [View.canon_unit_zero z2]
  simp only [View.readAt_eq_ld, h3.read_unread, h6.read_unread, h8.read_unread, View.ld_unit_zero (S := S1024x128) z2]

/-- … the scaled log of the row sums … -/
theorem sout_A_1 (hc : cond0_0 i) :
    sout0_A_1 c i a3 h3 a4 h4 a5 h5 a6 h6 a7 h7 a8 h8 a9 h9 a10 h10 a11 h11 a12 h12 hc x0 x1 x2 x3 x4 x5
      = k0_pay3 x4 := by
  unfold sout0_A_1
  rw [View.read_writes_eq_canon _ _ _ (scover0_A_1 c i a3 h3 a4 h4 a5 h5 a6 h6 a7 h7 a8 h8 a9 h9 a10 h10 a11 h11 a12 h12 hc x0 x1 x2 x3 x4 x5)]
  unfold kernelRun0_A
  dsimp only
  sl_unfold_words
  rw [View.canon_unit_zero z2]
  simp only [View.readAt_eq_ld, h7.read_unread, View.ld_unit_zero (S := S1x1024x1) z3]

/-- … the scaled queries … -/
theorem sout_A_2 (hc : cond0_0 i) :
    sout0_A_2 c i a3 h3 a4 h4 a5 h5 a6 h6 a7 h7 a8 h8 a9 h9 a10 h10 a11 h11 a12 h12 hc x0 x1 x2 x3 x4 x5
      = k0_pay4 x0 := by
  unfold sout0_A_2
  rw [View.read_writes_eq_canon _ _ _ (scover0_A_2 c i a3 h3 a4 h4 a5 h5 a6 h6 a7 h7 a8 h8 a9 h9 a10 h10 a11 h11 a12 h12 hc x0 x1 x2 x3 x4 x5)]
  unfold kernelRun0_A
  dsimp only
  sl_unfold_words
  rw [View.canon_unit_zero z2]
  simp only [View.readAt_eq_ld, h3.read_unread, View.ld_unit_zero (S := S1024x128) z2]

/-- … and the accumulator's first step, from zero. -/
theorem out_A (hc : cond0_0 i) :
    out0_A_6 c i a3 h3 a4 h4 a5 h5 a6 h6 a7 h7 a8 h8 a9 h9 a10 h10 a11 h11 a12 h12 hc x0 x1 x2 x3 x4 x5
      = k0_pay5 (k0_pay4 x0) x1 (k0_pay3 x4) x5 x2 (k0_pay2 x5 x3) (k0_pay1 (F := F)) x1 := by
  unfold out0_A_6
  rw [View.read_writes_eq_canon _ _ _ (cover0_A_6 c i a3 h3 a4 h4 a5 h5 a6 h6 a7 h7 a8 h8 a9 h9 a10 h10 a11 h11 a12 h12 hc x0 x1 x2 x3 x4 x5)]
  unfold kernelRun0_A
  dsimp only
  sl_unfold_words
  rw [View.canon_cons_unit_zero (S := S1024x128) z2]
  rw [View.readCov_unit_zero (S := S1024x128) _ z2, View.readCov_unit_zero (S := S1024x1) _ z2, View.readCov_unit_zero (S := S1024x1) _ z2,
    View.readCov_unit_zero (S := S1024x128) _ z2]
  simp only [View.readAt_eq_ld, h3.read_unread, h4.read_unread, h5.read_unread, h6.read_unread, h7.read_unread, h8.read_unread,
    View.ld_unit_zero (S := S1024x128) z2, View.ld_unit_zero (S := S1408x128) z2, View.ld_unit_zero (S := S1x1024x1) z3]

end

/-! ## The payloads at an index, over the extended reals -/

theorem pay1_apply (r : Fin 1024) (d : Fin 128) : k0_pay1 (F := Ideal) (ix2 r d) = 0 := by
  pointwise [k0_pay1]

theorem pay2_apply (x5 x3 : Vec Ideal S1024x128 .f32) (r : Fin 1024) (u : Fin 1) :
    k0_pay2 (F := Ideal) x5 x3 (ix2 r u) = ∑ d : Fin 128, x5 (ix2 r d) * x3 (ix2 r d) := by
  pointwise [k0_pay2]

theorem pay3_apply (x4 : Vec Ideal S1x1024x1 .f32) (r : Fin 1024) (u : Fin 1) :
    k0_pay3 (F := Ideal) x4 (ix2 r u) = x4 (ix3 0 r 0) * (((Real.log 2)⁻¹ : ℝ) : EReal) := by
  pointwise [k0_pay3]
  rw [Consts.log2e_dq]

theorem pay4_apply (x0 : Vec Ideal S1024x128 .f32) (r : Fin 1024) (d : Fin 128) :
    k0_pay4 (F := Ideal) x0 (ix2 r d) = x0 (ix2 r d) * ((Consts.scale * (Real.log 2)⁻¹ : ℝ) : EReal) := by
  pointwise [k0_pay4]
  rw [Consts.scale_log2e_dq]

theorem pay5_apply (x2 : Vec Ideal S1024x128 .bf16) (k : Vec Ideal S1408x128 .f32) (l : Vec Ideal S1024x1 .f32)
    (g : Vec Ideal S1024x128 .f32) (v : Vec Ideal S1408x128 .f32) (dl : Vec Ideal S1024x1 .f32) (acc : Vec Ideal S1024x128 .f32)
    (r : Fin 1024) (d : Fin 128) :
    k0_pay5 (F := Ideal) x2 k l g v dl acc k (ix2 r d) = acc (ix2 r d)
      + (∑ j : Fin 1408, (Ideal.exp2 ((∑ e : Fin 128, x2 (ix2 r e) * k (ix2 j e)) - l (ix2 r 0))
          * ((∑ e : Fin 128, g (ix2 r e) * v (ix2 j e)) - dl (ix2 r 0))) * k (ix2 j d)) * ((Consts.scale : ℝ) : EReal) := by
  pointwise [k0_pay5]
  rw [Consts.scale_word]
  rfl

/-- The accumulator's step where everything read is real. -/
theorem pay5_real (x2 : Vec Ideal S1024x128 .bf16) (k : Vec Ideal S1408x128 .f32) (l : Vec Ideal S1024x1 .f32)
    (g : Vec Ideal S1024x128 .f32) (v : Vec Ideal S1408x128 .f32) (dl : Vec Ideal S1024x1 .f32) (acc : Vec Ideal S1024x128 .f32)
    (r : Fin 1024) (d : Fin 128) (q' g' : Fin 128 → ℝ) (k' v' : Fin 1408 → Fin 128 → ℝ) (L dl' a' : ℝ)
    (hq : ∀ e, x2 (ix2 r e) = ((q' e * (Consts.scale * (Real.log 2)⁻¹) : ℝ) : EReal)) (hk : ∀ j e, k (ix2 j e) = (k' j e : EReal))
    (hl : l (ix2 r 0) = ((L * (Real.log 2)⁻¹ : ℝ) : EReal)) (hg : ∀ e, g (ix2 r e) = (g' e : EReal))
    (hv : ∀ j e, v (ix2 j e) = (v' j e : EReal)) (hdl : dl (ix2 r 0) = (dl' : EReal)) (ha : acc (ix2 r d) = (a' : EReal)) :
    k0_pay5 (F := Ideal) x2 k l g v dl acc k (ix2 r d)
      = ((a' + (∑ j, Attn.dsk q' k' v' g' L dl' j * k' j d) * Consts.scale : ℝ) : EReal) := by
  rw [pay5_apply]
  simp only [hq, hk, hl, hg, hv, hdl, ha]
  simp only [← EReal.coe_mul, ← Attn.coe_sum, ← EReal.coe_sub, Ideal.exp2_coe, ← EReal.coe_add]
  rfl

end Cert.DqStep

end
-- ==== Proof.DqFold.lean ====
/- The dq kernel's accumulator over a row block's sweep of the key blocks: after key block `b` it holds the partial sum
   over the first `b + 1` blocks, so the array written back is the whole sum over the keys. -/
module

public import proofs.«01_k».proof.Proof.DqStep

@[expose] public section

set_option maxRecDepth 16384

noncomputable section

namespace Cert.DqFold

open Cert.KernelIdeal Cert.KernelIdeal.Gen Idealize.ShloMosaic Idealize.ShloMosaic.TcCoe Idealize.SL.Sem
open Idealize.ShloMosaic.Tactic
open Cert.KernelIdeal.Value

/-- Every window's block index at a point: head `t / 48`, row block `t / 6 % 8`, key block `t % 6`. -/
theorem idx : ∀ t : Fin cfg0.N, win0_0.index t = ![t.val / 6 % 8, t.val / 48] ∧ win0_1.index t = ![t.val % 6, t.val / 192]
    ∧ win0_2.index t = ![t.val % 6, t.val / 192] ∧ win0_3.index t = ![t.val / 6 % 8, t.val / 48]
    ∧ win0_4.index t = ![t.val / 48, t.val / 6 % 8, 0] ∧ win0_5.index t = ![t.val / 6 % 8, t.val / 48] :=
  (by decide +kernel : ∀ t : Fin grid0.N, _)

variable (m : (ℓ : Loc nD τ sig) → Buf (Elt Ideal) ℓ) (c : Dev nD)

/-- The arrays the kernel reads, as real functions of the row and the column. -/
structure Reads (qA kA vA oA gA : ℕ → ℕ → ℝ) (lA : ℕ → ℕ → ℝ) : Prop where
  q : ∀ (r : Fin 8192) (x : Fin 1024), @Eq EReal (V m c main_arg0 (ix2 r x)) (qA r x)
  k : ∀ (r : Fin 8448) (x : Fin 256), @Eq EReal (V m c main_arg1 (ix2 r x)) (kA r x)
  v : ∀ (r : Fin 8448) (x : Fin 256), @Eq EReal (V m c main_arg2 (ix2 r x)) (vA r x)
  o : ∀ (r : Fin 8192) (x : Fin 1024), @Eq EReal (V m c main_v20 (ix2 r x)) (oA r x)
  l : ∀ (h : Fin 8) (r : Fin 8192) (u : Fin 1), @Eq EReal (V m c main_v36 (ix3 h r u)) (lA h r)
  g : ∀ (r : Fin 8192) (x : Fin 1024), @Eq EReal (V m c main_arg3 (ix2 r x)) (gA r x)

/-- Columns `128 h …` of row `r`. -/
def row (A : ℕ → ℕ → ℝ) (h r : ℕ) : Fin 128 → ℝ := fun d => A r (h * 128 + d)
/-- The rows of block `b` of 1408, columns `128 h …`. -/
def blk (A : ℕ → ℕ → ℝ) (h b : ℕ) : Fin 1408 → Fin 128 → ℝ := fun j d => A (b * 1408 + j) (h * 128 + d)

variable {m c} {qA kA vA oA gA lA : ℕ → ℕ → ℝ} (R : Reads m c qA kA vA oA gA lA)
include R

omit R in
theorem rd0 (A : (b : Ref sig .tc) → Buf (Elt Ideal) ((c : Thread nD τ).loc b)) (t : Fin cfg0.N) (r : Fin 1024) (d : Fin 128) (a : Fin 8192)
    (b : Fin 1024) (ha : a.val = t.val / 6 % 8 * 1024 + r) (hb : b.val = t.val / 48 * 128 + d) :
    ((cfg0.win 0).blk t).view.read (Elt Ideal) (A (Pipeline.arrRef spec0 0)) (ix2 r d) = A main_arg0 (ix2 a b) := by
  refine congrArg (A main_arg0) (funext fun x => Fin.ext ?_)
  match x with
  | ⟨0, _⟩ =>
    show win0_0.index t (0 : Fin 2) * 1024 + 1 * r.val = a.val
    rw [(idx t).1, ha]; show t.val / 6 % 8 * 1024 + 1 * r.val = t.val / 6 % 8 * 1024 + r.val; omega
  | ⟨1, _⟩ =>
    show win0_0.index t (1 : Fin 2) * 128 + 1 * d.val = b.val
    rw [(idx t).1, hb]; show t.val / 48 * 128 + 1 * d.val = t.val / 48 * 128 + d.val; omega

theorem blk0 (t : Fin cfg0.N) (r : Fin 1024) (d : Fin 128) :
    @Eq EReal (iblk m c 0 t (ix2 r d)) (row qA (t.val / 48) (t.val / 6 % 8 * 1024 + r) d) := by
  have ht : t.val < 384 := lt_of_lt_of_eq t.isLt N_0
  exact (rd0 (V m c) t r d ⟨t.val / 6 % 8 * 1024 + r, by omega⟩ ⟨t.val / 48 * 128 + d, by omega⟩ rfl rfl).trans (R.q _ _)

omit R in
theorem rd3 (A : (b : Ref sig .tc) → Buf (Elt Ideal) ((c : Thread nD τ).loc b)) (t : Fin cfg0.N) (r : Fin 1024) (d : Fin 128) (a : Fin 8192)
    (b : Fin 1024) (ha : a.val = t.val / 6 % 8 * 1024 + r) (hb : b.val = t.val / 48 * 128 + d) :
    ((cfg0.win 3).blk t).view.read (Elt Ideal) (A (Pipeline.arrRef spec0 3)) (ix2 r d) = A main_v20 (ix2 a b) := by
  refine congrArg (A main_v20) (funext fun x => Fin.ext ?_)
  match x with
  | ⟨0, _⟩ =>
    show win0_3.index t (0 : Fin 2) * 1024 + 1 * r.val = a.val
    rw [(idx t).2.2.2.1, ha]; show t.val / 6 % 8 * 1024 + 1 * r.val = t.val / 6 % 8 * 1024 + r.val; omega
  | ⟨1, _⟩ =>
    show win0_3.index t (1 : Fin 2) * 128 + 1 * d.val = b.val
    rw [(idx t).2.2.2.1, hb]; show t.val / 48 * 128 + 1 * d.val = t.val / 48 * 128 + d.val; omega

theorem blk3 (t : Fin cfg0.N) (r : Fin 1024) (d : Fin 128) :
    @Eq EReal (iblk m c 3 t (ix2 r d)) (row oA (t.val / 48) (t.val / 6 % 8 * 1024 + r) d) := by
  have ht : t.val < 384 := lt_of_lt_of_eq t.isLt N_0
  exact (rd3 (V m c) t r d ⟨t.val / 6 % 8 * 1024 + r, by omega⟩ ⟨t.val / 48 * 128 + d, by omega⟩ rfl rfl).trans (R.o _ _)

omit R in
theorem rd5 (A : (b : Ref sig .tc) → Buf (Elt Ideal) ((c : Thread nD τ).loc b)) (t : Fin cfg0.N) (r : Fin 1024) (d : Fin 128) (a : Fin 8192)
    (b : Fin 1024) (ha : a.val = t.val / 6 % 8 * 1024 + r) (hb : b.val = t.val / 48 * 128 + d) :
    ((cfg0.win 5).blk t).view.read (Elt Ideal) (A (Pipeline.arrRef spec0 5)) (ix2 r d) = A main_arg3 (ix2 a b) := by
  refine congrArg (A main_arg3) (funext fun x => Fin.ext ?_)
  match x with
  | ⟨0, _⟩ =>
    show win0_5.index t (0 : Fin 2) * 1024 + 1 * r.val = a.val
    rw [(idx t).2.2.2.2.2, ha]; show t.val / 6 % 8 * 1024 + 1 * r.val = t.val / 6 % 8 * 1024 + r.val; omega
  | ⟨1, _⟩ =>
    show win0_5.index t (1 : Fin 2) * 128 + 1 * d.val = b.val
    rw [(idx t).2.2.2.2.2, hb]; show t.val / 48 * 128 + 1 * d.val = t.val / 48 * 128 + d.val; omega

theorem blk5 (t : Fin cfg0.N) (r : Fin 1024) (d : Fin 128) :
    @Eq EReal (iblk m c 5 t (ix2 r d)) (row gA (t.val / 48) (t.val / 6 % 8 * 1024 + r) d) := by
  have ht : t.val < 384 := lt_of_lt_of_eq t.isLt N_0
  exact (rd5 (V m c) t r d ⟨t.val / 6 % 8 * 1024 + r, by omega⟩ ⟨t.val / 48 * 128 + d, by omega⟩ rfl rfl).trans (R.g _ _)

omit R in
theorem rd1 (A : (b : Ref sig .tc) → Buf (Elt Ideal) ((c : Thread nD τ).loc b)) (t : Fin cfg0.N) (r : Fin 1408) (d : Fin 128) (a : Fin 8448)
    (b : Fin 256) (ha : a.val = t.val % 6 * 1408 + r) (hb : b.val = t.val / 192 * 128 + d) :
    ((cfg0.win 1).blk t).view.read (Elt Ideal) (A (Pipeline.arrRef spec0 1)) (ix2 r d) = A main_arg1 (ix2 a b) := by
  refine congrArg (A main_arg1) (funext fun x => Fin.ext ?_)
  match x with
  | ⟨0, _⟩ =>
    show win0_1.index t (0 : Fin 2) * 1408 + 1 * r.val = a.val
    rw [(idx t).2.1, ha]; show t.val % 6 * 1408 + 1 * r.val = t.val % 6 * 1408 + r.val; omega
  | ⟨1, _⟩ =>
    show win0_1.index t (1 : Fin 2) * 128 + 1 * d.val = b.val
    rw [(idx t).2.1, hb]; show t.val / 192 * 128 + 1 * d.val = t.val / 192 * 128 + d.val; omega

theorem blk1 (t : Fin cfg0.N) (j : Fin 1408) (d : Fin 128) :
    @Eq EReal (iblk m c 1 t (ix2 j d)) (blk kA (t.val / 192) (t.val % 6) j d) := by
  have ht : t.val < 384 := lt_of_lt_of_eq t.isLt N_0
  exact (rd1 (V m c) t j d ⟨t.val % 6 * 1408 + j, by omega⟩ ⟨t.val / 192 * 128 + d, by omega⟩ rfl rfl).trans (R.k _ _)

omit R in
theorem rd2 (A : (b : Ref sig .tc) → Buf (Elt Ideal) ((c : Thread nD τ).loc b)) (t : Fin cfg0.N) (r : Fin 1408) (d : Fin 128) (a : Fin 8448)
    (b : Fin 256) (ha : a.val = t.val % 6 * 1408 + r) (hb : b.val = t.val / 192 * 128 + d) :
    ((cfg0.win 2).blk t).view.read (Elt Ideal) (A (Pipeline.arrRef spec0 2)) (ix2 r d) = A main_arg2 (ix2 a b) := by
  refine congrArg (A main_arg2) (funext fun x => Fin.ext ?_)
  match x with
  | ⟨0, _⟩ =>
    show win0_2.index t (0 : Fin 2) * 1408 + 1 * r.val = a.val
    rw [(idx t).2.2.1, ha]; show t.val % 6 * 1408 + 1 * r.val = t.val % 6 * 1408 + r.val; omega
  | ⟨1, _⟩ =>
    show win0_2.index t (1 : Fin 2) * 128 + 1 * d.val = b.val
    rw [(idx t).2.2.1, hb]; show t.val / 192 * 128 + 1 * d.val = t.val / 192 * 128 + d.val; omega

theorem blk2 (t : Fin cfg0.N) (j : Fin 1408) (d : Fin 128) :
    @Eq EReal (iblk m c 2 t (ix2 j d)) (blk vA (t.val / 192) (t.val % 6) j d) := by
  have ht : t.val < 384 := lt_of_lt_of_eq t.isLt N_0
  exact (rd2 (V m c) t j d ⟨t.val % 6 * 1408 + j, by omega⟩ ⟨t.val / 192 * 128 + d, by omega⟩ rfl rfl).trans (R.v _ _)

omit R in
theorem rd4 (A : (b : Ref sig .tc) → Buf (Elt Ideal) ((c : Thread nD τ).loc b)) (t : Fin cfg0.N) (u w : Fin 1) (r : Fin 1024) (a : Fin 8)
    (b : Fin 8192) (ha : a.val = t.val / 48) (hb : b.val = t.val / 6 % 8 * 1024 + r) :
    ((cfg0.win 4).blk t).view.read (Elt Ideal) (A (Pipeline.arrRef spec0 4)) (ix3 u r w) = A main_v36 (ix3 a b 0) := by
  refine congrArg (A main_v36) (funext fun x => Fin.ext ?_)
  match x with
  | ⟨0, _⟩ =>
    show win0_4.index t (0 : Fin 3) * 1 + 1 * u.val = a.val
    rw [(idx t).2.2.2.2.1, ha]; show t.val / 48 * 1 + 1 * u.val = t.val / 48; omega
  | ⟨1, _⟩ =>
    show win0_4.index t (1 : Fin 3) * 1024 + 1 * r.val = b.val
    rw [(idx t).2.2.2.2.1, hb]; show t.val / 6 % 8 * 1024 + 1 * r.val = t.val / 6 % 8 * 1024 + r.val; omega
  | ⟨2, _⟩ =>
    show win0_4.index t (2 : Fin 3) * 1 + 1 * w.val = 0
    rw [(idx t).2.2.2.2.1]; show 0 * 1 + 1 * w.val = 0; omega

theorem blk4 (t : Fin cfg0.N) (r : Fin 1024) (u w : Fin 1) :
    @Eq EReal (iblk m c 4 t (ix3 u r w)) (lA (t.val / 48) (t.val / 6 % 8 * 1024 + r)) := by
  have ht : t.val < 384 := lt_of_lt_of_eq t.isLt N_0
  exact (rd4 (V m c) t u w r ⟨t.val / 48, by omega⟩ ⟨t.val / 6 % 8 * 1024 + r, by omega⟩ rfl rfl).trans (R.l _ _ _)

omit R in
/-- Key block `b`'s contribution to the gradient of query row `r`, head `h`. -/
def part (qA kA vA oA gA lA : ℕ → ℕ → ℝ) (h r b : ℕ) (d : Fin 128) : ℝ :=
  (∑ j, Attn.dsk (row qA h r) (blk kA (h / 4) b) (blk vA (h / 4) b) (row gA h r) (lA h r)
    (Attn.delta (row gA h r) (row oA h r)) j * blk kA (h / 4) b j d) * Consts.scale

/-- The state after a point of the first key block. -/
theorem invA (n : ℕ) (hn : n < cfg0.N) (r : Fin 1024) (h0 : n % 6 = 0) :
    (∀ d : Fin 128, @Eq EReal ((outsAt0 m c n hn).1 (ix2 r d))
      ((∑ b ∈ Finset.range (n % 6 + 1), part qA kA vA oA gA lA (n / 48) (n / 6 % 8 * 1024 + r) b d : ℝ) : EReal))
    ∧ @Eq EReal ((outsAt0 m c n hn).2.1 (ix2 r 0))
        (Attn.delta (row gA (n / 48) (n / 6 % 8 * 1024 + r)) (row oA (n / 48) (n / 6 % 8 * 1024 + r)))
    ∧ @Eq EReal ((outsAt0 m c n hn).2.2.1 (ix2 r 0)) ((lA (n / 48) (n / 6 % 8 * 1024 + r) * (Real.log 2)⁻¹ : ℝ) : EReal)
    ∧ ∀ d : Fin 128, @Eq EReal ((outsAt0 m c n hn).2.2.2 (ix2 r d))
        ((row qA (n / 48) (n / 6 % 8 * 1024 + r) d * (Consts.scale * (Real.log 2)⁻¹) : ℝ) : EReal) := by
  have E := outsAt0_A m c ⟨n, hn⟩ h0
  dsimp only at E
  rw [E]
  dsimp only
  have i1 : @Eq EReal (k0_pay2 (F := Ideal) (iblk m c 5 ⟨n, hn⟩) (iblk m c 3 ⟨n, hn⟩) (ix2 r 0))
      (Attn.delta (row gA (n / 48) (n / 6 % 8 * 1024 + r)) (row oA (n / 48) (n / 6 % 8 * 1024 + r))) := by
    refine (DqStep.pay2_apply _ _ r 0).trans ?_
    simp only [blk5 R ⟨n, hn⟩ r, blk3 R ⟨n, hn⟩ r, ← EReal.coe_mul, ← Attn.coe_sum]
    rfl
  have i2 : @Eq EReal (k0_pay3 (F := Ideal) (iblk m c 4 ⟨n, hn⟩) (ix2 r 0))
      ((lA (n / 48) (n / 6 % 8 * 1024 + r) * (Real.log 2)⁻¹ : ℝ) : EReal) := by
    refine (DqStep.pay3_apply _ r 0).trans ?_
    rw [blk4 R ⟨n, hn⟩ r, ← EReal.coe_mul]
  have i3 : ∀ d : Fin 128, @Eq EReal (k0_pay4 (F := Ideal) (iblk m c 0 ⟨n, hn⟩) (ix2 r d))
      ((row qA (n / 48) (n / 6 % 8 * 1024 + r) d * (Consts.scale * (Real.log 2)⁻¹) : ℝ) : EReal) := fun d => by
    refine (DqStep.pay4_apply _ r d).trans ?_
    rw [blk0 R ⟨n, hn⟩ r, ← EReal.coe_mul]
  refine ⟨fun d => ?_, ?_, ?_, fun d => ?_⟩
  · rw [DqStep.out_A]
    refine (DqStep.pay5_real _ _ _ _ _ _ _ r d (row qA (n / 48) (n / 6 % 8 * 1024 + r))
      (row gA (n / 48) (n / 6 % 8 * 1024 + r)) (blk kA (n / 192) (n % 6)) (blk vA (n / 192) (n % 6))
      (lA (n / 48) (n / 6 % 8 * 1024 + r))
      (Attn.delta (row gA (n / 48) (n / 6 % 8 * 1024 + r)) (row oA (n / 48) (n / 6 % 8 * 1024 + r))) 0
      i3 (fun j e => blk1 R ⟨n, hn⟩ j e) i2 (fun e => blk5 R ⟨n, hn⟩ r e) (fun j e => blk2 R ⟨n, hn⟩ j e) i1
      ((DqStep.pay1_apply r d).trans EReal.coe_zero.symm)).trans ?_
    rw [h0, Finset.sum_range_one, zero_add]
    unfold part
    rw [show n / 48 / 4 = n / 192 from by omega]
  · rw [DqStep.sout_A_0]; exact i1
  · rw [DqStep.sout_A_1]; exact i2
  · rw [DqStep.sout_A_2]; exact i3 d

/-- The state after point `n`. -/
theorem inv (n : ℕ) (hn : n < cfg0.N) (r : Fin 1024) :
    (∀ d : Fin 128, @Eq EReal ((outsAt0 m c n hn).1 (ix2 r d))
      ((∑ b ∈ Finset.range (n % 6 + 1), part qA kA vA oA gA lA (n / 48) (n / 6 % 8 * 1024 + r) b d : ℝ) : EReal))
    ∧ @Eq EReal ((outsAt0 m c n hn).2.1 (ix2 r 0))
        (Attn.delta (row gA (n / 48) (n / 6 % 8 * 1024 + r)) (row oA (n / 48) (n / 6 % 8 * 1024 + r)))
    ∧ @Eq EReal ((outsAt0 m c n hn).2.2.1 (ix2 r 0)) ((lA (n / 48) (n / 6 % 8 * 1024 + r) * (Real.log 2)⁻¹ : ℝ) : EReal)
    ∧ ∀ d : Fin 128, @Eq EReal ((outsAt0 m c n hn).2.2.2 (ix2 r d))
        ((row qA (n / 48) (n / 6 % 8 * 1024 + r) d * (Consts.scale * (Real.log 2)⁻¹) : ℝ) : EReal) := by
  induction n with
  | zero => exact invA R 0 hn r rfl
  | succ n ih =>
    by_cases h0 : (n + 1) % 6 = 0
    · exact invA R (n + 1) hn r h0
    · obtain ⟨i0, i1, i2, i3⟩ := ih (by omega)
      have a1 : n / 48 = (n + 1) / 48 := by omega
      have a2 : n / 6 % 8 = (n + 1) / 6 % 8 := by omega
      have a3 : n % 6 + 1 = (n + 1) % 6 := by omega
      rw [a1, a2] at i1 i2
      simp only [a1, a2, a3] at i0 i3
      have E := outsAt0_B m c ⟨n + 1, hn⟩ h0
      dsimp only at E
      rw [E]
      dsimp only
      refine ⟨fun d => ?_, i1, i2, i3⟩
      rw [DqStep.out_B]
      refine (DqStep.pay5_real _ _ _ _ _ _ _ r d (row qA ((n + 1) / 48) ((n + 1) / 6 % 8 * 1024 + r))
        (row gA ((n + 1) / 48) ((n + 1) / 6 % 8 * 1024 + r))
        (blk kA ((n + 1) / 192) ((n + 1) % 6)) (blk vA ((n + 1) / 192) ((n + 1) % 6))
        (lA ((n + 1) / 48) ((n + 1) / 6 % 8 * 1024 + r))
        (Attn.delta (row gA ((n + 1) / 48) ((n + 1) / 6 % 8 * 1024 + r)) (row oA ((n + 1) / 48) ((n + 1) / 6 % 8 * 1024 + r))) _
        i3 (fun j e => blk1 R ⟨n + 1, hn⟩ j e) i2 (fun e => blk5 R ⟨n + 1, hn⟩ r e) (fun j e => blk2 R ⟨n + 1, hn⟩ j e) i1 (i0 d)).trans ?_
      rw [Finset.sum_range_succ _ ((n + 1) % 6)]
      unfold part
      rw [show (n + 1) / 48 / 4 = (n + 1) / 192 from by omega]

omit R in
/-- A sum over the keys is the sum over the six key blocks. -/
theorem sum_parts (f : ℕ → ℝ) : ∑ b ∈ Finset.range 6, ∑ j : Fin 1408, f (b * 1408 + j) = ∑ j : Fin 8448, f j := by
  rw [Attn.sum_blocks (a := 6) (b := 1408) rfl, Finset.sum_range]
  exact Finset.sum_congr rfl fun u _ => Finset.sum_congr rfl fun x _ => congrArg f (by show _ = x.val + 1408 * u.val; ring)

/-- All keys' rows, columns `128 h …`. -/
def all (A : ℕ → ℕ → ℝ) (h : ℕ) : Fin 8448 → Fin 128 → ℝ := fun j d => A j (h * 128 + d)

/-- The array the dq kernel writes: at query row `r`, head `h`, lane `d`, the sum over all keys. -/
theorem G6_real (r : Fin 8192) (h : Fin 8) (d : Fin 128) (x : Fin 1024) (hx : x.val = h * 128 + d) :
    @Eq EReal (G6 m c (ix2 r x))
      (((∑ j, Attn.dsk (row qA h r) (all kA (h / 4)) (all vA (h / 4)) (row gA h r) (lA h r)
        (Attn.delta (row gA h r) (row oA h r)) j * Consts.scale * all kA (h / 4) j d : ℝ)) : EReal) := by
  have hN : (8 * h.val + r.val / 1024) * 6 + 5 < cfg0.N := by rw [show cfg0.N = 384 from N_0]; omega
  have hp : pt6Of (ix2 r x) = (8 * h.val + r.val / 1024) * 6 + 5 := by
    show 6 * (1 * (r.val / 1024 - 0) + 8 * (x.val / 128 - 0)) + 5 = _
    omega
  have hl : loc6Of (ix2 r x) = ix2 ⟨r.val % 1024, by omega⟩ d := by
    funext a; apply Fin.ext
    match a with
    | ⟨0, _⟩ => rfl
    | ⟨1, _⟩ => show x.val % 128 = d.val; omega
  unfold G6
  rw [dif_pos (by rw [hp]; exact hN), hl, ← outsAt0_sweep m c _ (by rw [hp]; exact hN)]
  have key := (inv R ((8 * h.val + r.val / 1024) * 6 + 5) hN ⟨r.val % 1024, by omega⟩).1 d
  have e1 : ((8 * h.val + r.val / 1024) * 6 + 5) / 48 = h.val := by omega
  have e2 : ((8 * h.val + r.val / 1024) * 6 + 5) / 6 % 8 * 1024 + r.val % 1024 = r.val := by omega
  have e3 : ((8 * h.val + r.val / 1024) * 6 + 5) % 6 + 1 = 6 := by omega
  simp only [e1, e2, e3] at key
  refine Eq.trans (by congr 2; simp only [hp]) (key.trans (congrArg _ ?_))
  refine Eq.trans ?_ (sum_parts (fun j => Attn.dsk (n := 1) (row qA h r) (fun _ d => kA j (h / 4 * 128 + d)) (fun _ d => vA j (h / 4 * 128 + d)) (row gA h r)
    (lA h r) (Attn.delta (row gA h r) (row oA h r)) 0 * Consts.scale * kA j (h / 4 * 128 + d)))
  refine Finset.sum_congr rfl fun b _ => ?_
  unfold part
  rw [Finset.sum_mul]
  refine Finset.sum_congr rfl fun j _ => ?_
  rw [mul_right_comm]
  rfl

end Cert.DqFold

end
-- ==== Proof.RefReal.lean ====
/- The attention reference's stages over the reals: scores, softmax, output and gradients as the functions of Attn, for
   real arguments. -/
module

public import proofs.«01_k».proof.Proof.Gen.ReferenceIdeal.Read
public import proofs.«01_k».proof.Proof.Attn

@[expose] public section

set_option maxRecDepth 16384

noncomputable section

namespace Cert.RefReal

open Cert.ReferenceIdeal Cert.ReferenceIdeal.Gen Idealize.ShloMosaic Idealize.ShloMosaic.TcCoe Idealize.SL.Sem
open Idealize.ShloMosaic.Tactic
open Cert.ReferenceIdeal.Read

/-! ## The maximum of finitely many real numbers -/

theorem foldl_max_real (L : List ℝ) (x : ℝ) :
    ∃ y : ℝ, (L.map fun r : ℝ => (r : EReal)).foldl (fun a b => max a b) (x : EReal) = y := by
  induction L generalizing x with
  | nil => exact ⟨x, rfl⟩
  | cons a L ih =>
    obtain ⟨y, hy⟩ := ih (max x a)
    refine ⟨y, ?_⟩
    rw [List.map_cons, List.foldl_cons, ← hy]
    congr 1

theorem foldl_max_bot {ι : Type} (L : List ι) (f : ι → EReal) (hf : ∀ i, ∃ y : ℝ, f i = y) (hL : L ≠ []) :
    ∃ y : ℝ, L.foldl (fun a i => max a (f i)) ⊥ = y := by
  choose g hg using hf
  cases L with
  | nil => exact absurd rfl hL
  | cons a L =>
    obtain ⟨y, hy⟩ := foldl_max_real (L.map g) (g a)
    refine ⟨y, ?_⟩
    rw [List.foldl_cons, max_eq_right bot_le, hg a, ← hy, List.map_map, List.foldl_map]
    congr 1
    funext x i
    rw [hg]; rfl

/-- A maximum over an axis, from `-∞`, of real entries is real where some entry reduces to the index. -/
theorem reduce_max_real {s t u : Shape} {axes : List (Fin s.rank)} (x : s.Idx → EReal) (init : u.Idx → EReal)
    (h : s.ReducesTo axes t) (hu : 0 < u.numel) (j : t.Idx) (hi : ∀ k, init k = ⊥) (hx : ∀ i, ∃ y : ℝ, x i = y)
    (hj : ∃ i, h.drop i = j) : ∃ y : ℝ, Host.reduce (FloatOps.maximumf (F := Ideal) (φ := .f32)) x init h hu j = y := by
  unfold Host.reduce
  rw [hi]
  refine foldl_max_bot _ (fun n => x (s.rowMajor.symm n)) (fun n => hx _) ?_
  obtain ⟨i, hi⟩ := hj
  intro h0
  have : s.rowMajor i ∈ ((List.finRange s.numel).filter fun n => h.drop (s.rowMajor.symm n) = j) := by
    rw [List.mem_filter]
    exact ⟨List.mem_finRange _, by simp [hi]⟩
  rw [h0] at this
  exact absurd this List.not_mem_nil

theorem neg_inf : Ideal.ofBits .f32 0xFF800000#32 = ⊥ := by simp [Ideal.ofBits, Ideal.ieee]

/-! ## The stages -/

/-- Columns `128 h …` of row `r`. -/
def row (A : ℕ → ℕ → ℝ) (h r : ℕ) : Fin 128 → ℝ := fun d => A r (h * 128 + d)
/-- All keys' rows, columns `128 h …`. -/
def all (A : ℕ → ℕ → ℝ) (h : ℕ) : Fin 8448 → Fin 128 → ℝ := fun j d => A j (h * 128 + d)

variable {x0 x3 : Vec Ideal S8192x1024 .f32} {x1 x2 : Vec Ideal S8448x256 .f32} {qA kA vA gA : ℕ → ℕ → ℝ}

section
variable (hq : ∀ (r : Fin 8192) (x : Fin 1024), x0 (ix2 r x) = (qA r x : EReal))
  (hk : ∀ (r : Fin 8448) (x : Fin 256), x1 (ix2 r x) = (kA r x : EReal))
include hq hk

theorem s_real (a : Fin 2) (g : Fin 4) (r : Fin 8192) (j : Fin 8448) :
    val_main_v6 (F := Ideal) x0 x1 (ix4 a g r j) = (Attn.s (row qA (a * 4 + g) r) (all kA a) j : EReal) := by
  pointwise [val_main_v6, val_main_v5, val_main_cst, val_main_v4, val_main_v3, val_main_v2, val_main_v1]
  simp only [hq, hk, Consts.scale_word, ← EReal.coe_mul, ← Attn.coe_sum]
  unfold Attn.s row all
  simp only [show a.val * 512 = a.val * 4 * 128 by ring, ← add_mul]

/-- The row maxima are real. -/
theorem max_real (a : Fin 2) (g : Fin 4) (r : Fin 8192) :
    ∃ y : ℝ, val_main_v7 (F := Ideal) x0 x1 (ix3 a g r) = (y : EReal) := by
  unfold val_main_v7
  refine reduce_max_real _ _ _ _ _ (fun k => neg_inf) (fun i => ?_) ⟨ix4 a g r 0, ?_⟩
  · obtain ⟨b, g', r', j, rfl⟩ : ∃ b g' r' j, i = ix4 b g' r' j := ⟨i 0, i 1, i 2, i 3, by idx_vars i⟩
    exact ⟨_, s_real hq hk b g' r' j⟩
  · funext x; apply Fin.ext
    match x with
    | ⟨0, _⟩ => rfl
    | ⟨1, _⟩ => rfl
    | ⟨2, _⟩ => rfl

/-- The row maxima, as a real function of the head and the row. -/
def M (x0 : Vec Ideal S8192x1024 .f32) (x1 : Vec Ideal S8448x256 .f32) (h r : ℕ) : ℝ :=
  if H : h < 8 ∧ r < 8192 then
    (val_main_v7 (F := Ideal) x0 x1 (ix3 (⟨h / 4, by omega⟩ : Fin 2) (⟨h % 4, by omega⟩ : Fin 4) (⟨r, H.2⟩ : Fin 8192))).toReal
  else 0

theorem m7 (a : Fin 2) (g : Fin 4) (r : Fin 8192) :
    val_main_v7 (F := Ideal) x0 x1 (ix3 a g r) = (M x0 x1 (a * 4 + g) r : EReal) := by
  obtain ⟨y, hy⟩ := max_real hq hk a g r
  unfold M
  rw [dif_pos ⟨by omega, r.isLt⟩]
  have e1 : (⟨(a.val * 4 + g.val) / 4, by omega⟩ : Fin 2) = a := Fin.ext (by show (a.val * 4 + g.val) / 4 = a.val; omega)
  have e2 : (⟨(a.val * 4 + g.val) % 4, by omega⟩ : Fin 4) = g := Fin.ext (by show (a.val * 4 + g.val) % 4 = g.val; omega)
  rw [e1, e2, show (⟨r.val, r.isLt⟩ : Fin 8192) = r from rfl, hy, EReal.toReal_coe]

theorem m14 (a : Fin 2) (g : Fin 4) (r : Fin 8192) :
    val_main_v14 (F := Ideal) x0 x1 (ix3 a g r) = (M x0 x1 (a * 4 + g) r : EReal) := by
  rw [val_main_v14_apply, val_main_v13_apply, val_main_cst_2_apply, m7 hq hk]
  show max (Ideal.ofBits .f32 0xFF800000#32) _ = _
  rw [neg_inf, max_eq_right bot_le]

theorem e_real (a : Fin 2) (g : Fin 4) (r : Fin 8192) (j : Fin 8448) :
    val_main_v27 (F := Ideal) x0 x1 (ix4 a g r j)
      = (Attn.e (row qA (a * 4 + g) r) (all kA a) (M x0 x1 (a * 4 + g) r) j : EReal) := by
  pointwise [val_main_v27, val_main_v26, val_main_v25, val_main_v24]
  rw [s_real hq hk, m14 hq hk, ← EReal.coe_sub, Ideal.exp_coe]
  rfl

theorem Z_real (a : Fin 2) (g : Fin 4) (r : Fin 8192) :
    val_main_v28 (F := Ideal) x0 x1 (ix3 a g r)
      = (Attn.Z (row qA (a * 4 + g) r) (all kA a) (M x0 x1 (a * 4 + g) r) : EReal) := by
  pointwise [val_main_v28, val_main_cst_8]
  simp only [e_real hq hk, ← Attn.coe_sum]
  rfl

theorem Z_ne (h r : ℕ) (a : ℕ) : Attn.Z (row qA h r) (all kA a) (M x0 x1 h r) ≠ 0 :=
  (Attn.Z_pos _ _ _ (by norm_num)).ne'

theorem p_real (a : Fin 2) (g : Fin 4) (r : Fin 8192) (j : Fin 8448) :
    val_main_v31 (F := Ideal) x0 x1 (ix4 a g r j)
      = (Attn.p (row qA (a * 4 + g) r) (all kA a) (M x0 x1 (a * 4 + g) r) j : EReal) := by
  pointwise [val_main_v31, val_main_v30, val_main_v29]
  rw [e_real hq hk, Z_real hq hk, Ideal.div_coe (Z_ne hq hk _ _ _), ← EReal.coe_mul]
  rfl

theorem iZZ_real (a : Fin 2) (g : Fin 4) (r : Fin 8192) :
    val_main_v34 (F := Ideal) x0 x1 (ix4 a g r 0)
      = ((1 / (Attn.Z (row qA (a * 4 + g) r) (all kA a) (M x0 x1 (a * 4 + g) r)
          * Attn.Z (row qA (a * 4 + g) r) (all kA a) (M x0 x1 (a * 4 + g) r)) : ℝ) : EReal) := by
  pointwise [val_main_v34, val_main_v33, val_main_v32, val_main_v29, val_main_cst_9]
  rw [Z_real hq hk, ← EReal.coe_mul, Ideal.div_coe (mul_ne_zero (Z_ne hq hk _ _ _) (Z_ne hq hk _ _ _)), one_mul]

variable (hv : ∀ (r : Fin 8448) (x : Fin 256), x2 (ix2 r x) = (vA r x : EReal))
include hv

theorem o_real (r : Fin 8192) (h : Fin 8) (d : Fin 128) (x : Fin 1024) (hx : x.val = h * 128 + d) :
    val_main_v37 (F := Ideal) x0 x1 x2 (ix2 r x)
      = (Attn.o (row qA h r) (all kA (h / 4)) (all vA (h / 4)) (M x0 x1 h r) d : EReal) := by
  pointwise [val_main_v37, val_main_v36, val_main_v35, val_main_v0]
  simp only [p_real hq hk, hv, ← EReal.coe_mul, ← Attn.coe_sum]
  have e1 : x.val / 512 = h.val / 4 := by omega
  have e2 : h.val / 4 * 4 + x.val / 128 % 4 = h.val := by omega
  have e3 : x.val % 128 = d.val := by omega
  simp only [e1, e2, e3]
  rfl

variable (hg : ∀ (r : Fin 8192) (x : Fin 1024), x3 (ix2 r x) = (gA r x : EReal))
include hg

omit hq hk in
theorem dp_real (a : Fin 2) (g : Fin 4) (r : Fin 8192) (j : Fin 8448) :
    val_main_v40 (F := Ideal) x2 x3 (ix4 a g r j) = (Attn.dp (all vA a) (row gA (a * 4 + g) r) j : EReal) := by
  pointwise [val_main_v40, val_main_v39, val_main_v38, val_main_v0]
  simp only [hg, hv, ← EReal.coe_mul, ← Attn.coe_sum]
  unfold Attn.dp row all
  simp only [show a.val * 512 = a.val * 4 * 128 by ring, ← add_mul]

theorem sum_real (a : Fin 2) (g : Fin 4) (r : Fin 8192) :
    val_main_v46 (F := Ideal) x0 x1 x2 x3 (ix3 a g r)
      = ((∑ i, Attn.dp (all vA a) (row gA (a * 4 + g) r) i
          * (1 / (Attn.Z (row qA (a * 4 + g) r) (all kA a) (M x0 x1 (a * 4 + g) r)
            * Attn.Z (row qA (a * 4 + g) r) (all kA a) (M x0 x1 (a * 4 + g) r)))
          * Attn.e (row qA (a * 4 + g) r) (all kA a) (M x0 x1 (a * 4 + g) r) i : ℝ) : EReal) := by
  pointwise [val_main_v46, val_main_v45, val_main_v44, val_main_v43, val_main_cst_10]
  simp only [e_real hq hk, dp_real hv hg, iZZ_real hq hk, ← EReal.coe_mul, ← Attn.coe_sum]

theorem ds_real (a : Fin 2) (g : Fin 4) (r : Fin 8192) (j : Fin 8448) :
    val_main_v56 (F := Ideal) x0 x1 x2 x3 (ix4 a g r j)
      = (Attn.ds (row qA (a * 4 + g) r) (all kA a) (all vA a) (row gA (a * 4 + g) r) (M x0 x1 (a * 4 + g) r) j : EReal) := by
  pointwise [val_main_v56, val_main_v55, val_main_v54, val_main_v53, val_main_v52, val_main_v51, val_main_v50, val_main_v49, val_main_v48,
    val_main_v47, val_main_v29, val_main_cst_11, val_main_cst_12]
  simp only [e_real hq hk, dp_real hv hg, sum_real hq hk hv hg, Z_real hq hk, Ideal.div_coe (Z_ne hq hk _ _ _), Consts.scale_word, Finset.univ_unique, Finset.sum_singleton, ← EReal.coe_mul, ← EReal.coe_neg,
    ← EReal.coe_add]
  rfl

/-- The reference's gradient of the queries. -/
theorem dq_real (r : Fin 8192) (h : Fin 8) (d : Fin 128) (x : Fin 1024) (hx : x.val = h * 128 + d) :
    val_main_v63 (F := Ideal) x0 x1 x2 x3 (ix2 r x)
      = ((∑ j, Attn.ds (row qA h r) (all kA (h / 4)) (all vA (h / 4)) (row gA h r) (M x0 x1 h r) j * all kA (h / 4) j d : ℝ) : EReal) := by
  pointwise [val_main_v63, val_main_v59, val_main_v58, val_main_v57, val_main_v2]
  simp only [ds_real hq hk hv hg, hk, ← EReal.coe_mul, ← Attn.coe_sum]
  have e1 : x.val / 512 = h.val / 4 := by omega
  have e2 : h.val / 4 * 4 + x.val / 128 % 4 = h.val := by omega
  have e3 : x.val % 128 = d.val := by omega
  simp only [e1, e2, e3]
  rfl

omit hv in
/-- The reference's gradient of the values, by head of the group and query row. -/
theorem dv_real (j : Fin 8448) (a : Fin 2) (d : Fin 128) (x : Fin 256) (hx : x.val = a * 128 + d) :
    val_main_v64 (F := Ideal) x0 x1 x3 (ix2 j x)
      = ((∑ g : Fin 4, ∑ r : Fin 8192, Attn.p (row qA (a * 4 + g) r) (all kA a) (M x0 x1 (a * 4 + g) r) j * row gA (a * 4 + g) r d : ℝ) : EReal) := by
  pointwise [val_main_v64, val_main_v42, val_main_v41, val_main_v39, val_main_v38]
  simp only [p_real hq hk, hg, ← EReal.coe_mul, ← Attn.coe_sum]
  have e1 : x.val / 128 = a.val := by omega
  have e3 : x.val % 128 = d.val := by omega
  simp only [e1, e3]
  refine congrArg _ (Finset.sum_congr rfl fun g _ => Finset.sum_congr rfl fun r _ => ?_)
  unfold row
  rw [mul_comm, show a.val * 512 + g.val * 128 + d.val = (a.val * 4 + g.val) * 128 + d.val by ring]

/-- The reference's gradient of the keys. -/
theorem dk_real (j : Fin 8448) (a : Fin 2) (d : Fin 128) (x : Fin 256) (hx : x.val = a * 128 + d) :
    val_main_v62 (F := Ideal) x0 x1 x2 x3 (ix2 j x)
      = ((∑ g : Fin 4, ∑ r : Fin 8192, Attn.ds (row qA (a * 4 + g) r) (all kA a) (all vA a) (row gA (a * 4 + g) r) (M x0 x1 (a * 4 + g) r) j
          * row qA (a * 4 + g) r d : ℝ) : EReal) := by
  pointwise [val_main_v62, val_main_v61, val_main_v60, val_main_v57, val_main_v1]
  simp only [ds_real hq hk hv hg, hq, ← EReal.coe_mul, ← Attn.coe_sum]
  rw [Finset.sum_comm]
  have e1 : x.val / 128 = a.val := by omega
  have e3 : x.val % 128 = d.val := by omega
  simp only [e1, e3]
  refine congrArg _ (Finset.sum_congr rfl fun g _ => Finset.sum_congr rfl fun r _ => ?_)
  rw [show a.val * 512 + g.val * 128 + d.val = (a.val * 4 + g.val) * 128 + d.val by ring]
  rfl

end

end Cert.RefReal

end
-- ==== Proof.Finite.lean ====
/- The precondition, read: every argument's entries are real numbers. -/
module

public import proofs.«01_k».proof.Defs
public import Idealize.ShloMosaic.Lib.ReduceAll
public import Idealize.ShloMosaic.Lib.Pointwise

@[expose] public section

noncomputable section

namespace Cert.Finite

open Idealize.ShloMosaic Cert.Pre_finite

instance : Subsingleton S_.Idx := ⟨fun _ _ => funext fun a => a.elim0⟩

theorem inf_word : Ideal.ofBits .f32 0x7F800000#32 = ⊤ := by simp [Ideal.ofBits, Ideal.ieee]

/-- `|x| < ∞` holds of real numbers only. -/
theorem real_of_abs (x : EReal) (h : Ideal.cmp .olt (max x (-x)) ⊤ = 1#1) : ∃ y : ℝ, x = y := by
  have h1 : max x (-x) < ⊤ := by
    by_contra hn
    simp [Ideal.cmp, hn] at h
  have h2 := max_lt_iff.mp h1
  refine ⟨x.toReal, (EReal.coe_toReal h2.1.ne ?_).symm⟩
  rintro rfl
  simp at h2

theorem one_of_and {a b : BitVec 1} (h : IntOp.andi a b = 1#1) : a = 1#1 ∧ b = 1#1 := by
  revert a b; decide

theorem args [Facts] (x0 : FVec Ideal S8192x1024 .f32) (x1 x2 : FVec Ideal S8448x256 .f32) (x3 : FVec Ideal S8192x1024 .f32)
    (h : fn (F := Ideal) x0 x1 x2 x3 = fun _ => 1#1) :
    (∀ i, ∃ y : ℝ, x0 i = y) ∧ (∀ i, ∃ y : ℝ, x1 i = y) ∧ (∀ i, ∃ y : ℝ, x2 i = y) ∧ (∀ i, ∃ y : ℝ, x3 i = y) := by
  have e := congrFun h (fun a => a.elim0)
  unfold fn fn_part1 at e
  dsimp only at e
  obtain ⟨e, e3⟩ := one_of_and e
  obtain ⟨e, e2⟩ := one_of_and e
  obtain ⟨e0, e1⟩ := one_of_and e
  refine ⟨fun i => real_of_abs _ ?_, fun i => real_of_abs _ ?_, fun i => real_of_abs _ ?_, fun i => real_of_abs _ ?_⟩ <;> rw [← inf_word]
  · exact Host.reduce_andi_all _ _ _ _ _ e0 i
  · exact Host.reduce_andi_all _ _ _ _ _ e1 i
  · exact Host.reduce_andi_all _ _ _ _ _ e2 i
  · exact Host.reduce_andi_all _ _ _ _ _ e3 i

/-- A real array of two axes as a real function of natural coordinates. -/
def real2 {a b : ℕ} (x : (⟨2, ![a, b]⟩ : Shape).Idx → EReal) (r c : ℕ) : ℝ :=
  if h : r < a ∧ c < b then (x (ix2 (⟨r, h.1⟩ : Fin a) (⟨c, h.2⟩ : Fin b))).toReal else 0

theorem real2_eq {a b : ℕ} (x : (⟨2, ![a, b]⟩ : Shape).Idx → EReal) (hx : ∀ i, ∃ y : ℝ, x i = y) (r : Fin a) (c : Fin b) :
    x (ix2 r c) = (real2 x r c : EReal) := by
  obtain ⟨y, hy⟩ := hx (ix2 r c)
  unfold real2
  rw [dif_pos ⟨r.isLt, c.isLt⟩]
  show x (ix2 r c) = ((x (ix2 r c)).toReal : EReal)
  rw [hy, EReal.toReal_coe]

end Cert.Finite

end
-- ==== Proof.DqValue.lean ====
/- The dq kernel's array is the reference's gradient of the queries, for finite arguments. -/
module

public import proofs.«01_k».proof.Proof.DqFold
public import proofs.«01_k».proof.Proof.RefReal
public import proofs.«01_k».proof.Proof.Finite
public import Idealize.ShloMosaic.Lib.Claim

@[expose] public section

set_option maxRecDepth 16384

noncomputable section

namespace Cert.DqValue

open Cert.KernelIdeal Cert.KernelIdeal.Gen Idealize.ShloMosaic Idealize.ShloMosaic.TcCoe Idealize.SL.Sem
open Idealize.ShloMosaic.Tactic
open Cert.RefReal (M)

/-! ## The host's forward pass -/

/-- The rows' sums of exponentials of the scores `sA` shifted by `mA`. -/
def sumV (sA : Vec Ideal S2x4x8192x8448 .f32) (mA : Vec Ideal S2x4x8192 .f32) : Vec Ideal S2x4x8192 .f32 :=
  Host.reduceAdd (F := Ideal) (φ := .f32) (Host.exp (F := Ideal) (φ := .f32) (subf (F := Ideal) (φ := .f32) sA
    (broadcastInDim S2x4x8192x8448 ![0, 1, 2, 3] bcast_S2x4x8192x1_S2x4x8192x8448_0_1_2_3
      (broadcastInDim S2x4x8192x1 ![0, 1, 2] bcast_S2x4x8192_S2x4x8192x1_0_1_2 mA))))
    (constant S_ .f32 0x00000000#32) reducesTo_S2x4x8192x8448_S2x4x8192_d3 h_S_

/-- `mA` plus the log of `zA`, by head and row. -/
def logV (mA zA : Vec Ideal S2x4x8192 .f32) : Vec Ideal S8x8192x1 .f32 :=
  shapeCast S8x8192x1
    (addf (F := Ideal) (φ := .f32) (broadcastInDim S2x4x8192x1 ![0, 1, 2] bcast_S2x4x8192_S2x4x8192x1_0_1_2 mA)
      (Host.log (F := Ideal) (φ := .f32) (broadcastInDim S2x4x8192x1 ![0, 1, 2] bcast_S2x4x8192_S2x4x8192x1_0_1_2 zA)))
    shapeCasts_S2x4x8192x1_S8x8192x1

theorem sumV_apply (sA : Vec Ideal S2x4x8192x8448 .f32) (mA : Vec Ideal S2x4x8192 .f32) (a : Fin 2) (g : Fin 4) (r : Fin 8192) :
    sumV sA mA (ix3 a g r) = ∑ j : Fin 8448, Ideal.exp (sA (ix4 a g r j) - mA (ix3 a g r)) := by
  pointwise [sumV]

theorem logV_apply (mA zA : Vec Ideal S2x4x8192 .f32) (h : Fin 8) (r : Fin 8192) (u : Fin 1) :
    logV mA zA (ix3 h r u) = mA (ix3 (⟨h / 4, by omega⟩ : Fin 2) (⟨h % 4, by omega⟩ : Fin 4) r)
      + Ideal.log (zA (ix3 (⟨h / 4, by omega⟩ : Fin 2) (⟨h % 4, by omega⟩ : Fin 4) r)) := by
  pointwise [logV]

/-- The log of the rows' sums of exponentials, by head and row, as the host computes it. -/
def lseV (x0 : Vec Ideal S8192x1024 .f32) (x1 : Vec Ideal S8448x256 .f32) : Vec Ideal S8x8192x1 .f32 :=
  logV (ReferenceIdeal.Read.val_main_v7 (F := Ideal) x0 x1)
    (sumV (ReferenceIdeal.Read.val_main_v6 (F := Ideal) x0 x1) (ReferenceIdeal.Read.val_main_v7 (F := Ideal) x0 x1))

variable (m : (ℓ : Loc nD τ sig) → Buf (Elt Ideal) ℓ) (c : Dev nD)

theorem v20 : V m c main_v20
    = ReferenceIdeal.Read.val_main_v37 (F := Ideal) (m (c.tc.loc main_arg0)) (m (c.tc.loc main_arg1)) (m (c.tc.loc main_arg2)) := by
  entry_read
  rfl

theorem v36 : V m c main_v36 = lseV (m (c.tc.loc main_arg0)) (m (c.tc.loc main_arg1)) := by
  entry_read
  rfl

theorem lse_real {x0 : Vec Ideal S8192x1024 .f32} {x1 : Vec Ideal S8448x256 .f32} {qA kA : ℕ → ℕ → ℝ}
    (hq : ∀ (r : Fin 8192) (x : Fin 1024), x0 (ix2 r x) = (qA r x : EReal))
    (hk : ∀ (r : Fin 8448) (x : Fin 256), x1 (ix2 r x) = (kA r x : EReal)) (h : Fin 8) (r : Fin 8192) (u : Fin 1) :
    lseV x0 x1 (ix3 h r u) = (Attn.lse (RefReal.row qA h r) (RefReal.all kA (h / 4)) (M x0 x1 h r) : EReal) := by
  unfold lseV
  rw [logV_apply, sumV_apply]
  simp only [RefReal.s_real hq hk, RefReal.m7 hq hk, ← EReal.coe_sub, Ideal.exp_coe, ← Attn.coe_sum]
  rw [show h.val / 4 * 4 + h.val % 4 = h.val by omega]
  have hp := Attn.Z_pos (RefReal.row qA h r) (RefReal.all kA (h / 4)) (M x0 x1 h r) (by norm_num)
  show (_ : EReal) + Ideal.log ((Attn.Z (RefReal.row qA h r) (RefReal.all kA (h / 4)) (M x0 x1 h r) : ℝ) : EReal) = _
  rw [Ideal.log_coe, if_neg (not_le.mpr hp), ← EReal.coe_add]
  rfl

/-- The array the dq kernel writes is the reference's. -/
theorem value (x0 : Vec Ideal S8192x1024 .f32) (x1 x2 : Vec Ideal S8448x256 .f32) (x3 : Vec Ideal S8192x1024 .f32)
    (e0 : m (c.tc.loc main_arg0) = x0) (e1 : m (c.tc.loc main_arg1) = x1) (e2 : m (c.tc.loc main_arg2) = x2)
    (e3 : m (c.tc.loc main_arg3) = x3) (h0 : ∀ i, ∃ y : ℝ, x0 i = y) (h1 : ∀ i, ∃ y : ℝ, x1 i = y)
    (h2 : ∀ i, ∃ y : ℝ, x2 i = y) (h3 : ∀ i, ∃ y : ℝ, x3 i = y) :
    Value.G6 m c = ReferenceIdeal.Read.val_main_v63 (F := Ideal) x0 x1 x2 x3 := by
  have hq := Finite.real2_eq x0 h0
  have hk := Finite.real2_eq x1 h1
  have hv := Finite.real2_eq x2 h2
  have hg := Finite.real2_eq x3 h3
  have R : DqFold.Reads m c (Finite.real2 x0) (Finite.real2 x1) (Finite.real2 x2)
      (fun r x => Attn.o (RefReal.row (Finite.real2 x0) (x / 128) r) (RefReal.all (Finite.real2 x1) (x / 128 / 4))
        (RefReal.all (Finite.real2 x2) (x / 128 / 4)) (M x0 x1 (x / 128) r) ⟨x % 128, by omega⟩)
      (Finite.real2 x3)
      (fun h r => Attn.lse (RefReal.row (Finite.real2 x0) h r) (RefReal.all (Finite.real2 x1) (h / 4)) (M x0 x1 h r)) := by
    refine ⟨fun r x => ?_, fun r x => ?_, fun r x => ?_, fun r x => ?_, fun h r u => ?_, fun r x => ?_⟩
    · rw [V_main_arg0, e0]; exact hq r x
    · rw [V_main_arg1, e1]; exact hk r x
    · rw [V_main_arg2, e2]; exact hv r x
    · rw [v20, e0, e1, e2]
      exact RefReal.o_real hq hk hv r ⟨x.val / 128, by omega⟩ ⟨x.val % 128, by omega⟩ x (by show x.val = x.val / 128 * 128 + x.val % 128; omega)
    · rw [v36, e0, e1]; exact lse_real hq hk h r u
    · rw [V_main_arg3, e3]; exact hg r x
  funext i
  obtain ⟨r, x, rfl⟩ : ∃ (r : Fin 8192) (x : Fin 1024), i = ix2 r x := ⟨i 0, i 1, by idx_vars i⟩
  refine (DqFold.G6_real R r ⟨x.val / 128, by omega⟩ ⟨x.val % 128, by omega⟩ x (by show x.val = x.val / 128 * 128 + x.val % 128; omega)).trans ?_
  refine Eq.trans ?_ (RefReal.dq_real hq hk hv hg r ⟨x.val / 128, by omega⟩ ⟨x.val % 128, by omega⟩ x (by show x.val = x.val / 128 * 128 + x.val % 128; omega)).symm
  refine congrArg _ (Finset.sum_congr rfl fun j _ => ?_)
  have ho : DqFold.row (fun r x => Attn.o (RefReal.row (Finite.real2 x0) (x / 128) r) (RefReal.all (Finite.real2 x1) (x / 128 / 4))
        (RefReal.all (Finite.real2 x2) (x / 128 / 4)) (M x0 x1 (x / 128) r) ⟨x % 128, by omega⟩) (x.val / 128) r
      = Attn.o (RefReal.row (Finite.real2 x0) (x.val / 128) r) (RefReal.all (Finite.real2 x1) (x.val / 128 / 4))
        (RefReal.all (Finite.real2 x2) (x.val / 128 / 4)) (M x0 x1 (x.val / 128) r) := by
    funext d
    unfold DqFold.row
    have a1 : (x.val / 128 * 128 + d.val) / 128 = x.val / 128 := by omega
    have a2 : (⟨(x.val / 128 * 128 + d.val) % 128, by omega⟩ : Fin 128) = d := Fin.ext (by show (x.val / 128 * 128 + d.val) % 128 = d.val; omega)
    simp only [a1, a2]
  dsimp only
  rw [ho]
  exact congrArg (· * _) (Attn.dsk_scale (RefReal.row (Finite.real2 x0) (x.val / 128) r) (RefReal.all (Finite.real2 x1) (x.val / 128 / 4))
    (RefReal.all (Finite.real2 x2) (x.val / 128 / 4)) (RefReal.row (Finite.real2 x3) (x.val / 128) r) (M x0 x1 (x.val / 128) r) (by norm_num) j)

end Cert.DqValue

end
-- ==== Proof.DqClaim.lean ====
/- The claims about the gradient of the attention's queries: the frames, the named constants, and the value. -/
module

public import proofs.«01_k».proof.Defs
public import proofs.«01_k».proof.Proof.Gen.Pre_finite
public import proofs.«01_k».proof.Proof.Gen.Kernel.Frame
public import proofs.«01_k».proof.Proof.DqValue
public import Idealize.ShloMosaic.Adequacy
public import Idealize.ShloMosaic.Init

@[expose] public section

set_option maxRecDepth 16384

noncomputable section

namespace Cert.DqClaim

open Idealize.ShloMosaic Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constants are the numbers the names stand for. -/
theorem preserves : Cert.preserves_Kernel_KernelIdeal :=
  ⟨IdealRules.named_const.statement Cert.KernelIdeal.κ "log2e" .f32 0x3FB8AA3B#32 _ rfl,
   IdealRules.named_const.statement Cert.KernelIdeal.κ "scale_log2e" .f32 0x3E0293EE#32 _ rfl⟩

/-- For finite arguments the kernel's array is the reference's. -/
theorem algebraic : Cert.algebraic_KernelIdeal_ReferenceIdeal_pre_finite := by
  intro m g m' g' hp hag
  refine ⟨fun c => Cert.KernelIdeal.Value.G6 m c, Cert.KernelIdeal.Value.run m g, ?_⟩
  refine (θ_run Cert.ReferenceIdeal.defs _ _).mono (fun r h c => ?_) (Cert.ReferenceIdeal.Value.run (F := Ideal) m' g')
  obtain ⟨a0, a1, a2, a3⟩ := hag c
  obtain ⟨f0, f1, f2, f3⟩ := Finite.args _ _ _ _ (hp c)
  refine ⟨(h c).1.trans ?_, (h c).2⟩
  rw [Cert.ReferenceIdeal.Read.val_main_v63_eq, a0, a1, a2, a3]
  exact (DqValue.value m c _ _ _ _ rfl rfl rfl rfl f0 f1 f2 f3).symm

end Cert.DqClaim

end
-- ==== Proof.DkvStep.lean ====
/- What one grid point of the dk/dv kernel adds to its two accumulators, where everything it reads is real. -/
module

public import proofs.«01_k».proof.Proof.Gen.Kernel2Ideal.Value
public import proofs.«01_k».proof.Proof.Attn

@[expose] public section

set_option maxRecDepth 16384

noncomputable section

namespace Cert.DkvStep

open Cert.Kernel2Ideal Cert.Kernel2Ideal.Gen Idealize.ShloMosaic Idealize.ShloMosaic.TcCoe Idealize.SL.Sem
open Idealize.ShloMosaic.Tactic

theorem pay1_apply (v6 : Vec Ideal S1024x128 .bf16) (v16 v29 : Vec Ideal S1024x1408 .f32) (v30 v31 : Vec Ideal S1024x128 .f32)
    (v39 : Vec Ideal S1408x128 .f32) (j : Fin 1408) (d : Fin 128) :
    k0_pay1 (F := Ideal) v6 v16 v29 v30 v31 v39 (ix2 j d) = v39 (ix2 j d)
      + (∑ x : Fin 1024, (v16 (ix2 x j) * (v29 (ix2 x j) - ∑ e : Fin 128, v30 (ix2 x e) * v31 (ix2 x e))) * v6 (ix2 x d))
        * ((Real.log 2 : ℝ) : EReal) := by
  pointwise [k0_pay1]
  rw [Consts.ln2_dkv]

theorem pay2_apply (j : Fin 1408) (d : Fin 128) : k0_pay2 (F := Ideal) (ix2 j d) = 0 := by
  pointwise [k0_pay2]

theorem pay3_apply (j : Fin 1408) (d : Fin 128) : k0_pay3 (F := Ideal) (ix2 j d) = 0 := by
  pointwise [k0_pay3]

theorem pay4_apply (x0 : Vec Ideal S1024x128 .f32) (x : Fin 1024) (d : Fin 128) :
    k0_pay4 (F := Ideal) x0 (ix2 x d) = x0 (ix2 x d) * ((Consts.scale * (Real.log 2)⁻¹ : ℝ) : EReal) := by
  pointwise [k0_pay4]
  rw [Consts.scale_log2e_dkv]

theorem pay5_apply (x0 : Vec Ideal S1024x128 .f32) (k : Vec Ideal S1408x128 .f32) (l : Vec Ideal S1x1024x1 .f32)
    (x : Fin 1024) (j : Fin 1408) :
    k0_pay5 (F := Ideal) x0 k l (ix2 x j)
      = Ideal.exp2 ((∑ e : Fin 128, k0_pay4 (F := Ideal) x0 (ix2 x e) * k (ix2 j e)) - l (ix3 0 x 0) * (((Real.log 2)⁻¹ : ℝ) : EReal)) := by
  pointwise [k0_pay5]
  rw [Consts.log2e_dkv]
  rfl

theorem pay6_apply (x0 : Vec Ideal S1024x128 .f32) (k : Vec Ideal S1408x128 .f32) (l : Vec Ideal S1x1024x1 .f32)
    (acc : Vec Ideal S1408x128 .f32) (g : Vec Ideal S1024x128 .f32) (j : Fin 1408) (d : Fin 128) :
    k0_pay6 (F := Ideal) x0 k l acc g (ix2 j d) = acc (ix2 j d)
      + ∑ x : Fin 1024, k0_pay5 (F := Ideal) x0 k l (ix2 x j) * g (ix2 x d) := by
  pointwise [k0_pay6]

theorem pay7_apply (g : Vec Ideal S1024x128 .f32) (v : Vec Ideal S1408x128 .f32) (x : Fin 1024) (j : Fin 1408) :
    k0_pay7 (F := Ideal) g v (ix2 x j) = ∑ e : Fin 128, g (ix2 x e) * v (ix2 j e) := by
  pointwise [k0_pay7]

section
variable (x0 g o : Vec Ideal S1024x128 .f32) (k v : Vec Ideal S1408x128 .f32) (l : Vec Ideal S1x1024x1 .f32) (acc : Vec Ideal S1408x128 .f32)
  (j : Fin 1408) (d : Fin 128) (q' g' o' : Fin 1024 → Fin 128 → ℝ) (k' v' : Fin 1408 → Fin 128 → ℝ) (L : Fin 1024 → ℝ) (a' : ℝ)
  (hq : ∀ x e, x0 (ix2 x e) = (q' x e : EReal)) (hk : ∀ j e, k (ix2 j e) = (k' j e : EReal))
  (hl : ∀ x, l (ix3 0 x 0) = (L x : EReal)) (hg : ∀ x e, g (ix2 x e) = (g' x e : EReal))
  (ha : acc (ix2 j d) = (a' : EReal))
include hq hk hl

/-- The kernel's weight of key `j` for query row `x`. -/
theorem pay5_real (x : Fin 1024) : k0_pay5 (F := Ideal) x0 k l (ix2 x j) = (Attn.pk (q' x) k' (L x) j : EReal) := by
  rw [pay5_apply]
  simp only [pay4_apply, hq, hk, hl, ← EReal.coe_mul, ← Attn.coe_sum, ← EReal.coe_sub, Ideal.exp2_coe]
  rfl

include hg ha

/-- The value gradient's step. -/
theorem dv_real : k0_pay6 (F := Ideal) x0 k l acc g (ix2 j d)
    = ((a' + ∑ x, Attn.pk (q' x) k' (L x) j * g' x d : ℝ) : EReal) := by
  rw [pay6_apply]
  simp only [pay5_real x0 k l j q' k' L hq hk hl, hg, ha, ← EReal.coe_mul, ← Attn.coe_sum, ← EReal.coe_add]

/-- The key gradient's step. -/
theorem dk_real (hv : ∀ j e, v (ix2 j e) = (v' j e : EReal)) (ho : ∀ x e, o (ix2 x e) = (o' x e : EReal)) :
    k0_pay1 (F := Ideal) (k0_pay4 x0) (k0_pay5 x0 k l) (k0_pay7 g v) g o acc (ix2 j d)
    = ((a' + ∑ x, Attn.dsk (q' x) k' v' (g' x) (L x) (Attn.delta (g' x) (o' x)) j * Consts.scale * q' x d : ℝ) : EReal) := by
  rw [pay1_apply]
  simp only [pay5_real x0 k l j q' k' L hq hk hl, pay7_apply, pay4_apply, hq, hg, hv, ho, ha, ← EReal.coe_mul, ← Attn.coe_sum,
    ← EReal.coe_sub, ← EReal.coe_add]
  refine congrArg (fun y : ℝ => ((a' + y : ℝ) : EReal)) ?_
  rw [Finset.sum_mul]
  refine Finset.sum_congr rfl fun x _ => ?_
  have hl := Attn.log2_ne
  unfold Attn.dsk Attn.dp Attn.delta
  field_simp

end

end Cert.DkvStep

end
-- ==== Proof.DkvFold.lean ====
/- The dk/dv kernel's two accumulators over a key block's sweep of the group's heads and the query blocks: after step
   `s` of the sweep they hold the partial sums over the first `s + 1` blocks, so the arrays written back are the whole
   sums over the group's heads and the queries. -/
module

public import proofs.«01_k».proof.Proof.DkvStep

@[expose] public section

set_option maxRecDepth 16384

noncomputable section

namespace Cert.DkvFold

open Cert.Kernel2Ideal Cert.Kernel2Ideal.Gen Idealize.ShloMosaic Idealize.ShloMosaic.TcCoe Idealize.SL.Sem
open Idealize.ShloMosaic.Tactic
open Cert.Kernel2Ideal.Value

/-- Every window's block index at a point: kv head `t / 192`, key block `t / 32 % 6`, head of the group `t % 32 / 8`,
    query block `t % 8`. -/
theorem idx : ∀ t : Fin cfg0.N, win0_0.index t = ![t.val % 8, t.val / 192 * 4 + t.val % 32 / 8]
    ∧ win0_1.index t = ![t.val / 32 % 6, t.val / 192] ∧ win0_2.index t = ![t.val / 32 % 6, t.val / 192]
    ∧ win0_3.index t = ![t.val % 8, t.val / 192 * 4 + t.val % 32 / 8]
    ∧ win0_4.index t = ![t.val / 192 * 4 + t.val % 32 / 8, t.val % 8, 0]
    ∧ win0_5.index t = ![t.val % 8, t.val / 192 * 4 + t.val % 32 / 8] :=
  (by decide +kernel : ∀ t : Fin grid0.N, _)

variable (m : (ℓ : Loc nD τ sig) → Buf (Elt Ideal) ℓ) (c : Dev nD)

/-- The arrays the kernel reads, as real functions of the row and the column. -/
structure Reads (qA kA vA oA gA : ℕ → ℕ → ℝ) (lA : ℕ → ℕ → ℝ) : Prop where
  q : ∀ (r : Fin 8192) (x : Fin 1024), @Eq EReal (V m c main_arg0 (ix2 r x)) (qA r x)
  k : ∀ (r : Fin 8448) (x : Fin 256), @Eq EReal (V m c main_arg1 (ix2 r x)) (kA r x)
  v : ∀ (r : Fin 8448) (x : Fin 256), @Eq EReal (V m c main_arg2 (ix2 r x)) (vA r x)
  o : ∀ (r : Fin 8192) (x : Fin 1024), @Eq EReal (V m c main_v20 (ix2 r x)) (oA r x)
  l : ∀ (h : Fin 8) (r : Fin 8192) (u : Fin 1), @Eq EReal (V m c main_v36 (ix3 h r u)) (lA h r)
  g : ∀ (r : Fin 8192) (x : Fin 1024), @Eq EReal (V m c main_arg3 (ix2 r x)) (gA r x)

/-- Columns `128 h …` of row `r`. -/
def row (A : ℕ → ℕ → ℝ) (h r : ℕ) : Fin 128 → ℝ := fun d => A r (h * 128 + d)
/-- The rows of block `b` of 1408, columns `128 h …`. -/
def blk (A : ℕ → ℕ → ℝ) (h b : ℕ) : Fin 1408 → Fin 128 → ℝ := fun j d => A (b * 1408 + j) (h * 128 + d)

variable {m c} {qA kA vA oA gA lA : ℕ → ℕ → ℝ} (R : Reads m c qA kA vA oA gA lA)
include R

omit R in
theorem rd0 (A : (b : Ref sig .tc) → Buf (Elt Ideal) ((c : Thread nD τ).loc b)) (t : Fin cfg0.N) (r : Fin 1024) (d : Fin 128) (a : Fin 8192)
    (b : Fin 1024) (ha : a.val = t.val % 8 * 1024 + r) (hb : b.val = (t.val / 192 * 4 + t.val % 32 / 8) * 128 + d) :
    ((cfg0.win 0).blk t).view.read (Elt Ideal) (A (Pipeline.arrRef spec0 0)) (ix2 r d) = A main_arg0 (ix2 a b) := by
  refine congrArg (A main_arg0) (funext fun x => Fin.ext ?_)
  match x with
  | ⟨0, _⟩ =>
    show win0_0.index t (0 : Fin 2) * 1024 + 1 * r.val = a.val
    rw [(idx t).1, ha]; show t.val % 8 * 1024 + 1 * r.val = t.val % 8 * 1024 + r.val; omega
  | ⟨1, _⟩ =>
    show win0_0.index t (1 : Fin 2) * 128 + 1 * d.val = b.val
    rw [(idx t).1, hb]; show (t.val / 192 * 4 + t.val % 32 / 8) * 128 + 1 * d.val = (t.val / 192 * 4 + t.val % 32 / 8) * 128 + d.val; omega

theorem blk0 (t : Fin cfg0.N) (r : Fin 1024) (d : Fin 128) :
    @Eq EReal (iblk m c 0 t (ix2 r d)) (row qA (t.val / 192 * 4 + t.val % 32 / 8) (t.val % 8 * 1024 + r) d) := by
  have ht : t.val < 384 := lt_of_lt_of_eq t.isLt N_0
  exact (rd0 (V m c) t r d ⟨t.val % 8 * 1024 + r, by omega⟩ ⟨(t.val / 192 * 4 + t.val % 32 / 8) * 128 + d, by omega⟩ rfl rfl).trans (R.q _ _)

omit R in
theorem rd3 (A : (b : Ref sig .tc) → Buf (Elt Ideal) ((c : Thread nD τ).loc b)) (t : Fin cfg0.N) (r : Fin 1024) (d : Fin 128) (a : Fin 8192)
    (b : Fin 1024) (ha : a.val = t.val % 8 * 1024 + r) (hb : b.val = (t.val / 192 * 4 + t.val % 32 / 8) * 128 + d) :
    ((cfg0.win 3).blk t).view.read (Elt Ideal) (A (Pipeline.arrRef spec0 3)) (ix2 r d) = A main_v20 (ix2 a b) := by
  refine congrArg (A main_v20) (funext fun x => Fin.ext ?_)
  match x with
  | ⟨0, _⟩ =>
    show win0_3.index t (0 : Fin 2) * 1024 + 1 * r.val = a.val
    rw [(idx t).2.2.2.1, ha]; show t.val % 8 * 1024 + 1 * r.val = t.val % 8 * 1024 + r.val; omega
  | ⟨1, _⟩ =>
    show win0_3.index t (1 : Fin 2) * 128 + 1 * d.val = b.val
    rw [(idx t).2.2.2.1, hb]; show (t.val / 192 * 4 + t.val % 32 / 8) * 128 + 1 * d.val = (t.val / 192 * 4 + t.val % 32 / 8) * 128 + d.val; omega

theorem blk3 (t : Fin cfg0.N) (r : Fin 1024) (d : Fin 128) :
    @Eq EReal (iblk m c 3 t (ix2 r d)) (row oA (t.val / 192 * 4 + t.val % 32 / 8) (t.val % 8 * 1024 + r) d) := by
  have ht : t.val < 384 := lt_of_lt_of_eq t.isLt N_0
  exact (rd3 (V m c) t r d ⟨t.val % 8 * 1024 + r, by omega⟩ ⟨(t.val / 192 * 4 + t.val % 32 / 8) * 128 + d, by omega⟩ rfl rfl).trans (R.o _ _)

omit R in
theorem rd5 (A : (b : Ref sig .tc) → Buf (Elt Ideal) ((c : Thread nD τ).loc b)) (t : Fin cfg0.N) (r : Fin 1024) (d : Fin 128) (a : Fin 8192)
    (b : Fin 1024) (ha : a.val = t.val % 8 * 1024 + r) (hb : b.val = (t.val / 192 * 4 + t.val % 32 / 8) * 128 + d) :
    ((cfg0.win 5).blk t).view.read (Elt Ideal) (A (Pipeline.arrRef spec0 5)) (ix2 r d) = A main_arg3 (ix2 a b) := by
  refine congrArg (A main_arg3) (funext fun x => Fin.ext ?_)
  match x with
  | ⟨0, _⟩ =>
    show win0_5.index t (0 : Fin 2) * 1024 + 1 * r.val = a.val
    rw [(idx t).2.2.2.2.2, ha]; show t.val % 8 * 1024 + 1 * r.val = t.val % 8 * 1024 + r.val; omega
  | ⟨1, _⟩ =>
    show win0_5.index t (1 : Fin 2) * 128 + 1 * d.val = b.val
    rw [(idx t).2.2.2.2.2, hb]; show (t.val / 192 * 4 + t.val % 32 / 8) * 128 + 1 * d.val = (t.val / 192 * 4 + t.val % 32 / 8) * 128 + d.val; omega

theorem blk5 (t : Fin cfg0.N) (r : Fin 1024) (d : Fin 128) :
    @Eq EReal (iblk m c 5 t (ix2 r d)) (row gA (t.val / 192 * 4 + t.val % 32 / 8) (t.val % 8 * 1024 + r) d) := by
  have ht : t.val < 384 := lt_of_lt_of_eq t.isLt N_0
  exact (rd5 (V m c) t r d ⟨t.val % 8 * 1024 + r, by omega⟩ ⟨(t.val / 192 * 4 + t.val % 32 / 8) * 128 + d, by omega⟩ rfl rfl).trans (R.g _ _)

omit R in
theorem rd1 (A : (b : Ref sig .tc) → Buf (Elt Ideal) ((c : Thread nD τ).loc b)) (t : Fin cfg0.N) (r : Fin 1408) (d : Fin 128) (a : Fin 8448)
    (b : Fin 256) (ha : a.val = t.val / 32 % 6 * 1408 + r) (hb : b.val = (t.val / 192) * 128 + d) :
    ((cfg0.win 1).blk t).view.read (Elt Ideal) (A (Pipeline.arrRef spec0 1)) (ix2 r d) = A main_arg1 (ix2 a b) := by
  refine congrArg (A main_arg1) (funext fun x => Fin.ext ?_)
  match x with
  | ⟨0, _⟩ =>
    show win0_1.index t (0 : Fin 2) * 1408 + 1 * r.val = a.val
    rw [(idx t).2.1, ha]; show t.val / 32 % 6 * 1408 + 1 * r.val = t.val / 32 % 6 * 1408 + r.val; omega
  | ⟨1, _⟩ =>
    show win0_1.index t (1 : Fin 2) * 128 + 1 * d.val = b.val
    rw [(idx t).2.1, hb]; show (t.val / 192) * 128 + 1 * d.val = (t.val / 192) * 128 + d.val; omega

theorem blk1 (t : Fin cfg0.N) (j : Fin 1408) (d : Fin 128) :
    @Eq EReal (iblk m c 1 t (ix2 j d)) (blk kA (t.val / 192) (t.val / 32 % 6) j d) := by
  have ht : t.val < 384 := lt_of_lt_of_eq t.isLt N_0
  exact (rd1 (V m c) t j d ⟨t.val / 32 % 6 * 1408 + j, by omega⟩ ⟨t.val / 192 * 128 + d, by omega⟩ rfl rfl).trans (R.k _ _)

omit R in
theorem rd2 (A : (b : Ref sig .tc) → Buf (Elt Ideal) ((c : Thread nD τ).loc b)) (t : Fin cfg0.N) (r : Fin 1408) (d : Fin 128) (a : Fin 8448)
    (b : Fin 256) (ha : a.val = t.val / 32 % 6 * 1408 + r) (hb : b.val = (t.val / 192) * 128 + d) :
    ((cfg0.win 2).blk t).view.read (Elt Ideal) (A (Pipeline.arrRef spec0 2)) (ix2 r d) = A main_arg2 (ix2 a b) := by
  refine congrArg (A main_arg2) (funext fun x => Fin.ext ?_)
  match x with
  | ⟨0, _⟩ =>
    show win0_2.index t (0 : Fin 2) * 1408 + 1 * r.val = a.val
    rw [(idx t).2.2.1, ha]; show t.val / 32 % 6 * 1408 + 1 * r.val = t.val / 32 % 6 * 1408 + r.val; omega
  | ⟨1, _⟩ =>
    show win0_2.index t (1 : Fin 2) * 128 + 1 * d.val = b.val
    rw [(idx t).2.2.1, hb]; show (t.val / 192) * 128 + 1 * d.val = (t.val / 192) * 128 + d.val; omega

theorem blk2 (t : Fin cfg0.N) (j : Fin 1408) (d : Fin 128) :
    @Eq EReal (iblk m c 2 t (ix2 j d)) (blk vA (t.val / 192) (t.val / 32 % 6) j d) := by
  have ht : t.val < 384 := lt_of_lt_of_eq t.isLt N_0
  exact (rd2 (V m c) t j d ⟨t.val / 32 % 6 * 1408 + j, by omega⟩ ⟨t.val / 192 * 128 + d, by omega⟩ rfl rfl).trans (R.v _ _)

omit R in
theorem rd4 (A : (b : Ref sig .tc) → Buf (Elt Ideal) ((c : Thread nD τ).loc b)) (t : Fin cfg0.N) (u w : Fin 1) (r : Fin 1024) (a : Fin 8)
    (b : Fin 8192) (ha : a.val = t.val / 192 * 4 + t.val % 32 / 8) (hb : b.val = t.val % 8 * 1024 + r) :
    ((cfg0.win 4).blk t).view.read (Elt Ideal) (A (Pipeline.arrRef spec0 4)) (ix3 u r w) = A main_v36 (ix3 a b 0) := by
  refine congrArg (A main_v36) (funext fun x => Fin.ext ?_)
  match x with
  | ⟨0, _⟩ =>
    show win0_4.index t (0 : Fin 3) * 1 + 1 * u.val = a.val
    rw [(idx t).2.2.2.2.1, ha]; show (t.val / 192 * 4 + t.val % 32 / 8) * 1 + 1 * u.val = t.val / 192 * 4 + t.val % 32 / 8; omega
  | ⟨1, _⟩ =>
    show win0_4.index t (1 : Fin 3) * 1024 + 1 * r.val = b.val
    rw [(idx t).2.2.2.2.1, hb]; show t.val % 8 * 1024 + 1 * r.val = t.val % 8 * 1024 + r.val; omega
  | ⟨2, _⟩ =>
    show win0_4.index t (2 : Fin 3) * 1 + 1 * w.val = 0
    rw [(idx t).2.2.2.2.1]; show 0 * 1 + 1 * w.val = 0; omega

theorem blk4 (t : Fin cfg0.N) (r : Fin 1024) (u w : Fin 1) :
    @Eq EReal (iblk m c 4 t (ix3 u r w)) (lA (t.val / 192 * 4 + t.val % 32 / 8) (t.val % 8 * 1024 + r)) := by
  have ht : t.val < 384 := lt_of_lt_of_eq t.isLt N_0
  exact (rd4 (V m c) t u w r ⟨t.val / 192 * 4 + t.val % 32 / 8, by omega⟩ ⟨t.val % 8 * 1024 + r, by omega⟩ rfl rfl).trans (R.l _ _ _)

omit R in
/-- Query row `r`, head `h`: its contribution to the gradient of key row `j` of kv head `a`, lane `d`. -/
def dkAt (qA kA vA oA gA lA : ℕ → ℕ → ℝ) (a j : ℕ) (d : Fin 128) (h r : ℕ) : ℝ :=
  Attn.dsk (n := 1) (row qA h r) (fun _ d => kA j (a * 128 + d)) (fun _ d => vA j (a * 128 + d)) (row gA h r) (lA h r)
    (Attn.delta (row gA h r) (row oA h r)) 0 * Consts.scale * row qA h r d
omit R in
/-- The same for the gradient of the value row. -/
def dvAt (qA kA gA lA : ℕ → ℕ → ℝ) (a j : ℕ) (d : Fin 128) (h r : ℕ) : ℝ :=
  Attn.pk (n := 1) (row qA h r) (fun _ d => kA j (a * 128 + d)) (lA h r) 0 * row gA h r d
omit R in
/-- The sum of `f` over the query rows step `s` of a sweep covers. -/
def part (f : ℕ → ℕ → ℝ) (a s : ℕ) : ℝ := ∑ x : Fin 1024, f (a * 4 + s / 8) (s % 8 * 1024 + x)

/-- One point's step of the key gradient. -/
theorem dk_step (n : ℕ) (hn : n < cfg0.N) (acc : Vec Ideal S1408x128 .f32) (j : Fin 1408) (d : Fin 128) (a' : ℝ)
    (ha : acc (ix2 j d) = (a' : EReal)) :
    @Eq EReal (step6 m c n hn acc (ix2 j d))
      ((a' + part (dkAt qA kA vA oA gA lA (n / 192) (n / 32 % 6 * 1408 + j) d) (n / 192) (n % 32) : ℝ) : EReal) := by
  unfold step6
  refine (DkvStep.dk_real (iblk m c 0 ⟨n, hn⟩) (iblk m c 5 ⟨n, hn⟩) (iblk m c 3 ⟨n, hn⟩) (iblk m c 1 ⟨n, hn⟩) (iblk m c 2 ⟨n, hn⟩)
    (iblk m c 4 ⟨n, hn⟩) acc j d _ _ _ _ _ _ a' (fun x e => blk0 R ⟨n, hn⟩ x e) (fun j e => blk1 R ⟨n, hn⟩ j e)
    (fun x => blk4 R ⟨n, hn⟩ x 0 0) (fun x e => blk5 R ⟨n, hn⟩ x e) ha (fun j e => blk2 R ⟨n, hn⟩ j e) (fun x e => blk3 R ⟨n, hn⟩ x e)).trans ?_
  unfold part
  rw [show n % 32 % 8 = n % 8 by omega]
  rfl

/-- One point's step of the value gradient. -/
theorem dv_step (n : ℕ) (hn : n < cfg0.N) (acc : Vec Ideal S1408x128 .f32) (j : Fin 1408) (d : Fin 128) (a' : ℝ)
    (ha : acc (ix2 j d) = (a' : EReal)) :
    @Eq EReal (step7 m c n hn acc (ix2 j d))
      ((a' + part (dvAt qA kA gA lA (n / 192) (n / 32 % 6 * 1408 + j) d) (n / 192) (n % 32) : ℝ) : EReal) := by
  unfold step7
  refine (DkvStep.dv_real (iblk m c 0 ⟨n, hn⟩) (iblk m c 5 ⟨n, hn⟩) (iblk m c 1 ⟨n, hn⟩)
    (iblk m c 4 ⟨n, hn⟩) acc j d _ _ _ _ a' (fun x e => blk0 R ⟨n, hn⟩ x e) (fun j e => blk1 R ⟨n, hn⟩ j e)
    (fun x => blk4 R ⟨n, hn⟩ x 0 0) (fun x e => blk5 R ⟨n, hn⟩ x e) ha).trans ?_
  unfold part
  rw [show n % 32 % 8 = n % 8 by omega]
  rfl

/-- The key gradient's accumulator after step `s` of sweep `u`. -/
theorem dk_inv (u s : ℕ) (hs : s < 32) (h : 32 * u + s < cfg0.N) (j : Fin 1408) (d : Fin 128) :
    @Eq EReal (Pipeline.accAt (reset6 m c) (step6 m c) (32 * u) s h (ix2 j d))
      ((∑ b ∈ Finset.range (s + 1), part (dkAt qA kA vA oA gA lA (u / 6) (u % 6 * 1408 + j) d) (u / 6) b : ℝ) : EReal) := by
  induction s with
  | zero =>
    rw [Pipeline.accAt_zero]
    have e1 : 32 * u / 192 = u / 6 := by omega
    have e2 : 32 * u / 32 % 6 = u % 6 := by omega
    have e3 : 32 * u % 32 = 0 := by omega
    have key := dk_step R (32 * u) h (k0_pay2 (F := Ideal)) j d 0 ((DkvStep.pay2_apply j d).trans EReal.coe_zero.symm)
    rw [e1, e2, e3, zero_add] at key
    rw [Finset.sum_range_one]
    exact key
  | succ s ih =>
    rw [Pipeline.accAt_succ]
    have e1 : (32 * u + (s + 1)) / 192 = u / 6 := by omega
    have e2 : (32 * u + (s + 1)) / 32 % 6 = u % 6 := by omega
    have e3 : (32 * u + (s + 1)) % 32 = s + 1 := by omega
    have key := dk_step R (32 * u + (s + 1)) h _ j d _ (ih (by omega) (Nat.lt_of_succ_lt h))
    rw [e1, e2, e3, ← Finset.sum_range_succ] at key
    exact key

/-- The value gradient's accumulator after step `s` of sweep `u`. -/
theorem dv_inv (u s : ℕ) (hs : s < 32) (h : 32 * u + s < cfg0.N) (j : Fin 1408) (d : Fin 128) :
    @Eq EReal (Pipeline.accAt (reset7 m c) (step7 m c) (32 * u) s h (ix2 j d))
      ((∑ b ∈ Finset.range (s + 1), part (dvAt qA kA gA lA (u / 6) (u % 6 * 1408 + j) d) (u / 6) b : ℝ) : EReal) := by
  induction s with
  | zero =>
    rw [Pipeline.accAt_zero]
    have e1 : 32 * u / 192 = u / 6 := by omega
    have e2 : 32 * u / 32 % 6 = u % 6 := by omega
    have e3 : 32 * u % 32 = 0 := by omega
    have key := dv_step R (32 * u) h (k0_pay3 (F := Ideal)) j d 0 ((DkvStep.pay3_apply j d).trans EReal.coe_zero.symm)
    rw [e1, e2, e3, zero_add] at key
    rw [Finset.sum_range_one]
    exact key
  | succ s ih =>
    rw [Pipeline.accAt_succ]
    have e1 : (32 * u + (s + 1)) / 192 = u / 6 := by omega
    have e2 : (32 * u + (s + 1)) / 32 % 6 = u % 6 := by omega
    have e3 : (32 * u + (s + 1)) % 32 = s + 1 := by omega
    have key := dv_step R (32 * u + (s + 1)) h _ j d _ (ih (by omega) (Nat.lt_of_succ_lt h))
    rw [e1, e2, e3, ← Finset.sum_range_succ] at key
    exact key

omit R in
/-- A sweep's steps together are the group's heads and all query rows. -/
theorem sum_parts (f : ℕ → ℕ → ℝ) (a : ℕ) : ∑ s ∈ Finset.range 32, part f a s = ∑ g : Fin 4, ∑ r : Fin 8192, f (a * 4 + g) r := by
  rw [Finset.sum_range, Attn.sum_blocks (N := 32) (a := 4) (b := 8) rfl]
  refine Finset.sum_congr rfl fun g _ => ?_
  rw [Attn.sum_blocks (N := 8192) (a := 8) (b := 1024) rfl]
  refine Finset.sum_congr rfl fun b _ => ?_
  unfold part
  refine Finset.sum_congr rfl fun x _ => ?_
  have e1 : (b.val + 8 * g.val) / 8 = g.val := by omega
  have e2 : (b.val + 8 * g.val) % 8 = b.val := by omega
  dsimp only
  rw [e1, e2]
  congr 1
  omega

omit R in
theorem acc6_congr (b b' : ℕ) (h : b + 31 < cfg0.N) (h' : b' + 31 < cfg0.N) (e : b = b') :
    Pipeline.accAt (reset6 m c) (step6 m c) b 31 h = Pipeline.accAt (reset6 m c) (step6 m c) b' 31 h' := by
  subst e; rfl

/-- The array dk the kernel writes: at key row `j`, kv head `a`, lane `d`, the sum over the group's heads and all queries. -/
theorem dk_real (j : Fin 8448) (a : Fin 2) (d : Fin 128) (x : Fin 256) (hx : x.val = a * 128 + d) :
    @Eq EReal (G6 m c (ix2 j x)) ((∑ g : Fin 4, ∑ r : Fin 8192, dkAt qA kA vA oA gA lA a j d (a * 4 + g) r : ℝ) : EReal) := by
  have hr : run6Of (ix2 j x) = j.val / 1408 + 6 * a.val := by
    show 1 * (j.val / 1408 - 0) + 6 * (x.val / 128 - 0) = _
    omega
  have hN : 32 * (j.val / 1408 + 6 * a.val) + 31 < cfg0.N := by rw [show cfg0.N = 384 from N_0]; omega
  have hl : loc6Of (ix2 j x) = ix2 ⟨j.val % 1408, by omega⟩ d := by
    funext b; apply Fin.ext
    match b with
    | ⟨0, _⟩ => rfl
    | ⟨1, _⟩ => show x.val % 128 = d.val; omega
  unfold G6
  rw [dif_pos (by rw [hr]; exact hN), hl]
  have key := dk_inv R (j.val / 1408 + 6 * a.val) 31 (by omega) hN ⟨j.val % 1408, by omega⟩ d
  have e1 : (j.val / 1408 + 6 * a.val) / 6 = a.val := by omega
  have e2 : (j.val / 1408 + 6 * a.val) % 6 * 1408 + j.val % 1408 = j.val := by omega
  simp only [e1, e2] at key
  rw [sum_parts] at key
  exact (congrFun (acc6_congr _ _ _ _ (by rw [hr])) _).trans key

omit R in
theorem acc7_congr (b b' : ℕ) (h : b + 31 < cfg0.N) (h' : b' + 31 < cfg0.N) (e : b = b') :
    Pipeline.accAt (reset7 m c) (step7 m c) b 31 h = Pipeline.accAt (reset7 m c) (step7 m c) b' 31 h' := by
  subst e; rfl

/-- The array dv the kernel writes: at key row `j`, kv head `a`, lane `d`, the sum over the group's heads and all queries. -/
theorem dv_real (j : Fin 8448) (a : Fin 2) (d : Fin 128) (x : Fin 256) (hx : x.val = a * 128 + d) :
    @Eq EReal (G7 m c (ix2 j x)) ((∑ g : Fin 4, ∑ r : Fin 8192, dvAt qA kA gA lA a j d (a * 4 + g) r : ℝ) : EReal) := by
  have hr : run7Of (ix2 j x) = j.val / 1408 + 6 * a.val := by
    show 1 * (j.val / 1408 - 0) + 6 * (x.val / 128 - 0) = _
    omega
  have hN : 32 * (j.val / 1408 + 6 * a.val) + 31 < cfg0.N := by rw [show cfg0.N = 384 from N_0]; omega
  have hl : loc7Of (ix2 j x) = ix2 ⟨j.val % 1408, by omega⟩ d := by
    funext b; apply Fin.ext
    match b with
    | ⟨0, _⟩ => rfl
    | ⟨1, _⟩ => show x.val % 128 = d.val; omega
  unfold G7
  rw [dif_pos (by rw [hr]; exact hN), hl]
  have key := dv_inv R (j.val / 1408 + 6 * a.val) 31 (by omega) hN ⟨j.val % 1408, by omega⟩ d
  have e1 : (j.val / 1408 + 6 * a.val) / 6 = a.val := by omega
  have e2 : (j.val / 1408 + 6 * a.val) % 6 * 1408 + j.val % 1408 = j.val := by omega
  simp only [e1, e2] at key
  rw [sum_parts] at key
  exact (congrFun (acc7_congr _ _ _ _ (by rw [hr])) _).trans key

end Cert.DkvFold

end
-- ==== Proof.DkvValue.lean ====
/- The dk/dv kernel's arrays are the reference's gradients of the keys and the values, for finite arguments. -/
module

public import proofs.«01_k».proof.Proof.DkvFold
public import proofs.«01_k».proof.Proof.DqValue
public import proofs.«01_k».proof.Proof.Gen.Reference2Ideal.Read

@[expose] public section

set_option maxRecDepth 16384

noncomputable section

namespace Cert.DkvValue

open Cert.Kernel2Ideal Cert.Kernel2Ideal.Gen Idealize.ShloMosaic Idealize.ShloMosaic.TcCoe Idealize.SL.Sem
open Idealize.ShloMosaic.Tactic
open Cert.RefReal (M)

variable (m : (ℓ : Loc nD τ sig) → Buf (Elt Ideal) ℓ) (c : Dev nD)

theorem v20 : V m c main_v20
    = ReferenceIdeal.Read.val_main_v37 (F := Ideal) (m (c.tc.loc main_arg0)) (m (c.tc.loc main_arg1)) (m (c.tc.loc main_arg2)) := by
  entry_read
  rfl

theorem v36 : V m c main_v36 = DqValue.lseV (m (c.tc.loc main_arg0)) (m (c.tc.loc main_arg1)) := by
  entry_read
  rfl

/-- The output the host hands the kernel, as a real function of row and column. -/
def oA (x0 : Vec Ideal S8192x1024 .f32) (x1 x2 : Vec Ideal S8448x256 .f32) (r x : ℕ) : ℝ :=
  Attn.o (RefReal.row (Finite.real2 x0) (x / 128) r) (RefReal.all (Finite.real2 x1) (x / 128 / 4))
    (RefReal.all (Finite.real2 x2) (x / 128 / 4)) (M x0 x1 (x / 128) r) ⟨x % 128, by omega⟩

/-- The log of the sums of exponentials the host hands the kernel. -/
def lA (x0 : Vec Ideal S8192x1024 .f32) (x1 : Vec Ideal S8448x256 .f32) (h r : ℕ) : ℝ :=
  Attn.lse (RefReal.row (Finite.real2 x0) h r) (RefReal.all (Finite.real2 x1) (h / 4)) (M x0 x1 h r)

theorem row_oA (x0 : Vec Ideal S8192x1024 .f32) (x1 x2 : Vec Ideal S8448x256 .f32) (h r : ℕ) :
    DkvFold.row (oA x0 x1 x2) h r = Attn.o (RefReal.row (Finite.real2 x0) h r) (RefReal.all (Finite.real2 x1) (h / 4))
        (RefReal.all (Finite.real2 x2) (h / 4)) (M x0 x1 h r) := by
  funext d
  unfold DkvFold.row oA
  have a1 : (h * 128 + d.val) / 128 = h := by omega
  have a2 : (⟨(h * 128 + d.val) % 128, by omega⟩ : Fin 128) = d := Fin.ext (by show (h * 128 + d.val) % 128 = d.val; omega)
  simp only [a1, a2]

section
variable (x0 : Vec Ideal S8192x1024 .f32) (x1 x2 : Vec Ideal S8448x256 .f32) (x3 : Vec Ideal S8192x1024 .f32)
    (e0 : m (c.tc.loc main_arg0) = x0) (e1 : m (c.tc.loc main_arg1) = x1) (e2 : m (c.tc.loc main_arg2) = x2)
    (e3 : m (c.tc.loc main_arg3) = x3) (h0 : ∀ i, ∃ y : ℝ, x0 i = y) (h1 : ∀ i, ∃ y : ℝ, x1 i = y)
    (h2 : ∀ i, ∃ y : ℝ, x2 i = y) (h3 : ∀ i, ∃ y : ℝ, x3 i = y)
include e0 e1 e2 e3 h0 h1 h2 h3

theorem reads : DkvFold.Reads m c (Finite.real2 x0) (Finite.real2 x1) (Finite.real2 x2) (oA x0 x1 x2) (Finite.real2 x3) (lA x0 x1) := by
  have hq := Finite.real2_eq x0 h0
  have hk := Finite.real2_eq x1 h1
  have hv := Finite.real2_eq x2 h2
  have hg := Finite.real2_eq x3 h3
  refine ⟨fun r x => ?_, fun r x => ?_, fun r x => ?_, fun r x => ?_, fun h r u => ?_, fun r x => ?_⟩
  · rw [V_main_arg0, e0]; exact hq r x
  · rw [V_main_arg1, e1]; exact hk r x
  · rw [V_main_arg2, e2]; exact hv r x
  · rw [v20, e0, e1, e2]
    exact RefReal.o_real hq hk hv r ⟨x.val / 128, by omega⟩ ⟨x.val % 128, by omega⟩ x (by show x.val = x.val / 128 * 128 + x.val % 128; omega)
  · rw [v36, e0, e1]; exact DqValue.lse_real hq hk h r u
  · rw [V_main_arg3, e3]; exact hg r x

/-- The array of the keys' gradient the kernel writes is the reference's. -/
theorem dk : Value.G6 m c = ReferenceIdeal.Read.val_main_v62 (F := Ideal) x0 x1 x2 x3 := by
  have R := reads m c x0 x1 x2 x3 e0 e1 e2 e3 h0 h1 h2 h3
  have hq := Finite.real2_eq x0 h0
  have hk := Finite.real2_eq x1 h1
  have hv := Finite.real2_eq x2 h2
  have hg := Finite.real2_eq x3 h3
  funext i
  obtain ⟨j, x, rfl⟩ : ∃ (j : Fin 8448) (x : Fin 256), i = ix2 j x := ⟨i 0, i 1, by idx_vars i⟩
  refine (DkvFold.dk_real R j ⟨x.val / 128, by omega⟩ ⟨x.val % 128, by omega⟩ x (by show x.val = x.val / 128 * 128 + x.val % 128; omega)).trans ?_
  refine Eq.trans ?_ (RefReal.dk_real hq hk hv hg j ⟨x.val / 128, by omega⟩ ⟨x.val % 128, by omega⟩ x (by show x.val = x.val / 128 * 128 + x.val % 128; omega)).symm
  refine congrArg _ (Finset.sum_congr rfl fun g _ => Finset.sum_congr rfl fun r _ => ?_)
  dsimp only
  have a1 : (x.val / 128 * 4 + g.val) / 4 = x.val / 128 := by omega
  unfold DkvFold.dkAt
  rw [row_oA]
  unfold lA
  rw [a1]
  exact congrArg (· * _) (Attn.dsk_scale (RefReal.row (Finite.real2 x0) (x.val / 128 * 4 + g.val) r) (RefReal.all (Finite.real2 x1) (x.val / 128))
    (RefReal.all (Finite.real2 x2) (x.val / 128)) (RefReal.row (Finite.real2 x3) (x.val / 128 * 4 + g.val) r)
    (M x0 x1 (x.val / 128 * 4 + g.val) r) (by norm_num) j)

/-- The array of the values' gradient the kernel writes is the reference's. -/
theorem dv : Value.G7 m c = ReferenceIdeal.Read.val_main_v64 (F := Ideal) x0 x1 x3 := by
  have R := reads m c x0 x1 x2 x3 e0 e1 e2 e3 h0 h1 h2 h3
  have hq := Finite.real2_eq x0 h0
  have hk := Finite.real2_eq x1 h1
  have hv := Finite.real2_eq x2 h2
  have hg := Finite.real2_eq x3 h3
  funext i
  obtain ⟨j, x, rfl⟩ : ∃ (j : Fin 8448) (x : Fin 256), i = ix2 j x := ⟨i 0, i 1, by idx_vars i⟩
  refine (DkvFold.dv_real R j ⟨x.val / 128, by omega⟩ ⟨x.val % 128, by omega⟩ x (by show x.val = x.val / 128 * 128 + x.val % 128; omega)).trans ?_
  refine Eq.trans ?_ (RefReal.dv_real hq hk hg j ⟨x.val / 128, by omega⟩ ⟨x.val % 128, by omega⟩ x (by show x.val = x.val / 128 * 128 + x.val % 128; omega)).symm
  refine congrArg _ (Finset.sum_congr rfl fun g _ => Finset.sum_congr rfl fun r _ => ?_)
  dsimp only
  have a1 : (x.val / 128 * 4 + g.val) / 4 = x.val / 128 := by omega
  unfold DkvFold.dvAt lA
  rw [a1]
  exact congrArg (· * _) (Attn.pk_lse (RefReal.row (Finite.real2 x0) (x.val / 128 * 4 + g.val) r) (RefReal.all (Finite.real2 x1) (x.val / 128))
    (M x0 x1 (x.val / 128 * 4 + g.val) r) (by norm_num) j)

end

end Cert.DkvValue

end
-- ==== Proof.DkvClaim.lean ====
/- The claims about the gradients of the attention's keys and values: the frames, the named constants, and the values. -/
module

public import proofs.«01_k».proof.Defs
public import proofs.«01_k».proof.Proof.Gen.Pre_finite
public import proofs.«01_k».proof.Proof.Gen.Kernel2.Frame
public import proofs.«01_k».proof.Proof.Gen.Reference2Ideal.Run
public import proofs.«01_k».proof.Proof.DkvValue
public import Idealize.ShloMosaic.Adequacy
public import Idealize.ShloMosaic.Init

@[expose] public section

set_option maxRecDepth 16384

noncomputable section

namespace Cert.DkvClaim

open Idealize.ShloMosaic Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_finite : Cert.quiescent_Kernel2Ideal_pre_finite := fun m ρ _ => Cert.Kernel2Ideal.Gen.frame m ρ
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
theorem frame_reference_finite : Cert.quiescent_Reference2Ideal_pre_finite := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The named constants are the numbers the names stand for. -/
theorem preserves : Cert.preserves_Kernel2_Kernel2Ideal :=
  ⟨IdealRules.named_const.statement Cert.Kernel2Ideal.κ "scale_log2e" .f32 0x3E0293EE#32 _ rfl,
   IdealRules.named_const.statement Cert.Kernel2Ideal.κ "log2e" .f32 0x3FB8AA3B#32 _ rfl,
   IdealRules.named_const.statement Cert.Kernel2Ideal.κ "ln2" .f32 0x3F317218#32 _ rfl⟩

/-- For finite arguments the kernel's arrays are the reference's. -/
theorem algebraic : Cert.algebraic_Kernel2Ideal_Reference2Ideal_pre_finite := by
  intro m g m' g' hp hag
  refine ⟨fun c => Cert.Kernel2Ideal.Value.G6 m c, fun c => Cert.Kernel2Ideal.Value.G7 m c, Cert.Kernel2Ideal.Value.run m g, ?_⟩
  refine (θ_run Cert.Reference2Ideal.defs _ _).mono (fun r h c => ?_) (Cert.Reference2Ideal.Value.run (F := Ideal) m' g')
  obtain ⟨a0, a1, a2, a3⟩ := hag c
  obtain ⟨f0, f1, f2, f3⟩ := Finite.args _ _ _ _ (hp c)
  refine ⟨(h c).1.trans ?_, (h c).2.1.trans ?_, (h c).2.2⟩
  · rw [Cert.Reference2Ideal.Read.val_main_v62_eq, a0, a1, a2, a3]
    exact (DkvValue.dk m c _ _ _ _ rfl rfl rfl rfl f0 f1 f2 f3).symm
  · rw [Cert.Reference2Ideal.Read.val_main_v64_eq, a0, a1, a3]
    exact (DkvValue.dv m c _ _ _ _ rfl rfl rfl rfl f0 f1 f2 f3).symm

end Cert.DkvClaim

end
-- ==== Proof.Blocked.lean ====
/- A product summed over blocks of its contracted axis: a grid run that starts at zero and adds one block's partial sum
   at each point ends holding the whole sum. -/
module

public import Idealize.ShloMosaic.Lib.Pipeline.Value
public import Idealize.ShloMosaic.PureOps.Ideal.Laws

@[expose] public section

namespace Cert.Blocked

open Idealize.ShloMosaic

/-- A sum over `J` blocks of `n` lanes is the sum over the whole axis. -/
theorem sum_blocks {M : Type} [AddCommMonoid M] {K J n : ℕ} (h : K = J * n) (f : Fin K → M) :
    (∑ s : Fin J, ∑ x : Fin n, f ⟨s.val * n + x.val, h ▸ by
      have := s.isLt; have := x.isLt; nlinarith⟩) = ∑ k, f k := by
  subst h
  rw [← Fintype.sum_prod_type']
  refine Fintype.sum_equiv finProdFinEquiv _ _ fun p => congrArg f (Fin.ext ?_)
  simp only [finProdFinEquiv, Equiv.coe_fn_mk]
  ring

/-- The run of points `b, …, b + J`, whose first point writes the step over `z` and whose every point `b + s` adds
    `term s` at place `y`, ends holding the sum of the terms there. -/
theorem acc {ι : Type} {M : Type} [AddCommMonoid M] {N J b : ℕ}
    (reset : ∀ n, n < N → ι → M) (step : ∀ n, n < N → (ι → M) → ι → M) (z : ι → M) (y : ι)
    (term : ℕ → M) (hr : ∀ n h, reset n h = step n h z) (hz : z y = 0)
    (hs : ∀ s, s ≤ J → ∀ h a, step (b + s) h a y = a y + term s) (j : ℕ) (hj : j ≤ J) (h : b + j < N) :
    Pipeline.accAt reset step b j h y = ∑ s ∈ Finset.range (j + 1), term s := by
  induction j with
  | zero =>
    rw [Pipeline.accAt_zero, hr, Finset.sum_range_one]
    exact (hs 0 (Nat.zero_le _) h z).trans (by rw [hz, zero_add])
  | succ j ih =>
    rw [Pipeline.accAt_succ, Finset.sum_range_succ, ← ih (by omega) (by omega)]
    exact hs (j + 1) hj h _

/-- That run, where point `b + s` adds the `s`-th block's part of a sum: it ends holding the whole sum. -/
theorem acc_sum {ι : Type} {M : Type} [AddCommMonoid M] {N K J n b : ℕ}
    (reset : ∀ n, n < N → ι → M) (step : ∀ n, n < N → (ι → M) → ι → M) (z : ι → M) (y : ι) (hK : K = (J + 1) * n)
    (f : Fin K → M) (hr : ∀ n h, reset n h = step n h z) (hz : z y = 0)
    (hs : ∀ s : Fin (J + 1), ∀ h a, step (b + s.val) h a y
      = a y + ∑ x : Fin n, f ⟨s.val * n + x.val, hK ▸ by have := s.isLt; have := x.isLt; nlinarith⟩)
    (h : b + J < N) : Pipeline.accAt reset step b J h y = ∑ k, f k := by
  rw [acc reset step z y (fun s => if hsJ : s < J + 1 then
      ∑ x : Fin n, f ⟨s * n + x.val, hK ▸ by have := x.isLt; nlinarith⟩ else 0) hr hz
    (fun s hsJ h a => by rw [dif_pos (by omega)]; exact hs ⟨s, by omega⟩ h a) J le_rfl h, Finset.sum_range,
    ← sum_blocks hK f]
  exact Finset.sum_congr rfl fun s _ => dif_pos s.isLt

/-- The same read off the array: `run` is the number of the run whose block holds the place asked for. -/
theorem array_sum {ι : Type} {M : Type} [AddCommMonoid M] {N K J n : ℕ}
    (reset : ∀ n, n < N → ι → M) (step : ∀ n, n < N → (ι → M) → ι → M) (z : ι → M) (y : ι) (hK : K = (J + 1) * n)
    (f : Fin K → M) (run b : ℕ) (other : M) (hb : run = b) (h : (J + 1) * b + J < N) (hr : ∀ n h, reset n h = step n h z)
    (hz : z y = 0)
    (hs : ∀ s : Fin (J + 1), ∀ h a, step ((J + 1) * b + s.val) h a y
      = a y + ∑ x : Fin n, f ⟨s.val * n + x.val, hK ▸ by have := s.isLt; have := x.isLt; nlinarith⟩) :
    (if h : (J + 1) * run + J < N then Pipeline.accAt reset step ((J + 1) * run) J h y else other) = ∑ k, f k := by
  subst hb
  rw [dif_pos h]
  exact acc_sum reset step z y hK f hr hz hs h

end Cert.Blocked
-- ==== Proof.FfnInDx.lean ====
/- The gradient of `ffn_in`'s rows: `dy` times the weight, 1408 of the 11264 columns of both at a time. -/
module

public import proofs.«01_k».proof.Proof.Blocked
public import proofs.«01_k».proof.Proof.Gen.FfnInDxIdeal.Value
public import proofs.«01_k».proof.Proof.Gen.FfnInDxRefIdeal.Read
public import Idealize.ShloMosaic.Lib.Pointwise
public import Idealize.ShloMosaic.Lib.Pipeline.ValueKit

@[expose] public section

set_option maxRecDepth 16384

noncomputable section

namespace Cert.FfnInDxValue

open Cert.FfnInDxIdeal Cert.FfnInDxIdeal.Gen Idealize.ShloMosaic Idealize.ShloMosaic.TcCoe Idealize.SL.Sem
open Idealize.ShloMosaic.Tactic

theorem idx : ∀ t : Fin cfg0.N, win0_0.index t = ![t.val / 8, t.val % 8] ∧ win0_1.index t = ![t.val % 8, 0, 0] :=
  (by decide +kernel : ∀ t : Fin grid0.N, _)

variable (m : (ℓ : Loc nD τ sig) → Buf (Elt Ideal) ℓ) (c : Dev nD)

/-- The shards read as the weight's columns. -/
theorem shard (s : Fin 8) (k : Fin 2048) (x : Fin 1408) (a : Fin 11264) (ha : a.val = s.val * 1408 + x.val) :
    V m c main_v2 (ix3 s k x) = m ((c : Thread nD τ).loc main_arg1) (ix2 k a) := by
  entry_read
  pointwise
  blk_ext

variable (w : Vec Ideal S2048x11264 .f32) (dy : Vec Ideal S8448x11264 .f32)
  (hw : m ((c : Thread nD τ).loc main_arg1) = w) (hdy : m ((c : Thread nD τ).loc main_arg2) = dy)

include hw hdy in
/-- One grid point adds its block's part of the sum. -/
theorem step (n : ℕ) (h : n < cfg0.N) (acc : Vec Ideal S768x2048 .f32) (y : S768x2048.Idx) (R : Fin 8448) (C : Fin 2048)
    (u : Fin 8) (hR : R.val = n / 8 * 768 + (y 0).val) (hC : C.val = (y 1).val) (hu : n % 8 = u.val) :
    Value.step2 m c n h acc y = acc y + ∑ x : Fin 1408,
      dy (ix2 R ⟨u.val * 1408 + x.val, by omega⟩) * w (ix2 C ⟨u.val * 1408 + x.val, by omega⟩) := by
  obtain ⟨r, k, rfl⟩ : ∃ (r : Fin 768) (k : Fin 2048), y = ix2 r k := ⟨y 0, y 1, by idx_vars y⟩
  replace hR : R.val = n / 8 * 768 + r.val := hR
  replace hC : C.val = k.val := hC
  unfold Value.step2
  pointwise [k0_pay2]
  refine congrArg _ (Finset.sum_congr rfl fun x _ => ?_)
  congr 1
  · rw [← hdy]
    blk_ext [iblk, V_main_arg2, (idx ⟨n, h⟩).1]
  · refine Eq.trans ?_ ((shard m c u C x _ rfl).trans (congrFun hw _))
    blk_ext [iblk, (idx ⟨n, h⟩).2]

include hw hdy in
theorem value : Value.G2 m c = Cert.FfnInDxRefIdeal.Read.val_main_v3 (F := Ideal) w dy := by
  funext i
  obtain ⟨R, C, rfl⟩ : ∃ (R : Fin 8448) (C : Fin 2048), i = ix2 R C := ⟨i 0, i 1, by idx_vars i⟩
  have hb : Value.run2Of (ix2 R C) = R.val / 768 := by
    show 1 * (R.val / 768 - 0) + 1 * (C.val / 2048 - 0) = _
    omega
  refine (Blocked.array_sum (J := 7) (n := 1408) (Value.reset2 m c) (Value.step2 m c) (k0_pay1 (F := Ideal))
    (Value.loc2Of (ix2 R C)) rfl (fun q : Fin 11264 => dy (ix2 R q) * w (ix2 C q)) _ _ _ hb
    (show _ < 88 by omega) (fun _ _ => rfl) (by pointwise [k0_pay1]) fun s h a =>
      step m c w dy hw hdy _ h a _ R C s (show _ = _ + R.val % 768 by omega) (show _ = C.val % 2048 by omega) (by omega)).trans ?_
  symm
  pointwise [Cert.FfnInDxRefIdeal.Read.val_main_v3]

end Cert.FfnInDxValue

end
-- ==== Proof.FfnInDw.lean ====
/- The gradient of `ffn_in`'s weight: the rows transposed times `dy`, 768 of the 8448 rows at a time, each device's columns
   in its own entry. -/
module

public import proofs.«01_k».proof.Proof.Blocked
public import proofs.«01_k».proof.Proof.Gen.FfnInDwIdeal.Value
public import proofs.«01_k».proof.Proof.Gen.FfnInDwRefIdeal.Read
public import Idealize.ShloMosaic.Lib.Pointwise
public import Idealize.ShloMosaic.Lib.Pipeline.ValueKit

@[expose] public section

set_option maxRecDepth 16384

noncomputable section

namespace Cert.FfnInDwValue

open Cert.FfnInDwIdeal Cert.FfnInDwIdeal.Gen Idealize.ShloMosaic Idealize.ShloMosaic.TcCoe Idealize.SL.Sem
open Idealize.ShloMosaic.Tactic

theorem idx : ∀ t : Fin cfg0.N, win0_0.index t = ![t.val % 11, t.val / 88] ∧ win0_1.index t = ![t.val % 11, t.val / 11 % 8] :=
  (by decide +kernel : ∀ t : Fin grid0.N, _)

variable (m : (ℓ : Loc nD τ sig) → Buf (Elt Ideal) ℓ) (c : Dev nD)
variable (h : Vec Ideal S8448x2048 .f32) (dy : Vec Ideal S8448x11264 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S1x1024x1408 .f32) (y : S1x1024x1408.Idx) (R : Fin 2048) (C : Fin 11264)
    (u : Fin 11) (hR : R.val = n / 88 * 1024 + (y 1).val) (hC : C.val = n / 11 % 8 * 1408 + (y 2).val) (hu : n % 11 = u.val) :
    Value.step2 m c n hn acc y = acc y + ∑ x : Fin 768,
      h (ix2 ⟨u.val * 768 + x.val, by omega⟩ R) * dy (ix2 ⟨u.val * 768 + x.val, by omega⟩ C) := by
  obtain ⟨z, r, k, rfl⟩ : ∃ (z : Fin 1) (r : Fin 1024) (k : Fin 1408), y = ix3 z r k := ⟨y 0, y 1, y 2, by idx_vars y⟩
  obtain rfl : z = 0 := Subsingleton.elim _ _
  replace hR : R.val = n / 88 * 1024 + r.val := hR
  replace hC : C.val = n / 11 % 8 * 1408 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.FfnInDwRefIdeal.Read.val_main_v5 (F := Ideal) h dy := by
  funext i
  obtain ⟨s, R, C, rfl⟩ : ∃ (s : Fin 8) (R : Fin 2048) (C : Fin 1408), i = ix3 s R C := ⟨i 0, i 1, i 2, by idx_vars i⟩
  have hb : Value.run2Of (ix3 s R C) = s.val + 8 * (R.val / 1024) := by
    show 1 * (s.val / 1 - 0) + 8 * (R.val / 1024 - 0) + 16 * (C.val / 1408 - 0) = _
    omega
  refine (Blocked.array_sum (J := 10) (n := 768) (Value.reset2 m c) (Value.step2 m c) (k0_pay1 (F := Ideal))
    (Value.loc2Of (ix3 s R C)) rfl (fun q : Fin 8448 => h (ix2 q R) * dy (ix2 q ⟨s.val * 1408 + C.val, by omega⟩)) _ _ _ hb
    (show _ < 176 by omega) (fun _ _ => rfl) (by pointwise [k0_pay1]) fun u hn a =>
      step m c h dy hh hdy _ hn a _ R _ u (show _ = _ + R.val % 1024 by omega) (show _ = _ + C.val % 1408 by dsimp only; omega)
        (by omega)).trans ?_
  symm
  pointwise [Cert.FfnInDwRefIdeal.Read.val_main_v5, Cert.FfnInDwRefIdeal.Read.val_main_v4, Cert.FfnInDwRefIdeal.Read.val_main_v2, Cert.FfnInDwRefIdeal.Read.val_main_v1]
  exact Finset.sum_congr rfl fun q _ => mul_comm _ _

end Cert.FfnInDwValue

end
-- ==== Proof.FfnInFwd.lean ====
/- `ffn_in`'s product, one block of 768 rows and 1408 columns at a grid point, each over all 2048 of the summed index. -/
module

public import proofs.«01_k».proof.Proof.Gen.FfnInFwdIdeal.Value
public import proofs.«01_k».proof.Proof.Gen.FfnInFwdRefIdeal.Read
public import Idealize.ShloMosaic.Lib.Pointwise
public import Idealize.ShloMosaic.Lib.Pipeline.ValueKit

@[expose] public section

set_option maxRecDepth 16384

noncomputable section

namespace Cert.FfnInFwdValue

open Cert.FfnInFwdIdeal Cert.FfnInFwdIdeal.Gen Idealize.ShloMosaic Idealize.ShloMosaic.TcCoe Idealize.SL.Sem
open Idealize.ShloMosaic.Tactic

theorem idx : ∀ t : Fin cfg0.N, win0_0.index t = ![t.val / 8, 0] ∧ win0_1.index t = ![t.val % 8, 0, 0]
    ∧ win0_2.index t = ![t.val / 8, t.val % 8] ∧ (cfg0.win 2).flush t = true :=
  (by decide +kernel : ∀ t : Fin grid0.N, win0_0.index t = ![t.val / 8, 0] ∧ win0_1.index t = ![t.val % 8, 0, 0]
    ∧ win0_2.index t = ![t.val / 8, t.val % 8] ∧ win0_2.flush t = true)

theorem hz2 : (![0, 0] : Fin 2 → Nat) = fun _ => 0 := funext fun a => by fin_cases a <;> rfl
theorem hz3 : (![0, 0, 0] : Fin 3 → Nat) = fun _ => 0 := funext fun a => by fin_cases a <;> rfl

/-- What a grid point leaves in the output's buffer: the product of its two blocks, added to zero. -/
theorem out_eq (c : Dev nD) (i : grid0.Coords) (arg3 : Memref sig .tc .vmem S768x2048 .f32) (harg3 : arg3.IsWhole)
    (arg4 : Memref sig .tc .vmem S1x2048x1408 .bf16) (harg4 : arg4.IsWhole)
    (arg5 : Memref sig .tc .vmem S768x1408 .f32) (harg5 : arg5.IsWhole) (hc0 : cond0_0 i)
    (x0 : Vec Ideal S768x2048 .f32) (x1 : Vec Ideal S1x2048x1408 .bf16) :
    out0_A_2 c i arg3 harg3 arg4 harg4 arg5 harg5 hc0 x0 x1 = k0_pay2 (k0_pay1 (F := Ideal)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S768x1408) hz2, View.readCov_unit_zero (S := S768x1408) _ hz2]
  simp only [View.readAt_eq_ld, harg3.read_unread, harg4.read_unread, harg5.read_unread,
    View.ld_unit_zero (S := S1x2048x1408) hz3, View.ld_unit_zero (S := S768x1408) hz2,
    View.ld_unit_zero (S := S768x2048) hz2, shapeCast_self]

variable (m : (ℓ : Loc nD τ sig) → Buf (Elt Ideal) ℓ) (c : Dev nD)

/-- The shards read as the weight's columns. -/
theorem shard (s : Fin 8) (k : Fin 2048) (x : Fin 1408) (a : Fin 11264) (ha : a.val = s.val * 1408 + x.val) :
    V m c main_v2 (ix3 s k x) = m ((c : Thread nD τ).loc main_arg1) (ix2 k a) := by
  entry_read
  pointwise
  blk_ext

variable (h : Vec Ideal S8448x2048 .f32) (w : Vec Ideal S2048x11264 .f32)
  (hh : m ((c : Thread nD τ).loc main_arg0) = h) (hw : m ((c : Thread nD τ).loc main_arg1) = w)

include hh hw in
/-- A grid point's block of the product. -/
theorem point (t : Fin cfg0.N) (y : S768x1408.Idx) (i : S8448x11264.Idx) (hR : (i 0).val = t.val / 8 * 768 + (y 0).val)
    (hC : (i 1).val = t.val % 8 * 1408 + (y 1).val) :
    k0_pay2 (k0_pay1 (F := Ideal)) (iblk m c 0 t) (iblk m c 1 t) y
      = Cert.FfnInFwdRefIdeal.Read.val_main_v0 (F := Ideal) h w i := by
  obtain ⟨R, C, rfl⟩ : ∃ (R : Fin 8448) (C : Fin 11264), i = ix2 R C := ⟨i 0, i 1, by idx_vars i⟩
  obtain ⟨r, k, rfl⟩ : ∃ (r : Fin 768) (k : Fin 1408), y = ix2 r k := ⟨y 0, y 1, by idx_vars y⟩
  replace hR : R.val = t.val / 8 * 768 + r.val := hR
  replace hC : C.val = t.val % 8 * 1408 + k.val := hC
  pointwise [k0_pay2, k0_pay1, Cert.FfnInFwdRefIdeal.Read.val_main_v0]
  refine Finset.sum_congr rfl fun x _ => ?_
  congr 1
  · rw [← hh]
    blk_ext [iblk, V_main_arg0, (idx t).1]
  · refine Eq.trans ?_ ((shard m c ⟨t.val % 8, by omega⟩ x k C hC).trans (congrFun hw _))
    blk_ext [iblk, (idx t).2.1]

theorem mem_blk (t : Fin cfg0.N) (i : S8448x11264.Idx) :
    i ∈ ((cfg0.win 2).blk t).view.set ↔ ∀ a : Fin 2, win0_2.index t a * S768x1408.size a ≤ (i a).val
      ∧ (i a).val < win0_2.index t a * S768x1408.size a + S768x1408.size a := by
  show i ∈ ((View.whole main_v3).slice (win0_2.rect t)).set ↔ _
  rw [View.set_slice_whole, Rect.mem_set_unit]
  exact Iff.rfl

include hh hw in
/-- The array after the run: the blocks tile it, and each is the product's. -/
theorem value : (dats m 0 c).arrAt 2 cfg0.N = Cert.FfnInFwdRefIdeal.Read.val_main_v0 (F := Ideal) h w := by
  refine (dats m 0 c).arrAt_eq_of_cover 2 _ (fun t _ => ?_) fun i => ?_
  · rw [Value.flushed2_A, out_eq]
    funext y
    refine point m c h w hh hw t ((cfg0.win 2).xinj (grid0.coords t) y) (((cfg0.win 2).blk t).view.emb y) ?_ ?_
    · show win0_2.index t (0 : Fin 2) * 768 + 1 * (y 0).val = _ * 768 + (y 0).val
      rw [(idx t).2.2.1, one_mul]
      rfl
    · show win0_2.index t (1 : Fin 2) * 1408 + 1 * (y 1).val = _ * 1408 + (y 1).val
      rw [(idx t).2.2.1, one_mul]
      rfl
  · have h0 : (i 0).val < 8448 := (i 0).isLt
    have h1 : (i 1).val < 11264 := (i 1).isLt
    have hN : (i 0).val / 768 * 8 + (i 1).val / 1408 < cfg0.N := by
      rw [show cfg0.N = 88 from N_0]
      omega
    refine ⟨⟨_, hN⟩, (idx _).2.2.2, ?_⟩
    rw [mem_blk, (idx _).2.2.1]
    intro a
    match a with
    | ⟨0, _⟩ =>
      show ((i 0).val / 768 * 8 + (i 1).val / 1408) / 8 * 768 ≤ (i 0).val
        ∧ (i 0).val < ((i 0).val / 768 * 8 + (i 1).val / 1408) / 8 * 768 + 768
      omega
    | ⟨1, _⟩ =>
      show ((i 0).val / 768 * 8 + (i 1).val / 1408) % 8 * 1408 ≤ (i 1).val
        ∧ (i 1).val < ((i 0).val / 768 * 8 + (i 1).val / 1408) % 8 * 1408 + 1408
      omega

end Cert.FfnInFwdValue

end
-- ==== Proof.FfnOutDx.lean ====
/- The gradient of `ffn_out`'s rows: `dy` times the weight, 1024 of the 2048 columns of both at a time. -/
module

public import proofs.«01_k».proof.Proof.Blocked
public import proofs.«01_k».proof.Proof.Gen.FfnOutDxIdeal.Value
public import proofs.«01_k».proof.Proof.Gen.FfnOutDxRefIdeal.Read
public import Idealize.ShloMosaic.Lib.Pointwise
public import Idealize.ShloMosaic.Lib.Pipeline.ValueKit

@[expose] public section

set_option maxRecDepth 16384

noncomputable section

namespace Cert.FfnOutDxValue

open Cert.FfnOutDxIdeal Cert.FfnOutDxIdeal.Gen Idealize.ShloMosaic Idealize.ShloMosaic.TcCoe Idealize.SL.Sem
open Idealize.ShloMosaic.Tactic

theorem idx : ∀ t : Fin cfg0.N, win0_0.index t = ![t.val / 8, t.val % 2] ∧ win0_1.index t = ![t.val / 2 % 4, t.val % 2] :=
  (by decide +kernel : ∀ t : Fin grid0.N, _)

variable (m : (ℓ : Loc nD τ sig) → Buf (Elt Ideal) ℓ) (c : Dev nD)
variable (w : Vec Ideal S5632x2048 .f32) (dy : Vec Ideal S8448x2048 .f32)
  (hw : m ((c : Thread nD τ).loc main_arg1) = w) (hdy : m ((c : Thread nD τ).loc main_arg2) = dy)

include hw in
theorem weight : V m c main_v0 = w := by
  rw [← hw]
  entry_read
  rfl

include hw hdy in
/-- One grid point adds its block's part of the sum. -/
theorem step (n : ℕ) (hn : n < cfg0.N) (acc : Vec Ideal S768x1408 .f32) (y : S768x1408.Idx) (R : Fin 8448) (C : Fin 5632)
    (u : Fin 2) (hR : R.val = n / 8 * 768 + (y 0).val) (hC : C.val = n / 2 % 4 * 1408 + (y 1).val) (hu : n % 2 = u.val) :
    Value.step2 m c n hn acc y = acc y + ∑ x : Fin 1024,
      dy (ix2 R ⟨u.val * 1024 + x.val, by omega⟩) * w (ix2 C ⟨u.val * 1024 + x.val, by omega⟩) := by
  obtain ⟨r, k, rfl⟩ : ∃ (r : Fin 768) (k : Fin 1408), y = ix2 r k := ⟨y 0, y 1, by idx_vars y⟩
  replace hR : R.val = n / 8 * 768 + r.val := hR
  replace hC : C.val = n / 2 % 4 * 1408 + k.val := hC
  unfold Value.step2
  pointwise [k0_pay2]
  refine congrArg _ (Finset.sum_congr rfl fun x _ => ?_)
  congr 1
  · rw [← hdy]
    blk_ext [iblk, V_main_arg2, (idx ⟨n, hn⟩).1]
  · rw [← weight m c w hw]
    blk_ext [iblk, (idx ⟨n, hn⟩).2]

include hw hdy in
theorem value : Value.G2 m c = Cert.FfnOutDxRefIdeal.Read.val_main_v3 (F := Ideal) w dy := by
  funext i
  obtain ⟨R, C, rfl⟩ : ∃ (R : Fin 8448) (C : Fin 5632), i = ix2 R C := ⟨i 0, i 1, by idx_vars i⟩
  have hb : Value.run2Of (ix2 R C) = 4 * (R.val / 768) + C.val / 1408 := by
    show 4 * (R.val / 768 - 0) + 1 * (C.val / 1408 - 0) = _
    omega
  refine (Blocked.array_sum (J := 1) (n := 1024) (Value.reset2 m c) (Value.step2 m c) (k0_pay1 (F := Ideal))
    (Value.loc2Of (ix2 R C)) rfl (fun q : Fin 2048 => dy (ix2 R q) * w (ix2 C q)) _ _ _ hb
    (show _ < 88 by omega) (fun _ _ => rfl) (by pointwise [k0_pay1]) fun s hn a =>
      step m c w dy hw hdy _ hn a _ R C s (show _ = _ + R.val % 768 by omega) (show _ = _ + C.val % 1408 by omega) (by omega)).trans ?_
  symm
  pointwise [Cert.FfnOutDxRefIdeal.Read.val_main_v3]

end Cert.FfnOutDxValue

end
-- ==== Proof.FfnOutDw.lean ====
/- The gradient of `ffn_out`'s weight: the rows transposed times `dy`, 768 of the 8448 rows at a time. -/
module

public import proofs.«01_k».proof.Proof.Blocked
public import proofs.«01_k».proof.Proof.Gen.FfnOutDwIdeal.Value
public import proofs.«01_k».proof.Proof.Gen.FfnOutDwRefIdeal.Read
public import Idealize.ShloMosaic.Lib.Pointwise
public import Idealize.ShloMosaic.Lib.Pipeline.ValueKit

@[expose] public section

set_option maxRecDepth 16384

noncomputable section

namespace Cert.FfnOutDwValue

open Cert.FfnOutDwIdeal Cert.FfnOutDwIdeal.Gen Idealize.ShloMosaic Idealize.ShloMosaic.TcCoe Idealize.SL.Sem
open Idealize.ShloMosaic.Tactic

theorem idx : ∀ t : Fin cfg0.N, win0_0.index t = ![t.val % 11, t.val / 22] ∧ win0_1.index t = ![t.val % 11, t.val / 11 % 2] :=
  (by decide +kernel : ∀ t : Fin grid0.N, _)

variable (m : (ℓ : Loc nD τ sig) → Buf (Elt Ideal) ℓ) (c : Dev nD)
variable (h : Vec Ideal S8448x5632 .f32) (dy : Vec Ideal S8448x2048 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S512x1024 .f32) (y : S512x1024.Idx) (R : Fin 5632) (C : Fin 2048)
    (u : Fin 11) (hR : R.val = n / 22 * 512 + (y 0).val) (hC : C.val = n / 11 % 2 * 1024 + (y 1).val) (hu : n % 11 = u.val) :
    Value.step2 m c n hn acc y = acc y + ∑ x : Fin 768,
      h (ix2 ⟨u.val * 768 + x.val, by omega⟩ R) * dy (ix2 ⟨u.val * 768 + x.val, by omega⟩ C) := by
  obtain ⟨r, k, rfl⟩ : ∃ (r : Fin 512) (k : Fin 1024), y = ix2 r k := ⟨y 0, y 1, by idx_vars y⟩
  replace hR : R.val = n / 22 * 512 + r.val := hR
  replace hC : C.val = n / 11 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.FfnOutDwRefIdeal.Read.val_main_v2 (F := Ideal) h dy := by
  funext i
  obtain ⟨R, C, rfl⟩ : ∃ (R : Fin 5632) (C : Fin 2048), i = ix2 R C := ⟨i 0, i 1, by idx_vars i⟩
  have hb : Value.run2Of (ix2 R C) = 2 * (R.val / 512) + C.val / 1024 := by
    show 2 * (R.val / 512 - 0) + 1 * (C.val / 1024 - 0) = _
    omega
  refine (Blocked.array_sum (J := 10) (n := 768) (Value.reset2 m c) (Value.step2 m c) (k0_pay1 (F := Ideal))
    (Value.loc2Of (ix2 R C)) rfl (fun q : Fin 8448 => h (ix2 q R) * dy (ix2 q C)) _ _ _ hb
    (show _ < 242 by omega) (fun _ _ => rfl) (by pointwise [k0_pay1]) fun u hn a =>
      step m c h dy hh hdy _ hn a _ R C u (show _ = _ + R.val % 512 by omega) (show _ = _ + C.val % 1024 by omega) (by omega)).trans ?_
  symm
  pointwise [Cert.FfnOutDwRefIdeal.Read.val_main_v2, Cert.FfnOutDwRefIdeal.Read.val_main_v1]
  exact Finset.sum_congr rfl fun q _ => mul_comm _ _

end Cert.FfnOutDwValue

end
-- ==== Proof.FfnOutFwd.lean ====
/- `ffn_out`'s product, 1408 of the 5632 columns of the rows at a time. -/
module

public import proofs.«01_k».proof.Proof.Blocked
public import proofs.«01_k».proof.Proof.Gen.FfnOutFwdIdeal.Value
public import proofs.«01_k».proof.Proof.Gen.FfnOutFwdRefIdeal.Read
public import Idealize.ShloMosaic.Lib.Pointwise
public import Idealize.ShloMosaic.Lib.Pipeline.ValueKit

@[expose] public section

set_option maxRecDepth 16384

noncomputable section

namespace Cert.FfnOutFwdValue

open Cert.FfnOutFwdIdeal Cert.FfnOutFwdIdeal.Gen Idealize.ShloMosaic Idealize.ShloMosaic.TcCoe Idealize.SL.Sem
open Idealize.ShloMosaic.Tactic

theorem idx : ∀ t : Fin cfg0.N, win0_0.index t = ![t.val / 8, t.val % 4] ∧ win0_1.index t = ![t.val % 4, t.val / 4 % 2] :=
  (by decide +kernel : ∀ t : Fin grid0.N, _)

variable (m : (ℓ : Loc nD τ sig) → Buf (Elt Ideal) ℓ) (c : Dev nD)
variable (h : Vec Ideal S8448x5632 .f32) (w : Vec Ideal S5632x2048 .f32)
  (hh : m ((c : Thread nD τ).loc main_arg0) = h) (hw : m ((c : Thread nD τ).loc main_arg1) = w)

include hw in
theorem weight : V m c main_v0 = w := by
  rw [← hw]
  entry_read
  rfl

include hh hw in
/-- One grid point adds its block's part of the sum. -/
theorem step (n : ℕ) (hn : n < cfg0.N) (acc : Vec Ideal S768x1024 .f32) (y : S768x1024.Idx) (R : Fin 8448) (C : Fin 2048)
    (u : Fin 4) (hR : R.val = n / 8 * 768 + (y 0).val) (hC : C.val = n / 4 % 2 * 1024 + (y 1).val) (hu : n % 4 = u.val) :
    Value.step2 m c n hn acc y = acc y + ∑ x : Fin 1408,
      h (ix2 R ⟨u.val * 1408 + x.val, by omega⟩) * w (ix2 ⟨u.val * 1408 + x.val, by omega⟩ C) := by
  obtain ⟨r, k, rfl⟩ : ∃ (r : Fin 768) (k : Fin 1024), y = ix2 r k := ⟨y 0, y 1, by idx_vars y⟩
  replace hR : R.val = n / 8 * 768 + r.val := hR
  replace hC : C.val = n / 4 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← weight m c w hw]
    blk_ext [iblk, (idx ⟨n, hn⟩).2]

include hh hw in
theorem value : Value.G2 m c = Cert.FfnOutFwdRefIdeal.Read.val_main_v0 (F := Ideal) h w := by
  funext i
  obtain ⟨R, C, rfl⟩ : ∃ (R : Fin 8448) (C : Fin 2048), i = ix2 R C := ⟨i 0, i 1, by idx_vars i⟩
  have hb : Value.run2Of (ix2 R C) = 2 * (R.val / 768) + C.val / 1024 := by
    show 2 * (R.val / 768 - 0) + 1 * (C.val / 1024 - 0) = _
    omega
  refine (Blocked.array_sum (J := 3) (n := 1408) (Value.reset2 m c) (Value.step2 m c) (k0_pay1 (F := Ideal))
    (Value.loc2Of (ix2 R C)) rfl (fun q : Fin 5632 => h (ix2 R q) * w (ix2 q C)) _ _ _ hb
    (show _ < 88 by omega) (fun _ _ => rfl) (by pointwise [k0_pay1]) fun s hn a =>
      step m c h w hh hw _ hn a _ R C s (show _ = _ + R.val % 768 by omega) (show _ = _ + C.val % 1024 by omega) (by omega)).trans ?_
  symm
  pointwise [Cert.FfnOutFwdRefIdeal.Read.val_main_v0]

end Cert.FfnOutFwdValue

end
-- ==== Proof.InProjDx.lean ====
/- The gradient of `in_proj`'s rows: `dy` times the weight, 1152 of the 5760 columns of both at a time. -/
module

public import proofs.«01_k».proof.Proof.Blocked
public import proofs.«01_k».proof.Proof.Gen.InProjDxIdeal.Value
public import proofs.«01_k».proof.Proof.Gen.InProjDxRefIdeal.Read
public import Idealize.ShloMosaic.Lib.Pointwise
public import Idealize.ShloMosaic.Lib.Pipeline.ValueKit

@[expose] public section

set_option maxRecDepth 16384

noncomputable section

namespace Cert.InProjDxValue

open Cert.InProjDxIdeal Cert.InProjDxIdeal.Gen Idealize.ShloMosaic Idealize.ShloMosaic.TcCoe Idealize.SL.Sem
open Idealize.ShloMosaic.Tactic

theorem idx : ∀ t : Fin cfg0.N, win0_0.index t = ![t.val / 5, t.val % 5] ∧ win0_1.index t = ![0, t.val % 5] :=
  (by decide +kernel : ∀ t : Fin grid0.N, _)

variable (m : (ℓ : Loc nD τ sig) → Buf (Elt Ideal) ℓ) (c : Dev nD)
variable (w : Vec Ideal S2048x5760 .f32) (dy : Vec Ideal S8448x5760 .f32)
  (hw : m ((c : Thread nD τ).loc main_arg1) = w) (hdy : m ((c : Thread nD τ).loc main_arg2) = dy)

include hw in
theorem weight : V m c main_v0 = w := by
  rw [← hw]
  entry_read
  rfl

include hw hdy in
/-- One grid point adds its block's part of the sum. -/
theorem step (n : ℕ) (hn : n < cfg0.N) (acc : Vec Ideal S768x2048 .f32) (y : S768x2048.Idx) (R : Fin 8448) (C : Fin 2048)
    (u : Fin 5) (hR : R.val = n / 5 * 768 + (y 0).val) (hC : C.val = (y 1).val) (hu : n % 5 = u.val) :
    Value.step2 m c n hn acc y = acc y + ∑ x : Fin 1152,
      dy (ix2 R ⟨u.val * 1152 + x.val, by omega⟩) * w (ix2 C ⟨u.val * 1152 + x.val, by omega⟩) := by
  obtain ⟨r, k, rfl⟩ : ∃ (r : Fin 768) (k : Fin 2048), y = ix2 r k := ⟨y 0, y 1, by idx_vars y⟩
  replace hR : R.val = n / 5 * 768 + r.val := hR
  replace hC : C.val = k.val := hC
  unfold Value.step2
  pointwise [k0_pay2]
  refine congrArg _ (Finset.sum_congr rfl fun x _ => ?_)
  congr 1
  · rw [← hdy]
    blk_ext [iblk, V_main_arg2, (idx ⟨n, hn⟩).1]
  · rw [← weight m c w hw]
    blk_ext [iblk, (idx ⟨n, hn⟩).2]

include hw hdy in
theorem value : Value.G2 m c = Cert.InProjDxRefIdeal.Read.val_main_v3 (F := Ideal) w dy := by
  funext i
  obtain ⟨R, C, rfl⟩ : ∃ (R : Fin 8448) (C : Fin 2048), i = ix2 R C := ⟨i 0, i 1, by idx_vars i⟩
  have hb : Value.run2Of (ix2 R C) = R.val / 768 := by
    show 1 * (R.val / 768 - 0) + 1 * (C.val / 2048 - 0) = _
    omega
  refine (Blocked.array_sum (J := 4) (n := 1152) (Value.reset2 m c) (Value.step2 m c) (k0_pay1 (F := Ideal))
    (Value.loc2Of (ix2 R C)) rfl (fun q : Fin 5760 => dy (ix2 R q) * w (ix2 C q)) _ _ _ hb
    (show _ < 55 by omega) (fun _ _ => rfl) (by pointwise [k0_pay1]) fun s hn a =>
      step m c w dy hw hdy _ hn a _ R C s (show _ = _ + R.val % 768 by omega) (show _ = C.val % 2048 by omega) (by omega)).trans ?_
  symm
  pointwise [Cert.InProjDxRefIdeal.Read.val_main_v3]

end Cert.InProjDxValue

end
-- ==== Proof.InProjDw.lean ====
/- The gradient of `in_proj`'s weight: the rows transposed times `dy`, 768 of the 8448 rows at a time. -/
module

public import proofs.«01_k».proof.Proof.Blocked
public import proofs.«01_k».proof.Proof.Gen.InProjDwIdeal.Value
public import proofs.«01_k».proof.Proof.Gen.InProjDwRefIdeal.Read
public import Idealize.ShloMosaic.Lib.Pointwise
public import Idealize.ShloMosaic.Lib.Pipeline.ValueKit

@[expose] public section

set_option maxRecDepth 16384

noncomputable section

namespace Cert.InProjDwValue

open Cert.InProjDwIdeal Cert.InProjDwIdeal.Gen Idealize.ShloMosaic Idealize.ShloMosaic.TcCoe Idealize.SL.Sem
open Idealize.ShloMosaic.Tactic

theorem idx : ∀ t : Fin cfg0.N, win0_0.index t = ![t.val % 11, t.val / 55] ∧ win0_1.index t = ![t.val % 11, t.val / 11 % 5] :=
  (by decide +kernel : ∀ t : Fin grid0.N, _)

variable (m : (ℓ : Loc nD τ sig) → Buf (Elt Ideal) ℓ) (c : Dev nD)
variable (h : Vec Ideal S8448x2048 .f32) (dy : Vec Ideal S8448x5760 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S1024x1152 .f32) (y : S1024x1152.Idx) (R : Fin 2048) (C : Fin 5760)
    (u : Fin 11) (hR : R.val = n / 55 * 1024 + (y 0).val) (hC : C.val = n / 11 % 5 * 1152 + (y 1).val) (hu : n % 11 = u.val) :
    Value.step2 m c n hn acc y = acc y + ∑ x : Fin 768,
      h (ix2 ⟨u.val * 768 + x.val, by omega⟩ R) * dy (ix2 ⟨u.val * 768 + x.val, by omega⟩ C) := by
  obtain ⟨r, k, rfl⟩ : ∃ (r : Fin 1024) (k : Fin 1152), y = ix2 r k := ⟨y 0, y 1, by idx_vars y⟩
  replace hR : R.val = n / 55 * 1024 + r.val := hR
  replace hC : C.val = n / 11 % 5 * 1152 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.InProjDwRefIdeal.Read.val_main_v2 (F := Ideal) h dy := by
  funext i
  obtain ⟨R, C, rfl⟩ : ∃ (R : Fin 2048) (C : Fin 5760), i = ix2 R C := ⟨i 0, i 1, by idx_vars i⟩
  have hb : Value.run2Of (ix2 R C) = 5 * (R.val / 1024) + C.val / 1152 := by
    show 5 * (R.val / 1024 - 0) + 1 * (C.val / 1152 - 0) = _
    omega
  refine (Blocked.array_sum (J := 10) (n := 768) (Value.reset2 m c) (Value.step2 m c) (k0_pay1 (F := Ideal))
    (Value.loc2Of (ix2 R C)) rfl (fun q : Fin 8448 => h (ix2 q R) * dy (ix2 q C)) _ _ _ hb
    (show _ < 110 by omega) (fun _ _ => rfl) (by pointwise [k0_pay1]) fun u hn a =>
      step m c h dy hh hdy _ hn a _ R C u (show _ = _ + R.val % 1024 by omega) (show _ = _ + C.val % 1152 by omega) (by omega)).trans ?_
  symm
  pointwise [Cert.InProjDwRefIdeal.Read.val_main_v2, Cert.InProjDwRefIdeal.Read.val_main_v1]
  exact Finset.sum_congr rfl fun q _ => mul_comm _ _

end Cert.InProjDwValue

end
-- ==== Proof.InProjFwd.lean ====
/- `in_proj`'s product, one block of 768 rows and 1152 columns at a grid point, each over all 2048 of the summed index. -/
module

public import proofs.«01_k».proof.Proof.Gen.InProjFwdIdeal.Value
public import proofs.«01_k».proof.Proof.Gen.InProjFwdRefIdeal.Read
public import Idealize.ShloMosaic.Lib.Pointwise
public import Idealize.ShloMosaic.Lib.Pipeline.ValueKit

@[expose] public section

set_option maxRecDepth 16384

noncomputable section

namespace Cert.InProjFwdValue

open Cert.InProjFwdIdeal Cert.InProjFwdIdeal.Gen Idealize.ShloMosaic Idealize.ShloMosaic.TcCoe Idealize.SL.Sem
open Idealize.ShloMosaic.Tactic

theorem idx : ∀ t : Fin cfg0.N, win0_0.index t = ![t.val / 5, 0] ∧ win0_1.index t = ![0, t.val % 5]
    ∧ win0_2.index t = ![t.val / 5, t.val % 5] ∧ (cfg0.win 2).flush t = true :=
  (by decide +kernel : ∀ t : Fin grid0.N, win0_0.index t = ![t.val / 5, 0] ∧ win0_1.index t = ![0, t.val % 5]
    ∧ win0_2.index t = ![t.val / 5, t.val % 5] ∧ win0_2.flush t = true)

theorem hz2 : (![0, 0] : Fin 2 → Nat) = fun _ => 0 := funext fun a => by fin_cases a <;> rfl

/-- What a grid point leaves in the output's buffer: the product of its two blocks, added to zero. -/
theorem out_eq (c : Dev nD) (i : grid0.Coords) (arg3 : Memref sig .tc .vmem S768x2048 .f32) (harg3 : arg3.IsWhole)
    (arg4 : Memref sig .tc .vmem S2048x1152 .bf16) (harg4 : arg4.IsWhole)
    (arg5 : Memref sig .tc .vmem S768x1152 .f32) (harg5 : arg5.IsWhole) (hc0 : cond0_0 i)
    (x0 : Vec Ideal S768x2048 .f32) (x1 : Vec Ideal S2048x1152 .bf16) :
    out0_A_2 c i arg3 harg3 arg4 harg4 arg5 harg5 hc0 x0 x1 = k0_pay2 (k0_pay1 (F := Ideal)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S768x1152) hz2, View.readCov_unit_zero (S := S768x1152) _ hz2]
  simp only [View.readAt_eq_ld, harg3.read_unread, harg4.read_unread, harg5.read_unread,
    View.ld_unit_zero (S := S2048x1152) hz2, View.ld_unit_zero (S := S768x1152) hz2,
    View.ld_unit_zero (S := S768x2048) hz2, shapeCast_self]

variable (m : (ℓ : Loc nD τ sig) → Buf (Elt Ideal) ℓ) (c : Dev nD)

variable (h : Vec Ideal S8448x2048 .f32) (w : Vec Ideal S2048x5760 .f32)
  (hh : m ((c : Thread nD τ).loc main_arg0) = h) (hw : m ((c : Thread nD τ).loc main_arg1) = w)

include hw in
theorem weight : V m c main_v0 = w := by
  rw [← hw]
  entry_read
  rfl

include hh hw in
/-- A grid point's block of the product. -/
theorem point (t : Fin cfg0.N) (y : S768x1152.Idx) (i : S8448x5760.Idx) (hR : (i 0).val = t.val / 5 * 768 + (y 0).val)
    (hC : (i 1).val = t.val % 5 * 1152 + (y 1).val) :
    k0_pay2 (k0_pay1 (F := Ideal)) (iblk m c 0 t) (iblk m c 1 t) y
      = Cert.InProjFwdRefIdeal.Read.val_main_v0 (F := Ideal) h w i := by
  obtain ⟨R, C, rfl⟩ : ∃ (R : Fin 8448) (C : Fin 5760), i = ix2 R C := ⟨i 0, i 1, by idx_vars i⟩
  obtain ⟨r, k, rfl⟩ : ∃ (r : Fin 768) (k : Fin 1152), y = ix2 r k := ⟨y 0, y 1, by idx_vars y⟩
  replace hR : R.val = t.val / 5 * 768 + r.val := hR
  replace hC : C.val = t.val % 5 * 1152 + k.val := hC
  pointwise [k0_pay2, k0_pay1, Cert.InProjFwdRefIdeal.Read.val_main_v0]
  refine Finset.sum_congr rfl fun x _ => ?_
  congr 1
  · rw [← hh]
    blk_ext [iblk, V_main_arg0, (idx t).1]
  · rw [← weight m c w hw]
    blk_ext [iblk, (idx t).2.1]

theorem mem_blk (t : Fin cfg0.N) (i : S8448x5760.Idx) :
    i ∈ ((cfg0.win 2).blk t).view.set ↔ ∀ a : Fin 2, win0_2.index t a * S768x1152.size a ≤ (i a).val
      ∧ (i a).val < win0_2.index t a * S768x1152.size a + S768x1152.size a := by
  show i ∈ ((View.whole main_v1).slice (win0_2.rect t)).set ↔ _
  rw [View.set_slice_whole, Rect.mem_set_unit]
  exact Iff.rfl

include hh hw in
/-- The array after the run: the blocks tile it, and each is the product's. -/
theorem value : (dats m 0 c).arrAt 2 cfg0.N = Cert.InProjFwdRefIdeal.Read.val_main_v0 (F := Ideal) h w := by
  refine (dats m 0 c).arrAt_eq_of_cover 2 _ (fun t _ => ?_) fun i => ?_
  · rw [Value.flushed2_A, out_eq]
    funext y
    refine point m c h w hh hw t ((cfg0.win 2).xinj (grid0.coords t) y) (((cfg0.win 2).blk t).view.emb y) ?_ ?_
    · show win0_2.index t (0 : Fin 2) * 768 + 1 * (y 0).val = _ * 768 + (y 0).val
      rw [(idx t).2.2.1, one_mul]
      rfl
    · show win0_2.index t (1 : Fin 2) * 1152 + 1 * (y 1).val = _ * 1152 + (y 1).val
      rw [(idx t).2.2.1, one_mul]
      rfl
  · have h0 : (i 0).val < 8448 := (i 0).isLt
    have h1 : (i 1).val < 5760 := (i 1).isLt
    have hN : (i 0).val / 768 * 5 + (i 1).val / 1152 < cfg0.N := by
      rw [show cfg0.N = 55 from N_0]
      omega
    refine ⟨⟨_, hN⟩, (idx _).2.2.2, ?_⟩
    rw [mem_blk, (idx _).2.2.1]
    intro a
    match a with
    | ⟨0, _⟩ =>
      show ((i 0).val / 768 * 5 + (i 1).val / 1152) / 5 * 768 ≤ (i 0).val
        ∧ (i 0).val < ((i 0).val / 768 * 5 + (i 1).val / 1152) / 5 * 768 + 768
      omega
    | ⟨1, _⟩ =>
      show ((i 0).val / 768 * 5 + (i 1).val / 1152) % 5 * 1152 ≤ (i 1).val
        ∧ (i 1).val < ((i 0).val / 768 * 5 + (i 1).val / 1152) % 5 * 1152 + 1152
      omega

end Cert.InProjFwdValue

end
-- ==== Proof.OutProjDx.lean ====
/- The gradient of `out_proj`'s rows: `dy` times the weight, 1024 of the 2048 columns of both at a time. -/
module

public import proofs.«01_k».proof.Proof.Blocked
public import proofs.«01_k».proof.Proof.Gen.OutProjDxIdeal.Value
public import proofs.«01_k».proof.Proof.Gen.OutProjDxRefIdeal.Read
public import Idealize.ShloMosaic.Lib.Pointwise
public import Idealize.ShloMosaic.Lib.Pipeline.ValueKit

@[expose] public section

set_option maxRecDepth 16384

noncomputable section

namespace Cert.OutProjDxValue

open Cert.OutProjDxIdeal Cert.OutProjDxIdeal.Gen Idealize.ShloMosaic Idealize.ShloMosaic.TcCoe Idealize.SL.Sem
open Idealize.ShloMosaic.Tactic

theorem idx : ∀ t : Fin cfg0.N, win0_0.index t = ![t.val / 2, t.val % 2] ∧ win0_1.index t = ![0, t.val % 2] :=
  (by decide +kernel : ∀ t : Fin grid0.N, _)

variable (m : (ℓ : Loc nD τ sig) → Buf (Elt Ideal) ℓ) (c : Dev nD)
variable (w : Vec Ideal S2048x2048 .f32) (dy : Vec Ideal S8448x2048 .f32)
  (hw : m ((c : Thread nD τ).loc main_arg1) = w) (hdy : m ((c : Thread nD τ).loc main_arg2) = dy)

include hw in
theorem weight : V m c main_v0 = w := by
  rw [← hw]
  entry_read
  rfl

include hw hdy in
/-- One grid point adds its block's part of the sum. -/
theorem step (n : ℕ) (hn : n < cfg0.N) (acc : Vec Ideal S768x2048 .f32) (y : S768x2048.Idx) (R : Fin 8448) (C : Fin 2048)
    (u : Fin 2) (hR : R.val = n / 2 * 768 + (y 0).val) (hC : C.val = (y 1).val) (hu : n % 2 = u.val) :
    Value.step2 m c n hn acc y = acc y + ∑ x : Fin 1024,
      dy (ix2 R ⟨u.val * 1024 + x.val, by omega⟩) * w (ix2 C ⟨u.val * 1024 + x.val, by omega⟩) := by
  obtain ⟨r, k, rfl⟩ : ∃ (r : Fin 768) (k : Fin 2048), y = ix2 r k := ⟨y 0, y 1, by idx_vars y⟩
  replace hR : R.val = n / 2 * 768 + r.val := hR
  replace hC : C.val = k.val := hC
  unfold Value.step2
  pointwise [k0_pay2]
  refine congrArg _ (Finset.sum_congr rfl fun x _ => ?_)
  congr 1
  · rw [← hdy]
    blk_ext [iblk, V_main_arg2, (idx ⟨n, hn⟩).1]
  · rw [← weight m c w hw]
    blk_ext [iblk, (idx ⟨n, hn⟩).2]

include hw hdy in
theorem value : Value.G2 m c = Cert.OutProjDxRefIdeal.Read.val_main_v3 (F := Ideal) w dy := by
  funext i
  obtain ⟨R, C, rfl⟩ : ∃ (R : Fin 8448) (C : Fin 2048), i = ix2 R C := ⟨i 0, i 1, by idx_vars i⟩
  have hb : Value.run2Of (ix2 R C) = R.val / 768 := by
    show 1 * (R.val / 768 - 0) + 1 * (C.val / 2048 - 0) = _
    omega
  refine (Blocked.array_sum (J := 1) (n := 1024) (Value.reset2 m c) (Value.step2 m c) (k0_pay1 (F := Ideal))
    (Value.loc2Of (ix2 R C)) rfl (fun q : Fin 2048 => dy (ix2 R q) * w (ix2 C q)) _ _ _ hb
    (show _ < 22 by omega) (fun _ _ => rfl) (by pointwise [k0_pay1]) fun s hn a =>
      step m c w dy hw hdy _ hn a _ R C s (show _ = _ + R.val % 768 by omega) (show _ = C.val % 2048 by omega) (by omega)).trans ?_
  symm
  pointwise [Cert.OutProjDxRefIdeal.Read.val_main_v3]

end Cert.OutProjDxValue

end
-- ==== Proof.OutProjDw.lean ====
/- The gradient of `out_proj`'s weight: the rows transposed times `dy`, 768 of the 8448 rows at a time. -/
module

public import proofs.«01_k».proof.Proof.Blocked
public import proofs.«01_k».proof.Proof.Gen.OutProjDwIdeal.Value
public import proofs.«01_k».proof.Proof.Gen.OutProjDwRefIdeal.Read
public import Idealize.ShloMosaic.Lib.Pointwise
public import Idealize.ShloMosaic.Lib.Pipeline.ValueKit

@[expose] public section

set_option maxRecDepth 16384

noncomputable section

namespace Cert.OutProjDwValue

open Cert.OutProjDwIdeal Cert.OutProjDwIdeal.Gen Idealize.ShloMosaic Idealize.ShloMosaic.TcCoe Idealize.SL.Sem
open Idealize.ShloMosaic.Tactic

theorem idx : ∀ t : Fin cfg0.N, win0_0.index t = ![t.val % 11, t.val / 22] ∧ win0_1.index t = ![t.val % 11, t.val / 11 % 2] :=
  (by decide +kernel : ∀ t : Fin grid0.N, _)

variable (m : (ℓ : Loc nD τ sig) → Buf (Elt Ideal) ℓ) (c : Dev nD)
variable (h : Vec Ideal S8448x2048 .f32) (dy : Vec Ideal S8448x2048 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S1024x1024 .f32) (y : S1024x1024.Idx) (R : Fin 2048) (C : Fin 2048)
    (u : Fin 11) (hR : R.val = n / 22 * 1024 + (y 0).val) (hC : C.val = n / 11 % 2 * 1024 + (y 1).val) (hu : n % 11 = u.val) :
    Value.step2 m c n hn acc y = acc y + ∑ x : Fin 768,
      h (ix2 ⟨u.val * 768 + x.val, by omega⟩ R) * dy (ix2 ⟨u.val * 768 + x.val, by omega⟩ C) := by
  obtain ⟨r, k, rfl⟩ : ∃ (r : Fin 1024) (k : Fin 1024), y = ix2 r k := ⟨y 0, y 1, by idx_vars y⟩
  replace hR : R.val = n / 22 * 1024 + r.val := hR
  replace hC : C.val = n / 11 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.OutProjDwRefIdeal.Read.val_main_v2 (F := Ideal) h dy := by
  funext i
  obtain ⟨R, C, rfl⟩ : ∃ (R : Fin 2048) (C : Fin 2048), i = ix2 R C := ⟨i 0, i 1, by idx_vars i⟩
  have hb : Value.run2Of (ix2 R C) = 2 * (R.val / 1024) + C.val / 1024 := by
    show 2 * (R.val / 1024 - 0) + 1 * (C.val / 1024 - 0) = _
    omega
  refine (Blocked.array_sum (J := 10) (n := 768) (Value.reset2 m c) (Value.step2 m c) (k0_pay1 (F := Ideal))
    (Value.loc2Of (ix2 R C)) rfl (fun q : Fin 8448 => h (ix2 q R) * dy (ix2 q C)) _ _ _ hb
    (show _ < 44 by omega) (fun _ _ => rfl) (by pointwise [k0_pay1]) fun u hn a =>
      step m c h dy hh hdy _ hn a _ R C u (show _ = _ + R.val % 1024 by omega) (show _ = _ + C.val % 1024 by omega) (by omega)).trans ?_
  symm
  pointwise [Cert.OutProjDwRefIdeal.Read.val_main_v2, Cert.OutProjDwRefIdeal.Read.val_main_v1]
  exact Finset.sum_congr rfl fun q _ => mul_comm _ _

end Cert.OutProjDwValue

end
-- ==== Proof.OutProjFwd.lean ====
/- `out_proj`'s product, one block of 768 rows and 1024 columns at a grid point, each over all 2048 of the summed index. -/
module

public import proofs.«01_k».proof.Proof.Gen.OutProjFwdIdeal.Value
public import proofs.«01_k».proof.Proof.Gen.OutProjFwdRefIdeal.Read
public import Idealize.ShloMosaic.Lib.Pointwise
public import Idealize.ShloMosaic.Lib.Pipeline.ValueKit

@[expose] public section

set_option maxRecDepth 16384

noncomputable section

namespace Cert.OutProjFwdValue

open Cert.OutProjFwdIdeal Cert.OutProjFwdIdeal.Gen Idealize.ShloMosaic Idealize.ShloMosaic.TcCoe Idealize.SL.Sem
open Idealize.ShloMosaic.Tactic

theorem idx : ∀ t : Fin cfg0.N, win0_0.index t = ![t.val / 2, 0] ∧ win0_1.index t = ![0, t.val % 2]
    ∧ win0_2.index t = ![t.val / 2, t.val % 2] ∧ (cfg0.win 2).flush t = true :=
  (by decide +kernel : ∀ t : Fin grid0.N, win0_0.index t = ![t.val / 2, 0] ∧ win0_1.index t = ![0, t.val % 2]
    ∧ win0_2.index t = ![t.val / 2, t.val % 2] ∧ win0_2.flush t = true)

theorem hz2 : (![0, 0] : Fin 2 → Nat) = fun _ => 0 := funext fun a => by fin_cases a <;> rfl

/-- What a grid point leaves in the output's buffer: the product of its two blocks, added to zero. -/
theorem out_eq (c : Dev nD) (i : grid0.Coords) (arg3 : Memref sig .tc .vmem S768x2048 .f32) (harg3 : arg3.IsWhole)
    (arg4 : Memref sig .tc .vmem S2048x1024 .bf16) (harg4 : arg4.IsWhole)
    (arg5 : Memref sig .tc .vmem S768x1024 .f32) (harg5 : arg5.IsWhole) (hc0 : cond0_0 i)
    (x0 : Vec Ideal S768x2048 .f32) (x1 : Vec Ideal S2048x1024 .bf16) :
    out0_A_2 c i arg3 harg3 arg4 harg4 arg5 harg5 hc0 x0 x1 = k0_pay2 (k0_pay1 (F := Ideal)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S768x1024) hz2, View.readCov_unit_zero (S := S768x1024) _ hz2]
  simp only [View.readAt_eq_ld, harg3.read_unread, harg4.read_unread, harg5.read_unread,
    View.ld_unit_zero (S := S2048x1024) hz2, View.ld_unit_zero (S := S768x1024) hz2,
    View.ld_unit_zero (S := S768x2048) hz2, shapeCast_self]

variable (m : (ℓ : Loc nD τ sig) → Buf (Elt Ideal) ℓ) (c : Dev nD)

variable (h : Vec Ideal S8448x2048 .f32) (w : Vec Ideal S2048x2048 .f32)
  (hh : m ((c : Thread nD τ).loc main_arg0) = h) (hw : m ((c : Thread nD τ).loc main_arg1) = w)

include hw in
theorem weight : V m c main_v0 = w := by
  rw [← hw]
  entry_read
  rfl

include hh hw in
/-- A grid point's block of the product. -/
theorem point (t : Fin cfg0.N) (y : S768x1024.Idx) (i : S8448x2048.Idx) (hR : (i 0).val = t.val / 2 * 768 + (y 0).val)
    (hC : (i 1).val = t.val % 2 * 1024 + (y 1).val) :
    k0_pay2 (k0_pay1 (F := Ideal)) (iblk m c 0 t) (iblk m c 1 t) y
      = Cert.OutProjFwdRefIdeal.Read.val_main_v0 (F := Ideal) h w i := by
  obtain ⟨R, C, rfl⟩ : ∃ (R : Fin 8448) (C : Fin 2048), i = ix2 R C := ⟨i 0, i 1, by idx_vars i⟩
  obtain ⟨r, k, rfl⟩ : ∃ (r : Fin 768) (k : Fin 1024), y = ix2 r k := ⟨y 0, y 1, by idx_vars y⟩
  replace hR : R.val = t.val / 2 * 768 + r.val := hR
  replace hC : C.val = t.val % 2 * 1024 + k.val := hC
  pointwise [k0_pay2, k0_pay1, Cert.OutProjFwdRefIdeal.Read.val_main_v0]
  refine Finset.sum_congr rfl fun x _ => ?_
  congr 1
  · rw [← hh]
    blk_ext [iblk, V_main_arg0, (idx t).1]
  · rw [← weight m c w hw]
    blk_ext [iblk, (idx t).2.1]

theorem mem_blk (t : Fin cfg0.N) (i : S8448x2048.Idx) :
    i ∈ ((cfg0.win 2).blk t).view.set ↔ ∀ a : Fin 2, win0_2.index t a * S768x1024.size a ≤ (i a).val
      ∧ (i a).val < win0_2.index t a * S768x1024.size a + S768x1024.size a := by
  show i ∈ ((View.whole main_v1).slice (win0_2.rect t)).set ↔ _
  rw [View.set_slice_whole, Rect.mem_set_unit]
  exact Iff.rfl

include hh hw in
/-- The array after the run: the blocks tile it, and each is the product's. -/
theorem value : (dats m 0 c).arrAt 2 cfg0.N = Cert.OutProjFwdRefIdeal.Read.val_main_v0 (F := Ideal) h w := by
  refine (dats m 0 c).arrAt_eq_of_cover 2 _ (fun t _ => ?_) fun i => ?_
  · rw [Value.flushed2_A, out_eq]
    funext y
    refine point m c h w hh hw t ((cfg0.win 2).xinj (grid0.coords t) y) (((cfg0.win 2).blk t).view.emb y) ?_ ?_
    · show win0_2.index t (0 : Fin 2) * 768 + 1 * (y 0).val = _ * 768 + (y 0).val
      rw [(idx t).2.2.1, one_mul]
      rfl
    · show win0_2.index t (1 : Fin 2) * 1024 + 1 * (y 1).val = _ * 1024 + (y 1).val
      rw [(idx t).2.2.1, one_mul]
      rfl
  · have h0 : (i 0).val < 8448 := (i 0).isLt
    have h1 : (i 1).val < 2048 := (i 1).isLt
    have hN : (i 0).val / 768 * 2 + (i 1).val / 1024 < cfg0.N := by
      rw [show cfg0.N = 22 from N_0]
      omega
    refine ⟨⟨_, hN⟩, (idx _).2.2.2, ?_⟩
    rw [mem_blk, (idx _).2.2.1]
    intro a
    match a with
    | ⟨0, _⟩ =>
      show ((i 0).val / 768 * 2 + (i 1).val / 1024) / 2 * 768 ≤ (i 0).val
        ∧ (i 0).val < ((i 0).val / 768 * 2 + (i 1).val / 1024) / 2 * 768 + 768
      omega
    | ⟨1, _⟩ =>
      show ((i 0).val / 768 * 2 + (i 1).val / 1024) % 2 * 1024 ≤ (i 1).val
        ∧ (i 1).val < ((i 0).val / 768 * 2 + (i 1).val / 1024) % 2 * 1024 + 1024
      omega

end Cert.OutProjFwdValue

end
-- ==== Proof.ProductClaims.lean ====
/- The products' claims: every run ends with its semaphores at zero and its arguments unchanged, and each kernel leaves what
   its reference does. -/
module

public import proofs.«01_k».proof.Defs
public import proofs.«01_k».proof.Proof.Gen.FfnInDx.Frame
public import proofs.«01_k».proof.Proof.Gen.FfnInDxRefIdeal.Run
public import proofs.«01_k».proof.Proof.FfnInDx
public import proofs.«01_k».proof.Proof.Gen.FfnInDw.Frame
public import proofs.«01_k».proof.Proof.Gen.FfnInDwRefIdeal.Run
public import proofs.«01_k».proof.Proof.FfnInDw
public import proofs.«01_k».proof.Proof.Gen.FfnInFwd.Frame
public import proofs.«01_k».proof.Proof.Gen.FfnInFwdRefIdeal.Run
public import proofs.«01_k».proof.Proof.FfnInFwd
public import proofs.«01_k».proof.Proof.Gen.FfnOutDx.Frame
public import proofs.«01_k».proof.Proof.Gen.FfnOutDxRefIdeal.Run
public import proofs.«01_k».proof.Proof.FfnOutDx
public import proofs.«01_k».proof.Proof.Gen.FfnOutDw.Frame
public import proofs.«01_k».proof.Proof.Gen.FfnOutDwRefIdeal.Run
public import proofs.«01_k».proof.Proof.FfnOutDw
public import proofs.«01_k».proof.Proof.Gen.FfnOutFwd.Frame
public import proofs.«01_k».proof.Proof.Gen.FfnOutFwdRefIdeal.Run
public import proofs.«01_k».proof.Proof.FfnOutFwd
public import proofs.«01_k».proof.Proof.Gen.InProjDx.Frame
public import proofs.«01_k».proof.Proof.Gen.InProjDxRefIdeal.Run
public import proofs.«01_k».proof.Proof.InProjDx
public import proofs.«01_k».proof.Proof.Gen.InProjDw.Frame
public import proofs.«01_k».proof.Proof.Gen.InProjDwRefIdeal.Run
public import proofs.«01_k».proof.Proof.InProjDw
public import proofs.«01_k».proof.Proof.Gen.InProjFwd.Frame
public import proofs.«01_k».proof.Proof.Gen.InProjFwdRefIdeal.Run
public import proofs.«01_k».proof.Proof.InProjFwd
public import proofs.«01_k».proof.Proof.Gen.OutProjDx.Frame
public import proofs.«01_k».proof.Proof.Gen.OutProjDxRefIdeal.Run
public import proofs.«01_k».proof.Proof.OutProjDx
public import proofs.«01_k».proof.Proof.Gen.OutProjDw.Frame
public import proofs.«01_k».proof.Proof.Gen.OutProjDwRefIdeal.Run
public import proofs.«01_k».proof.Proof.OutProjDw
public import proofs.«01_k».proof.Proof.Gen.OutProjFwd.Frame
public import proofs.«01_k».proof.Proof.Gen.OutProjFwdRefIdeal.Run
public import proofs.«01_k».proof.Proof.OutProjFwd
public import Idealize.ShloMosaic.Adequacy
public import Idealize.ShloMosaic.Init

@[expose] public section

noncomputable section

namespace Cert.ProductClaims

open Idealize.ShloMosaic Idealize.ShloMosaic.TcCoe Idealize.SL.Sem

/-! `ffn_in`'s gradient in its input. -/

theorem frame_FfnInDx : Cert.quiescent_FfnInDx := fun m ρ _ => Cert.FfnInDx.Gen.frame m ρ

theorem frame_FfnInDxIdeal : Cert.quiescent_FfnInDxIdeal := fun m ρ _ => Cert.FfnInDxIdeal.Gen.frame m ρ

theorem frame_FfnInDxRefIdeal : Cert.quiescent_FfnInDxRefIdeal := fun m ρ _ =>
  (θ_run Cert.FfnInDxRefIdeal.defs _ _).mono (fun r h => ⟨fun c => (h c).2, sem_eq_zero_of_no_sems (by decide) r.2⟩)
    (Cert.FfnInDxRefIdeal.Value.run (F := Ideal) m ρ)

theorem algebraic_FfnInDx : Cert.algebraic_FfnInDxIdeal_FfnInDxRefIdeal := by
  intro m g m' g' _ hag
  refine ⟨fun c => Cert.FfnInDxIdeal.Value.G2 m c, Cert.FfnInDxIdeal.Value.run m g, ?_⟩
  refine (θ_run Cert.FfnInDxRefIdeal.defs _ _).mono (fun r h c => ?_) (Cert.FfnInDxRefIdeal.Value.run (F := Ideal) m' g')
  obtain ⟨a0, a1, a2⟩ := hag c
  refine ⟨(h c).1.trans ?_, (h c).2⟩
  rw [Cert.FfnInDxRefIdeal.Read.val_main_v3_eq, a1, a2]
  exact (FfnInDxValue.value m c _ _ rfl rfl).symm

/-! `ffn_in`'s gradient in its weight. -/

theorem frame_FfnInDw : Cert.quiescent_FfnInDw := fun m ρ _ => Cert.FfnInDw.Gen.frame m ρ

theorem frame_FfnInDwIdeal : Cert.quiescent_FfnInDwIdeal := fun m ρ _ => Cert.FfnInDwIdeal.Gen.frame m ρ

theorem frame_FfnInDwRefIdeal : Cert.quiescent_FfnInDwRefIdeal := fun m ρ _ =>
  (θ_run Cert.FfnInDwRefIdeal.defs _ _).mono (fun r h => ⟨fun c => (h c).2, sem_eq_zero_of_no_sems (by decide) r.2⟩)
    (Cert.FfnInDwRefIdeal.Value.run (F := Ideal) m ρ)

theorem algebraic_FfnInDw : Cert.algebraic_FfnInDwIdeal_FfnInDwRefIdeal := by
  intro m g m' g' _ hag
  refine ⟨fun c => Cert.FfnInDwIdeal.Value.G2 m c, Cert.FfnInDwIdeal.Value.run m g, ?_⟩
  refine (θ_run Cert.FfnInDwRefIdeal.defs _ _).mono (fun r h c => ?_) (Cert.FfnInDwRefIdeal.Value.run (F := Ideal) m' g')
  obtain ⟨a0, a1, a2⟩ := hag c
  refine ⟨(h c).1.trans ?_, (h c).2⟩
  rw [Cert.FfnInDwRefIdeal.Read.val_main_v5_eq, a0, a2]
  exact (FfnInDwValue.value m c _ _ rfl rfl).symm

/-! `ffn_in`'s product. -/

theorem frame_FfnInFwd : Cert.quiescent_FfnInFwd := fun m ρ _ => Cert.FfnInFwd.Gen.frame m ρ

theorem frame_FfnInFwdIdeal : Cert.quiescent_FfnInFwdIdeal := fun m ρ _ => Cert.FfnInFwdIdeal.Gen.frame m ρ

theorem frame_FfnInFwdRefIdeal : Cert.quiescent_FfnInFwdRefIdeal := fun m ρ _ =>
  (θ_run Cert.FfnInFwdRefIdeal.defs _ _).mono (fun r h => ⟨fun c => (h c).2, sem_eq_zero_of_no_sems (by decide) r.2⟩)
    (Cert.FfnInFwdRefIdeal.Value.run (F := Ideal) m ρ)

theorem algebraic_FfnInFwd : Cert.algebraic_FfnInFwdIdeal_FfnInFwdRefIdeal := by
  intro m g m' g' _ hag
  refine ⟨fun c => (Cert.FfnInFwdIdeal.Gen.dats m 0 c).arrAt 2 Cert.FfnInFwdIdeal.cfg0.N, Cert.FfnInFwdIdeal.Value.run_blocks m g, ?_⟩
  refine (θ_run Cert.FfnInFwdRefIdeal.defs _ _).mono (fun r h c => ?_) (Cert.FfnInFwdRefIdeal.Value.run (F := Ideal) m' g')
  obtain ⟨a0, a1⟩ := hag c
  refine ⟨(h c).1.trans ?_, (h c).2⟩
  rw [Cert.FfnInFwdRefIdeal.Read.val_main_v0_eq, a0, a1]
  exact (FfnInFwdValue.value m c _ _ rfl rfl).symm

/-! `ffn_out`'s gradient in its input. -/

theorem frame_FfnOutDx : Cert.quiescent_FfnOutDx := fun m ρ _ => Cert.FfnOutDx.Gen.frame m ρ

theorem frame_FfnOutDxIdeal : Cert.quiescent_FfnOutDxIdeal := fun m ρ _ => Cert.FfnOutDxIdeal.Gen.frame m ρ

theorem frame_FfnOutDxRefIdeal : Cert.quiescent_FfnOutDxRefIdeal := fun m ρ _ =>
  (θ_run Cert.FfnOutDxRefIdeal.defs _ _).mono (fun r h => ⟨fun c => (h c).2, sem_eq_zero_of_no_sems (by decide) r.2⟩)
    (Cert.FfnOutDxRefIdeal.Value.run (F := Ideal) m ρ)

theorem algebraic_FfnOutDx : Cert.algebraic_FfnOutDxIdeal_FfnOutDxRefIdeal := by
  intro m g m' g' _ hag
  refine ⟨fun c => Cert.FfnOutDxIdeal.Value.G2 m c, Cert.FfnOutDxIdeal.Value.run m g, ?_⟩
  refine (θ_run Cert.FfnOutDxRefIdeal.defs _ _).mono (fun r h c => ?_) (Cert.FfnOutDxRefIdeal.Value.run (F := Ideal) m' g')
  obtain ⟨a0, a1, a2⟩ := hag c
  refine ⟨(h c).1.trans ?_, (h c).2⟩
  rw [Cert.FfnOutDxRefIdeal.Read.val_main_v3_eq, a1, a2]
  exact (FfnOutDxValue.value m c _ _ rfl rfl).symm

/-! `ffn_out`'s gradient in its weight. -/

theorem frame_FfnOutDw : Cert.quiescent_FfnOutDw := fun m ρ _ => Cert.FfnOutDw.Gen.frame m ρ

theorem frame_FfnOutDwIdeal : Cert.quiescent_FfnOutDwIdeal := fun m ρ _ => Cert.FfnOutDwIdeal.Gen.frame m ρ

theorem frame_FfnOutDwRefIdeal : Cert.quiescent_FfnOutDwRefIdeal := fun m ρ _ =>
  (θ_run Cert.FfnOutDwRefIdeal.defs _ _).mono (fun r h => ⟨fun c => (h c).2, sem_eq_zero_of_no_sems (by decide) r.2⟩)
    (Cert.FfnOutDwRefIdeal.Value.run (F := Ideal) m ρ)

theorem algebraic_FfnOutDw : Cert.algebraic_FfnOutDwIdeal_FfnOutDwRefIdeal := by
  intro m g m' g' _ hag
  refine ⟨fun c => Cert.FfnOutDwIdeal.Value.G2 m c, Cert.FfnOutDwIdeal.Value.run m g, ?_⟩
  refine (θ_run Cert.FfnOutDwRefIdeal.defs _ _).mono (fun r h c => ?_) (Cert.FfnOutDwRefIdeal.Value.run (F := Ideal) m' g')
  obtain ⟨a0, a1, a2⟩ := hag c
  refine ⟨(h c).1.trans ?_, (h c).2⟩
  rw [Cert.FfnOutDwRefIdeal.Read.val_main_v2_eq, a0, a2]
  exact (FfnOutDwValue.value m c _ _ rfl rfl).symm

/-! `ffn_out`'s product. -/

theorem frame_FfnOutFwd : Cert.quiescent_FfnOutFwd := fun m ρ _ => Cert.FfnOutFwd.Gen.frame m ρ

theorem frame_FfnOutFwdIdeal : Cert.quiescent_FfnOutFwdIdeal := fun m ρ _ => Cert.FfnOutFwdIdeal.Gen.frame m ρ

theorem frame_FfnOutFwdRefIdeal : Cert.quiescent_FfnOutFwdRefIdeal := fun m ρ _ =>
  (θ_run Cert.FfnOutFwdRefIdeal.defs _ _).mono (fun r h => ⟨fun c => (h c).2, sem_eq_zero_of_no_sems (by decide) r.2⟩)
    (Cert.FfnOutFwdRefIdeal.Value.run (F := Ideal) m ρ)

theorem algebraic_FfnOutFwd : Cert.algebraic_FfnOutFwdIdeal_FfnOutFwdRefIdeal := by
  intro m g m' g' _ hag
  refine ⟨fun c => Cert.FfnOutFwdIdeal.Value.G2 m c, Cert.FfnOutFwdIdeal.Value.run m g, ?_⟩
  refine (θ_run Cert.FfnOutFwdRefIdeal.defs _ _).mono (fun r h c => ?_) (Cert.FfnOutFwdRefIdeal.Value.run (F := Ideal) m' g')
  obtain ⟨a0, a1⟩ := hag c
  refine ⟨(h c).1.trans ?_, (h c).2⟩
  rw [Cert.FfnOutFwdRefIdeal.Read.val_main_v0_eq, a0, a1]
  exact (FfnOutFwdValue.value m c _ _ rfl rfl).symm

/-! `in_proj`'s gradient in its input. -/

theorem frame_InProjDx : Cert.quiescent_InProjDx := fun m ρ _ => Cert.InProjDx.Gen.frame m ρ

theorem frame_InProjDxIdeal : Cert.quiescent_InProjDxIdeal := fun m ρ _ => Cert.InProjDxIdeal.Gen.frame m ρ

theorem frame_InProjDxRefIdeal : Cert.quiescent_InProjDxRefIdeal := fun m ρ _ =>
  (θ_run Cert.InProjDxRefIdeal.defs _ _).mono (fun r h => ⟨fun c => (h c).2, sem_eq_zero_of_no_sems (by decide) r.2⟩)
    (Cert.InProjDxRefIdeal.Value.run (F := Ideal) m ρ)

theorem algebraic_InProjDx : Cert.algebraic_InProjDxIdeal_InProjDxRefIdeal := by
  intro m g m' g' _ hag
  refine ⟨fun c => Cert.InProjDxIdeal.Value.G2 m c, Cert.InProjDxIdeal.Value.run m g, ?_⟩
  refine (θ_run Cert.InProjDxRefIdeal.defs _ _).mono (fun r h c => ?_) (Cert.InProjDxRefIdeal.Value.run (F := Ideal) m' g')
  obtain ⟨a0, a1, a2⟩ := hag c
  refine ⟨(h c).1.trans ?_, (h c).2⟩
  rw [Cert.InProjDxRefIdeal.Read.val_main_v3_eq, a1, a2]
  exact (InProjDxValue.value m c _ _ rfl rfl).symm

/-! `in_proj`'s gradient in its weight. -/

theorem frame_InProjDw : Cert.quiescent_InProjDw := fun m ρ _ => Cert.InProjDw.Gen.frame m ρ

theorem frame_InProjDwIdeal : Cert.quiescent_InProjDwIdeal := fun m ρ _ => Cert.InProjDwIdeal.Gen.frame m ρ

theorem frame_InProjDwRefIdeal : Cert.quiescent_InProjDwRefIdeal := fun m ρ _ =>
  (θ_run Cert.InProjDwRefIdeal.defs _ _).mono (fun r h => ⟨fun c => (h c).2, sem_eq_zero_of_no_sems (by decide) r.2⟩)
    (Cert.InProjDwRefIdeal.Value.run (F := Ideal) m ρ)

theorem algebraic_InProjDw : Cert.algebraic_InProjDwIdeal_InProjDwRefIdeal := by
  intro m g m' g' _ hag
  refine ⟨fun c => Cert.InProjDwIdeal.Value.G2 m c, Cert.InProjDwIdeal.Value.run m g, ?_⟩
  refine (θ_run Cert.InProjDwRefIdeal.defs _ _).mono (fun r h c => ?_) (Cert.InProjDwRefIdeal.Value.run (F := Ideal) m' g')
  obtain ⟨a0, a1, a2⟩ := hag c
  refine ⟨(h c).1.trans ?_, (h c).2⟩
  rw [Cert.InProjDwRefIdeal.Read.val_main_v2_eq, a0, a2]
  exact (InProjDwValue.value m c _ _ rfl rfl).symm

/-! `in_proj`'s product. -/

theorem frame_InProjFwd : Cert.quiescent_InProjFwd := fun m ρ _ => Cert.InProjFwd.Gen.frame m ρ

theorem frame_InProjFwdIdeal : Cert.quiescent_InProjFwdIdeal := fun m ρ _ => Cert.InProjFwdIdeal.Gen.frame m ρ

theorem frame_InProjFwdRefIdeal : Cert.quiescent_InProjFwdRefIdeal := fun m ρ _ =>
  (θ_run Cert.InProjFwdRefIdeal.defs _ _).mono (fun r h => ⟨fun c => (h c).2, sem_eq_zero_of_no_sems (by decide) r.2⟩)
    (Cert.InProjFwdRefIdeal.Value.run (F := Ideal) m ρ)

theorem algebraic_InProjFwd : Cert.algebraic_InProjFwdIdeal_InProjFwdRefIdeal := by
  intro m g m' g' _ hag
  refine ⟨fun c => (Cert.InProjFwdIdeal.Gen.dats m 0 c).arrAt 2 Cert.InProjFwdIdeal.cfg0.N, Cert.InProjFwdIdeal.Value.run_blocks m g, ?_⟩
  refine (θ_run Cert.InProjFwdRefIdeal.defs _ _).mono (fun r h c => ?_) (Cert.InProjFwdRefIdeal.Value.run (F := Ideal) m' g')
  obtain ⟨a0, a1⟩ := hag c
  refine ⟨(h c).1.trans ?_, (h c).2⟩
  rw [Cert.InProjFwdRefIdeal.Read.val_main_v0_eq, a0, a1]
  exact (InProjFwdValue.value m c _ _ rfl rfl).symm

/-! `out_proj`'s gradient in its input. -/

theorem frame_OutProjDx : Cert.quiescent_OutProjDx := fun m ρ _ => Cert.OutProjDx.Gen.frame m ρ

theorem frame_OutProjDxIdeal : Cert.quiescent_OutProjDxIdeal := fun m ρ _ => Cert.OutProjDxIdeal.Gen.frame m ρ

theorem frame_OutProjDxRefIdeal : Cert.quiescent_OutProjDxRefIdeal := fun m ρ _ =>
  (θ_run Cert.OutProjDxRefIdeal.defs _ _).mono (fun r h => ⟨fun c => (h c).2, sem_eq_zero_of_no_sems (by decide) r.2⟩)
    (Cert.OutProjDxRefIdeal.Value.run (F := Ideal) m ρ)

theorem algebraic_OutProjDx : Cert.algebraic_OutProjDxIdeal_OutProjDxRefIdeal := by
  intro m g m' g' _ hag
  refine ⟨fun c => Cert.OutProjDxIdeal.Value.G2 m c, Cert.OutProjDxIdeal.Value.run m g, ?_⟩
  refine (θ_run Cert.OutProjDxRefIdeal.defs _ _).mono (fun r h c => ?_) (Cert.OutProjDxRefIdeal.Value.run (F := Ideal) m' g')
  obtain ⟨a0, a1, a2⟩ := hag c
  refine ⟨(h c).1.trans ?_, (h c).2⟩
  rw [Cert.OutProjDxRefIdeal.Read.val_main_v3_eq, a1, a2]
  exact (OutProjDxValue.value m c _ _ rfl rfl).symm

/-! `out_proj`'s gradient in its weight. -/

theorem frame_OutProjDw : Cert.quiescent_OutProjDw := fun m ρ _ => Cert.OutProjDw.Gen.frame m ρ

theorem frame_OutProjDwIdeal : Cert.quiescent_OutProjDwIdeal := fun m ρ _ => Cert.OutProjDwIdeal.Gen.frame m ρ

theorem frame_OutProjDwRefIdeal : Cert.quiescent_OutProjDwRefIdeal := fun m ρ _ =>
  (θ_run Cert.OutProjDwRefIdeal.defs _ _).mono (fun r h => ⟨fun c => (h c).2, sem_eq_zero_of_no_sems (by decide) r.2⟩)
    (Cert.OutProjDwRefIdeal.Value.run (F := Ideal) m ρ)

theorem algebraic_OutProjDw : Cert.algebraic_OutProjDwIdeal_OutProjDwRefIdeal := by
  intro m g m' g' _ hag
  refine ⟨fun c => Cert.OutProjDwIdeal.Value.G2 m c, Cert.OutProjDwIdeal.Value.run m g, ?_⟩
  refine (θ_run Cert.OutProjDwRefIdeal.defs _ _).mono (fun r h c => ?_) (Cert.OutProjDwRefIdeal.Value.run (F := Ideal) m' g')
  obtain ⟨a0, a1, a2⟩ := hag c
  refine ⟨(h c).1.trans ?_, (h c).2⟩
  rw [Cert.OutProjDwRefIdeal.Read.val_main_v2_eq, a0, a2]
  exact (OutProjDwValue.value m c _ _ rfl rfl).symm

/-! `out_proj`'s product. -/

theorem frame_OutProjFwd : Cert.quiescent_OutProjFwd := fun m ρ _ => Cert.OutProjFwd.Gen.frame m ρ

theorem frame_OutProjFwdIdeal : Cert.quiescent_OutProjFwdIdeal := fun m ρ _ => Cert.OutProjFwdIdeal.Gen.frame m ρ

theorem frame_OutProjFwdRefIdeal : Cert.quiescent_OutProjFwdRefIdeal := fun m ρ _ =>
  (θ_run Cert.OutProjFwdRefIdeal.defs _ _).mono (fun r h => ⟨fun c => (h c).2, sem_eq_zero_of_no_sems (by decide) r.2⟩)
    (Cert.OutProjFwdRefIdeal.Value.run (F := Ideal) m ρ)

theorem algebraic_OutProjFwd : Cert.algebraic_OutProjFwdIdeal_OutProjFwdRefIdeal := by
  intro m g m' g' _ hag
  refine ⟨fun c => (Cert.OutProjFwdIdeal.Gen.dats m 0 c).arrAt 2 Cert.OutProjFwdIdeal.cfg0.N, Cert.OutProjFwdIdeal.Value.run_blocks m g, ?_⟩
  refine (θ_run Cert.OutProjFwdRefIdeal.defs _ _).mono (fun r h c => ?_) (Cert.OutProjFwdRefIdeal.Value.run (F := Ideal) m' g')
  obtain ⟨a0, a1⟩ := hag c
  refine ⟨(h c).1.trans ?_, (h c).2⟩
  rw [Cert.OutProjFwdRefIdeal.Read.val_main_v0_eq, a0, a1]
  exact (OutProjFwdValue.value m c _ _ rfl rfl).symm

end Cert.ProductClaims

end
-- ==== Proof.FfnInDxLast.lean ====
/- For the 8192 latent rows of the last layer. The gradient of `ffn_in`'s rows: `dy` times the weight, 1408 of the 11264 columns of both at a time. -/
module

public import proofs.«01_k».proof.Proof.Blocked
public import proofs.«01_k».proof.Proof.Gen.FfnInDxLastIdeal.Value
public import proofs.«01_k».proof.Proof.Gen.FfnInDxLastRefIdeal.Read
public import Idealize.ShloMosaic.Lib.Pointwise
public import Idealize.ShloMosaic.Lib.Pipeline.ValueKit

@[expose] public section

set_option maxRecDepth 16384

noncomputable section

namespace Cert.FfnInDxLastValue

open Cert.FfnInDxLastIdeal Cert.FfnInDxLastIdeal.Gen Idealize.ShloMosaic Idealize.ShloMosaic.TcCoe Idealize.SL.Sem
open Idealize.ShloMosaic.Tactic

theorem idx : ∀ t : Fin cfg0.N, win0_0.index t = ![t.val / 8, t.val % 8] ∧ win0_1.index t = ![t.val % 8, 0, 0] :=
  (by decide +kernel : ∀ t : Fin grid0.N, _)

variable (m : (ℓ : Loc nD τ sig) → Buf (Elt Ideal) ℓ) (c : Dev nD)

/-- The shards read as the weight's columns. -/
theorem shard (s : Fin 8) (k : Fin 2048) (x : Fin 1408) (a : Fin 11264) (ha : a.val = s.val * 1408 + x.val) :
    V m c main_v2 (ix3 s k x) = m ((c : Thread nD τ).loc main_arg1) (ix2 k a) := by
  entry_read
  pointwise
  blk_ext

variable (w : Vec Ideal S2048x11264 .f32) (dy : Vec Ideal S8192x11264 .f32)
  (hw : m ((c : Thread nD τ).loc main_arg1) = w) (hdy : m ((c : Thread nD τ).loc main_arg2) = dy)

include hw hdy in
/-- One grid point adds its block's part of the sum. -/
theorem step (n : ℕ) (h : n < cfg0.N) (acc : Vec Ideal S1024x2048 .f32) (y : S1024x2048.Idx) (R : Fin 8192) (C : Fin 2048)
    (u : Fin 8) (hR : R.val = n / 8 * 1024 + (y 0).val) (hC : C.val = (y 1).val) (hu : n % 8 = u.val) :
    Value.step2 m c n h acc y = acc y + ∑ x : Fin 1408,
      dy (ix2 R ⟨u.val * 1408 + x.val, by omega⟩) * w (ix2 C ⟨u.val * 1408 + x.val, by omega⟩) := by
  obtain ⟨r, k, rfl⟩ : ∃ (r : Fin 1024) (k : Fin 2048), y = ix2 r k := ⟨y 0, y 1, by idx_vars y⟩
  replace hR : R.val = n / 8 * 1024 + r.val := hR
  replace hC : C.val = k.val := hC
  unfold Value.step2
  pointwise [k0_pay2]
  refine congrArg _ (Finset.sum_congr rfl fun x _ => ?_)
  congr 1
  · rw [← hdy]
    blk_ext [iblk, V_main_arg2, (idx ⟨n, h⟩).1]
  · refine Eq.trans ?_ ((shard m c u C x _ rfl).trans (congrFun hw _))
    blk_ext [iblk, (idx ⟨n, h⟩).2]

include hw hdy in
theorem value : Value.G2 m c = Cert.FfnInDxLastRefIdeal.Read.val_main_v3 (F := Ideal) w dy := by
  funext i
  obtain ⟨R, C, rfl⟩ : ∃ (R : Fin 8192) (C : Fin 2048), i = ix2 R C := ⟨i 0, i 1, by idx_vars i⟩
  have hb : Value.run2Of (ix2 R C) = R.val / 1024 := by
    show 1 * (R.val / 1024 - 0) + 1 * (C.val / 2048 - 0) = _
    omega
  refine (Blocked.array_sum (J := 7) (n := 1408) (Value.reset2 m c) (Value.step2 m c) (k0_pay1 (F := Ideal))
    (Value.loc2Of (ix2 R C)) rfl (fun q : Fin 11264 => dy (ix2 R q) * w (ix2 C q)) _ _ _ hb
    (show _ < 64 by omega) (fun _ _ => rfl) (by pointwise [k0_pay1]) fun s h a =>
      step m c w dy hw hdy _ h a _ R C s (show _ = _ + R.val % 1024 by omega) (show _ = C.val % 2048 by omega) (by omega)).trans ?_
  symm
  pointwise [Cert.FfnInDxLastRefIdeal.Read.val_main_v3]

end Cert.FfnInDxLastValue

end
-- ==== Proof.FfnInDwLast.lean ====
/- For the 8192 latent rows of the last layer. The gradient of `ffn_in`'s weight: the rows transposed times `dy`, 1024 of the 8192 rows at a time, each device's columns
   in its own entry. -/
module

public import proofs.«01_k».proof.Proof.Blocked
public import proofs.«01_k».proof.Proof.Gen.FfnInDwLastIdeal.Value
public import proofs.«01_k».proof.Proof.Gen.FfnInDwLastRefIdeal.Read
public import Idealize.ShloMosaic.Lib.Pointwise
public import Idealize.ShloMosaic.Lib.Pipeline.ValueKit

@[expose] public section

set_option maxRecDepth 16384

noncomputable section

namespace Cert.FfnInDwLastValue

open Cert.FfnInDwLastIdeal Cert.FfnInDwLastIdeal.Gen Idealize.ShloMosaic Idealize.ShloMosaic.TcCoe Idealize.SL.Sem
open Idealize.ShloMosaic.Tactic

theorem idx : ∀ t : Fin cfg0.N, win0_0.index t = ![t.val % 8, t.val / 64] ∧ win0_1.index t = ![t.val % 8, t.val / 8 % 8] :=
  (by decide +kernel : ∀ t : Fin grid0.N, _)

variable (m : (ℓ : Loc nD τ sig) → Buf (Elt Ideal) ℓ) (c : Dev nD)
variable (h : Vec Ideal S8192x2048 .f32) (dy : Vec Ideal S8192x11264 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S1x1024x1408 .f32) (y : S1x1024x1408.Idx) (R : Fin 2048) (C : Fin 11264)
    (u : Fin 8) (hR : R.val = n / 64 * 1024 + (y 1).val) (hC : C.val = n / 8 % 8 * 1408 + (y 2).val) (hu : n % 8 = u.val) :
    Value.step2 m c n hn acc y = acc y + ∑ x : Fin 1024,
      h (ix2 ⟨u.val * 1024 + x.val, by omega⟩ R) * dy (ix2 ⟨u.val * 1024 + x.val, by omega⟩ C) := by
  obtain ⟨z, r, k, rfl⟩ : ∃ (z : Fin 1) (r : Fin 1024) (k : Fin 1408), y = ix3 z r k := ⟨y 0, y 1, y 2, by idx_vars y⟩
  obtain rfl : z = 0 := Subsingleton.elim _ _
  replace hR : R.val = n / 64 * 1024 + r.val := hR
  replace hC : C.val = n / 8 % 8 * 1408 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.FfnInDwLastRefIdeal.Read.val_main_v5 (F := Ideal) h dy := by
  funext i
  obtain ⟨s, R, C, rfl⟩ : ∃ (s : Fin 8) (R : Fin 2048) (C : Fin 1408), i = ix3 s R C := ⟨i 0, i 1, i 2, by idx_vars i⟩
  have hb : Value.run2Of (ix3 s R C) = s.val + 8 * (R.val / 1024) := by
    show 1 * (s.val / 1 - 0) + 8 * (R.val / 1024 - 0) + 16 * (C.val / 1408 - 0) = _
    omega
  refine (Blocked.array_sum (J := 7) (n := 1024) (Value.reset2 m c) (Value.step2 m c) (k0_pay1 (F := Ideal))
    (Value.loc2Of (ix3 s R C)) rfl (fun q : Fin 8192 => h (ix2 q R) * dy (ix2 q ⟨s.val * 1408 + C.val, by omega⟩)) _ _ _ hb
    (show _ < 128 by omega) (fun _ _ => rfl) (by pointwise [k0_pay1]) fun u hn a =>
      step m c h dy hh hdy _ hn a _ R _ u (show _ = _ + R.val % 1024 by omega) (show _ = _ + C.val % 1408 by dsimp only; omega)
        (by omega)).trans ?_
  symm
  pointwise [Cert.FfnInDwLastRefIdeal.Read.val_main_v5, Cert.FfnInDwLastRefIdeal.Read.val_main_v4, Cert.FfnInDwLastRefIdeal.Read.val_main_v2, Cert.FfnInDwLastRefIdeal.Read.val_main_v1]
  exact Finset.sum_congr rfl fun q _ => mul_comm _ _

end Cert.FfnInDwLastValue

end
-- ==== Proof.FfnInFwdLast.lean ====
/- For the 8192 latent rows of the last layer. `ffn_in`'s product, one block of 1024 rows and 1408 columns at a grid point, each over all 2048 of the summed index. -/
module

public import proofs.«01_k».proof.Proof.Gen.FfnInFwdLastIdeal.Value
public import proofs.«01_k».proof.Proof.Gen.FfnInFwdLastRefIdeal.Read
public import Idealize.ShloMosaic.Lib.Pointwise
public import Idealize.ShloMosaic.Lib.Pipeline.ValueKit

@[expose] public section

set_option maxRecDepth 16384

noncomputable section

namespace Cert.FfnInFwdLastValue

open Cert.FfnInFwdLastIdeal Cert.FfnInFwdLastIdeal.Gen Idealize.ShloMosaic Idealize.ShloMosaic.TcCoe Idealize.SL.Sem
open Idealize.ShloMosaic.Tactic

theorem idx : ∀ t : Fin cfg0.N, win0_0.index t = ![t.val / 8, 0] ∧ win0_1.index t = ![t.val % 8, 0, 0]
    ∧ win0_2.index t = ![t.val / 8, t.val % 8] ∧ (cfg0.win 2).flush t = true :=
  (by decide +kernel : ∀ t : Fin grid0.N, win0_0.index t = ![t.val / 8, 0] ∧ win0_1.index t = ![t.val % 8, 0, 0]
    ∧ win0_2.index t = ![t.val / 8, t.val % 8] ∧ win0_2.flush t = true)

theorem hz2 : (![0, 0] : Fin 2 → Nat) = fun _ => 0 := funext fun a => by fin_cases a <;> rfl
theorem hz3 : (![0, 0, 0] : Fin 3 → Nat) = fun _ => 0 := funext fun a => by fin_cases a <;> rfl

/-- What a grid point leaves in the output's buffer: the product of its two blocks, added to zero. -/
theorem out_eq (c : Dev nD) (i : grid0.Coords) (arg3 : Memref sig .tc .vmem S1024x2048 .f32) (harg3 : arg3.IsWhole)
    (arg4 : Memref sig .tc .vmem S1x2048x1408 .bf16) (harg4 : arg4.IsWhole)
    (arg5 : Memref sig .tc .vmem S1024x1408 .f32) (harg5 : arg5.IsWhole) (hc0 : cond0_0 i)
    (x0 : Vec Ideal S1024x2048 .f32) (x1 : Vec Ideal S1x2048x1408 .bf16) :
    out0_A_2 c i arg3 harg3 arg4 harg4 arg5 harg5 hc0 x0 x1 = k0_pay2 (k0_pay1 (F := Ideal)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S1024x1408) hz2, View.readCov_unit_zero (S := S1024x1408) _ hz2]
  simp only [View.readAt_eq_ld, harg3.read_unread, harg4.read_unread, harg5.read_unread,
    View.ld_unit_zero (S := S1x2048x1408) hz3, View.ld_unit_zero (S := S1024x1408) hz2,
    View.ld_unit_zero (S := S1024x2048) hz2, shapeCast_self]

variable (m : (ℓ : Loc nD τ sig) → Buf (Elt Ideal) ℓ) (c : Dev nD)

/-- The shards read as the weight's columns. -/
theorem shard (s : Fin 8) (k : Fin 2048) (x : Fin 1408) (a : Fin 11264) (ha : a.val = s.val * 1408 + x.val) :
    V m c main_v2 (ix3 s k x) = m ((c : Thread nD τ).loc main_arg1) (ix2 k a) := by
  entry_read
  pointwise
  blk_ext

variable (h : Vec Ideal S8192x2048 .f32) (w : Vec Ideal S2048x11264 .f32)
  (hh : m ((c : Thread nD τ).loc main_arg0) = h) (hw : m ((c : Thread nD τ).loc main_arg1) = w)

include hh hw in
/-- A grid point's block of the product. -/
theorem point (t : Fin cfg0.N) (y : S1024x1408.Idx) (i : S8192x11264.Idx) (hR : (i 0).val = t.val / 8 * 1024 + (y 0).val)
    (hC : (i 1).val = t.val % 8 * 1408 + (y 1).val) :
    k0_pay2 (k0_pay1 (F := Ideal)) (iblk m c 0 t) (iblk m c 1 t) y
      = Cert.FfnInFwdLastRefIdeal.Read.val_main_v0 (F := Ideal) h w i := by
  obtain ⟨R, C, rfl⟩ : ∃ (R : Fin 8192) (C : Fin 11264), i = ix2 R C := ⟨i 0, i 1, by idx_vars i⟩
  obtain ⟨r, k, rfl⟩ : ∃ (r : Fin 1024) (k : Fin 1408), y = ix2 r k := ⟨y 0, y 1, by idx_vars y⟩
  replace hR : R.val = t.val / 8 * 1024 + r.val := hR
  replace hC : C.val = t.val % 8 * 1408 + k.val := hC
  pointwise [k0_pay2, k0_pay1, Cert.FfnInFwdLastRefIdeal.Read.val_main_v0]
  refine Finset.sum_congr rfl fun x _ => ?_
  congr 1
  · rw [← hh]
    blk_ext [iblk, V_main_arg0, (idx t).1]
  · refine Eq.trans ?_ ((shard m c ⟨t.val % 8, by omega⟩ x k C hC).trans (congrFun hw _))
    blk_ext [iblk, (idx t).2.1]

theorem mem_blk (t : Fin cfg0.N) (i : S8192x11264.Idx) :
    i ∈ ((cfg0.win 2).blk t).view.set ↔ ∀ a : Fin 2, win0_2.index t a * S1024x1408.size a ≤ (i a).val
      ∧ (i a).val < win0_2.index t a * S1024x1408.size a + S1024x1408.size a := by
  show i ∈ ((View.whole main_v3).slice (win0_2.rect t)).set ↔ _
  rw [View.set_slice_whole, Rect.mem_set_unit]
  exact Iff.rfl

include hh hw in
/-- The array after the run: the blocks tile it, and each is the product's. -/
theorem value : (dats m 0 c).arrAt 2 cfg0.N = Cert.FfnInFwdLastRefIdeal.Read.val_main_v0 (F := Ideal) h w := by
  refine (dats m 0 c).arrAt_eq_of_cover 2 _ (fun t _ => ?_) fun i => ?_
  · rw [Value.flushed2_A, out_eq]
    funext y
    refine point m c h w hh hw t ((cfg0.win 2).xinj (grid0.coords t) y) (((cfg0.win 2).blk t).view.emb y) ?_ ?_
    · show win0_2.index t (0 : Fin 2) * 1024 + 1 * (y 0).val = _ * 1024 + (y 0).val
      rw [(idx t).2.2.1, one_mul]
      rfl
    · show win0_2.index t (1 : Fin 2) * 1408 + 1 * (y 1).val = _ * 1408 + (y 1).val
      rw [(idx t).2.2.1, one_mul]
      rfl
  · have h0 : (i 0).val < 8192 := (i 0).isLt
    have h1 : (i 1).val < 11264 := (i 1).isLt
    have hN : (i 0).val / 1024 * 8 + (i 1).val / 1408 < cfg0.N := by
      rw [show cfg0.N = 64 from N_0]
      omega
    refine ⟨⟨_, hN⟩, (idx _).2.2.2, ?_⟩
    rw [mem_blk, (idx _).2.2.1]
    intro a
    match a with
    | ⟨0, _⟩ =>
      show ((i 0).val / 1024 * 8 + (i 1).val / 1408) / 8 * 1024 ≤ (i 0).val
        ∧ (i 0).val < ((i 0).val / 1024 * 8 + (i 1).val / 1408) / 8 * 1024 + 1024
      omega
    | ⟨1, _⟩ =>
      show ((i 0).val / 1024 * 8 + (i 1).val / 1408) % 8 * 1408 ≤ (i 1).val
        ∧ (i 1).val < ((i 0).val / 1024 * 8 + (i 1).val / 1408) % 8 * 1408 + 1408
      omega

end Cert.FfnInFwdLastValue

end
-- ==== Proof.FfnOutDxLast.lean ====
/- For the 8192 latent rows of the last layer. The gradient of `ffn_out`'s rows: `dy` times the weight, 1024 of the 2048 columns of both at a time. -/
module

public import proofs.«01_k».proof.Proof.Blocked
public import proofs.«01_k».proof.Proof.Gen.FfnOutDxLastIdeal.Value
public import proofs.«01_k».proof.Proof.Gen.FfnOutDxLastRefIdeal.Read
public import Idealize.ShloMosaic.Lib.Pointwise
public import Idealize.ShloMosaic.Lib.Pipeline.ValueKit

@[expose] public section

set_option maxRecDepth 16384

noncomputable section

namespace Cert.FfnOutDxLastValue

open Cert.FfnOutDxLastIdeal Cert.FfnOutDxLastIdeal.Gen Idealize.ShloMosaic Idealize.ShloMosaic.TcCoe Idealize.SL.Sem
open Idealize.ShloMosaic.Tactic

theorem idx : ∀ t : Fin cfg0.N, win0_0.index t = ![t.val / 8, t.val % 2] ∧ win0_1.index t = ![t.val / 2 % 4, t.val % 2] :=
  (by decide +kernel : ∀ t : Fin grid0.N, _)

variable (m : (ℓ : Loc nD τ sig) → Buf (Elt Ideal) ℓ) (c : Dev nD)
variable (w : Vec Ideal S5632x2048 .f32) (dy : Vec Ideal S8192x2048 .f32)
  (hw : m ((c : Thread nD τ).loc main_arg1) = w) (hdy : m ((c : Thread nD τ).loc main_arg2) = dy)

include hw in
theorem weight : V m c main_v0 = w := by
  rw [← hw]
  entry_read
  rfl

include hw hdy in
/-- One grid point adds its block's part of the sum. -/
theorem step (n : ℕ) (hn : n < cfg0.N) (acc : Vec Ideal S1024x1408 .f32) (y : S1024x1408.Idx) (R : Fin 8192) (C : Fin 5632)
    (u : Fin 2) (hR : R.val = n / 8 * 1024 + (y 0).val) (hC : C.val = n / 2 % 4 * 1408 + (y 1).val) (hu : n % 2 = u.val) :
    Value.step2 m c n hn acc y = acc y + ∑ x : Fin 1024,
      dy (ix2 R ⟨u.val * 1024 + x.val, by omega⟩) * w (ix2 C ⟨u.val * 1024 + x.val, by omega⟩) := by
  obtain ⟨r, k, rfl⟩ : ∃ (r : Fin 1024) (k : Fin 1408), y = ix2 r k := ⟨y 0, y 1, by idx_vars y⟩
  replace hR : R.val = n / 8 * 1024 + r.val := hR
  replace hC : C.val = n / 2 % 4 * 1408 + k.val := hC
  unfold Value.step2
  pointwise [k0_pay2]
  refine congrArg _ (Finset.sum_congr rfl fun x _ => ?_)
  congr 1
  · rw [← hdy]
    blk_ext [iblk, V_main_arg2, (idx ⟨n, hn⟩).1]
  · rw [← weight m c w hw]
    blk_ext [iblk, (idx ⟨n, hn⟩).2]

include hw hdy in
theorem value : Value.G2 m c = Cert.FfnOutDxLastRefIdeal.Read.val_main_v3 (F := Ideal) w dy := by
  funext i
  obtain ⟨R, C, rfl⟩ : ∃ (R : Fin 8192) (C : Fin 5632), i = ix2 R C := ⟨i 0, i 1, by idx_vars i⟩
  have hb : Value.run2Of (ix2 R C) = 4 * (R.val / 1024) + C.val / 1408 := by
    show 4 * (R.val / 1024 - 0) + 1 * (C.val / 1408 - 0) = _
    omega
  refine (Blocked.array_sum (J := 1) (n := 1024) (Value.reset2 m c) (Value.step2 m c) (k0_pay1 (F := Ideal))
    (Value.loc2Of (ix2 R C)) rfl (fun q : Fin 2048 => dy (ix2 R q) * w (ix2 C q)) _ _ _ hb
    (show _ < 64 by omega) (fun _ _ => rfl) (by pointwise [k0_pay1]) fun s hn a =>
      step m c w dy hw hdy _ hn a _ R C s (show _ = _ + R.val % 1024 by omega) (show _ = _ + C.val % 1408 by omega) (by omega)).trans ?_
  symm
  pointwise [Cert.FfnOutDxLastRefIdeal.Read.val_main_v3]

end Cert.FfnOutDxLastValue

end
-- ==== Proof.FfnOutDwLast.lean ====
/- For the 8192 latent rows of the last layer. The gradient of `ffn_out`'s weight: the rows transposed times `dy`, 1024 of the 8192 rows at a time. -/
module

public import proofs.«01_k».proof.Proof.Blocked
public import proofs.«01_k».proof.Proof.Gen.FfnOutDwLastIdeal.Value
public import proofs.«01_k».proof.Proof.Gen.FfnOutDwLastRefIdeal.Read
public import Idealize.ShloMosaic.Lib.Pointwise
public import Idealize.ShloMosaic.Lib.Pipeline.ValueKit

@[expose] public section

set_option maxRecDepth 16384

noncomputable section

namespace Cert.FfnOutDwLastValue

open Cert.FfnOutDwLastIdeal Cert.FfnOutDwLastIdeal.Gen Idealize.ShloMosaic Idealize.ShloMosaic.TcCoe Idealize.SL.Sem
open Idealize.ShloMosaic.Tactic

theorem idx : ∀ t : Fin cfg0.N, win0_0.index t = ![t.val % 8, t.val / 16] ∧ win0_1.index t = ![t.val % 8, t.val / 8 % 2] :=
  (by decide +kernel : ∀ t : Fin grid0.N, _)

variable (m : (ℓ : Loc nD τ sig) → Buf (Elt Ideal) ℓ) (c : Dev nD)
variable (h : Vec Ideal S8192x5632 .f32) (dy : Vec Ideal S8192x2048 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S512x1024 .f32) (y : S512x1024.Idx) (R : Fin 5632) (C : Fin 2048)
    (u : Fin 8) (hR : R.val = n / 16 * 512 + (y 0).val) (hC : C.val = n / 8 % 2 * 1024 + (y 1).val) (hu : n % 8 = u.val) :
    Value.step2 m c n hn acc y = acc y + ∑ x : Fin 1024,
      h (ix2 ⟨u.val * 1024 + x.val, by omega⟩ R) * dy (ix2 ⟨u.val * 1024 + x.val, by omega⟩ C) := by
  obtain ⟨r, k, rfl⟩ : ∃ (r : Fin 512) (k : Fin 1024), y = ix2 r k := ⟨y 0, y 1, by idx_vars y⟩
  replace hR : R.val = n / 16 * 512 + r.val := hR
  replace hC : C.val = n / 8 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.FfnOutDwLastRefIdeal.Read.val_main_v2 (F := Ideal) h dy := by
  funext i
  obtain ⟨R, C, rfl⟩ : ∃ (R : Fin 5632) (C : Fin 2048), i = ix2 R C := ⟨i 0, i 1, by idx_vars i⟩
  have hb : Value.run2Of (ix2 R C) = 2 * (R.val / 512) + C.val / 1024 := by
    show 2 * (R.val / 512 - 0) + 1 * (C.val / 1024 - 0) = _
    omega
  refine (Blocked.array_sum (J := 7) (n := 1024) (Value.reset2 m c) (Value.step2 m c) (k0_pay1 (F := Ideal))
    (Value.loc2Of (ix2 R C)) rfl (fun q : Fin 8192 => h (ix2 q R) * dy (ix2 q C)) _ _ _ hb
    (show _ < 176 by omega) (fun _ _ => rfl) (by pointwise [k0_pay1]) fun u hn a =>
      step m c h dy hh hdy _ hn a _ R C u (show _ = _ + R.val % 512 by omega) (show _ = _ + C.val % 1024 by omega) (by omega)).trans ?_
  symm
  pointwise [Cert.FfnOutDwLastRefIdeal.Read.val_main_v2, Cert.FfnOutDwLastRefIdeal.Read.val_main_v1]
  exact Finset.sum_congr rfl fun q _ => mul_comm _ _

end Cert.FfnOutDwLastValue

end
-- ==== Proof.FfnOutFwdLast.lean ====
/- For the 8192 latent rows of the last layer. `ffn_out`'s product, 1408 of the 5632 columns of the rows at a time. -/
module

public import proofs.«01_k».proof.Proof.Blocked
public import proofs.«01_k».proof.Proof.Gen.FfnOutFwdLastIdeal.Value
public import proofs.«01_k».proof.Proof.Gen.FfnOutFwdLastRefIdeal.Read
public import Idealize.ShloMosaic.Lib.Pointwise
public import Idealize.ShloMosaic.Lib.Pipeline.ValueKit

@[expose] public section

set_option maxRecDepth 16384

noncomputable section

namespace Cert.FfnOutFwdLastValue

open Cert.FfnOutFwdLastIdeal Cert.FfnOutFwdLastIdeal.Gen Idealize.ShloMosaic Idealize.ShloMosaic.TcCoe Idealize.SL.Sem
open Idealize.ShloMosaic.Tactic

theorem idx : ∀ t : Fin cfg0.N, win0_0.index t = ![t.val / 8, t.val % 4] ∧ win0_1.index t = ![t.val % 4, t.val / 4 % 2] :=
  (by decide +kernel : ∀ t : Fin grid0.N, _)

variable (m : (ℓ : Loc nD τ sig) → Buf (Elt Ideal) ℓ) (c : Dev nD)
variable (h : Vec Ideal S8192x5632 .f32) (w : Vec Ideal S5632x2048 .f32)
  (hh : m ((c : Thread nD τ).loc main_arg0) = h) (hw : m ((c : Thread nD τ).loc main_arg1) = w)

include hw in
theorem weight : V m c main_v0 = w := by
  rw [← hw]
  entry_read
  rfl

include hh hw in
/-- One grid point adds its block's part of the sum. -/
theorem step (n : ℕ) (hn : n < cfg0.N) (acc : Vec Ideal S1024x1024 .f32) (y : S1024x1024.Idx) (R : Fin 8192) (C : Fin 2048)
    (u : Fin 4) (hR : R.val = n / 8 * 1024 + (y 0).val) (hC : C.val = n / 4 % 2 * 1024 + (y 1).val) (hu : n % 4 = u.val) :
    Value.step2 m c n hn acc y = acc y + ∑ x : Fin 1408,
      h (ix2 R ⟨u.val * 1408 + x.val, by omega⟩) * w (ix2 ⟨u.val * 1408 + x.val, by omega⟩ C) := by
  obtain ⟨r, k, rfl⟩ : ∃ (r : Fin 1024) (k : Fin 1024), y = ix2 r k := ⟨y 0, y 1, by idx_vars y⟩
  replace hR : R.val = n / 8 * 1024 + r.val := hR
  replace hC : C.val = n / 4 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← weight m c w hw]
    blk_ext [iblk, (idx ⟨n, hn⟩).2]

include hh hw in
theorem value : Value.G2 m c = Cert.FfnOutFwdLastRefIdeal.Read.val_main_v0 (F := Ideal) h w := by
  funext i
  obtain ⟨R, C, rfl⟩ : ∃ (R : Fin 8192) (C : Fin 2048), i = ix2 R C := ⟨i 0, i 1, by idx_vars i⟩
  have hb : Value.run2Of (ix2 R C) = 2 * (R.val / 1024) + C.val / 1024 := by
    show 2 * (R.val / 1024 - 0) + 1 * (C.val / 1024 - 0) = _
    omega
  refine (Blocked.array_sum (J := 3) (n := 1408) (Value.reset2 m c) (Value.step2 m c) (k0_pay1 (F := Ideal))
    (Value.loc2Of (ix2 R C)) rfl (fun q : Fin 5632 => h (ix2 R q) * w (ix2 q C)) _ _ _ hb
    (show _ < 64 by omega) (fun _ _ => rfl) (by pointwise [k0_pay1]) fun s hn a =>
      step m c h w hh hw _ hn a _ R C s (show _ = _ + R.val % 1024 by omega) (show _ = _ + C.val % 1024 by omega) (by omega)).trans ?_
  symm
  pointwise [Cert.FfnOutFwdLastRefIdeal.Read.val_main_v0]

end Cert.FfnOutFwdLastValue

end
-- ==== Proof.OutProjDxLast.lean ====
/- For the 8192 latent rows of the last layer. The gradient of `out_proj`'s rows: `dy` times the weight, 1024 of the 2048 columns of both at a time. -/
module

public import proofs.«01_k».proof.Proof.Blocked
public import proofs.«01_k».proof.Proof.Gen.OutProjDxLastIdeal.Value
public import proofs.«01_k».proof.Proof.Gen.OutProjDxLastRefIdeal.Read
public import Idealize.ShloMosaic.Lib.Pointwise
public import Idealize.ShloMosaic.Lib.Pipeline.ValueKit

@[expose] public section

set_option maxRecDepth 16384

noncomputable section

namespace Cert.OutProjDxLastValue

open Cert.OutProjDxLastIdeal Cert.OutProjDxLastIdeal.Gen Idealize.ShloMosaic Idealize.ShloMosaic.TcCoe Idealize.SL.Sem
open Idealize.ShloMosaic.Tactic

theorem idx : ∀ t : Fin cfg0.N, win0_0.index t = ![t.val / 2, t.val % 2] ∧ win0_1.index t = ![0, t.val % 2] :=
  (by decide +kernel : ∀ t : Fin grid0.N, _)

variable (m : (ℓ : Loc nD τ sig) → Buf (Elt Ideal) ℓ) (c : Dev nD)
variable (w : Vec Ideal S2048x2048 .f32) (dy : Vec Ideal S8192x2048 .f32)
  (hw : m ((c : Thread nD τ).loc main_arg1) = w) (hdy : m ((c : Thread nD τ).loc main_arg2) = dy)

include hw in
theorem weight : V m c main_v0 = w := by
  rw [← hw]
  entry_read
  rfl

include hw hdy in
/-- One grid point adds its block's part of the sum. -/
theorem step (n : ℕ) (hn : n < cfg0.N) (acc : Vec Ideal S1024x2048 .f32) (y : S1024x2048.Idx) (R : Fin 8192) (C : Fin 2048)
    (u : Fin 2) (hR : R.val = n / 2 * 1024 + (y 0).val) (hC : C.val = (y 1).val) (hu : n % 2 = u.val) :
    Value.step2 m c n hn acc y = acc y + ∑ x : Fin 1024,
      dy (ix2 R ⟨u.val * 1024 + x.val, by omega⟩) * w (ix2 C ⟨u.val * 1024 + x.val, by omega⟩) := by
  obtain ⟨r, k, rfl⟩ : ∃ (r : Fin 1024) (k : Fin 2048), y = ix2 r k := ⟨y 0, y 1, by idx_vars y⟩
  replace hR : R.val = n / 2 * 1024 + r.val := hR
  replace hC : C.val = k.val := hC
  unfold Value.step2
  pointwise [k0_pay2]
  refine congrArg _ (Finset.sum_congr rfl fun x _ => ?_)
  congr 1
  · rw [← hdy]
    blk_ext [iblk, V_main_arg2, (idx ⟨n, hn⟩).1]
  · rw [← weight m c w hw]
    blk_ext [iblk, (idx ⟨n, hn⟩).2]

include hw hdy in
theorem value : Value.G2 m c = Cert.OutProjDxLastRefIdeal.Read.val_main_v3 (F := Ideal) w dy := by
  funext i
  obtain ⟨R, C, rfl⟩ : ∃ (R : Fin 8192) (C : Fin 2048), i = ix2 R C := ⟨i 0, i 1, by idx_vars i⟩
  have hb : Value.run2Of (ix2 R C) = R.val / 1024 := by
    show 1 * (R.val / 1024 - 0) + 1 * (C.val / 2048 - 0) = _
    omega
  refine (Blocked.array_sum (J := 1) (n := 1024) (Value.reset2 m c) (Value.step2 m c) (k0_pay1 (F := Ideal))
    (Value.loc2Of (ix2 R C)) rfl (fun q : Fin 2048 => dy (ix2 R q) * w (ix2 C q)) _ _ _ hb
    (show _ < 16 by omega) (fun _ _ => rfl) (by pointwise [k0_pay1]) fun s hn a =>
      step m c w dy hw hdy _ hn a _ R C s (show _ = _ + R.val % 1024 by omega) (show _ = C.val % 2048 by omega) (by omega)).trans ?_
  symm
  pointwise [Cert.OutProjDxLastRefIdeal.Read.val_main_v3]

end Cert.OutProjDxLastValue

end
-- ==== Proof.OutProjDwLast.lean ====
/- For the 8192 latent rows of the last layer. The gradient of `out_proj`'s weight: the rows transposed times `dy`, 1024 of the 8192 rows at a time. -/
module

public import proofs.«01_k».proof.Proof.Blocked
public import proofs.«01_k».proof.Proof.Gen.OutProjDwLastIdeal.Value
public import proofs.«01_k».proof.Proof.Gen.OutProjDwLastRefIdeal.Read
public import Idealize.ShloMosaic.Lib.Pointwise
public import Idealize.ShloMosaic.Lib.Pipeline.ValueKit

@[expose] public section

set_option maxRecDepth 16384

noncomputable section

namespace Cert.OutProjDwLastValue

open Cert.OutProjDwLastIdeal Cert.OutProjDwLastIdeal.Gen Idealize.ShloMosaic Idealize.ShloMosaic.TcCoe Idealize.SL.Sem
open Idealize.ShloMosaic.Tactic

theorem idx : ∀ t : Fin cfg0.N, win0_0.index t = ![t.val % 8, t.val / 16] ∧ win0_1.index t = ![t.val % 8, t.val / 8 % 2] :=
  (by decide +kernel : ∀ t : Fin grid0.N, _)

variable (m : (ℓ : Loc nD τ sig) → Buf (Elt Ideal) ℓ) (c : Dev nD)
variable (h : Vec Ideal S8192x2048 .f32) (dy : Vec Ideal S8192x2048 .f32)
  (hh : m ((c : Thread nD τ).loc main_arg0) = h) (hdy : m ((c : Thread nD τ).loc main_arg2) = dy)

include hh hdy in
/-- One grid point adds its block's part of the sum. -/
theorem step (n : ℕ) (hn : n < cfg0.N) (acc : Vec Ideal S1024x1024 .f32) (y : S1024x1024.Idx) (R : Fin 2048) (C : Fin 2048)
    (u : Fin 8) (hR : R.val = n / 16 * 1024 + (y 0).val) (hC : C.val = n / 8 % 2 * 1024 + (y 1).val) (hu : n % 8 = u.val) :
    Value.step2 m c n hn acc y = acc y + ∑ x : Fin 1024,
      h (ix2 ⟨u.val * 1024 + x.val, by omega⟩ R) * dy (ix2 ⟨u.val * 1024 + x.val, by omega⟩ C) := by
  obtain ⟨r, k, rfl⟩ : ∃ (r : Fin 1024) (k : Fin 1024), y = ix2 r k := ⟨y 0, y 1, by idx_vars y⟩
  replace hR : R.val = n / 16 * 1024 + r.val := hR
  replace hC : C.val = n / 8 % 2 * 1024 + k.val := hC
  unfold Value.step2
  pointwise [k0_pay2]
  refine congrArg _ (Finset.sum_congr rfl fun x _ => ?_)
  congr 1
  · rw [← hh]
    blk_ext [iblk, V_main_arg0, (idx ⟨n, hn⟩).1]
  · rw [← hdy]
    blk_ext [iblk, V_main_arg2, (idx ⟨n, hn⟩).2]

include hh hdy in
theorem value : Value.G2 m c = Cert.OutProjDwLastRefIdeal.Read.val_main_v2 (F := Ideal) h dy := by
  funext i
  obtain ⟨R, C, rfl⟩ : ∃ (R : Fin 2048) (C : Fin 2048), i = ix2 R C := ⟨i 0, i 1, by idx_vars i⟩
  have hb : Value.run2Of (ix2 R C) = 2 * (R.val / 1024) + C.val / 1024 := by
    show 2 * (R.val / 1024 - 0) + 1 * (C.val / 1024 - 0) = _
    omega
  refine (Blocked.array_sum (J := 7) (n := 1024) (Value.reset2 m c) (Value.step2 m c) (k0_pay1 (F := Ideal))
    (Value.loc2Of (ix2 R C)) rfl (fun q : Fin 8192 => h (ix2 q R) * dy (ix2 q C)) _ _ _ hb
    (show _ < 32 by omega) (fun _ _ => rfl) (by pointwise [k0_pay1]) fun u hn a =>
      step m c h dy hh hdy _ hn a _ R C u (show _ = _ + R.val % 1024 by omega) (show _ = _ + C.val % 1024 by omega) (by omega)).trans ?_
  symm
  pointwise [Cert.OutProjDwLastRefIdeal.Read.val_main_v2, Cert.OutProjDwLastRefIdeal.Read.val_main_v1]
  exact Finset.sum_congr rfl fun q _ => mul_comm _ _

end Cert.OutProjDwLastValue

end
-- ==== Proof.OutProjFwdLast.lean ====
/- For the 8192 latent rows of the last layer. `out_proj`'s product, one block of 1024 rows and 1024 columns at a grid point, each over all 2048 of the summed index. -/
module

public import proofs.«01_k».proof.Proof.Gen.OutProjFwdLastIdeal.Value
public import proofs.«01_k».proof.Proof.Gen.OutProjFwdLastRefIdeal.Read
public import Idealize.ShloMosaic.Lib.Pointwise
public import Idealize.ShloMosaic.Lib.Pipeline.ValueKit

@[expose] public section

set_option maxRecDepth 16384

noncomputable section

namespace Cert.OutProjFwdLastValue

open Cert.OutProjFwdLastIdeal Cert.OutProjFwdLastIdeal.Gen Idealize.ShloMosaic Idealize.ShloMosaic.TcCoe Idealize.SL.Sem
open Idealize.ShloMosaic.Tactic

theorem idx : ∀ t : Fin cfg0.N, win0_0.index t = ![t.val / 2, 0] ∧ win0_1.index t = ![0, t.val % 2]
    ∧ win0_2.index t = ![t.val / 2, t.val % 2] ∧ (cfg0.win 2).flush t = true :=
  (by decide +kernel : ∀ t : Fin grid0.N, win0_0.index t = ![t.val / 2, 0] ∧ win0_1.index t = ![0, t.val % 2]
    ∧ win0_2.index t = ![t.val / 2, t.val % 2] ∧ win0_2.flush t = true)

theorem hz2 : (![0, 0] : Fin 2 → Nat) = fun _ => 0 := funext fun a => by fin_cases a <;> rfl

/-- What a grid point leaves in the output's buffer: the product of its two blocks, added to zero. -/
theorem out_eq (c : Dev nD) (i : grid0.Coords) (arg3 : Memref sig .tc .vmem S1024x2048 .f32) (harg3 : arg3.IsWhole)
    (arg4 : Memref sig .tc .vmem S2048x1024 .bf16) (harg4 : arg4.IsWhole)
    (arg5 : Memref sig .tc .vmem S1024x1024 .f32) (harg5 : arg5.IsWhole) (hc0 : cond0_0 i)
    (x0 : Vec Ideal S1024x2048 .f32) (x1 : Vec Ideal S2048x1024 .bf16) :
    out0_A_2 c i arg3 harg3 arg4 harg4 arg5 harg5 hc0 x0 x1 = k0_pay2 (k0_pay1 (F := Ideal)) x0 x1 := by
  unfold out0_A_2
  rw [View.read_writes_eq_canon _ _ _ (cover0_A_2 c i arg3 harg3 arg4 harg4 arg5 harg5 hc0 x0 x1)]
  unfold kernelRun0_A
  dsimp only
  try sl_unfold_words
  rw [View.canon_cons_unit_zero (S := S1024x1024) hz2, View.readCov_unit_zero (S := S1024x1024) _ hz2]
  simp only [View.readAt_eq_ld, harg3.read_unread, harg4.read_unread, harg5.read_unread,
    View.ld_unit_zero (S := S2048x1024) hz2, View.ld_unit_zero (S := S1024x1024) hz2,
    View.ld_unit_zero (S := S1024x2048) hz2, shapeCast_self]

variable (m : (ℓ : Loc nD τ sig) → Buf (Elt Ideal) ℓ) (c : Dev nD)

variable (h : Vec Ideal S8192x2048 .f32) (w : Vec Ideal S2048x2048 .f32)
  (hh : m ((c : Thread nD τ).loc main_arg0) = h) (hw : m ((c : Thread nD τ).loc main_arg1) = w)

include hw in
theorem weight : V m c main_v0 = w := by
  rw [← hw]
  entry_read
  rfl

include hh hw in
/-- A grid point's block of the product. -/
theorem point (t : Fin cfg0.N) (y : S1024x1024.Idx) (i : S8192x2048.Idx) (hR : (i 0).val = t.val / 2 * 1024 + (y 0).val)
    (hC : (i 1).val = t.val % 2 * 1024 + (y 1).val) :
    k0_pay2 (k0_pay1 (F := Ideal)) (iblk m c 0 t) (iblk m c 1 t) y
      = Cert.OutProjFwdLastRefIdeal.Read.val_main_v0 (F := Ideal) h w i := by
  obtain ⟨R, C, rfl⟩ : ∃ (R : Fin 8192) (C : Fin 2048), i = ix2 R C := ⟨i 0, i 1, by idx_vars i⟩
  obtain ⟨r, k, rfl⟩ : ∃ (r : Fin 1024) (k : Fin 1024), y = ix2 r k := ⟨y 0, y 1, by idx_vars y⟩
  replace hR : R.val = t.val / 2 * 1024 + r.val := hR
  replace hC : C.val = t.val % 2 * 1024 + k.val := hC
  pointwise [k0_pay2, k0_pay1, Cert.OutProjFwdLastRefIdeal.Read.val_main_v0]
  refine Finset.sum_congr rfl fun x _ => ?_
  congr 1
  · rw [← hh]
    blk_ext [iblk, V_main_arg0, (idx t).1]
  · rw [← weight m c w hw]
    blk_ext [iblk, (idx t).2.1]

theorem mem_blk (t : Fin cfg0.N) (i : S8192x2048.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

include hh hw in
/-- The array after the run: the blocks tile it, and each is the product's. -/
theorem value : (dats m 0 c).arrAt 2 cfg0.N = Cert.OutProjFwdLastRefIdeal.Read.val_main_v0 (F := Ideal) h w := by
  refine (dats m 0 c).arrAt_eq_of_cover 2 _ (fun t _ => ?_) fun i => ?_
  · rw [Value.flushed2_A, out_eq]
    funext y
    refine point m c h w hh hw t ((cfg0.win 2).xinj (grid0.coords t) y) (((cfg0.win 2).blk t).view.emb y) ?_ ?_
    · show win0_2.index t (0 : Fin 2) * 1024 + 1 * (y 0).val = _ * 1024 + (y 0).val
      rw [(idx t).2.2.1, one_mul]
      rfl
    · show win0_2.index t (1 : Fin 2) * 1024 + 1 * (y 1).val = _ * 1024 + (y 1).val
      rw [(idx t).2.2.1, one_mul]
      rfl
  · have h0 : (i 0).val < 8192 := (i 0).isLt
    have h1 : (i 1).val < 2048 := (i 1).isLt
    have hN : (i 0).val / 1024 * 2 + (i 1).val / 1024 < cfg0.N := by
      rw [show cfg0.N = 16 from N_0]
      omega
    refine ⟨⟨_, hN⟩, (idx _).2.2.2, ?_⟩
    rw [mem_blk, (idx _).2.2.1]
    intro a
    match a with
    | ⟨0, _⟩ =>
      show ((i 0).val / 1024 * 2 + (i 1).val / 1024) / 2 * 1024 ≤ (i 0).val
        ∧ (i 0).val < ((i 0).val / 1024 * 2 + (i 1).val / 1024) / 2 * 1024 + 1024
      omega
    | ⟨1, _⟩ =>
      show ((i 0).val / 1024 * 2 + (i 1).val / 1024) % 2 * 1024 ≤ (i 1).val
        ∧ (i 1).val < ((i 0).val / 1024 * 2 + (i 1).val / 1024) % 2 * 1024 + 1024
      omega

end Cert.OutProjFwdLastValue

end
-- ==== Proof.LastClaims.lean ====
/- The claims of the last layer's products: every run ends with its semaphores at zero and its arguments unchanged, and each kernel leaves what
   its reference does. -/
module

public import proofs.«01_k».proof.Defs
public import proofs.«01_k».proof.Proof.Gen.FfnInDxLast.Frame
public import proofs.«01_k».proof.Proof.Gen.FfnInDxLastRefIdeal.Run
public import proofs.«01_k».proof.Proof.FfnInDxLast
public import proofs.«01_k».proof.Proof.Gen.FfnInDwLast.Frame
public import proofs.«01_k».proof.Proof.Gen.FfnInDwLastRefIdeal.Run
public import proofs.«01_k».proof.Proof.FfnInDwLast
public import proofs.«01_k».proof.Proof.Gen.FfnInFwdLast.Frame
public import proofs.«01_k».proof.Proof.Gen.FfnInFwdLastRefIdeal.Run
public import proofs.«01_k».proof.Proof.FfnInFwdLast
public import proofs.«01_k».proof.Proof.Gen.FfnOutDxLast.Frame
public import proofs.«01_k».proof.Proof.Gen.FfnOutDxLastRefIdeal.Run
public import proofs.«01_k».proof.Proof.FfnOutDxLast
public import proofs.«01_k».proof.Proof.Gen.FfnOutDwLast.Frame
public import proofs.«01_k».proof.Proof.Gen.FfnOutDwLastRefIdeal.Run
public import proofs.«01_k».proof.Proof.FfnOutDwLast
public import proofs.«01_k».proof.Proof.Gen.FfnOutFwdLast.Frame
public import proofs.«01_k».proof.Proof.Gen.FfnOutFwdLastRefIdeal.Run
public import proofs.«01_k».proof.Proof.FfnOutFwdLast
public import proofs.«01_k».proof.Proof.Gen.OutProjDxLast.Frame
public import proofs.«01_k».proof.Proof.Gen.OutProjDxLastRefIdeal.Run
public import proofs.«01_k».proof.Proof.OutProjDxLast
public import proofs.«01_k».proof.Proof.Gen.OutProjDwLast.Frame
public import proofs.«01_k».proof.Proof.Gen.OutProjDwLastRefIdeal.Run
public import proofs.«01_k».proof.Proof.OutProjDwLast
public import proofs.«01_k».proof.Proof.Gen.OutProjFwdLast.Frame
public import proofs.«01_k».proof.Proof.Gen.OutProjFwdLastRefIdeal.Run
public import proofs.«01_k».proof.Proof.OutProjFwdLast
public import Idealize.ShloMosaic.Adequacy
public import Idealize.ShloMosaic.Init

@[expose] public section

noncomputable section

namespace Cert.LastClaims

open Idealize.ShloMosaic Idealize.ShloMosaic.TcCoe Idealize.SL.Sem

/-! `ffn_in`'s gradient in its input. -/

theorem frame_FfnInDxLast : Cert.quiescent_FfnInDxLast := fun m ρ _ => Cert.FfnInDxLast.Gen.frame m ρ

theorem frame_FfnInDxLastIdeal : Cert.quiescent_FfnInDxLastIdeal := fun m ρ _ => Cert.FfnInDxLastIdeal.Gen.frame m ρ

theorem frame_FfnInDxLastRefIdeal : Cert.quiescent_FfnInDxLastRefIdeal := fun m ρ _ =>
  (θ_run Cert.FfnInDxLastRefIdeal.defs _ _).mono (fun r h => ⟨fun c => (h c).2, sem_eq_zero_of_no_sems (by decide) r.2⟩)
    (Cert.FfnInDxLastRefIdeal.Value.run (F := Ideal) m ρ)

theorem algebraic_FfnInDxLast : Cert.algebraic_FfnInDxLastIdeal_FfnInDxLastRefIdeal := by
  intro m g m' g' _ hag
  refine ⟨fun c => Cert.FfnInDxLastIdeal.Value.G2 m c, Cert.FfnInDxLastIdeal.Value.run m g, ?_⟩
  refine (θ_run Cert.FfnInDxLastRefIdeal.defs _ _).mono (fun r h c => ?_) (Cert.FfnInDxLastRefIdeal.Value.run (F := Ideal) m' g')
  obtain ⟨a0, a1, a2⟩ := hag c
  refine ⟨(h c).1.trans ?_, (h c).2⟩
  rw [Cert.FfnInDxLastRefIdeal.Read.val_main_v3_eq, a1, a2]
  exact (FfnInDxLastValue.value m c _ _ rfl rfl).symm

/-! `ffn_in`'s gradient in its weight. -/

theorem frame_FfnInDwLast : Cert.quiescent_FfnInDwLast := fun m ρ _ => Cert.FfnInDwLast.Gen.frame m ρ

theorem frame_FfnInDwLastIdeal : Cert.quiescent_FfnInDwLastIdeal := fun m ρ _ => Cert.FfnInDwLastIdeal.Gen.frame m ρ

theorem frame_FfnInDwLastRefIdeal : Cert.quiescent_FfnInDwLastRefIdeal := fun m ρ _ =>
  (θ_run Cert.FfnInDwLastRefIdeal.defs _ _).mono (fun r h => ⟨fun c => (h c).2, sem_eq_zero_of_no_sems (by decide) r.2⟩)
    (Cert.FfnInDwLastRefIdeal.Value.run (F := Ideal) m ρ)

theorem algebraic_FfnInDwLast : Cert.algebraic_FfnInDwLastIdeal_FfnInDwLastRefIdeal := by
  intro m g m' g' _ hag
  refine ⟨fun c => Cert.FfnInDwLastIdeal.Value.G2 m c, Cert.FfnInDwLastIdeal.Value.run m g, ?_⟩
  refine (θ_run Cert.FfnInDwLastRefIdeal.defs _ _).mono (fun r h c => ?_) (Cert.FfnInDwLastRefIdeal.Value.run (F := Ideal) m' g')
  obtain ⟨a0, a1, a2⟩ := hag c
  refine ⟨(h c).1.trans ?_, (h c).2⟩
  rw [Cert.FfnInDwLastRefIdeal.Read.val_main_v5_eq, a0, a2]
  exact (FfnInDwLastValue.value m c _ _ rfl rfl).symm

/-! `ffn_in`'s product. -/

theorem frame_FfnInFwdLast : Cert.quiescent_FfnInFwdLast := fun m ρ _ => Cert.FfnInFwdLast.Gen.frame m ρ

theorem frame_FfnInFwdLastIdeal : Cert.quiescent_FfnInFwdLastIdeal := fun m ρ _ => Cert.FfnInFwdLastIdeal.Gen.frame m ρ

theorem frame_FfnInFwdLastRefIdeal : Cert.quiescent_FfnInFwdLastRefIdeal := fun m ρ _ =>
  (θ_run Cert.FfnInFwdLastRefIdeal.defs _ _).mono (fun r h => ⟨fun c => (h c).2, sem_eq_zero_of_no_sems (by decide) r.2⟩)
    (Cert.FfnInFwdLastRefIdeal.Value.run (F := Ideal) m ρ)

theorem algebraic_FfnInFwdLast : Cert.algebraic_FfnInFwdLastIdeal_FfnInFwdLastRefIdeal := by
  intro m g m' g' _ hag
  refine ⟨fun c => (Cert.FfnInFwdLastIdeal.Gen.dats m 0 c).arrAt 2 Cert.FfnInFwdLastIdeal.cfg0.N, Cert.FfnInFwdLastIdeal.Value.run_blocks m g, ?_⟩
  refine (θ_run Cert.FfnInFwdLastRefIdeal.defs _ _).mono (fun r h c => ?_) (Cert.FfnInFwdLastRefIdeal.Value.run (F := Ideal) m' g')
  obtain ⟨a0, a1⟩ := hag c
  refine ⟨(h c).1.trans ?_, (h c).2⟩
  rw [Cert.FfnInFwdLastRefIdeal.Read.val_main_v0_eq, a0, a1]
  exact (FfnInFwdLastValue.value m c _ _ rfl rfl).symm

/-! `ffn_out`'s gradient in its input. -/

theorem frame_FfnOutDxLast : Cert.quiescent_FfnOutDxLast := fun m ρ _ => Cert.FfnOutDxLast.Gen.frame m ρ

theorem frame_FfnOutDxLastIdeal : Cert.quiescent_FfnOutDxLastIdeal := fun m ρ _ => Cert.FfnOutDxLastIdeal.Gen.frame m ρ

theorem frame_FfnOutDxLastRefIdeal : Cert.quiescent_FfnOutDxLastRefIdeal := fun m ρ _ =>
  (θ_run Cert.FfnOutDxLastRefIdeal.defs _ _).mono (fun r h => ⟨fun c => (h c).2, sem_eq_zero_of_no_sems (by decide) r.2⟩)
    (Cert.FfnOutDxLastRefIdeal.Value.run (F := Ideal) m ρ)

theorem algebraic_FfnOutDxLast : Cert.algebraic_FfnOutDxLastIdeal_FfnOutDxLastRefIdeal := by
  intro m g m' g' _ hag
  refine ⟨fun c => Cert.FfnOutDxLastIdeal.Value.G2 m c, Cert.FfnOutDxLastIdeal.Value.run m g, ?_⟩
  refine (θ_run Cert.FfnOutDxLastRefIdeal.defs _ _).mono (fun r h c => ?_) (Cert.FfnOutDxLastRefIdeal.Value.run (F := Ideal) m' g')
  obtain ⟨a0, a1, a2⟩ := hag c
  refine ⟨(h c).1.trans ?_, (h c).2⟩
  rw [Cert.FfnOutDxLastRefIdeal.Read.val_main_v3_eq, a1, a2]
  exact (FfnOutDxLastValue.value m c _ _ rfl rfl).symm

/-! `ffn_out`'s gradient in its weight. -/

theorem frame_FfnOutDwLast : Cert.quiescent_FfnOutDwLast := fun m ρ _ => Cert.FfnOutDwLast.Gen.frame m ρ

theorem frame_FfnOutDwLastIdeal : Cert.quiescent_FfnOutDwLastIdeal := fun m ρ _ => Cert.FfnOutDwLastIdeal.Gen.frame m ρ

theorem frame_FfnOutDwLastRefIdeal : Cert.quiescent_FfnOutDwLastRefIdeal := fun m ρ _ =>
  (θ_run Cert.FfnOutDwLastRefIdeal.defs _ _).mono (fun r h => ⟨fun c => (h c).2, sem_eq_zero_of_no_sems (by decide) r.2⟩)
    (Cert.FfnOutDwLastRefIdeal.Value.run (F := Ideal) m ρ)

theorem algebraic_FfnOutDwLast : Cert.algebraic_FfnOutDwLastIdeal_FfnOutDwLastRefIdeal := by
  intro m g m' g' _ hag
  refine ⟨fun c => Cert.FfnOutDwLastIdeal.Value.G2 m c, Cert.FfnOutDwLastIdeal.Value.run m g, ?_⟩
  refine (θ_run Cert.FfnOutDwLastRefIdeal.defs _ _).mono (fun r h c => ?_) (Cert.FfnOutDwLastRefIdeal.Value.run (F := Ideal) m' g')
  obtain ⟨a0, a1, a2⟩ := hag c
  refine ⟨(h c).1.trans ?_, (h c).2⟩
  rw [Cert.FfnOutDwLastRefIdeal.Read.val_main_v2_eq, a0, a2]
  exact (FfnOutDwLastValue.value m c _ _ rfl rfl).symm

/-! `ffn_out`'s product. -/

theorem frame_FfnOutFwdLast : Cert.quiescent_FfnOutFwdLast := fun m ρ _ => Cert.FfnOutFwdLast.Gen.frame m ρ

theorem frame_FfnOutFwdLastIdeal : Cert.quiescent_FfnOutFwdLastIdeal := fun m ρ _ => Cert.FfnOutFwdLastIdeal.Gen.frame m ρ

theorem frame_FfnOutFwdLastRefIdeal : Cert.quiescent_FfnOutFwdLastRefIdeal := fun m ρ _ =>
  (θ_run Cert.FfnOutFwdLastRefIdeal.defs _ _).mono (fun r h => ⟨fun c => (h c).2, sem_eq_zero_of_no_sems (by decide) r.2⟩)
    (Cert.FfnOutFwdLastRefIdeal.Value.run (F := Ideal) m ρ)

theorem algebraic_FfnOutFwdLast : Cert.algebraic_FfnOutFwdLastIdeal_FfnOutFwdLastRefIdeal := by
  intro m g m' g' _ hag
  refine ⟨fun c => Cert.FfnOutFwdLastIdeal.Value.G2 m c, Cert.FfnOutFwdLastIdeal.Value.run m g, ?_⟩
  refine (θ_run Cert.FfnOutFwdLastRefIdeal.defs _ _).mono (fun r h c => ?_) (Cert.FfnOutFwdLastRefIdeal.Value.run (F := Ideal) m' g')
  obtain ⟨a0, a1⟩ := hag c
  refine ⟨(h c).1.trans ?_, (h c).2⟩
  rw [Cert.FfnOutFwdLastRefIdeal.Read.val_main_v0_eq, a0, a1]
  exact (FfnOutFwdLastValue.value m c _ _ rfl rfl).symm

/-! `in_proj`'s gradient in its input. -/

theorem frame_OutProjDxLast : Cert.quiescent_OutProjDxLast := fun m ρ _ => Cert.OutProjDxLast.Gen.frame m ρ

theorem frame_OutProjDxLastIdeal : Cert.quiescent_OutProjDxLastIdeal := fun m ρ _ => Cert.OutProjDxLastIdeal.Gen.frame m ρ

theorem frame_OutProjDxLastRefIdeal : Cert.quiescent_OutProjDxLastRefIdeal := fun m ρ _ =>
  (θ_run Cert.OutProjDxLastRefIdeal.defs _ _).mono (fun r h => ⟨fun c => (h c).2, sem_eq_zero_of_no_sems (by decide) r.2⟩)
    (Cert.OutProjDxLastRefIdeal.Value.run (F := Ideal) m ρ)

theorem algebraic_OutProjDxLast : Cert.algebraic_OutProjDxLastIdeal_OutProjDxLastRefIdeal := by
  intro m g m' g' _ hag
  refine ⟨fun c => Cert.OutProjDxLastIdeal.Value.G2 m c, Cert.OutProjDxLastIdeal.Value.run m g, ?_⟩
  refine (θ_run Cert.OutProjDxLastRefIdeal.defs _ _).mono (fun r h c => ?_) (Cert.OutProjDxLastRefIdeal.Value.run (F := Ideal) m' g')
  obtain ⟨a0, a1, a2⟩ := hag c
  refine ⟨(h c).1.trans ?_, (h c).2⟩
  rw [Cert.OutProjDxLastRefIdeal.Read.val_main_v3_eq, a1, a2]
  exact (OutProjDxLastValue.value m c _ _ rfl rfl).symm

/-! `out_proj`'s gradient in its weight. -/

theorem frame_OutProjDwLast : Cert.quiescent_OutProjDwLast := fun m ρ _ => Cert.OutProjDwLast.Gen.frame m ρ

theorem frame_OutProjDwLastIdeal : Cert.quiescent_OutProjDwLastIdeal := fun m ρ _ => Cert.OutProjDwLastIdeal.Gen.frame m ρ

theorem frame_OutProjDwLastRefIdeal : Cert.quiescent_OutProjDwLastRefIdeal := fun m ρ _ =>
  (θ_run Cert.OutProjDwLastRefIdeal.defs _ _).mono (fun r h => ⟨fun c => (h c).2, sem_eq_zero_of_no_sems (by decide) r.2⟩)
    (Cert.OutProjDwLastRefIdeal.Value.run (F := Ideal) m ρ)

theorem algebraic_OutProjDwLast : Cert.algebraic_OutProjDwLastIdeal_OutProjDwLastRefIdeal := by
  intro m g m' g' _ hag
  refine ⟨fun c => Cert.OutProjDwLastIdeal.Value.G2 m c, Cert.OutProjDwLastIdeal.Value.run m g, ?_⟩
  refine (θ_run Cert.OutProjDwLastRefIdeal.defs _ _).mono (fun r h c => ?_) (Cert.OutProjDwLastRefIdeal.Value.run (F := Ideal) m' g')
  obtain ⟨a0, a1, a2⟩ := hag c
  refine ⟨(h c).1.trans ?_, (h c).2⟩
  rw [Cert.OutProjDwLastRefIdeal.Read.val_main_v2_eq, a0, a2]
  exact (OutProjDwLastValue.value m c _ _ rfl rfl).symm

/-! `out_proj`'s product. -/

theorem frame_OutProjFwdLast : Cert.quiescent_OutProjFwdLast := fun m ρ _ => Cert.OutProjFwdLast.Gen.frame m ρ

theorem frame_OutProjFwdLastIdeal : Cert.quiescent_OutProjFwdLastIdeal := fun m ρ _ => Cert.OutProjFwdLastIdeal.Gen.frame m ρ

theorem frame_OutProjFwdLastRefIdeal : Cert.quiescent_OutProjFwdLastRefIdeal := fun m ρ _ =>
  (θ_run Cert.OutProjFwdLastRefIdeal.defs _ _).mono (fun r h => ⟨fun c => (h c).2, sem_eq_zero_of_no_sems (by decide) r.2⟩)
    (Cert.OutProjFwdLastRefIdeal.Value.run (F := Ideal) m ρ)

theorem algebraic_OutProjFwdLast : Cert.algebraic_OutProjFwdLastIdeal_OutProjFwdLastRefIdeal := by
  intro m g m' g' _ hag
  refine ⟨fun c => (Cert.OutProjFwdLastIdeal.Gen.dats m 0 c).arrAt 2 Cert.OutProjFwdLastIdeal.cfg0.N, Cert.OutProjFwdLastIdeal.Value.run_blocks m g, ?_⟩
  refine (θ_run Cert.OutProjFwdLastRefIdeal.defs _ _).mono (fun r h c => ?_) (Cert.OutProjFwdLastRefIdeal.Value.run (F := Ideal) m' g')
  obtain ⟨a0, a1⟩ := hag c
  refine ⟨(h c).1.trans ?_, (h c).2⟩
  rw [Cert.OutProjFwdLastRefIdeal.Read.val_main_v0_eq, a0, a1]
  exact (OutProjFwdLastValue.value m c _ _ rfl rfl).symm

end Cert.LastClaims

end
-- ==== Proof.Online.lean ====
/- The mathematics of the attention's forward pass over the real numbers, one query row: the keys are taken block by block,
   the sums so far are rescaled whenever the shift changes, and what is left at the end is the softmax over all the keys. -/
module

public import proofs.«01_k».proof.Proof.Attn

@[expose] public section

noncomputable section

namespace Cert.Online

open Idealize.ShloMosaic Cert.Consts Cert.Attn

variable {n D : ℕ} (q : Fin D → ℝ) (k v : Fin n → Fin D → ℝ) (M m m' : ℝ)

/-- The exponent of key `j`, in powers of two. -/
def t (j : Fin n) : ℝ := ∑ d, q d * (scale * (Real.log 2)⁻¹) * k j d
/-- A block's sum of powers of two, shifted by `m`. -/
def lb : ℝ := ∑ j, Real.rpow 2 (t q k j - m)
/-- A block's sum of the values so weighted. -/
def ab (d : Fin D) : ℝ := ∑ j, Real.rpow 2 (t q k j - m) * v j d

theorem shift (x : ℝ) : Real.rpow 2 (m - m') * Real.rpow 2 (x - m) = Real.rpow 2 (x - m') := by
  simp only [Real.rpow_eq_pow]
  rw [← Real.rpow_add (by norm_num)]
  congr 1; ring

theorem lb_shift : Real.rpow 2 (m - m') * lb q k m = lb q k m' := by
  unfold lb
  rw [Finset.mul_sum]
  exact Finset.sum_congr rfl fun j _ => shift m m' _

theorem ab_shift (d : Fin D) : Real.rpow 2 (m - m') * ab q k v m d = ab q k v m' d := by
  unfold ab
  rw [Finset.mul_sum]
  exact Finset.sum_congr rfl fun j _ => by rw [← mul_assoc, shift m m']

/-- The power of two is the exponential of the score. -/
theorem rpow_e (j : Fin n) : Real.rpow 2 (t q k j - m) = e q k (m * Real.log 2) j := by
  have hl := log2_ne
  have h : t q k j = s q k j * (Real.log 2)⁻¹ := by
    unfold t s
    rw [mul_assoc, Finset.sum_mul]
    exact Finset.sum_congr rfl fun d _ => by ring
  unfold e
  rw [h, Real.rpow_eq_pow, Real.rpow_def_of_pos (by norm_num)]
  congr 1
  field_simp

theorem lb_Z : lb q k m = Z q k (m * Real.log 2) := Finset.sum_congr rfl fun j _ => rpow_e q k m j

/-! ## The softmax does not depend on the shift -/

theorem e_shift (M' : ℝ) (j : Fin n) : e q k M' j = Real.exp (M - M') * e q k M j := by
  unfold e
  rw [← Real.exp_add]
  congr 1; ring

theorem Z_shift (M' : ℝ) : Z q k M' = Real.exp (M - M') * Z q k M := by
  unfold Z
  rw [Finset.mul_sum]
  exact Finset.sum_congr rfl fun j _ => e_shift q k M M' j

theorem lse_shift (hn : 0 < n) (M' : ℝ) : lse q k M' = lse q k M := by
  have h := (Z_pos q k M hn).ne'
  unfold lse
  rw [Z_shift q k M M', Real.log_mul (Real.exp_pos _).ne' h, Real.log_exp]
  ring

theorem p_shift (hn : 0 < n) (M' : ℝ) (j : Fin n) : p q k M' j = p q k M j := by
  have h := (Z_pos q k M hn).ne'
  have h' := (Real.exp_pos (M - M')).ne'
  unfold p
  rw [Z_shift q k M M', e_shift q k M M']
  field_simp

/-- The weighted sum of the values over the sum of the weights is the output. -/
theorem out (hn : 0 < n) (d : Fin D) : ab q k v m d * (1 / lb q k m) = o q k v M d := by
  unfold o ab
  rw [Finset.sum_mul]
  refine Finset.sum_congr rfl fun j _ => ?_
  rw [← p_shift q k M hn (m * Real.log 2) j, rpow_e, lb_Z]
  unfold p
  ring

/-- The shift plus the log of the sum of the weights is the log-sum. -/
theorem log_sum (hn : 0 < n) : m * Real.log 2 + Real.log (lb q k m) = lse q k M := by
  rw [lb_Z, ← lse_shift q k M hn (m * Real.log 2)]
  rfl

theorem lb_pos (hn : 0 < n) : 0 < lb q k m := by
  rw [lb_Z]; exact Z_pos q k _ hn

end Cert.Online

end
-- ==== Proof.AttStep.lean ====
/- What one grid point of the attention's forward kernel leaves in its scratch and its outputs, as plain functions of what it
   reads, and these functions where everything read is real. -/
module

public import proofs.«01_k».proof.Proof.Gen.AttFwdIdeal.Value
public import proofs.«01_k».proof.Proof.Online
public import proofs.«01_k».proof.Proof.RefReal
public import Idealize.ShloMosaic.Lib.KernelVsHost

@[expose] public section

noncomputable section

namespace Cert.AttStep

open Cert.AttFwdIdeal Cert.AttFwdIdeal.Gen Idealize.ShloMosaic Idealize.ShloMosaic.TcCoe Idealize.SL.Sem
open Idealize.ShloMosaic.Tactic

variable {F : FTy → Type} [FloatOps F] [Named F]

theorem z2 : (![0, 0] : Fin 2 → Nat) = fun _ => 0 := funext fun a => by fin_cases a <;> rfl
theorem z3 : (![0, 0, 0] : Fin 3 → Nat) = fun _ => 0 := funext fun a => by fin_cases a <;> rfl

section
variable (c : Dev nD) (i : grid0.Coords) (a3 : Memref sig .tc .vmem S1024x128 .f32) (h3 : a3.IsWhole)
  (a4 : Memref sig .tc .vmem S1408x128 .f32) (h4 : a4.IsWhole) (a5 : Memref sig .tc .vmem S1408x128 .f32) (h5 : a5.IsWhole)
  (a6 : Memref sig .tc .vmem S1024x128 .f32) (h6 : a6.IsWhole) (a7 : Memref sig .tc .vmem S1x1024x1 .f32) (h7 : a7.IsWhole)
  (a8 : Memref sig .tc .vmem S1024x1 .f32) (h8 : a8.IsWhole) (a9 : Memref sig .tc .vmem S1024x1 .f32) (h9 : a9.IsWhole)
  (a10 : Memref sig .tc .vmem S1024x128 .f32) (h10 : a10.IsWhole) (a11 : Memref sig .tc .vmem S1024x128 .bf16) (h11 : a11.IsWhole)
  (x0 : Vec F S1024x128 .f32) (x1 x2 : Vec F S1408x128 .f32) (s0 s1 : Vec F S1024x1 .f32) (s2 : Vec F S1024x128 .f32)
  (s3 : Vec F S1024x128 .bf16)

theorem sout_B_0 (hc0 : ¬ cond0_0 i) (hc1 : ¬ cond0_1 i) :
    sout0_B_0 c i a3 h3 a4 h4 a5 h5 a6 h6 a7 h7 a8 h8 a9 h9 a10 h10 a11 h11 hc0 hc1 x0 x1 x2 s0 s1 s2 s3
      = k0_pay2 (k0_pay10 s3 x1 s0) := by
  unfold sout0_B_0
  rw [View.read_writes_eq_canon _ _ _ (scover0_B_0 c i a3 h3 a4 h4 a5 h5 a6 h6 a7 h7 a8 h8 a9 h9 a10 h10 a11 h11 hc0 hc1 x0 x1 x2 s0 s1 s2 s3)]
  unfold kernelRun0_B
  dsimp only
  sl_unfold_words
  rw [View.canon_unit_zero z2]
  simp only [View.readAt_eq_ld, h4.read_unread, h8.read_unread, h11.read_unread, View.ld_unit_zero (S := S1024x128) z2,
    View.ld_unit_zero (S := S1408x128) z2, View.ld_unit_zero (S := S1024x1) z2]

theorem sout_B_1 (hc0 : ¬ cond0_0 i) (hc1 : ¬ cond0_1 i) :
    sout0_B_1 c i a3 h3 a4 h4 a5 h5 a6 h6 a7 h7 a8 h8 a9 h9 a10 h10 a11 h11 hc0 hc1 x0 x1 x2 s0 s1 s2 s3
      = k0_pay13 s3 x1 s0 s1 := by
  unfold sout0_B_1
  rw [View.read_writes_eq_canon _ _ _ (scover0_B_1 c i a3 h3 a4 h4 a5 h5 a6 h6 a7 h7 a8 h8 a9 h9 a10 h10 a11 h11 hc0 hc1 x0 x1 x2 s0 s1 s2 s3)]
  unfold kernelRun0_B
  dsimp only
  sl_unfold_words
  rw [View.canon_unit_zero z2]
  simp only [View.readAt_eq_ld, h4.read_unread, h8.read_unread, h9.read_unread, h11.read_unread, View.ld_unit_zero (S := S1024x128) z2,
    View.ld_unit_zero (S := S1408x128) z2, View.ld_unit_zero (S := S1024x1) z2]

theorem sout_B_2 (hc0 : ¬ cond0_0 i) (hc1 : ¬ cond0_1 i) :
    sout0_B_2 c i a3 h3 a4 h4 a5 h5 a6 h6 a7 h7 a8 h8 a9 h9 a10 h10 a11 h11 hc0 hc1 x0 x1 x2 s0 s1 s2 s3
      = k0_pay1 (k0_pay14 s3 x1 s0 s2 x2) := by
  unfold sout0_B_2
  rw [View.read_writes_eq_canon _ _ _ (scover0_B_2 c i a3 h3 a4 h4 a5 h5 a6 h6 a7 h7 a8 h8 a9 h9 a10 h10 a11 h11 hc0 hc1 x0 x1 x2 s0 s1 s2 s3)]
  unfold kernelRun0_B
  dsimp only
  sl_unfold_words
  rw [View.canon_unit_zero z2]
  simp only [View.readAt_eq_ld, h4.read_unread, h5.read_unread, h8.read_unread, h10.read_unread, h11.read_unread, View.ld_unit_zero (S := S1024x128) z2,
    View.ld_unit_zero (S := S1408x128) z2, View.ld_unit_zero (S := S1024x1) z2]

/-- The last key block divides the accumulator by the sum … -/
theorem out_C_3 (hc0 : ¬ cond0_0 i) (hc1 : cond0_1 i) :
    out0_C_3 c i a3 h3 a4 h4 a5 h5 a6 h6 a7 h7 a8 h8 a9 h9 a10 h10 a11 h11 hc0 hc1 x0 x1 x2 s0 s1 s2 s3
      = k0_pay3 (k0_pay1 (k0_pay14 s3 x1 s0 s2 x2)) (k0_pay13 s3 x1 s0 s1) := by
  unfold out0_C_3
  rw [View.read_writes_eq_canon _ _ _ (cover0_C_3 c i a3 h3 a4 h4 a5 h5 a6 h6 a7 h7 a8 h8 a9 h9 a10 h10 a11 h11 hc0 hc1 x0 x1 x2 s0 s1 s2 s3)]
  unfold kernelRun0_C
  dsimp only
  sl_unfold_words
  rw [View.canon_unit_zero z2]
  rw [View.readCov_unit_zero (S := S1024x128) _ z2, View.readCov_unit_zero (S := S1024x1) _ z2]
  simp only [View.readAt_eq_ld, h4.read_unread, h5.read_unread, h8.read_unread, h9.read_unread, h10.read_unread, h11.read_unread, View.ld_unit_zero (S := S1024x128) z2,
    View.ld_unit_zero (S := S1408x128) z2, View.ld_unit_zero (S := S1024x1) z2]

/-- … and adds the log of the sum to the shift. -/
theorem out_C_4 (hc0 : ¬ cond0_0 i) (hc1 : cond0_1 i) :
    out0_C_4 c i a3 h3 a4 h4 a5 h5 a6 h6 a7 h7 a8 h8 a9 h9 a10 h10 a11 h11 hc0 hc1 x0 x1 x2 s0 s1 s2 s3
      = k0_pay4 (k0_pay2 (k0_pay10 s3 x1 s0)) (k0_pay13 s3 x1 s0 s1) := by
  unfold out0_C_4
  rw [View.read_writes_eq_canon _ _ _ (cover0_C_4 c i a3 h3 a4 h4 a5 h5 a6 h6 a7 h7 a8 h8 a9 h9 a10 h10 a11 h11 hc0 hc1 x0 x1 x2 s0 s1 s2 s3)]
  unfold kernelRun0_C
  dsimp only
  sl_unfold_words
  rw [View.canon_unit_zero z3]
  rw [View.readCov_unit_zero (S := S1024x1) _ z2, View.readCov_unit_zero (S := S1024x1) _ z2]
  simp only [View.readAt_eq_ld, h4.read_unread, h8.read_unread, h9.read_unread, h11.read_unread, View.ld_unit_zero (S := S1024x128) z2,
    View.ld_unit_zero (S := S1408x128) z2, View.ld_unit_zero (S := S1024x1) z2]

/-- The first key block does the same from the reset scratch. -/
theorem sout_A_0 (hc0 : cond0_0 i) (hc1 : ¬ cond0_1 i) :
    sout0_A_0 c i a3 h3 a4 h4 a5 h5 a6 h6 a7 h7 a8 h8 a9 h9 a10 h10 a11 h11 hc0 hc1 x0 x1 x2
      = k0_pay2 (k0_pay10 (k0_pay8 x0) x1 (k0_pay5 (F := F))) := by
  unfold sout0_A_0
  rw [View.read_writes_eq_canon _ _ _ (scover0_A_0 c i a3 h3 a4 h4 a5 h5 a6 h6 a7 h7 a8 h8 a9 h9 a10 h10 a11 h11 hc0 hc1 x0 x1 x2)]
  unfold kernelRun0_A
  dsimp only
  sl_unfold_words
  rw [View.canon_cons_unit_zero (S := S1024x1) z2]
  rw [View.readCov_unit_zero (S := S1024x128) _ z2, View.readCov_unit_zero (S := S1024x1) _ z2]
  simp only [View.readAt_eq_ld, h3.read_unread, h4.read_unread, View.ld_unit_zero (S := S1024x128) z2,
    View.ld_unit_zero (S := S1408x128) z2, View.ld_unit_zero (S := S1024x1) z2]

theorem sout_A_1 (hc0 : cond0_0 i) (hc1 : ¬ cond0_1 i) :
    sout0_A_1 c i a3 h3 a4 h4 a5 h5 a6 h6 a7 h7 a8 h8 a9 h9 a10 h10 a11 h11 hc0 hc1 x0 x1 x2
      = k0_pay13 (k0_pay8 x0) x1 (k0_pay5 (F := F)) (k0_pay6 (F := F)) := by
  unfold sout0_A_1
  rw [View.read_writes_eq_canon _ _ _ (scover0_A_1 c i a3 h3 a4 h4 a5 h5 a6 h6 a7 h7 a8 h8 a9 h9 a10 h10 a11 h11 hc0 hc1 x0 x1 x2)]
  unfold kernelRun0_A
  dsimp only
  sl_unfold_words
  rw [View.canon_cons_unit_zero (S := S1024x1) z2]
  rw [View.readCov_unit_zero (S := S1024x128) _ z2, View.readCov_unit_zero (S := S1024x1) _ z2, View.readCov_unit_zero (S := S1024x1) _ z2]
  simp only [View.readAt_eq_ld, h3.read_unread, h4.read_unread, View.ld_unit_zero (S := S1024x128) z2,
    View.ld_unit_zero (S := S1408x128) z2, View.ld_unit_zero (S := S1024x1) z2]

theorem sout_A_2 (hc0 : cond0_0 i) (hc1 : ¬ cond0_1 i) :
    sout0_A_2 c i a3 h3 a4 h4 a5 h5 a6 h6 a7 h7 a8 h8 a9 h9 a10 h10 a11 h11 hc0 hc1 x0 x1 x2
      = k0_pay1 (k0_pay14 (k0_pay8 x0) x1 (k0_pay5 (F := F)) (k0_pay7 (F := F)) x2) := by
  unfold sout0_A_2
  rw [View.read_writes_eq_canon _ _ _ (scover0_A_2 c i a3 h3 a4 h4 a5 h5 a6 h6 a7 h7 a8 h8 a9 h9 a10 h10 a11 h11 hc0 hc1 x0 x1 x2)]
  unfold kernelRun0_A
  dsimp only
  sl_unfold_words
  rw [View.canon_cons_unit_zero (S := S1024x128) z2]
  rw [View.readCov_unit_zero (S := S1024x128) _ z2, View.readCov_unit_zero (S := S1024x1) _ z2, View.readCov_unit_zero (S := S1024x128) _ z2]
  simp only [View.readAt_eq_ld, h3.read_unread, h4.read_unread, h5.read_unread, View.ld_unit_zero (S := S1024x128) z2,
    View.ld_unit_zero (S := S1408x128) z2, View.ld_unit_zero (S := S1024x1) z2]

theorem sout_A_3 (hc0 : cond0_0 i) (hc1 : ¬ cond0_1 i) :
    sout0_A_3 c i a3 h3 a4 h4 a5 h5 a6 h6 a7 h7 a8 h8 a9 h9 a10 h10 a11 h11 hc0 hc1 x0 x1 x2 = k0_pay8 x0 := by
  unfold sout0_A_3
  rw [View.read_writes_eq_canon _ _ _ (scover0_A_3 c i a3 h3 a4 h4 a5 h5 a6 h6 a7 h7 a8 h8 a9 h9 a10 h10 a11 h11 hc0 hc1 x0 x1 x2)]
  unfold kernelRun0_A
  dsimp only
  sl_unfold_words
  rw [View.canon_unit_zero z2]
  simp only [View.readAt_eq_ld, h3.read_unread, View.ld_unit_zero (S := S1024x128) z2]

end

/-! ## The payloads at an index, over the extended reals -/

theorem scale_log2e : Named.named (F := Ideal) (φ := .f32) Cert.AttFwdIdeal.κ "scale_log2e" 1040356334#32
    = ((Consts.scale * (Real.log 2)⁻¹ : ℝ) : EReal) :=
  IdealRules.named_const.ideal_named_scalar _ _ _ _ rfl

theorem ln2 : Named.named (F := Ideal) (φ := .f32) Cert.AttFwdIdeal.κ "ln2" 0x3F317218#32 = ((Real.log 2 : ℝ) : EReal) :=
  IdealRules.named_const.ideal_named_scalar _ _ _ _ rfl

theorem pay1_eq (x : Vec Ideal S1024x128 .f32) : k0_pay1 (F := Ideal) x = x := by
  funext i; obtain ⟨a, b, rfl⟩ : ∃ a b, i = ix2 a b := ⟨i 0, i 1, by idx_vars i⟩
  pointwise [k0_pay1]

theorem pay2_eq (x : Vec Ideal S1024x1 .f32) : k0_pay2 (F := Ideal) x = x := by
  funext i; obtain ⟨a, b, rfl⟩ : ∃ a b, i = ix2 a b := ⟨i 0, i 1, by idx_vars i⟩
  pointwise [k0_pay2]

theorem pay3_apply (a : Vec Ideal S1024x128 .f32) (l : Vec Ideal S1024x1 .f32) (r : Fin 1024) (d : Fin 128) :
    k0_pay3 (F := Ideal) a l (ix2 r d) = Ideal.div (a (ix2 r d)) (l (ix2 r 0)) := by
  pointwise [k0_pay3]

theorem pay4_apply (m l : Vec Ideal S1024x1 .f32) (u : Fin 1) (r : Fin 1024) (w : Fin 1) :
    k0_pay4 (F := Ideal) m l (ix3 u r w) = m (ix2 r 0) * ((Real.log 2 : ℝ) : EReal) + Ideal.log (l (ix2 r 0)) := by
  pointwise [k0_pay4]
  rw [ln2]

theorem pay5_apply (r : Fin 1024) (u : Fin 1) : k0_pay5 (F := Ideal) (ix2 r u) = ⊥ := by
  pointwise [k0_pay5]
  exact RefReal.neg_inf

theorem pay6_apply (r : Fin 1024) (u : Fin 1) : k0_pay6 (F := Ideal) (ix2 r u) = 0 := by
  pointwise [k0_pay6]

theorem pay7_apply (r : Fin 1024) (d : Fin 128) : k0_pay7 (F := Ideal) (ix2 r d) = 0 := by
  pointwise [k0_pay7]

theorem pay8_apply (x0 : Vec Ideal S1024x128 .f32) (r : Fin 1024) (d : Fin 128) :
    k0_pay8 (F := Ideal) x0 (ix2 r d) = x0 (ix2 r d) * ((Consts.scale * (Real.log 2)⁻¹ : ℝ) : EReal) := by
  pointwise [k0_pay8]
  rw [scale_log2e]

theorem pay9_apply (x3 : Vec Ideal S1024x128 .bf16) (k : Vec Ideal S1408x128 .f32) (r : Fin 1024) (j : Fin 1408) :
    k0_pay9 (F := Ideal) x3 k (ix2 r j) = ∑ e : Fin 128, x3 (ix2 r e) * k (ix2 j e) := by
  pointwise [k0_pay9]

theorem exp2_eq (x : EReal) : FloatOps.exp2 (F := Ideal) (φ := .f32) x = Ideal.exp2 x := rfl

theorem pay13_apply (x3 : Vec Ideal S1024x128 .bf16) (k : Vec Ideal S1408x128 .f32) (m l : Vec Ideal S1024x1 .f32)
    (r : Fin 1024) (u : Fin 1) :
    k0_pay13 (F := Ideal) x3 k m l (ix2 r u)
      = Ideal.exp2 (m (ix2 r 0) - k0_pay10 (F := Ideal) x3 k m (ix2 r 0)) * l (ix2 r 0)
        + ∑ j : Fin 1408, Ideal.exp2 (k0_pay9 (F := Ideal) x3 k (ix2 r j) - k0_pay10 (F := Ideal) x3 k m (ix2 r 0)) := by
  pointwise [k0_pay13, k0_pay12, k0_pay11]
  obtain rfl : u = 0 := Subsingleton.elim _ _
  simp only [exp2_eq]

theorem pay14_apply (x3 : Vec Ideal S1024x128 .bf16) (k : Vec Ideal S1408x128 .f32) (m : Vec Ideal S1024x1 .f32)
    (acc : Vec Ideal S1024x128 .f32) (v : Vec Ideal S1408x128 .f32) (r : Fin 1024) (d : Fin 128) :
    k0_pay14 (F := Ideal) x3 k m acc v (ix2 r d)
      = Ideal.exp2 (m (ix2 r 0) - k0_pay10 (F := Ideal) x3 k m (ix2 r 0)) * acc (ix2 r d)
        + ∑ j : Fin 1408, Ideal.exp2 (k0_pay9 (F := Ideal) x3 k (ix2 r j) - k0_pay10 (F := Ideal) x3 k m (ix2 r 0)) * v (ix2 j d) := by
  pointwise [k0_pay14, k0_pay12, k0_pay11]
  simp only [exp2_eq]

/-- The greatest of some real numbers is one. -/
theorem fold_max_real {n : ℕ} [NeZero n] (f : Fin n → EReal) (hf : ∀ j, ∃ y : ℝ, f j = y) :
    ∃ y : ℝ, Finset.fold max ⊥ f Finset.univ = y := by
  obtain ⟨j, _, hj⟩ := Finset.exists_mem_eq_sup Finset.univ ⟨0, Finset.mem_univ _⟩ f
  obtain ⟨y, hy⟩ := hf j
  exact ⟨y, Eq.trans hj hy⟩

theorem pay10_apply (x3 : Vec Ideal S1024x128 .bf16) (k : Vec Ideal S1408x128 .f32) (m : Vec Ideal S1024x1 .f32) (r : Fin 1024) (u : Fin 1) :
    k0_pay10 (F := Ideal) x3 k m (ix2 r u) = max (m (ix2 r u)) (Finset.fold max ⊥ (fun j => k0_pay9 (F := Ideal) x3 k (ix2 r j)) Finset.univ) := by
  pointwise [k0_pay10]
  rw [RefReal.neg_inf]

/-! ## One key block's step, where everything read is real -/

section
open Online

variable {x3 : Vec Ideal S1024x128 .bf16} {k v : Vec Ideal S1408x128 .f32} {m l : Vec Ideal S1024x1 .f32}
  {acc : Vec Ideal S1024x128 .f32} {r : Fin 1024} {qr : Fin 128 → ℝ} {kr vr : Fin 1408 → Fin 128 → ℝ}
  (hq : ∀ e, @Eq EReal (x3 (ix2 r e)) ((qr e * (Consts.scale * (Real.log 2)⁻¹) : ℝ) : EReal))
  (hk : ∀ j e, @Eq EReal (k (ix2 j e)) (kr j e))
include hq hk

theorem t_real (j : Fin 1408) : @Eq EReal (k0_pay9 (F := Ideal) x3 k (ix2 r j)) (t qr kr j) := by
  refine (pay9_apply x3 k r j).trans ?_
  simp only [hq, hk, ← EReal.coe_mul, ← Attn.coe_sum]
  rfl

/-- The new shift is real. -/
theorem m_real (hm : @Eq EReal (m (ix2 r 0)) ⊥ ∨ ∃ y : ℝ, @Eq EReal (m (ix2 r 0)) y) :
    ∃ y : ℝ, @Eq EReal (k0_pay10 (F := Ideal) x3 k m (ix2 r 0)) y := by
  obtain ⟨y, hy⟩ := fold_max_real (fun j => k0_pay9 (F := Ideal) x3 k (ix2 r j)) (fun j => ⟨_, t_real hq hk j⟩)
  have h := pay10_apply x3 k m r 0
  rw [hy] at h
  rcases hm with h0 | ⟨z, hz⟩
  · exact ⟨y, h.trans (by rw [h0, max_eq_right bot_le])⟩
  · exact ⟨max z y, h.trans (by rw [hz]; exact EReal.coe_strictMono.monotone.map_max.symm)⟩

theorem e_real {μ : ℝ} (hμ : @Eq EReal (k0_pay10 (F := Ideal) x3 k m (ix2 r 0)) μ) (j : Fin 1408) :
    Ideal.exp2 (k0_pay9 (F := Ideal) x3 k (ix2 r j) - k0_pay10 (F := Ideal) x3 k m (ix2 r 0)) = ((Real.rpow 2 (t qr kr j - μ) : ℝ) : EReal) := by
  rw [t_real hq hk j, hμ, ← EReal.coe_sub, Ideal.exp2_coe]

/-- From the reset scratch. -/
theorem l_first {μ : ℝ} (hμ : @Eq EReal (k0_pay10 (F := Ideal) x3 k m (ix2 r 0)) μ)
    (hl : @Eq EReal (l (ix2 r 0)) 0) : @Eq EReal (k0_pay13 (F := Ideal) x3 k m l (ix2 r 0)) (lb qr kr μ) := by
  refine (pay13_apply x3 k m l r 0).trans ?_
  simp only [e_real hq hk hμ, hl, mul_zero, zero_add, ← Attn.coe_sum]
  rfl

theorem a_first {μ : ℝ} (hμ : @Eq EReal (k0_pay10 (F := Ideal) x3 k m (ix2 r 0)) μ) (d : Fin 128)
    (hv : ∀ j e, @Eq EReal (v (ix2 j e)) (vr j e))
    (ha : @Eq EReal (acc (ix2 r d)) 0) : @Eq EReal (k0_pay14 (F := Ideal) x3 k m acc v (ix2 r d)) (ab qr kr vr μ d) := by
  refine (pay14_apply x3 k m acc v r d).trans ?_
  simp only [e_real hq hk hμ, hv, ha, mul_zero, zero_add, ← EReal.coe_mul, ← Attn.coe_sum]
  rfl

/-- From a shift `μ'` and sums `L`, `A`. -/
theorem l_next {μ μ' L : ℝ} (hμ : @Eq EReal (k0_pay10 (F := Ideal) x3 k m (ix2 r 0)) μ) (hm : @Eq EReal (m (ix2 r 0)) μ')
    (hl : @Eq EReal (l (ix2 r 0)) L) :
    @Eq EReal (k0_pay13 (F := Ideal) x3 k m l (ix2 r 0)) ((Real.rpow 2 (μ' - μ) * L + lb qr kr μ : ℝ) : EReal) := by
  refine (pay13_apply x3 k m l r 0).trans ?_
  simp only [e_real hq hk hμ, hl, ← Attn.coe_sum]
  rw [hm, hμ, ← EReal.coe_sub, Ideal.exp2_coe, ← EReal.coe_mul, ← EReal.coe_add]
  rfl

theorem a_next {μ μ' A : ℝ} (hμ : @Eq EReal (k0_pay10 (F := Ideal) x3 k m (ix2 r 0)) μ) (hm : @Eq EReal (m (ix2 r 0)) μ') (d : Fin 128)
    (hv : ∀ j e, @Eq EReal (v (ix2 j e)) (vr j e)) (ha : @Eq EReal (acc (ix2 r d)) A) :
    @Eq EReal (k0_pay14 (F := Ideal) x3 k m acc v (ix2 r d)) ((Real.rpow 2 (μ' - μ) * A + ab qr kr vr μ d : ℝ) : EReal) := by
  refine (pay14_apply x3 k m acc v r d).trans ?_
  simp only [e_real hq hk hμ, hv, ha, ← EReal.coe_mul, ← Attn.coe_sum]
  rw [hm, hμ, ← EReal.coe_sub, Ideal.exp2_coe, ← EReal.coe_mul, ← EReal.coe_add]
  rfl

end

end Cert.AttStep

end
-- ==== Proof.AttFold.lean ====
/- The forward kernel's running shift, sum and weighted sum over a row block's sweep of the key blocks, and the two arrays it
   writes: the softmax's output and the log of the sums, over all the keys. -/
module

public import proofs.«01_k».proof.Proof.AttStep
public import proofs.«01_k».proof.Proof.DqFold

@[expose] public section

set_option maxRecDepth 16384

noncomputable section

namespace Cert.AttFold

open Cert.AttFwdIdeal Cert.AttFwdIdeal.Gen Idealize.ShloMosaic Idealize.ShloMosaic.TcCoe Idealize.SL.Sem
open Idealize.ShloMosaic.Tactic
open Cert.AttFwdIdeal.Value
open Cert.DqFold (row blk all sum_parts)
open Cert.Online (lb ab)

/-- Every input window's block index at a point: head `t / 48`, row block `t / 6 % 8`, key block `t % 6`. -/
theorem idx : ∀ t : Fin cfg0.N, win0_0.index t = ![t.val / 6 % 8, t.val / 48] ∧ win0_1.index t = ![t.val % 6, t.val / 192]
    ∧ win0_2.index t = ![t.val % 6, t.val / 192] :=
  (by decide +kernel : ∀ t : Fin grid0.N, _)

variable (m : (ℓ : Loc nD τ sig) → Buf (Elt Ideal) ℓ) (c : Dev nD)

/-- The arrays the kernel reads, as real functions of the row and the column. -/
structure Reads (qA kA vA : ℕ → ℕ → ℝ) : Prop where
  q : ∀ (r : Fin 8192) (x : Fin 1024), @Eq EReal (V m c main_arg0 (ix2 r x)) (qA r x)
  k : ∀ (r : Fin 8448) (x : Fin 256), @Eq EReal (V m c main_arg1 (ix2 r x)) (kA r x)
  v : ∀ (r : Fin 8448) (x : Fin 256), @Eq EReal (V m c main_arg2 (ix2 r x)) (vA r x)

variable {m c} {qA kA vA : ℕ → ℕ → ℝ} (R : Reads m c qA kA vA)
include R

omit R in
theorem rd0 (A : (b : Ref sig .tc) → Buf (Elt Ideal) ((c : Thread nD τ).loc b)) (t : Fin cfg0.N) (r : Fin 1024) (d : Fin 128) (a : Fin 8192)
    (b : Fin 1024) (ha : a.val = t.val / 6 % 8 * 1024 + r) (hb : b.val = t.val / 48 * 128 + d) :
    ((cfg0.win 0).blk t).view.read (Elt Ideal) (A (Pipeline.arrRef spec0 0)) (ix2 r d) = A main_arg0 (ix2 a b) := by
  refine congrArg (A main_arg0) (funext fun x => Fin.ext ?_)
  match x with
  | ⟨0, _⟩ =>
    show win0_0.index t (0 : Fin 2) * 1024 + 1 * r.val = a.val
    rw [(idx t).1, ha]; show t.val / 6 % 8 * 1024 + 1 * r.val = t.val / 6 % 8 * 1024 + r.val; omega
  | ⟨1, _⟩ =>
    show win0_0.index t (1 : Fin 2) * 128 + 1 * d.val = b.val
    rw [(idx t).1, hb]; show t.val / 48 * 128 + 1 * d.val = t.val / 48 * 128 + d.val; omega

theorem blk0 (t : Fin cfg0.N) (r : Fin 1024) (d : Fin 128) :
    @Eq EReal (iblk m c 0 t (ix2 r d)) (row qA (t.val / 48) (t.val / 6 % 8 * 1024 + r) d) := by
  have ht : t.val < 384 := lt_of_lt_of_eq t.isLt N_0
  exact (rd0 (V m c) t r d ⟨t.val / 6 % 8 * 1024 + r, by omega⟩ ⟨t.val / 48 * 128 + d, by omega⟩ rfl rfl).trans (R.q _ _)

omit R in
theorem rd1 (A : (b : Ref sig .tc) → Buf (Elt Ideal) ((c : Thread nD τ).loc b)) (t : Fin cfg0.N) (r : Fin 1408) (d : Fin 128) (a : Fin 8448)
    (b : Fin 256) (ha : a.val = t.val % 6 * 1408 + r) (hb : b.val = t.val / 192 * 128 + d) :
    ((cfg0.win 1).blk t).view.read (Elt Ideal) (A (Pipeline.arrRef spec0 1)) (ix2 r d) = A main_arg1 (ix2 a b) := by
  refine congrArg (A main_arg1) (funext fun x => Fin.ext ?_)
  match x with
  | ⟨0, _⟩ =>
    show win0_1.index t (0 : Fin 2) * 1408 + 1 * r.val = a.val
    rw [(idx t).2.1, ha]; show t.val % 6 * 1408 + 1 * r.val = t.val % 6 * 1408 + r.val; omega
  | ⟨1, _⟩ =>
    show win0_1.index t (1 : Fin 2) * 128 + 1 * d.val = b.val
    rw [(idx t).2.1, hb]; show t.val / 192 * 128 + 1 * d.val = t.val / 192 * 128 + d.val; omega

theorem blk1 (t : Fin cfg0.N) (j : Fin 1408) (d : Fin 128) :
    @Eq EReal (iblk m c 1 t (ix2 j d)) (blk kA (t.val / 48 / 4) (t.val % 6) j d) := by
  have ht : t.val < 384 := lt_of_lt_of_eq t.isLt N_0
  rw [show t.val / 48 / 4 = t.val / 192 from by omega]
  exact (rd1 (V m c) t j d ⟨t.val % 6 * 1408 + j, by omega⟩ ⟨t.val / 192 * 128 + d, by omega⟩ rfl rfl).trans (R.k _ _)

omit R in
theorem rd2 (A : (b : Ref sig .tc) → Buf (Elt Ideal) ((c : Thread nD τ).loc b)) (t : Fin cfg0.N) (r : Fin 1408) (d : Fin 128) (a : Fin 8448)
    (b : Fin 256) (ha : a.val = t.val % 6 * 1408 + r) (hb : b.val = t.val / 192 * 128 + d) :
    ((cfg0.win 2).blk t).view.read (Elt Ideal) (A (Pipeline.arrRef spec0 2)) (ix2 r d) = A main_arg2 (ix2 a b) := by
  refine congrArg (A main_arg2) (funext fun x => Fin.ext ?_)
  match x with
  | ⟨0, _⟩ =>
    show win0_2.index t (0 : Fin 2) * 1408 + 1 * r.val = a.val
    rw [(idx t).2.2, ha]; show t.val % 6 * 1408 + 1 * r.val = t.val % 6 * 1408 + r.val; omega
  | ⟨1, _⟩ =>
    show win0_2.index t (1 : Fin 2) * 128 + 1 * d.val = b.val
    rw [(idx t).2.2, hb]; show t.val / 192 * 128 + 1 * d.val = t.val / 192 * 128 + d.val; omega

theorem blk2 (t : Fin cfg0.N) (j : Fin 1408) (d : Fin 128) :
    @Eq EReal (iblk m c 2 t (ix2 j d)) (blk vA (t.val / 48 / 4) (t.val % 6) j d) := by
  have ht : t.val < 384 := lt_of_lt_of_eq t.isLt N_0
  rw [show t.val / 48 / 4 = t.val / 192 from by omega]
  exact (rd2 (V m c) t j d ⟨t.val % 6 * 1408 + j, by omega⟩ ⟨t.val / 192 * 128 + d, by omega⟩ rfl rfl).trans (R.v _ _)

omit R

/-! ## The running sums -/

/-- After `N` key blocks, at query row `r` of head `h`: a real shift, and the two sums over these blocks' keys so shifted. -/
def St (qA kA vA : ℕ → ℕ → ℝ) (h r N : ℕ) (sm sl : EReal) (sa : Fin 128 → EReal) : Prop :=
  ∃ μ : ℝ, sm = μ ∧ sl = ((∑ b ∈ Finset.range N, lb (row qA h r) (blk kA (h / 4) b) μ : ℝ) : EReal)
    ∧ ∀ d, sa d = ((∑ b ∈ Finset.range N, ab (row qA h r) (blk kA (h / 4) b) (blk vA (h / 4) b) μ d : ℝ) : EReal)

section
variable {x3 : Vec Ideal S1024x128 .bf16} {k v : Vec Ideal S1408x128 .f32} {sm sl : Vec Ideal S1024x1 .f32}
  {sa : Vec Ideal S1024x128 .f32} {y : Fin 1024} {h r N : ℕ}
  (hq : ∀ e, @Eq EReal (x3 (ix2 y e)) ((row qA h r e * (Consts.scale * (Real.log 2)⁻¹) : ℝ) : EReal))
  (hk : ∀ j e, @Eq EReal (k (ix2 j e)) (blk kA (h / 4) N j e)) (hv : ∀ j e, @Eq EReal (v (ix2 j e)) (blk vA (h / 4) N j e))
include hq hk hv

/-- The first key block, from the reset scratch. -/
theorem St_first (hN : N = 0) (hm : @Eq EReal (sm (ix2 y 0)) ⊥) (hl : @Eq EReal (sl (ix2 y 0)) 0)
    (ha : ∀ d, @Eq EReal (sa (ix2 y d)) 0) :
    St qA kA vA h r (N + 1) (k0_pay10 (F := Ideal) x3 k sm (ix2 y 0)) (k0_pay13 (F := Ideal) x3 k sm sl (ix2 y 0))
      (fun d => k0_pay14 (F := Ideal) x3 k sm sa v (ix2 y d)) := by
  subst hN
  obtain ⟨μ, hμ⟩ := AttStep.m_real hq hk (.inl hm)
  refine ⟨μ, hμ, (AttStep.l_first hq hk hμ hl).trans ?_, fun d => (AttStep.a_first hq hk hμ d hv (ha d)).trans ?_⟩
  · rw [zero_add, Finset.sum_range_one]
  · rw [zero_add, Finset.sum_range_one]

/-- Every later one. -/
theorem St_next (S : St qA kA vA h r N (sm (ix2 y 0)) (sl (ix2 y 0)) (fun d => sa (ix2 y d))) :
    St qA kA vA h r (N + 1) (k0_pay10 (F := Ideal) x3 k sm (ix2 y 0)) (k0_pay13 (F := Ideal) x3 k sm sl (ix2 y 0))
      (fun d => k0_pay14 (F := Ideal) x3 k sm sa v (ix2 y d)) := by
  obtain ⟨μ', hm, hl, ha⟩ := S
  obtain ⟨μ, hμ⟩ := AttStep.m_real hq hk (.inr ⟨μ', hm⟩)
  refine ⟨μ, hμ, (AttStep.l_next hq hk hμ hm hl).trans ?_, fun d => (AttStep.a_next hq hk hμ hm d hv (ha d)).trans ?_⟩
  · rw [Finset.sum_range_succ, Finset.mul_sum]
    exact congrArg (fun z : ℝ => ((z + _ : ℝ) : EReal)) (Finset.sum_congr rfl fun b _ => Online.lb_shift _ _ μ' μ)
  · rw [Finset.sum_range_succ, Finset.mul_sum]
    exact congrArg (fun z : ℝ => ((z + _ : ℝ) : EReal)) (Finset.sum_congr rfl fun b _ => Online.ab_shift _ _ _ μ' μ d)

end

/-- After the six key blocks the quotient is the softmax's output, whatever the shift … -/
theorem St_out {sm sl : EReal} {sa : Fin 128 → EReal} {h r : ℕ} (S : St qA kA vA h r 6 sm sl sa) (M : ℝ) (d : Fin 128) :
    Ideal.div (sa d) sl = (Attn.o (row qA h r) (all kA (h / 4)) (all vA (h / 4)) M d : EReal) := by
  obtain ⟨μ, -, hl, ha⟩ := S
  have e1 : ∑ b ∈ Finset.range 6, lb (row qA h r) (blk kA (h / 4) b) μ = lb (row qA h r) (all kA (h / 4)) μ :=
    sum_parts fun j => Real.rpow 2 ((∑ e, row qA h r e * (Consts.scale * (Real.log 2)⁻¹) * kA j (h / 4 * 128 + e.val)) - μ)
  have e2 : ∑ b ∈ Finset.range 6, ab (row qA h r) (blk kA (h / 4) b) (blk vA (h / 4) b) μ d
      = ab (row qA h r) (all kA (h / 4)) (all vA (h / 4)) μ d :=
    sum_parts fun j => Real.rpow 2 ((∑ e, row qA h r e * (Consts.scale * (Real.log 2)⁻¹) * kA j (h / 4 * 128 + e.val)) - μ)
      * vA j (h / 4 * 128 + d.val)
  rw [ha d, hl, e1, e2, Ideal.div_coe (Online.lb_pos _ _ μ (by norm_num)).ne', ← EReal.coe_mul,
    Online.out _ _ _ M μ (by norm_num) d]

/-- … and the shift plus the log of the sum is the log-sum. -/
theorem St_lse {sm sl : EReal} {sa : Fin 128 → EReal} {h r : ℕ} (S : St qA kA vA h r 6 sm sl sa) (M : ℝ) :
    sm * ((Real.log 2 : ℝ) : EReal) + Ideal.log sl = (Attn.lse (row qA h r) (all kA (h / 4)) M : EReal) := by
  obtain ⟨μ, hm, hl, -⟩ := S
  have e1 : ∑ b ∈ Finset.range 6, lb (row qA h r) (blk kA (h / 4) b) μ = lb (row qA h r) (all kA (h / 4)) μ :=
    sum_parts fun j => Real.rpow 2 ((∑ e, row qA h r e * (Consts.scale * (Real.log 2)⁻¹) * kA j (h / 4 * 128 + e.val)) - μ)
  rw [hm, hl, e1, Ideal.log_coe, if_neg (not_le.mpr (Online.lb_pos _ _ μ (by norm_num))), ← EReal.coe_mul, ← EReal.coe_add,
    Online.log_sum _ _ M μ (by norm_num)]

/-! ## The state after each point, and what is written back -/

include R

/-- The scratch after a point of the first key block. -/
theorem invA (n : ℕ) (hn : n < cfg0.N) (r : Fin 1024) (h0 : n % 6 = 0) :
    St qA kA vA (n / 48) (n / 6 % 8 * 1024 + r) (n % 6 + 1) ((outsAt0 m c n hn).2.2.1 (ix2 r 0)) ((outsAt0 m c n hn).2.2.2.1 (ix2 r 0))
      (fun d => (outsAt0 m c n hn).2.2.2.2.1 (ix2 r d))
    ∧ ∀ d : Fin 128, @Eq EReal ((outsAt0 m c n hn).2.2.2.2.2 (ix2 r d))
        ((row qA (n / 48) (n / 6 % 8 * 1024 + r) d * (Consts.scale * (Real.log 2)⁻¹) : ℝ) : EReal) := by
  have E := outsAt0_A m c ⟨n, hn⟩ h0 (by show ¬ n % 6 = 5; omega)
  dsimp only at E
  rw [E]
  dsimp only
  have hq : ∀ d : Fin 128, @Eq EReal (k0_pay8 (F := Ideal) (iblk m c 0 ⟨n, hn⟩) (ix2 r d))
      ((row qA (n / 48) (n / 6 % 8 * 1024 + r) d * (Consts.scale * (Real.log 2)⁻¹) : ℝ) : EReal) := fun d => by
    refine (AttStep.pay8_apply _ r d).trans ?_
    rw [blk0 R ⟨n, hn⟩ r, ← EReal.coe_mul]
  rw [AttStep.sout_A_0, AttStep.sout_A_1, AttStep.sout_A_2, AttStep.sout_A_3, AttStep.pay2_eq, AttStep.pay1_eq]
  exact ⟨St_first hq (fun j e => blk1 R ⟨n, hn⟩ j e) (fun j e => blk2 R ⟨n, hn⟩ j e) h0 (AttStep.pay5_apply r 0)
    (AttStep.pay6_apply r 0) (fun d => AttStep.pay7_apply r d), hq⟩

/-- The scratch after point `n`, short of the last key block. -/
theorem inv (n : ℕ) (hn : n < cfg0.N) (h5 : ¬ n % 6 = 5) (r : Fin 1024) :
    St qA kA vA (n / 48) (n / 6 % 8 * 1024 + r) (n % 6 + 1) ((outsAt0 m c n hn).2.2.1 (ix2 r 0)) ((outsAt0 m c n hn).2.2.2.1 (ix2 r 0))
      (fun d => (outsAt0 m c n hn).2.2.2.2.1 (ix2 r d))
    ∧ ∀ d : Fin 128, @Eq EReal ((outsAt0 m c n hn).2.2.2.2.2 (ix2 r d))
        ((row qA (n / 48) (n / 6 % 8 * 1024 + r) d * (Consts.scale * (Real.log 2)⁻¹) : ℝ) : EReal) := by
  induction n with
  | zero => exact invA R 0 hn r rfl
  | succ n ih =>
    by_cases h0 : (n + 1) % 6 = 0
    · exact invA R (n + 1) hn r h0
    · obtain ⟨S, hq⟩ := ih (by omega) (by omega)
      have a1 : n / 48 = (n + 1) / 48 := by omega
      have a2 : n / 6 % 8 = (n + 1) / 6 % 8 := by omega
      have a3 : n % 6 + 1 = (n + 1) % 6 := by omega
      rw [a1, a2, a3] at S
      simp only [a1, a2] at hq
      have E := outsAt0_B m c ⟨n + 1, hn⟩ h0 h5
      dsimp only at E
      rw [E]
      dsimp only
      rw [AttStep.sout_B_0, AttStep.sout_B_1, AttStep.sout_B_2, AttStep.pay2_eq, AttStep.pay1_eq]
      exact ⟨St_next hq (fun j e => blk1 R ⟨n + 1, hn⟩ j e) (fun j e => blk2 R ⟨n + 1, hn⟩ j e) S, hq⟩

/-- What the last key block's point writes back. -/
theorem last (n : ℕ) (hn : n < cfg0.N) (h5 : n % 6 = 5) (r : Fin 1024) (M : ℝ) :
    (∀ d : Fin 128, @Eq EReal ((outsAt0 m c n hn).1 (ix2 r d))
      (Attn.o (row qA (n / 48) (n / 6 % 8 * 1024 + r)) (all kA (n / 48 / 4)) (all vA (n / 48 / 4)) M d))
    ∧ @Eq EReal ((outsAt0 m c n hn).2.1 (ix3 0 r 0)) (Attn.lse (row qA (n / 48) (n / 6 % 8 * 1024 + r)) (all kA (n / 48 / 4)) M) := by
  obtain ⟨n, rfl⟩ : ∃ n', n = n' + 1 := ⟨n - 1, by omega⟩
  obtain ⟨S, hq⟩ := inv R n (by omega) (by omega) r
  have a1 : n / 48 = (n + 1) / 48 := by omega
  have a2 : n / 6 % 8 = (n + 1) / 6 % 8 := by omega
  have a3 : n % 6 + 1 = (n + 1) % 6 := by omega
  rw [a1, a2, a3] at S
  simp only [a1, a2] at hq
  have E := outsAt0_C m c ⟨n + 1, hn⟩ (by show ¬ (n + 1) % 6 = 0; omega) h5
  dsimp only at E
  rw [E]
  dsimp only
  have S6 := St_next hq (fun j e => blk1 R ⟨n + 1, hn⟩ j e) (fun j e => blk2 R ⟨n + 1, hn⟩ j e) S
  rw [show (n + 1) % 6 + 1 = 6 from by omega] at S6
  rw [AttStep.out_C_3, AttStep.out_C_4, AttStep.pay2_eq, AttStep.pay1_eq]
  exact ⟨fun d => (AttStep.pay3_apply _ _ r d).trans (St_out S6 M d), (AttStep.pay4_apply _ _ 0 r 0).trans (St_lse S6 M)⟩

/-- The first array: at query row `r`, head `h`, lane `d`, the softmax's output. -/
theorem G3_real (M : ℝ) (r : Fin 8192) (h : Fin 8) (d : Fin 128) (x : Fin 1024) (hx : x.val = h * 128 + d) :
    @Eq EReal (G3 m c (ix2 r x)) (Attn.o (row qA h r) (all kA (h / 4)) (all vA (h / 4)) M d) := by
  have hN : (8 * h.val + r.val / 1024) * 6 + 5 < cfg0.N := by rw [show cfg0.N = 384 from N_0]; omega
  have hp : pt3Of (ix2 r x) = (8 * h.val + r.val / 1024) * 6 + 5 := by
    show 6 * (1 * (r.val / 1024 - 0) + 8 * (x.val / 128 - 0)) + 5 = _
    omega
  have hl : loc3Of (ix2 r x) = ix2 ⟨r.val % 1024, by omega⟩ d := by
    funext a; apply Fin.ext
    match a with
    | ⟨0, _⟩ => rfl
    | ⟨1, _⟩ => show x.val % 128 = d.val; omega
  unfold G3
  rw [dif_pos (by rw [hp]; exact hN), hl, ← outsAt0_sweep m c _ (by rw [hp]; exact hN)]
  have key := (last R ((8 * h.val + r.val / 1024) * 6 + 5) hN (by omega) ⟨r.val % 1024, by omega⟩ M).1 d
  have e1 : ((8 * h.val + r.val / 1024) * 6 + 5) / 48 = h.val := by omega
  have e2 : ((8 * h.val + r.val / 1024) * 6 + 5) / 6 % 8 * 1024 + r.val % 1024 = r.val := by omega
  simp only [e1, e2] at key
  exact Eq.trans (by congr 2; simp only [hp]) key

/-- The second array: at head `h`, query row `r`, the log-sum. -/
theorem G4_real (M : ℝ) (h : Fin 8) (r : Fin 8192) (u : Fin 1) :
    @Eq EReal (G4 m c (ix3 h r u)) (Attn.lse (row qA h r) (all kA (h / 4)) M) := by
  have hN : (8 * h.val + r.val / 1024) * 6 + 5 < cfg0.N := by rw [show cfg0.N = 384 from N_0]; omega
  have hp : pt4Of (ix3 h r u) = (8 * h.val + r.val / 1024) * 6 + 5 := by
    show 6 * (8 * (h.val / 1 - 0) + 1 * (r.val / 1024 - 0) + 1 * (u.val / 1 - 0)) + 5 = _
    omega
  have hl : loc4Of (ix3 h r u) = ix3 0 ⟨r.val % 1024, by omega⟩ 0 := by
    funext a; apply Fin.ext
    match a with
    | ⟨0, _⟩ => show h.val % 1 = 0; omega
    | ⟨1, _⟩ => rfl
    | ⟨2, _⟩ => show u.val % 1 = 0; omega
  unfold G4
  rw [dif_pos (by rw [hp]; exact hN), hl, ← outsAt0_sweep m c _ (by rw [hp]; exact hN)]
  have key := (last R ((8 * h.val + r.val / 1024) * 6 + 5) hN (by omega) ⟨r.val % 1024, by omega⟩ M).2
  have e1 : ((8 * h.val + r.val / 1024) * 6 + 5) / 48 = h.val := by omega
  have e2 : ((8 * h.val + r.val / 1024) * 6 + 5) / 6 % 8 * 1024 + r.val % 1024 = r.val := by omega
  simp only [e1, e2] at key
  exact Eq.trans (by congr 2; simp only [hp]) key

end Cert.AttFold

end
-- ==== Proof.AttClaim.lean ====
/- The claims about the attention's forward pass: the frames, the named constants, and the values of its two arrays. -/
module

public import proofs.«01_k».proof.Defs
public import proofs.«01_k».proof.Proof.Gen.Pre_finite_fwd
public import proofs.«01_k».proof.Proof.Gen.AttFwd.Frame
public import proofs.«01_k».proof.Proof.Gen.AttFwdRefIdeal.Read
public import proofs.«01_k».proof.Proof.AttFold
public import proofs.«01_k».proof.Proof.DqValue
public import Idealize.ShloMosaic.Adequacy
public import Idealize.ShloMosaic.Init

@[expose] public section

set_option maxRecDepth 16384

noncomputable section

namespace Cert.AttClaim

open Idealize.ShloMosaic Idealize.ShloMosaic.TcCoe Idealize.SL.Sem
open Idealize.ShloMosaic.Tactic

theorem frame_kernel : Cert.quiescent_AttFwd := fun m ρ _ => Cert.AttFwd.Gen.frame m ρ
theorem frame_ideal : Cert.quiescent_AttFwdIdeal := fun m ρ _ => Cert.AttFwdIdeal.Gen.frame m ρ
theorem frame_ideal_finite : Cert.quiescent_AttFwdIdeal_pre_finite_fwd := fun m ρ _ => Cert.AttFwdIdeal.Gen.frame m ρ
theorem frame_reference : Cert.quiescent_AttFwdRefIdeal := fun m ρ _ =>
  (θ_run Cert.AttFwdRefIdeal.defs _ _).mono (fun r h => ⟨fun c => (h c).2.2, sem_eq_zero_of_no_sems (by decide) r.2⟩)
    (Cert.AttFwdRefIdeal.Value.run (F := Ideal) m ρ)
theorem frame_reference_finite : Cert.quiescent_AttFwdRefIdeal_pre_finite_fwd := fun m ρ _ =>
  (θ_run Cert.AttFwdRefIdeal.defs _ _).mono (fun r h => ⟨fun c => (h c).2.2, sem_eq_zero_of_no_sems (by decide) r.2⟩)
    (Cert.AttFwdRefIdeal.Value.run (F := Ideal) m ρ)

/-- The named constants are the numbers the names stand for. -/
theorem preserves : Cert.preserves_AttFwd_AttFwdIdeal :=
  ⟨IdealRules.named_const.statement Cert.AttFwdIdeal.κ "scale_log2e" .f32 0x3E0293EE#32 _ rfl,
   IdealRules.named_const.statement Cert.AttFwdIdeal.κ "ln2" .f32 0x3F317218#32 _ rfl⟩

/-- The precondition, read: every argument's entries are real numbers. -/
theorem args [Pre_finite_fwd.Facts] (x0 : FVec Ideal Pre_finite_fwd.S8192x1024 .f32) (x1 x2 : FVec Ideal Pre_finite_fwd.S8448x256 .f32)
    (h : Pre_finite_fwd.fn (F := Ideal) x0 x1 x2 = fun _ => 1#1) :
    (∀ i, ∃ y : ℝ, x0 i = y) ∧ (∀ i, ∃ y : ℝ, x1 i = y) ∧ (∀ i, ∃ y : ℝ, x2 i = y) := by
  have e := congrFun h (fun a => a.elim0)
  unfold Pre_finite_fwd.fn at e
  dsimp only at e
  obtain ⟨e, e2⟩ := Finite.one_of_and e
  obtain ⟨e0, e1⟩ := Finite.one_of_and e
  refine ⟨fun i => Finite.real_of_abs _ ?_, fun i => Finite.real_of_abs _ ?_, fun i => Finite.real_of_abs _ ?_⟩ <;> rw [← Finite.inf_word]
  · exact Host.reduce_andi_all _ _ _ _ _ e0 i
  · exact Host.reduce_andi_all _ _ _ _ _ e1 i
  · exact Host.reduce_andi_all _ _ _ _ _ e2 i

section
open Cert.AttFwdIdeal Cert.AttFwdIdeal.Gen

variable (m : (ℓ : Loc nD τ sig) → Buf (Elt Ideal) ℓ) (c : Dev nD)
  (x0 : Vec Ideal S8192x1024 .f32) (x1 x2 : Vec Ideal S8448x256 .f32)
  (e0 : m (c.tc.loc main_arg0) = x0) (e1 : m (c.tc.loc main_arg1) = x1) (e2 : m (c.tc.loc main_arg2) = x2)
  (h0 : ∀ i, ∃ y : ℝ, x0 i = y) (h1 : ∀ i, ∃ y : ℝ, x1 i = y) (h2 : ∀ i, ∃ y : ℝ, x2 i = y)
include e0 e1 e2 h0 h1 h2

theorem reads : AttFold.Reads m c (Finite.real2 x0) (Finite.real2 x1) (Finite.real2 x2) := by
  refine ⟨fun r x => ?_, fun r x => ?_, fun r x => ?_⟩
  · rw [V_main_arg0, e0]; exact Finite.real2_eq x0 h0 r x
  · rw [V_main_arg1, e1]; exact Finite.real2_eq x1 h1 r x
  · rw [V_main_arg2, e2]; exact Finite.real2_eq x2 h2 r x

/-- The first array is the attention's output. -/
theorem out : Value.G3 m c = AttFwdRefIdeal.Read.val_main_v20 (F := Ideal) x0 x1 x2 := by
  funext i
  obtain ⟨r, x, rfl⟩ : ∃ (r : Fin 8192) (x : Fin 1024), i = ix2 r x := ⟨i 0, i 1, by idx_vars i⟩
  have hx : x.val = (⟨x.val / 128, by omega⟩ : Fin 8) * 128 + (⟨x.val % 128, by omega⟩ : Fin 128) := by
    show x.val = x.val / 128 * 128 + x.val % 128; omega
  exact (AttFold.G3_real (reads m c x0 x1 x2 e0 e1 e2 h0 h1 h2) _ r ⟨x.val / 128, by omega⟩ ⟨x.val % 128, by omega⟩ x hx).trans
    (RefReal.o_real (Finite.real2_eq x0 h0) (Finite.real2_eq x1 h1) (Finite.real2_eq x2 h2) r ⟨x.val / 128, by omega⟩
      ⟨x.val % 128, by omega⟩ x hx).symm

/-- The second is the log of the rows' sums of exponentials. -/
theorem lse : Value.G4 m c = AttFwdRefIdeal.Read.val_main_v36 (F := Ideal) x0 x1 := by
  funext i
  obtain ⟨h, r, u, rfl⟩ : ∃ (h : Fin 8) (r : Fin 8192) (u : Fin 1), i = ix3 h r u := ⟨i 0, i 1, i 2, by idx_vars i⟩
  exact (AttFold.G4_real (reads m c x0 x1 x2 e0 e1 e2 h0 h1 h2) _ h r u).trans
    (DqValue.lse_real (Finite.real2_eq x0 h0) (Finite.real2_eq x1 h1) h r u).symm

end

/-- For finite arguments the kernel's two arrays are the reference's. -/
theorem algebraic : Cert.algebraic_AttFwdIdeal_AttFwdRefIdeal_pre_finite_fwd := by
  intro m g m' g' hp hag
  refine ⟨fun c => Cert.AttFwdIdeal.Value.G3 m c, fun c => Cert.AttFwdIdeal.Value.G4 m c, Cert.AttFwdIdeal.Value.run m g, ?_⟩
  refine (θ_run Cert.AttFwdRefIdeal.defs _ _).mono (fun r h c => ?_) (Cert.AttFwdRefIdeal.Value.run (F := Ideal) m' g')
  obtain ⟨a0, a1, a2⟩ := hag c
  obtain ⟨f0, f1, f2⟩ := args _ _ _ (hp c)
  refine ⟨(h c).1.trans ?_, (h c).2.1.trans ?_, (h c).2.2⟩
  · rw [Cert.AttFwdRefIdeal.Read.val_main_v20_eq, a0, a1, a2]
    exact (out m c _ _ _ rfl rfl rfl f0 f1 f2).symm
  · rw [Cert.AttFwdRefIdeal.Read.val_main_v36_eq, a0, a1]
    exact (lse m c _ _ _ rfl rfl rfl f0 f1 f2).symm

end Cert.AttClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite_fwd
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.FfnInDxRefIdeal.Read
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Gen.FfnInDwRefIdeal.Read
public import proofs.«01_k».proof.Proof.Gen.FfnInFwd.Frame
public import proofs.«01_k».proof.Proof.Gen.FfnInFwdIdeal.Value
public import proofs.«01_k».proof.Proof.Gen.FfnInFwdRefIdeal.Run
public import proofs.«01_k».proof.Proof.Gen.FfnInFwdRefIdeal.Read
public import proofs.«01_k».proof.Proof.Gen.FfnOutDx.Frame
public import proofs.«01_k».proof.Proof.Gen.FfnOutDxIdeal.Value
public import proofs.«01_k».proof.Proof.Gen.FfnOutDxRefIdeal.Run
public import proofs.«01_k».proof.Proof.Gen.FfnOutDxRefIdeal.Read
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.FfnOutDwRefIdeal.Read
public import proofs.«01_k».proof.Proof.Gen.FfnOutFwd.Frame
public import proofs.«01_k».proof.Proof.Gen.FfnOutFwdIdeal.Value
public import proofs.«01_k».proof.Proof.Gen.FfnOutFwdRefIdeal.Run
public import proofs.«01_k».proof.Proof.Gen.FfnOutFwdRefIdeal.Read
public import proofs.«01_k».proof.Proof.Gen.InProjDx.Frame
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Gen.InProjDw.Frame
public import proofs.«01_k».proof.Proof.Gen.InProjDwIdeal.Value
public import proofs.«01_k».proof.Proof.Gen.InProjDwRefIdeal.Run
public import proofs.«01_k».proof.Proof.Gen.InProjDwRefIdeal.Read
public import proofs.«01_k».proof.Proof.Gen.InProjFwd.Frame
public import proofs.«01_k».proof.Proof.Gen.InProjFwdIdeal.Value
public import proofs.«01_k».proof.Proof.Gen.InProjFwdRefIdeal.Run
public import proofs.«01_k».proof.Proof.Gen.InProjFwdRefIdeal.Read
public import proofs.«01_k».proof.Proof.Gen.OutProjDx.Frame
public import proofs.«01_k».proof.Proof.Gen.OutProjDxIdeal.Value
public import proofs.«01_k».proof.Proof.Gen.OutProjDxRefIdeal.Run
public import proofs.«01_k».proof.Proof.Gen.OutProjDxRefIdeal.Read
public import proofs.«01_k».proof.Proof.Gen.OutProjDw.Frame
public import proofs.«01_k».proof.Proof.Gen.OutProjDwIdeal.Value
public import proofs.«01_k».proof.Proof.Gen.OutProjDwRefIdeal.Run
public import proofs.«01_k».proof.Proof.Gen.OutProjDwRefIdeal.Read
public import proofs.«01_k».proof.Proof.Gen.OutProjFwd.Frame
public import proofs.«01_k».proof.Proof.Gen.OutProjFwdIdeal.Value
public import proofs.«01_k».proof.Proof.Gen.OutProjFwdRefIdeal.Run
public import proofs.«01_k».proof.Proof.Gen.OutProjFwdRefIdeal.Read
public import proofs.«01_k».proof.Proof.Gen.FfnInDxLast.Frame
public import proofs.«01_k».proof.Proof.Gen.FfnInDxLastIdeal.Value
public import proofs.«01_k».proof.Proof.Gen.FfnInDxLastRefIdeal.Run
public import proofs.«01_k».proof.Proof.Gen.FfnInDxLastRefIdeal.Read
public import proofs.«01_k».proof.Proof.Gen.FfnInDwLast.Frame
public import proofs.«01_k».proof.Proof.Gen.FfnInDwLastIdeal.Value
public import proofs.«01_k».proof.Proof.Gen.FfnInDwLastRefIdeal.Run
public import proofs.«01_k».proof.Proof.Gen.FfnInDwLastRefIdeal.Read
public import proofs.«01_k».proof.Proof.Gen.FfnInFwdLast.Frame
public import proofs.«01_k».proof.Proof.Gen.FfnInFwdLastIdeal.Value
public import proofs.«01_k».proof.Proof.Gen.FfnInFwdLastRefIdeal.Run
public import proofs.«01_k».proof.Proof.Gen.FfnInFwdLastRefIdeal.Read
public import proofs.«01_k».proof.Proof.Gen.FfnOutDxLast.Frame
public import proofs.«01_k».proof.Proof.Gen.FfnOutDxLastIdeal.Value
public import proofs.«01_k».proof.Proof.Gen.FfnOutDxLastRefIdeal.Run
public import proofs.«01_k».proof.Proof.Gen.FfnOutDxLastRefIdeal.Read
public import proofs.«01_k».proof.Proof.Gen.FfnOutDwLast.Frame
public import proofs.«01_k».proof.Proof.Gen.FfnOutDwLastIdeal.Value
public import proofs.«01_k».proof.Proof.Gen.FfnOutDwLastRefIdeal.Run
public import proofs.«01_k».proof.Proof.Gen.FfnOutDwLastRefIdeal.Read
public import proofs.«01_k».proof.Proof.Gen.FfnOutFwdLast.Frame
public import proofs.«01_k».proof.Proof.Gen.FfnOutFwdLastIdeal.Value
public import proofs.«01_k».proof.Proof.Gen.FfnOutFwdLastRefIdeal.Run
public import proofs.«01_k».proof.Proof.Gen.FfnOutFwdLastRefIdeal.Read
public import proofs.«01_k».proof.Proof.Gen.OutProjDxLast.Frame
public import proofs.«01_k».proof.Proof.Gen.OutProjDxLastIdeal.Value
public import proofs.«01_k».proof.Proof.Gen.OutProjDxLastRefIdeal.Run
public import proofs.«01_k».proof.Proof.Gen.OutProjDxLastRefIdeal.Read
public import proofs.«01_k».proof.Proof.Gen.OutProjDwLast.Frame
public import proofs.«01_k».proof.Proof.Gen.OutProjDwLastIdeal.Value
public import proofs.«01_k».proof.Proof.Gen.OutProjDwLastRefIdeal.Run
public import proofs.«01_k».proof.Proof.Gen.OutProjDwLastRefIdeal.Read
public import proofs.«01_k».proof.Proof.Gen.OutProjFwdLast.Frame
public import proofs.«01_k».proof.Proof.Gen.OutProjFwdLastIdeal.Value
public import proofs.«01_k».proof.Proof.Gen.OutProjFwdLastRefIdeal.Run
public import proofs.«01_k».proof.Proof.Gen.OutProjFwdLastRefIdeal.Read
public import proofs.«01_k».proof.Proof.Gen.AttFwd.Frame
public import proofs.«01_k».proof.Proof.Gen.AttFwdIdeal.Value
public import proofs.«01_k».proof.Proof.Gen.AttFwdRefIdeal.Run
public import proofs.«01_k».proof.Proof.Gen.AttFwdRefIdeal.Read
public import proofs.«01_k».proof.Proof.DqClaim
public import proofs.«01_k».proof.Proof.DkvClaim
public import proofs.«01_k».proof.Proof.ProductClaims
public import proofs.«01_k».proof.Proof.LastClaims
public import proofs.«01_k».proof.Proof.AttClaim
public import Idealize.ShloMosaic.Adequacy
public import Idealize.ShloMosaic.Init

@[expose] public section

noncomputable section

namespace Cert.Proof

open Idealize.ShloMosaic Idealize.SL.Sem Cert.Kernel

open ProductClaims LastClaims in
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.FfnInDx.Gen.facts, Cert.FfnInDxIdeal.Gen.facts,
    Cert.FfnInDxRefIdeal.Gen.facts, Cert.FfnInDw.Gen.facts, Cert.FfnInDwIdeal.Gen.facts,
    Cert.FfnInDwRefIdeal.Gen.facts, Cert.FfnInFwd.Gen.facts, Cert.FfnInFwdIdeal.Gen.facts,
    Cert.FfnInFwdRefIdeal.Gen.facts, Cert.FfnOutDx.Gen.facts, Cert.FfnOutDxIdeal.Gen.facts,
    Cert.FfnOutDxRefIdeal.Gen.facts, Cert.FfnOutDw.Gen.facts, Cert.FfnOutDwIdeal.Gen.facts,
    Cert.FfnOutDwRefIdeal.Gen.facts, Cert.FfnOutFwd.Gen.facts, Cert.FfnOutFwdIdeal.Gen.facts,
    Cert.FfnOutFwdRefIdeal.Gen.facts, Cert.InProjDx.Gen.facts, Cert.InProjDxIdeal.Gen.facts,
    Cert.InProjDxRefIdeal.Gen.facts, Cert.InProjDw.Gen.facts, Cert.InProjDwIdeal.Gen.facts,
    Cert.InProjDwRefIdeal.Gen.facts, Cert.InProjFwd.Gen.facts, Cert.InProjFwdIdeal.Gen.facts,
    Cert.InProjFwdRefIdeal.Gen.facts, Cert.OutProjDx.Gen.facts, Cert.OutProjDxIdeal.Gen.facts,
    Cert.OutProjDxRefIdeal.Gen.facts, Cert.OutProjDw.Gen.facts, Cert.OutProjDwIdeal.Gen.facts,
    Cert.OutProjDwRefIdeal.Gen.facts, Cert.OutProjFwd.Gen.facts, Cert.OutProjFwdIdeal.Gen.facts,
    Cert.OutProjFwdRefIdeal.Gen.facts, Cert.FfnInDxLast.Gen.facts, Cert.FfnInDxLastIdeal.Gen.facts,
    Cert.FfnInDxLastRefIdeal.Gen.facts, Cert.FfnInDwLast.Gen.facts, Cert.FfnInDwLastIdeal.Gen.facts,
    Cert.FfnInDwLastRefIdeal.Gen.facts, Cert.FfnInFwdLast.Gen.facts, Cert.FfnInFwdLastIdeal.Gen.facts,
    Cert.FfnInFwdLastRefIdeal.Gen.facts, Cert.FfnOutDxLast.Gen.facts, Cert.FfnOutDxLastIdeal.Gen.facts,
    Cert.FfnOutDxLastRefIdeal.Gen.facts, Cert.FfnOutDwLast.Gen.facts, Cert.FfnOutDwLastIdeal.Gen.facts,
    Cert.FfnOutDwLastRefIdeal.Gen.facts, Cert.FfnOutFwdLast.Gen.facts, Cert.FfnOutFwdLastIdeal.Gen.facts,
    Cert.FfnOutFwdLastRefIdeal.Gen.facts, Cert.OutProjDxLast.Gen.facts, Cert.OutProjDxLastIdeal.Gen.facts,
    Cert.OutProjDxLastRefIdeal.Gen.facts, Cert.OutProjDwLast.Gen.facts, Cert.OutProjDwLastIdeal.Gen.facts,
    Cert.OutProjDwLastRefIdeal.Gen.facts, Cert.OutProjFwdLast.Gen.facts, Cert.OutProjFwdLastIdeal.Gen.facts,
    Cert.OutProjFwdLastRefIdeal.Gen.facts, Cert.AttFwd.Gen.facts, Cert.AttFwdIdeal.Gen.facts,
    Cert.AttFwdRefIdeal.Gen.facts, Cert.Pre_finite.Gen.facts, Cert.Pre_finite_fwd.Gen.facts, DqClaim.frame_kernel,
    DqClaim.frame_ideal, DqClaim.frame_ideal_finite, DqClaim.frame_reference, DqClaim.frame_reference_finite,
    DkvClaim.frame_kernel, DkvClaim.frame_ideal, DkvClaim.frame_ideal_finite, DkvClaim.frame_reference,
    DkvClaim.frame_reference_finite, frame_FfnInDx, frame_FfnInDxIdeal, frame_FfnInDxRefIdeal, frame_FfnInDw,
    frame_FfnInDwIdeal, frame_FfnInDwRefIdeal, frame_FfnInFwd, frame_FfnInFwdIdeal, frame_FfnInFwdRefIdeal,
    frame_FfnOutDx, frame_FfnOutDxIdeal, frame_FfnOutDxRefIdeal, frame_FfnOutDw, frame_FfnOutDwIdeal,
    frame_FfnOutDwRefIdeal, frame_FfnOutFwd, frame_FfnOutFwdIdeal, frame_FfnOutFwdRefIdeal, frame_InProjDx,
    frame_InProjDxIdeal, frame_InProjDxRefIdeal, frame_InProjDw, frame_InProjDwIdeal, frame_InProjDwRefIdeal,
    frame_InProjFwd, frame_InProjFwdIdeal, frame_InProjFwdRefIdeal, frame_OutProjDx, frame_OutProjDxIdeal,
    frame_OutProjDxRefIdeal, frame_OutProjDw, frame_OutProjDwIdeal, frame_OutProjDwRefIdeal, frame_OutProjFwd,
    frame_OutProjFwdIdeal, frame_OutProjFwdRefIdeal, frame_FfnInDxLast, frame_FfnInDxLastIdeal,
    frame_FfnInDxLastRefIdeal, frame_FfnInDwLast, frame_FfnInDwLastIdeal, frame_FfnInDwLastRefIdeal,
    frame_FfnInFwdLast, frame_FfnInFwdLastIdeal, frame_FfnInFwdLastRefIdeal, frame_FfnOutDxLast,
    frame_FfnOutDxLastIdeal, frame_FfnOutDxLastRefIdeal, frame_FfnOutDwLast, frame_FfnOutDwLastIdeal,
    frame_FfnOutDwLastRefIdeal, frame_FfnOutFwdLast, frame_FfnOutFwdLastIdeal, frame_FfnOutFwdLastRefIdeal,
    frame_OutProjDxLast, frame_OutProjDxLastIdeal, frame_OutProjDxLastRefIdeal, frame_OutProjDwLast,
    frame_OutProjDwLastIdeal, frame_OutProjDwLastRefIdeal, frame_OutProjFwdLast, frame_OutProjFwdLastIdeal,
    frame_OutProjFwdLastRefIdeal, AttClaim.frame_kernel, AttClaim.frame_ideal, AttClaim.frame_ideal_finite,
    AttClaim.frame_reference, AttClaim.frame_reference_finite, DqClaim.preserves, DqClaim.algebraic,
    DkvClaim.preserves, DkvClaim.algebraic, trivial, algebraic_FfnInDx, trivial, algebraic_FfnInDw, trivial,
    algebraic_FfnInFwd, trivial, algebraic_FfnOutDx, trivial, algebraic_FfnOutDw, trivial, algebraic_FfnOutFwd,
    trivial, algebraic_InProjDx, trivial, algebraic_InProjDw, trivial, algebraic_InProjFwd, trivial,
    algebraic_OutProjDx, trivial, algebraic_OutProjDw, trivial, algebraic_OutProjFwd, trivial, algebraic_FfnInDxLast,
    trivial, algebraic_FfnInDwLast, trivial, algebraic_FfnInFwdLast, trivial, algebraic_FfnOutDxLast, trivial,
    algebraic_FfnOutDwLast, trivial, algebraic_FfnOutFwdLast, trivial, algebraic_OutProjDxLast, trivial,
    algebraic_OutProjDwLast, trivial, algebraic_OutProjFwdLast, AttClaim.preserves, AttClaim.algebraic⟩

end Cert.Proof

end
